-- ==== Defs.lean ====
def Pre_HgSample (m : (ℓ : Loc Cert.HgSample.nD Cert.HgSample.τ Cert.HgSample.sig) → Buf (Elt Bits) ℓ) : Prop :=
  True

def Pre_HgSampleIdeal (m : (ℓ : Loc Cert.HgSampleIdeal.nD Cert.HgSampleIdeal.τ Cert.HgSampleIdeal.sig) → Buf (Elt Ideal) ℓ) : Prop :=
  True

def Pre_HgSampleRefIdeal (m : (ℓ : Loc Cert.HgSampleRefIdeal.nD Cert.HgSampleRefIdeal.τ Cert.HgSampleRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_KvRows (m : (ℓ : Loc Cert.KvRows.nD Cert.KvRows.τ Cert.KvRows.sig) → Buf (Elt Bits) ℓ) : Prop :=
  True

def Pre_KvRowsIdeal (m : (ℓ : Loc Cert.KvRowsIdeal.nD Cert.KvRowsIdeal.τ Cert.KvRowsIdeal.sig) → Buf (Elt Ideal) ℓ) : Prop :=
  True

def Pre_KvRowsRefIdeal (m : (ℓ : Loc Cert.KvRowsRefIdeal.nD Cert.KvRowsRefIdeal.τ Cert.KvRowsRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_CmpP (m : (ℓ : Loc Cert.CmpP.nD Cert.CmpP.τ Cert.CmpP.sig) → Buf (Elt Bits) ℓ) : Prop :=
  True

def Pre_CmpPIdeal (m : (ℓ : Loc Cert.CmpPIdeal.nD Cert.CmpPIdeal.τ Cert.CmpPIdeal.sig) → Buf (Elt Ideal) ℓ) : Prop :=
  True

def Pre_CmpPRefIdeal (m : (ℓ : Loc Cert.CmpPRefIdeal.nD Cert.CmpPRefIdeal.τ Cert.CmpPRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def quiescent_HgSample [hHgSample : Cert.HgSample.Facts] : Prop :=
  ∀ (m : (ℓ : Loc Cert.HgSample.nD Cert.HgSample.τ Cert.HgSample.sig) → Buf (Elt Bits) ℓ) (g : Dev Cert.HgSample.nD → PrngReg), Pre_HgSample m →
    θ_run (Cert.HgSample.defs (F := Bits)) (onTc (τ := Cert.HgSample.τ) (Cert.HgSample.main (F := Bits))) ⟨m, fun _ => 0, g⟩ (fun r => (∀ c : Dev Cert.HgSample.nD,
      r.2.mem ((c.tc : Thread Cert.HgSample.nD Cert.HgSample.τ).loc Cert.HgSample.main_arg0) = m ((c.tc : Thread Cert.HgSample.nD Cert.HgSample.τ).loc Cert.HgSample.main_arg0)
      ∧ r.2.mem ((c.tc : Thread Cert.HgSample.nD Cert.HgSample.τ).loc Cert.HgSample.main_arg1) = m ((c.tc : Thread Cert.HgSample.nD Cert.HgSample.τ).loc Cert.HgSample.main_arg1)
      ∧ r.2.mem ((c.tc : Thread Cert.HgSample.nD Cert.HgSample.τ).loc Cert.HgSample.main_arg2) = m ((c.tc : Thread Cert.HgSample.nD Cert.HgSample.τ).loc Cert.HgSample.main_arg2)
      ∧ r.2.mem ((c.tc : Thread Cert.HgSample.nD Cert.HgSample.τ).loc Cert.HgSample.main_arg3) = m ((c.tc : Thread Cert.HgSample.nD Cert.HgSample.τ).loc Cert.HgSample.main_arg3)
      ∧ r.2.mem ((c.tc : Thread Cert.HgSample.nD Cert.HgSample.τ).loc Cert.HgSample.main_arg4) = m ((c.tc : Thread Cert.HgSample.nD Cert.HgSample.τ).loc Cert.HgSample.main_arg4)
      ∧ r.2.mem ((c.tc : Thread Cert.HgSample.nD Cert.HgSample.τ).loc Cert.HgSample.main_arg5) = m ((c.tc : Thread Cert.HgSample.nD Cert.HgSample.τ).loc Cert.HgSample.main_arg5)
      ∧ r.2.mem ((c.tc : Thread Cert.HgSample.nD Cert.HgSample.τ).loc Cert.HgSample.main_arg6) = m ((c.tc : Thread Cert.HgSample.nD Cert.HgSample.τ).loc Cert.HgSample.main_arg6))
      ∧ r.2.sem = fun _ => 0)

def quiescent_HgSampleIdeal [hHgSampleIdeal : Cert.HgSampleIdeal.Facts] : Prop :=
  ∀ (m : (ℓ : Loc Cert.HgSampleIdeal.nD Cert.HgSampleIdeal.τ Cert.HgSampleIdeal.sig) → Buf (Elt Ideal) ℓ) (g : Dev Cert.HgSampleIdeal.nD → PrngReg), Pre_HgSampleIdeal m →
    θ_run (Cert.HgSampleIdeal.defs (F := Ideal)) (onTc (τ := Cert.HgSampleIdeal.τ) (Cert.HgSampleIdeal.main (F := Ideal))) ⟨m, fun _ => 0, g⟩ (fun r => (∀ c : Dev Cert.HgSampleIdeal.nD,
      r.2.mem ((c.tc : Thread Cert.HgSampleIdeal.nD Cert.HgSampleIdeal.τ).loc Cert.HgSampleIdeal.main_arg0) = m ((c.tc : Thread Cert.HgSampleIdeal.nD Cert.HgSampleIdeal.τ).loc Cert.HgSampleIdeal.main_arg0)
      ∧ r.2.mem ((c.tc : Thread Cert.HgSampleIdeal.nD Cert.HgSampleIdeal.τ).loc Cert.HgSampleIdeal.main_arg1) = m ((c.tc : Thread Cert.HgSampleIdeal.nD Cert.HgSampleIdeal.τ).loc Cert.HgSampleIdeal.main_arg1)
      ∧ r.2.mem ((c.tc : Thread Cert.HgSampleIdeal.nD Cert.HgSampleIdeal.τ).loc Cert.HgSampleIdeal.main_arg2) = m ((c.tc : Thread Cert.HgSampleIdeal.nD Cert.HgSampleIdeal.τ).loc Cert.HgSampleIdeal.main_arg2)
      ∧ r.2.mem ((c.tc : Thread Cert.HgSampleIdeal.nD Cert.HgSampleIdeal.τ).loc Cert.HgSampleIdeal.main_arg3) = m ((c.tc : Thread Cert.HgSampleIdeal.nD Cert.HgSampleIdeal.τ).loc Cert.HgSampleIdeal.main_arg3)
      ∧ r.2.mem ((c.tc : Thread Cert.HgSampleIdeal.nD Cert.HgSampleIdeal.τ).loc Cert.HgSampleIdeal.main_arg4) = m ((c.tc : Thread Cert.HgSampleIdeal.nD Cert.HgSampleIdeal.τ).loc Cert.HgSampleIdeal.main_arg4)
      ∧ r.2.mem ((c.tc : Thread Cert.HgSampleIdeal.nD Cert.HgSampleIdeal.τ).loc Cert.HgSampleIdeal.main_arg5) = m ((c.tc : Thread Cert.HgSampleIdeal.nD Cert.HgSampleIdeal.τ).loc Cert.HgSampleIdeal.main_arg5)
      ∧ r.2.mem ((c.tc : Thread Cert.HgSampleIdeal.nD Cert.HgSampleIdeal.τ).loc Cert.HgSampleIdeal.main_arg6) = m ((c.tc : Thread Cert.HgSampleIdeal.nD Cert.HgSampleIdeal.τ).loc Cert.HgSampleIdeal.main_arg6))
      ∧ r.2.sem = fun _ => 0)

def quiescent_HgSampleRefIdeal [hHgSampleRefIdeal : Cert.HgSampleRefIdeal.Facts] : Prop :=
  ∀ (m : (ℓ : Loc Cert.HgSampleRefIdeal.nD Cert.HgSampleRefIdeal.τ Cert.HgSampleRefIdeal.sig) → Buf (Elt Ideal) ℓ) (g : Dev Cert.HgSampleRefIdeal.nD → PrngReg), Pre_HgSampleRefIdeal m →
    θ_run (Cert.HgSampleRefIdeal.defs (F := Ideal)) (onTc (τ := Cert.HgSampleRefIdeal.τ) (Cert.HgSampleRefIdeal.main (F := Ideal))) ⟨m, fun _ => 0, g⟩ (fun r => (∀ c : Dev Cert.HgSampleRefIdeal.nD,
      r.2.mem ((c.tc : Thread Cert.HgSampleRefIdeal.nD Cert.HgSampleRefIdeal.τ).loc Cert.HgSampleRefIdeal.main_arg0) = m ((c.tc : Thread Cert.HgSampleRefIdeal.nD Cert.HgSampleRefIdeal.τ).loc Cert.HgSampleRefIdeal.main_arg0)
      ∧ r.2.mem ((c.tc : Thread Cert.HgSampleRefIdeal.nD Cert.HgSampleRefIdeal.τ).loc Cert.HgSampleRefIdeal.main_arg1) = m ((c.tc : Thread Cert.HgSampleRefIdeal.nD Cert.HgSampleRefIdeal.τ).loc Cert.HgSampleRefIdeal.main_arg1)
      ∧ r.2.mem ((c.tc : Thread Cert.HgSampleRefIdeal.nD Cert.HgSampleRefIdeal.τ).loc Cert.HgSampleRefIdeal.main_arg2) = m ((c.tc : Thread Cert.HgSampleRefIdeal.nD Cert.HgSampleRefIdeal.τ).loc Cert.HgSampleRefIdeal.main_arg2)
      ∧ r.2.mem ((c.tc : Thread Cert.HgSampleRefIdeal.nD Cert.HgSampleRefIdeal.τ).loc Cert.HgSampleRefIdeal.main_arg3) = m ((c.tc : Thread Cert.HgSampleRefIdeal.nD Cert.HgSampleRefIdeal.τ).loc Cert.HgSampleRefIdeal.main_arg3)
      ∧ r.2.mem ((c.tc : Thread Cert.HgSampleRefIdeal.nD Cert.HgSampleRefIdeal.τ).loc Cert.HgSampleRefIdeal.main_arg4) = m ((c.tc : Thread Cert.HgSampleRefIdeal.nD Cert.HgSampleRefIdeal.τ).loc Cert.HgSampleRefIdeal.main_arg4)
      ∧ r.2.mem ((c.tc : Thread Cert.HgSampleRefIdeal.nD Cert.HgSampleRefIdeal.τ).loc Cert.HgSampleRefIdeal.main_arg5) = m ((c.tc : Thread Cert.HgSampleRefIdeal.nD Cert.HgSampleRefIdeal.τ).loc Cert.HgSampleRefIdeal.main_arg5)
      ∧ r.2.mem ((c.tc : Thread Cert.HgSampleRefIdeal.nD Cert.HgSampleRefIdeal.τ).loc Cert.HgSampleRefIdeal.main_arg6) = m ((c.tc : Thread Cert.HgSampleRefIdeal.nD Cert.HgSampleRefIdeal.τ).loc Cert.HgSampleRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5)
      ∧ r.2.mem ((c.tc : Thread Cert.MlpSample.nD Cert.MlpSample.τ).loc Cert.MlpSample.main_arg6) = m ((c.tc : Thread Cert.MlpSample.nD Cert.MlpSample.τ).loc Cert.MlpSample.main_arg6)
      ∧ r.2.mem ((c.tc : Thread Cert.MlpSample.nD Cert.MlpSample.τ).loc Cert.MlpSample.main_arg7) = m ((c.tc : Thread Cert.MlpSample.nD Cert.MlpSample.τ).loc Cert.MlpSample.main_arg7)
      ∧ r.2.mem ((c.tc : Thread Cert.MlpSample.nD Cert.MlpSample.τ).loc Cert.MlpSample.main_arg8) = m ((c.tc : Thread Cert.MlpSample.nD Cert.MlpSample.τ).loc Cert.MlpSample.main_arg8))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
      ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6)
      ∧ r.2.mem ((c.tc : Thread Cert.MlpSampleIdeal.nD Cert.MlpSampleIdeal.τ).loc Cert.MlpSampleIdeal.main_arg7) = m ((c.tc : Thread Cert.MlpSampleIdeal.nD Cert.MlpSampleIdeal.τ).loc Cert.MlpSampleIdeal.main_arg7)
      ∧ r.2.mem ((c.tc : Thread Cert.MlpSampleIdeal.nD Cert.MlpSampleIdeal.τ).loc Cert.MlpSampleIdeal.main_arg8) = m ((c.tc : Thread Cert.MlpSampleIdeal.nD Cert.MlpSampleIdeal.τ).loc Cert.MlpSampleIdeal.main_arg8))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4)
      ∧ r.2.mem ((c.tc : Thread Cert.MlpSampleRefIdeal.nD Cert.MlpSampleRefIdeal.τ).loc Cert.MlpSampleRefIdeal.main_arg5) = m ((c.tc : Thread Cert.MlpSampleRefIdeal.nD Cert.MlpSampleRefIdeal.τ).loc Cert.MlpSampleRefIdeal.main_arg5)
      ∧ r.2.mem ((c.tc : Thread Cert.MlpSampleRefIdeal.nD Cert.MlpSampleRefIdeal.τ).loc Cert.MlpSampleRefIdeal.main_arg6) = m ((c.tc : Thread Cert.MlpSampleRefIdeal.nD Cert.MlpSampleRefIdeal.τ).loc Cert.MlpSampleRefIdeal.main_arg6)
      ∧ r.2.mem ((c.tc : Thread Cert.MlpSampleRefIdeal.nD Cert.MlpSampleRefIdeal.τ).loc Cert.MlpSampleRefIdeal.main_arg7) = m ((c.tc : Thread Cert.MlpSampleRefIdeal.nD Cert.MlpSampleRefIdeal.τ).loc Cert.MlpSampleRefIdeal.main_arg7)
      ∧ r.2.mem ((c.tc : Thread Cert.MlpSampleRefIdeal.nD Cert.MlpSampleRefIdeal.τ).loc Cert.MlpSampleRefIdeal.main_arg8) = m ((c.tc : Thread Cert.MlpSampleRefIdeal.nD Cert.MlpSampleRefIdeal.τ).loc Cert.MlpSampleRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_KvRows [hKvRows : Cert.KvRows.Facts] : Prop :=
  ∀ (m : (ℓ : Loc Cert.KvRows.nD Cert.KvRows.τ Cert.KvRows.sig) → Buf (Elt Bits) ℓ) (g : Dev Cert.KvRows.nD → PrngReg), Pre_KvRows m →
    θ_run (Cert.KvRows.defs (F := Bits)) (onTc (τ := Cert.KvRows.τ) (Cert.KvRows.main (F := Bits))) ⟨m, fun _ => 0, g⟩ (fun r => (∀ c : Dev Cert.KvRows.nD,
      r.2.mem ((c.tc : Thread Cert.KvRows.nD Cert.KvRows.τ).loc Cert.KvRows.main_arg0) = m ((c.tc : Thread Cert.KvRows.nD Cert.KvRows.τ).loc Cert.KvRows.main_arg0)
      ∧ r.2.mem ((c.tc : Thread Cert.KvRows.nD Cert.KvRows.τ).loc Cert.KvRows.main_arg1) = m ((c.tc : Thread Cert.KvRows.nD Cert.KvRows.τ).loc Cert.KvRows.main_arg1)
      ∧ r.2.mem ((c.tc : Thread Cert.KvRows.nD Cert.KvRows.τ).loc Cert.KvRows.main_arg2) = m ((c.tc : Thread Cert.KvRows.nD Cert.KvRows.τ).loc Cert.KvRows.main_arg2))
      ∧ r.2.sem = fun _ => 0)

def quiescent_KvRowsIdeal [hKvRowsIdeal : Cert.KvRowsIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg), Pre_KvRowsIdeal m →
    θ_run (Cert.KvRowsIdeal.defs (F := Ideal)) (onTc (τ := Cert.KvRowsIdeal.τ) (Cert.KvRowsIdeal.main (F := Ideal))) ⟨m, fun _ => 0, g⟩ (fun r => (∀ c : Dev Cert.KvRowsIdeal.nD,
      r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
      ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
      ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2))
      ∧ r.2.sem = fun _ => 0)

def quiescent_KvRowsRefIdeal [hKvRowsRefIdeal : Cert.KvRowsRefIdeal.Facts] : Prop :=
  ∀ (m : (ℓ : Loc Cert.KvRowsRefIdeal.nD Cert.KvRowsRefIdeal.τ Cert.KvRowsRefIdeal.sig) → Buf (Elt Ideal) ℓ) (g : Dev Cert.KvRowsRefIdeal.nD → PrngReg), Pre_KvRowsRefIdeal m →
    θ_run (Cert.KvRowsRefIdeal.defs (F := Ideal)) (onTc (τ := Cert.KvRowsRefIdeal.τ) (Cert.KvRowsRefIdeal.main (F := Ideal))) ⟨m, fun _ => 0, g⟩ (fun r => (∀ c : Dev Cert.KvRowsRefIdeal.nD,
      r.2.mem ((c.tc : Thread Cert.KvRowsRefIdeal.nD Cert.KvRowsRefIdeal.τ).loc Cert.KvRowsRefIdeal.main_arg0) = m ((c.tc : Thread Cert.KvRowsRefIdeal.nD Cert.KvRowsRefIdeal.τ).loc Cert.KvRowsRefIdeal.main_arg0)
      ∧ r.2.mem ((c.tc : Thread Cert.KvRowsRefIdeal.nD Cert.KvRowsRefIdeal.τ).loc Cert.KvRowsRefIdeal.main_arg1) = m ((c.tc : Thread Cert.KvRowsRefIdeal.nD Cert.KvRowsRefIdeal.τ).loc Cert.KvRowsRefIdeal.main_arg1)
      ∧ r.2.mem ((c.tc : Thread Cert.KvRowsRefIdeal.nD Cert.KvRowsRefIdeal.τ).loc Cert.KvRowsRefIdeal.main_arg2) = m ((c.tc : Thread Cert.KvRowsRefIdeal.nD Cert.KvRowsRefIdeal.τ).loc Cert.KvRowsRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2)
      ∧ r.2.mem ((c.tc : Thread Cert.InSampleRefIdeal.nD Cert.InSampleRefIdeal.τ).loc Cert.InSampleRefIdeal.main_arg3) = m ((c.tc : Thread Cert.InSampleRefIdeal.nD Cert.InSampleRefIdeal.τ).loc Cert.InSampleRefIdeal.main_arg3))
      ∧ r.2.sem = fun _ => 0)

def quiescent_CmpP [hCmpP : Cert.CmpP.Facts] : Prop :=
  ∀ (m : (ℓ : Loc Cert.CmpP.nD Cert.CmpP.τ Cert.CmpP.sig) → Buf (Elt Bits) ℓ) (g : Dev Cert.CmpP.nD → PrngReg), Pre_CmpP m →
    θ_run (Cert.CmpP.defs (F := Bits)) (onTc (τ := Cert.CmpP.τ) (Cert.CmpP.main (F := Bits))) ⟨m, fun _ => 0, g⟩ (fun r => (∀ c : Dev Cert.CmpP.nD,
      r.2.mem ((c.tc : Thread Cert.CmpP.nD Cert.CmpP.τ).loc Cert.CmpP.main_arg0) = m ((c.tc : Thread Cert.CmpP.nD Cert.CmpP.τ).loc Cert.CmpP.main_arg0)
      ∧ r.2.mem ((c.tc : Thread Cert.CmpP.nD Cert.CmpP.τ).loc Cert.CmpP.main_arg1) = m ((c.tc : Thread Cert.CmpP.nD Cert.CmpP.τ).loc Cert.CmpP.main_arg1)
      ∧ r.2.mem ((c.tc : Thread Cert.CmpP.nD Cert.CmpP.τ).loc Cert.CmpP.main_arg2) = m ((c.tc : Thread Cert.CmpP.nD Cert.CmpP.τ).loc Cert.CmpP.main_arg2)
      ∧ r.2.mem ((c.tc : Thread Cert.CmpP.nD Cert.CmpP.τ).loc Cert.CmpP.main_arg3) = m ((c.tc : Thread Cert.CmpP.nD Cert.CmpP.τ).loc Cert.CmpP.main_arg3)
      ∧ r.2.mem ((c.tc : Thread Cert.CmpP.nD Cert.CmpP.τ).loc Cert.CmpP.main_arg4) = m ((c.tc : Thread Cert.CmpP.nD Cert.CmpP.τ).loc Cert.CmpP.main_arg4)
      ∧ r.2.mem ((c.tc : Thread Cert.CmpP.nD Cert.CmpP.τ).loc Cert.CmpP.main_arg5) = m ((c.tc : Thread Cert.CmpP.nD Cert.CmpP.τ).loc Cert.CmpP.main_arg5))
      ∧ r.2.sem = fun _ => 0)

def quiescent_CmpPIdeal [hCmpPIdeal : Cert.CmpPIdeal.Facts] : Prop :=
  ∀ (m : (ℓ : Loc Cert.CmpPIdeal.nD Cert.CmpPIdeal.τ Cert.CmpPIdeal.sig) → Buf (Elt Ideal) ℓ) (g : Dev Cert.CmpPIdeal.nD → PrngReg), Pre_CmpPIdeal m →
    θ_run (Cert.CmpPIdeal.defs (F := Ideal)) (onTc (τ := Cert.CmpPIdeal.τ) (Cert.CmpPIdeal.main (F := Ideal))) ⟨m, fun _ => 0, g⟩ (fun r => (∀ c : Dev Cert.CmpPIdeal.nD,
      r.2.mem ((c.tc : Thread Cert.CmpPIdeal.nD Cert.CmpPIdeal.τ).loc Cert.CmpPIdeal.main_arg0) = m ((c.tc : Thread Cert.CmpPIdeal.nD Cert.CmpPIdeal.τ).loc Cert.CmpPIdeal.main_arg0)
      ∧ r.2.mem ((c.tc : Thread Cert.CmpPIdeal.nD Cert.CmpPIdeal.τ).loc Cert.CmpPIdeal.main_arg1) = m ((c.tc : Thread Cert.CmpPIdeal.nD Cert.CmpPIdeal.τ).loc Cert.CmpPIdeal.main_arg1)
      ∧ r.2.mem ((c.tc : Thread Cert.CmpPIdeal.nD Cert.CmpPIdeal.τ).loc Cert.CmpPIdeal.main_arg2) = m ((c.tc : Thread Cert.CmpPIdeal.nD Cert.CmpPIdeal.τ).loc Cert.CmpPIdeal.main_arg2)
      ∧ r.2.mem ((c.tc : Thread Cert.CmpPIdeal.nD Cert.CmpPIdeal.τ).loc Cert.CmpPIdeal.main_arg3) = m ((c.tc : Thread Cert.CmpPIdeal.nD Cert.CmpPIdeal.τ).loc Cert.CmpPIdeal.main_arg3)
      ∧ r.2.mem ((c.tc : Thread Cert.CmpPIdeal.nD Cert.CmpPIdeal.τ).loc Cert.CmpPIdeal.main_arg4) = m ((c.tc : Thread Cert.CmpPIdeal.nD Cert.CmpPIdeal.τ).loc Cert.CmpPIdeal.main_arg4)
      ∧ r.2.mem ((c.tc : Thread Cert.CmpPIdeal.nD Cert.CmpPIdeal.τ).loc Cert.CmpPIdeal.main_arg5) = m ((c.tc : Thread Cert.CmpPIdeal.nD Cert.CmpPIdeal.τ).loc Cert.CmpPIdeal.main_arg5))
      ∧ r.2.sem = fun _ => 0)

def quiescent_CmpPRefIdeal [hCmpPRefIdeal : Cert.CmpPRefIdeal.Facts] : Prop :=
  ∀ (m : (ℓ : Loc Cert.CmpPRefIdeal.nD Cert.CmpPRefIdeal.τ Cert.CmpPRefIdeal.sig) → Buf (Elt Ideal) ℓ) (g : Dev Cert.CmpPRefIdeal.nD → PrngReg), Pre_CmpPRefIdeal m →
    θ_run (Cert.CmpPRefIdeal.defs (F := Ideal)) (onTc (τ := Cert.CmpPRefIdeal.τ) (Cert.CmpPRefIdeal.main (F := Ideal))) ⟨m, fun _ => 0, g⟩ (fun r => (∀ c : Dev Cert.CmpPRefIdeal.nD,
      r.2.mem ((c.tc : Thread Cert.CmpPRefIdeal.nD Cert.CmpPRefIdeal.τ).loc Cert.CmpPRefIdeal.main_arg0) = m ((c.tc : Thread Cert.CmpPRefIdeal.nD Cert.CmpPRefIdeal.τ).loc Cert.CmpPRefIdeal.main_arg0)
      ∧ r.2.mem ((c.tc : Thread Cert.CmpPRefIdeal.nD Cert.CmpPRefIdeal.τ).loc Cert.CmpPRefIdeal.main_arg1) = m ((c.tc : Thread Cert.CmpPRefIdeal.nD Cert.CmpPRefIdeal.τ).loc Cert.CmpPRefIdeal.main_arg1)
      ∧ r.2.mem ((c.tc : Thread Cert.CmpPRefIdeal.nD Cert.CmpPRefIdeal.τ).loc Cert.CmpPRefIdeal.main_arg2) = m ((c.tc : Thread Cert.CmpPRefIdeal.nD Cert.CmpPRefIdeal.τ).loc Cert.CmpPRefIdeal.main_arg2)
      ∧ r.2.mem ((c.tc : Thread Cert.CmpPRefIdeal.nD Cert.CmpPRefIdeal.τ).loc Cert.CmpPRefIdeal.main_arg3) = m ((c.tc : Thread Cert.CmpPRefIdeal.nD Cert.CmpPRefIdeal.τ).loc Cert.CmpPRefIdeal.main_arg3)
      ∧ r.2.mem ((c.tc : Thread Cert.CmpPRefIdeal.nD Cert.CmpPRefIdeal.τ).loc Cert.CmpPRefIdeal.main_arg4) = m ((c.tc : Thread Cert.CmpPRefIdeal.nD Cert.CmpPRefIdeal.τ).loc Cert.CmpPRefIdeal.main_arg4)
      ∧ r.2.mem ((c.tc : Thread Cert.CmpPRefIdeal.nD Cert.CmpPRefIdeal.τ).loc Cert.CmpPRefIdeal.main_arg5) = m ((c.tc : Thread Cert.CmpPRefIdeal.nD Cert.CmpPRefIdeal.τ).loc Cert.CmpPRefIdeal.main_arg5))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7))
      ∧ r.2.sem = fun _ => 0)

def preserves_HgSample_HgSampleIdeal : Prop :=
  True

def algebraic_HgSampleIdeal_HgSampleRefIdeal [hHgSampleIdeal : Cert.HgSampleIdeal.Facts] [hHgSampleRefIdeal : Cert.HgSampleRefIdeal.Facts] : Prop :=
  ∀ (m : (ℓ : Loc Cert.HgSampleIdeal.nD Cert.HgSampleIdeal.τ Cert.HgSampleIdeal.sig) → Buf (Elt Ideal) ℓ) (g : Dev Cert.HgSampleIdeal.nD → PrngReg)
    (m' : (ℓ : Loc Cert.HgSampleRefIdeal.nD Cert.HgSampleRefIdeal.τ Cert.HgSampleRefIdeal.sig) → Buf (Elt Ideal) ℓ) (g' : Dev Cert.HgSampleRefIdeal.nD → PrngReg), Pre_HgSampleIdeal m →
    (∀ c : Dev Cert.HgSampleIdeal.nD,
      m' ((c.tc : Thread Cert.HgSampleRefIdeal.nD Cert.HgSampleRefIdeal.τ).loc Cert.HgSampleRefIdeal.main_arg0) = m ((c.tc : Thread Cert.HgSampleIdeal.nD Cert.HgSampleIdeal.τ).loc Cert.HgSampleIdeal.main_arg0)
      ∧ m' ((c.tc : Thread Cert.HgSampleRefIdeal.nD Cert.HgSampleRefIdeal.τ).loc Cert.HgSampleRefIdeal.main_arg1) = m ((c.tc : Thread Cert.HgSampleIdeal.nD Cert.HgSampleIdeal.τ).loc Cert.HgSampleIdeal.main_arg1)
      ∧ m' ((c.tc : Thread Cert.HgSampleRefIdeal.nD Cert.HgSampleRefIdeal.τ).loc Cert.HgSampleRefIdeal.main_arg2) = m ((c.tc : Thread Cert.HgSampleIdeal.nD Cert.HgSampleIdeal.τ).loc Cert.HgSampleIdeal.main_arg2)
      ∧ m' ((c.tc : Thread Cert.HgSampleRefIdeal.nD Cert.HgSampleRefIdeal.τ).loc Cert.HgSampleRefIdeal.main_arg3) = m ((c.tc : Thread Cert.HgSampleIdeal.nD Cert.HgSampleIdeal.τ).loc Cert.HgSampleIdeal.main_arg3)
      ∧ m' ((c.tc : Thread Cert.HgSampleRefIdeal.nD Cert.HgSampleRefIdeal.τ).loc Cert.HgSampleRefIdeal.main_arg4) = m ((c.tc : Thread Cert.HgSampleIdeal.nD Cert.HgSampleIdeal.τ).loc Cert.HgSampleIdeal.main_arg4)
      ∧ m' ((c.tc : Thread Cert.HgSampleRefIdeal.nD Cert.HgSampleRefIdeal.τ).loc Cert.HgSampleRefIdeal.main_arg5) = m ((c.tc : Thread Cert.HgSampleIdeal.nD Cert.HgSampleIdeal.τ).loc Cert.HgSampleIdeal.main_arg5)
      ∧ m' ((c.tc : Thread Cert.HgSampleRefIdeal.nD Cert.HgSampleRefIdeal.τ).loc Cert.HgSampleRefIdeal.main_arg6) = m ((c.tc : Thread Cert.HgSampleIdeal.nD Cert.HgSampleIdeal.τ).loc Cert.HgSampleIdeal.main_arg6)) →
    ∃ (v0 : (c : Dev Cert.HgSampleIdeal.nD) → Buf (Elt Ideal) ((c.tc : Thread Cert.HgSampleIdeal.nD Cert.HgSampleIdeal.τ).loc Cert.HgSampleIdeal.main_v25_0)) (v1 : (c : Dev Cert.HgSampleIdeal.nD) → Buf (Elt Ideal) ((c.tc : Thread Cert.HgSampleIdeal.nD Cert.HgSampleIdeal.τ).loc Cert.HgSampleIdeal.main_v25_1)),
      θ_run (Cert.HgSampleIdeal.defs (F := Ideal)) (onTc (τ := Cert.HgSampleIdeal.τ) (Cert.HgSampleIdeal.main (F := Ideal))) ⟨m, fun _ => 0, g⟩ (fun r => ∀ c : Dev Cert.HgSampleIdeal.nD,
          r.2.mem ((c.tc : Thread Cert.HgSampleIdeal.nD Cert.HgSampleIdeal.τ).loc Cert.HgSampleIdeal.main_v25_0) = v0 c
          ∧ r.2.mem ((c.tc : Thread Cert.HgSampleIdeal.nD Cert.HgSampleIdeal.τ).loc Cert.HgSampleIdeal.main_v25_1) = v1 c
          ∧ r.2.mem ((c.tc : Thread Cert.HgSampleIdeal.nD Cert.HgSampleIdeal.τ).loc Cert.HgSampleIdeal.main_arg0) = m ((c.tc : Thread Cert.HgSampleIdeal.nD Cert.HgSampleIdeal.τ).loc Cert.HgSampleIdeal.main_arg0)
          ∧ r.2.mem ((c.tc : Thread Cert.HgSampleIdeal.nD Cert.HgSampleIdeal.τ).loc Cert.HgSampleIdeal.main_arg1) = m ((c.tc : Thread Cert.HgSampleIdeal.nD Cert.HgSampleIdeal.τ).loc Cert.HgSampleIdeal.main_arg1)
          ∧ r.2.mem ((c.tc : Thread Cert.HgSampleIdeal.nD Cert.HgSampleIdeal.τ).loc Cert.HgSampleIdeal.main_arg2) = m ((c.tc : Thread Cert.HgSampleIdeal.nD Cert.HgSampleIdeal.τ).loc Cert.HgSampleIdeal.main_arg2)
          ∧ r.2.mem ((c.tc : Thread Cert.HgSampleIdeal.nD Cert.HgSampleIdeal.τ).loc Cert.HgSampleIdeal.main_arg3) = m ((c.tc : Thread Cert.HgSampleIdeal.nD Cert.HgSampleIdeal.τ).loc Cert.HgSampleIdeal.main_arg3)
          ∧ r.2.mem ((c.tc : Thread Cert.HgSampleIdeal.nD Cert.HgSampleIdeal.τ).loc Cert.HgSampleIdeal.main_arg4) = m ((c.tc : Thread Cert.HgSampleIdeal.nD Cert.HgSampleIdeal.τ).loc Cert.HgSampleIdeal.main_arg4)
          ∧ r.2.mem ((c.tc : Thread Cert.HgSampleIdeal.nD Cert.HgSampleIdeal.τ).loc Cert.HgSampleIdeal.main_arg5) = m ((c.tc : Thread Cert.HgSampleIdeal.nD Cert.HgSampleIdeal.τ).loc Cert.HgSampleIdeal.main_arg5)
          ∧ r.2.mem ((c.tc : Thread Cert.HgSampleIdeal.nD Cert.HgSampleIdeal.τ).loc Cert.HgSampleIdeal.main_arg6) = m ((c.tc : Thread Cert.HgSampleIdeal.nD Cert.HgSampleIdeal.τ).loc Cert.HgSampleIdeal.main_arg6))
      ∧ θ_run (Cert.HgSampleRefIdeal.defs (F := Ideal)) (onTc (τ := Cert.HgSampleRefIdeal.τ) (Cert.HgSampleRefIdeal.main (F := Ideal))) ⟨m', fun _ => 0, g'⟩ (fun r => ∀ c : Dev Cert.HgSampleRefIdeal.nD,
          r.2.mem ((c.tc : Thread Cert.HgSampleRefIdeal.nD Cert.HgSampleRefIdeal.τ).loc Cert.HgSampleRefIdeal.main_v102) = v0 c
          ∧ r.2.mem ((c.tc : Thread Cert.HgSampleRefIdeal.nD Cert.HgSampleRefIdeal.τ).loc Cert.HgSampleRefIdeal.main_v83) = v1 c
          ∧ r.2.mem ((c.tc : Thread Cert.HgSampleRefIdeal.nD Cert.HgSampleRefIdeal.τ).loc Cert.HgSampleRefIdeal.main_arg0) = m' ((c.tc : Thread Cert.HgSampleRefIdeal.nD Cert.HgSampleRefIdeal.τ).loc Cert.HgSampleRefIdeal.main_arg0)
          ∧ r.2.mem ((c.tc : Thread Cert.HgSampleRefIdeal.nD Cert.HgSampleRefIdeal.τ).loc Cert.HgSampleRefIdeal.main_arg1) = m' ((c.tc : Thread Cert.HgSampleRefIdeal.nD Cert.HgSampleRefIdeal.τ).loc Cert.HgSampleRefIdeal.main_arg1)
          ∧ r.2.mem ((c.tc : Thread Cert.HgSampleRefIdeal.nD Cert.HgSampleRefIdeal.τ).loc Cert.HgSampleRefIdeal.main_arg2) = m' ((c.tc : Thread Cert.HgSampleRefIdeal.nD Cert.HgSampleRefIdeal.τ).loc Cert.HgSampleRefIdeal.main_arg2)
          ∧ r.2.mem ((c.tc : Thread Cert.HgSampleRefIdeal.nD Cert.HgSampleRefIdeal.τ).loc Cert.HgSampleRefIdeal.main_arg3) = m' ((c.tc : Thread Cert.HgSampleRefIdeal.nD Cert.HgSampleRefIdeal.τ).loc Cert.HgSampleRefIdeal.main_arg3)
          ∧ r.2.mem ((c.tc : Thread Cert.HgSampleRefIdeal.nD Cert.HgSampleRefIdeal.τ).loc Cert.HgSampleRefIdeal.main_arg4) = m' ((c.tc : Thread Cert.HgSampleRefIdeal.nD Cert.HgSampleRefIdeal.τ).loc Cert.HgSampleRefIdeal.main_arg4)
          ∧ r.2.mem ((c.tc : Thread Cert.HgSampleRefIdeal.nD Cert.HgSampleRefIdeal.τ).loc Cert.HgSampleRefIdeal.main_arg5) = m' ((c.tc : Thread Cert.HgSampleRefIdeal.nD Cert.HgSampleRefIdeal.τ).loc Cert.HgSampleRefIdeal.main_arg5)
          ∧ r.2.mem ((c.tc : Thread Cert.HgSampleRefIdeal.nD Cert.HgSampleRefIdeal.τ).loc Cert.HgSampleRefIdeal.main_arg6) = m' ((c.tc : Thread Cert.HgSampleRefIdeal.nD Cert.HgSampleRefIdeal.τ).loc Cert.HgSampleRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v17)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v17) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v62) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)
      ∧ m' ((c.tc : Thread Cert.MlpSampleRefIdeal.nD Cert.MlpSampleRefIdeal.τ).loc Cert.MlpSampleRefIdeal.main_arg5) = m ((c.tc : Thread Cert.MlpSampleIdeal.nD Cert.MlpSampleIdeal.τ).loc Cert.MlpSampleIdeal.main_arg5)
      ∧ m' ((c.tc : Thread Cert.MlpSampleRefIdeal.nD Cert.MlpSampleRefIdeal.τ).loc Cert.MlpSampleRefIdeal.main_arg6) = m ((c.tc : Thread Cert.MlpSampleIdeal.nD Cert.MlpSampleIdeal.τ).loc Cert.MlpSampleIdeal.main_arg6)
      ∧ m' ((c.tc : Thread Cert.MlpSampleRefIdeal.nD Cert.MlpSampleRefIdeal.τ).loc Cert.MlpSampleRefIdeal.main_arg7) = m ((c.tc : Thread Cert.MlpSampleIdeal.nD Cert.MlpSampleIdeal.τ).loc Cert.MlpSampleIdeal.main_arg7)
      ∧ m' ((c.tc : Thread Cert.MlpSampleRefIdeal.nD Cert.MlpSampleRefIdeal.τ).loc Cert.MlpSampleRefIdeal.main_arg8) = m ((c.tc : Thread Cert.MlpSampleIdeal.nD Cert.MlpSampleIdeal.τ).loc Cert.MlpSampleIdeal.main_arg8)) →
    ∃ (v0 : (c : Dev Cert.MlpSampleIdeal.nD) → Buf (Elt Ideal) ((c.tc : Thread Cert.MlpSampleIdeal.nD Cert.MlpSampleIdeal.τ).loc Cert.MlpSampleIdeal.main_v17)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v17) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
          ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6)
          ∧ r.2.mem ((c.tc : Thread Cert.MlpSampleIdeal.nD Cert.MlpSampleIdeal.τ).loc Cert.MlpSampleIdeal.main_arg7) = m ((c.tc : Thread Cert.MlpSampleIdeal.nD Cert.MlpSampleIdeal.τ).loc Cert.MlpSampleIdeal.main_arg7)
          ∧ r.2.mem ((c.tc : Thread Cert.MlpSampleIdeal.nD Cert.MlpSampleIdeal.τ).loc Cert.MlpSampleIdeal.main_arg8) = m ((c.tc : Thread Cert.MlpSampleIdeal.nD Cert.MlpSampleIdeal.τ).loc Cert.MlpSampleIdeal.main_arg8))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v62) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4)
          ∧ r.2.mem ((c.tc : Thread Cert.MlpSampleRefIdeal.nD Cert.MlpSampleRefIdeal.τ).loc Cert.MlpSampleRefIdeal.main_arg5) = m' ((c.tc : Thread Cert.MlpSampleRefIdeal.nD Cert.MlpSampleRefIdeal.τ).loc Cert.MlpSampleRefIdeal.main_arg5)
          ∧ r.2.mem ((c.tc : Thread Cert.MlpSampleRefIdeal.nD Cert.MlpSampleRefIdeal.τ).loc Cert.MlpSampleRefIdeal.main_arg6) = m' ((c.tc : Thread Cert.MlpSampleRefIdeal.nD Cert.MlpSampleRefIdeal.τ).loc Cert.MlpSampleRefIdeal.main_arg6)
          ∧ r.2.mem ((c.tc : Thread Cert.MlpSampleRefIdeal.nD Cert.MlpSampleRefIdeal.τ).loc Cert.MlpSampleRefIdeal.main_arg7) = m' ((c.tc : Thread Cert.MlpSampleRefIdeal.nD Cert.MlpSampleRefIdeal.τ).loc Cert.MlpSampleRefIdeal.main_arg7)
          ∧ r.2.mem ((c.tc : Thread Cert.MlpSampleRefIdeal.nD Cert.MlpSampleRefIdeal.τ).loc Cert.MlpSampleRefIdeal.main_arg8) = m' ((c.tc : Thread Cert.MlpSampleRefIdeal.nD Cert.MlpSampleRefIdeal.τ).loc Cert.MlpSampleRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_KvRows_KvRowsIdeal : Prop :=
  True

def algebraic_KvRowsIdeal_KvRowsRefIdeal [hKvRowsIdeal : Cert.KvRowsIdeal.Facts] [hKvRowsRefIdeal : Cert.KvRowsRefIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg)
    (m' : (ℓ : Loc Cert.KvRowsRefIdeal.nD Cert.KvRowsRefIdeal.τ Cert.KvRowsRefIdeal.sig) → Buf (Elt Ideal) ℓ) (g' : Dev Cert.KvRowsRefIdeal.nD → PrngReg), Pre_KvRowsIdeal m →
    (∀ c : Dev Cert.KvRowsIdeal.nD,
      m' ((c.tc : Thread Cert.KvRowsRefIdeal.nD Cert.KvRowsRefIdeal.τ).loc Cert.KvRowsRefIdeal.main_arg0) = m ((c.tc : Thread Cert.KvRowsIdeal.nD Cert.KvRowsIdeal.τ).loc Cert.KvRowsIdeal.main_arg0)
      ∧ m' ((c.tc : Thread Cert.KvRowsRefIdeal.nD Cert.KvRowsRefIdeal.τ).loc Cert.KvRowsRefIdeal.main_arg1) = m ((c.tc : Thread Cert.KvRowsIdeal.nD Cert.KvRowsIdeal.τ).loc Cert.KvRowsIdeal.main_arg1)
      ∧ m' ((c.tc : Thread Cert.KvRowsRefIdeal.nD Cert.KvRowsRefIdeal.τ).loc Cert.KvRowsRefIdeal.main_arg2) = m ((c.tc : Thread Cert.KvRowsIdeal.nD Cert.KvRowsIdeal.τ).loc Cert.KvRowsIdeal.main_arg2)) →
    ∃ (v0 : (c : Dev Cert.KvRowsIdeal.nD) → Buf (Elt Ideal) ((c.tc : Thread Cert.KvRowsIdeal.nD Cert.KvRowsIdeal.τ).loc Cert.KvRowsIdeal.main_v6_0)) (v1 : (c : Dev Cert.KvRowsIdeal.nD) → Buf (Elt Ideal) ((c.tc : Thread Cert.KvRowsIdeal.nD Cert.KvRowsIdeal.τ).loc Cert.KvRowsIdeal.main_v6_1)) (v2 : (c : Dev Cert.KvRowsIdeal.nD) → Buf (Elt Ideal) ((c.tc : Thread Cert.KvRowsIdeal.nD Cert.KvRowsIdeal.τ).loc Cert.KvRowsIdeal.main_v6_2)),
      θ_run (Cert.KvRowsIdeal.defs (F := Ideal)) (onTc (τ := Cert.KvRowsIdeal.τ) (Cert.KvRowsIdeal.main (F := Ideal))) ⟨m, fun _ => 0, g⟩ (fun r => ∀ c : Dev Cert.KvRowsIdeal.nD,
          r.2.mem ((c.tc : Thread Cert.KvRowsIdeal.nD Cert.KvRowsIdeal.τ).loc Cert.KvRowsIdeal.main_v6_0) = v0 c
          ∧ r.2.mem ((c.tc : Thread Cert.KvRowsIdeal.nD Cert.KvRowsIdeal.τ).loc Cert.KvRowsIdeal.main_v6_1) = v1 c
          ∧ r.2.mem ((c.tc : Thread Cert.KvRowsIdeal.nD Cert.KvRowsIdeal.τ).loc Cert.KvRowsIdeal.main_v6_2) = v2 c
          ∧ r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
          ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
          ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2))
      ∧ θ_run (Cert.KvRowsRefIdeal.defs (F := Ideal)) (onTc (τ := Cert.KvRowsRefIdeal.τ) (Cert.KvRowsRefIdeal.main (F := Ideal))) ⟨m', fun _ => 0, g'⟩ (fun r => ∀ c : Dev Cert.KvRowsRefIdeal.nD,
          r.2.mem ((c.tc : Thread Cert.KvRowsRefIdeal.nD Cert.KvRowsRefIdeal.τ).loc Cert.KvRowsRefIdeal.main_v1) = v0 c
          ∧ r.2.mem ((c.tc : Thread Cert.KvRowsRefIdeal.nD Cert.KvRowsRefIdeal.τ).loc Cert.KvRowsRefIdeal.main_v3) = v1 c
          ∧ r.2.mem ((c.tc : Thread Cert.KvRowsRefIdeal.nD Cert.KvRowsRefIdeal.τ).loc Cert.KvRowsRefIdeal.main_v6) = v2 c
          ∧ r.2.mem ((c.tc : Thread Cert.KvRowsRefIdeal.nD Cert.KvRowsRefIdeal.τ).loc Cert.KvRowsRefIdeal.main_arg0) = m' ((c.tc : Thread Cert.KvRowsRefIdeal.nD Cert.KvRowsRefIdeal.τ).loc Cert.KvRowsRefIdeal.main_arg0)
          ∧ r.2.mem ((c.tc : Thread Cert.KvRowsRefIdeal.nD Cert.KvRowsRefIdeal.τ).loc Cert.KvRowsRefIdeal.main_arg1) = m' ((c.tc : Thread Cert.KvRowsRefIdeal.nD Cert.KvRowsRefIdeal.τ).loc Cert.KvRowsRefIdeal.main_arg1)
          ∧ r.2.mem ((c.tc : Thread Cert.KvRowsRefIdeal.nD Cert.KvRowsRefIdeal.τ).loc Cert.KvRowsRefIdeal.main_arg2) = m' ((c.tc : Thread Cert.KvRowsRefIdeal.nD Cert.KvRowsRefIdeal.τ).loc Cert.KvRowsRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v17)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v17) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v28) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)
      ∧ m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3)) →
    ∃ (v0 : (c : Dev Cert.InSampleIdeal.nD) → Buf (Elt Ideal) ((c.tc : Thread Cert.InSampleIdeal.nD Cert.InSampleIdeal.τ).loc Cert.InSampleIdeal.main_v17)) (v1 : (c : Dev Cert.InSampleIdeal.nD) → Buf (Elt Ideal) ((c.tc : Thread Cert.InSampleIdeal.nD Cert.InSampleIdeal.τ).loc Cert.InSampleIdeal.main_v25)) (v2 : (c : Dev Cert.InSampleIdeal.nD) → Buf (Elt Ideal) ((c.tc : Thread Cert.InSampleIdeal.nD Cert.InSampleIdeal.τ).loc Cert.InSampleIdeal.main_v26)) (v3 : (c : Dev Cert.InSampleIdeal.nD) → Buf (Elt Ideal) ((c.tc : Thread Cert.InSampleIdeal.nD Cert.InSampleIdeal.τ).loc Cert.InSampleIdeal.main_v24)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v17) = v0 c
          ∧ r.2.mem ((c.tc : Thread Cert.InSampleIdeal.nD Cert.InSampleIdeal.τ).loc Cert.InSampleIdeal.main_v25) = v1 c
          ∧ r.2.mem ((c.tc : Thread Cert.InSampleIdeal.nD Cert.InSampleIdeal.τ).loc Cert.InSampleIdeal.main_v26) = v2 c
          ∧ r.2.mem ((c.tc : Thread Cert.InSampleIdeal.nD Cert.InSampleIdeal.τ).loc Cert.InSampleIdeal.main_v24) = v3 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v28) = v0 c
          ∧ r.2.mem ((c.tc : Thread Cert.InSampleRefIdeal.nD Cert.InSampleRefIdeal.τ).loc Cert.InSampleRefIdeal.main_v30) = v1 c
          ∧ r.2.mem ((c.tc : Thread Cert.InSampleRefIdeal.nD Cert.InSampleRefIdeal.τ).loc Cert.InSampleRefIdeal.main_v32) = v2 c
          ∧ r.2.mem ((c.tc : Thread Cert.InSampleRefIdeal.nD Cert.InSampleRefIdeal.τ).loc Cert.InSampleRefIdeal.main_v37) = v3 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2)
          ∧ r.2.mem ((c.tc : Thread Cert.InSampleRefIdeal.nD Cert.InSampleRefIdeal.τ).loc Cert.InSampleRefIdeal.main_arg3) = m' ((c.tc : Thread Cert.InSampleRefIdeal.nD Cert.InSampleRefIdeal.τ).loc Cert.InSampleRefIdeal.main_arg3))

def preserves_CmpP_CmpPIdeal : Prop :=
  True

def algebraic_CmpPIdeal_CmpPRefIdeal [hCmpPIdeal : Cert.CmpPIdeal.Facts] [hCmpPRefIdeal : Cert.CmpPRefIdeal.Facts] : Prop :=
  ∀ (m : (ℓ : Loc Cert.CmpPIdeal.nD Cert.CmpPIdeal.τ Cert.CmpPIdeal.sig) → Buf (Elt Ideal) ℓ) (g : Dev Cert.CmpPIdeal.nD → PrngReg)
    (m' : (ℓ : Loc Cert.CmpPRefIdeal.nD Cert.CmpPRefIdeal.τ Cert.CmpPRefIdeal.sig) → Buf (Elt Ideal) ℓ) (g' : Dev Cert.CmpPRefIdeal.nD → PrngReg), Pre_CmpPIdeal m →
    (∀ c : Dev Cert.CmpPIdeal.nD,
      m' ((c.tc : Thread Cert.CmpPRefIdeal.nD Cert.CmpPRefIdeal.τ).loc Cert.CmpPRefIdeal.main_arg0) = m ((c.tc : Thread Cert.CmpPIdeal.nD Cert.CmpPIdeal.τ).loc Cert.CmpPIdeal.main_arg0)
      ∧ m' ((c.tc : Thread Cert.CmpPRefIdeal.nD Cert.CmpPRefIdeal.τ).loc Cert.CmpPRefIdeal.main_arg1) = m ((c.tc : Thread Cert.CmpPIdeal.nD Cert.CmpPIdeal.τ).loc Cert.CmpPIdeal.main_arg1)
      ∧ m' ((c.tc : Thread Cert.CmpPRefIdeal.nD Cert.CmpPRefIdeal.τ).loc Cert.CmpPRefIdeal.main_arg2) = m ((c.tc : Thread Cert.CmpPIdeal.nD Cert.CmpPIdeal.τ).loc Cert.CmpPIdeal.main_arg2)
      ∧ m' ((c.tc : Thread Cert.CmpPRefIdeal.nD Cert.CmpPRefIdeal.τ).loc Cert.CmpPRefIdeal.main_arg3) = m ((c.tc : Thread Cert.CmpPIdeal.nD Cert.CmpPIdeal.τ).loc Cert.CmpPIdeal.main_arg3)
      ∧ m' ((c.tc : Thread Cert.CmpPRefIdeal.nD Cert.CmpPRefIdeal.τ).loc Cert.CmpPRefIdeal.main_arg4) = m ((c.tc : Thread Cert.CmpPIdeal.nD Cert.CmpPIdeal.τ).loc Cert.CmpPIdeal.main_arg4)
      ∧ m' ((c.tc : Thread Cert.CmpPRefIdeal.nD Cert.CmpPRefIdeal.τ).loc Cert.CmpPRefIdeal.main_arg5) = m ((c.tc : Thread Cert.CmpPIdeal.nD Cert.CmpPIdeal.τ).loc Cert.CmpPIdeal.main_arg5)) →
    ∃ (v0 : (c : Dev Cert.CmpPIdeal.nD) → Buf (Elt Ideal) ((c.tc : Thread Cert.CmpPIdeal.nD Cert.CmpPIdeal.τ).loc Cert.CmpPIdeal.main_v52_0)) (v1 : (c : Dev Cert.CmpPIdeal.nD) → Buf (Elt Ideal) ((c.tc : Thread Cert.CmpPIdeal.nD Cert.CmpPIdeal.τ).loc Cert.CmpPIdeal.main_v52_1)),
      θ_run (Cert.CmpPIdeal.defs (F := Ideal)) (onTc (τ := Cert.CmpPIdeal.τ) (Cert.CmpPIdeal.main (F := Ideal))) ⟨m, fun _ => 0, g⟩ (fun r => ∀ c : Dev Cert.CmpPIdeal.nD,
          r.2.mem ((c.tc : Thread Cert.CmpPIdeal.nD Cert.CmpPIdeal.τ).loc Cert.CmpPIdeal.main_v52_0) = v0 c
          ∧ r.2.mem ((c.tc : Thread Cert.CmpPIdeal.nD Cert.CmpPIdeal.τ).loc Cert.CmpPIdeal.main_v52_1) = v1 c
          ∧ r.2.mem ((c.tc : Thread Cert.CmpPIdeal.nD Cert.CmpPIdeal.τ).loc Cert.CmpPIdeal.main_arg0) = m ((c.tc : Thread Cert.CmpPIdeal.nD Cert.CmpPIdeal.τ).loc Cert.CmpPIdeal.main_arg0)
          ∧ r.2.mem ((c.tc : Thread Cert.CmpPIdeal.nD Cert.CmpPIdeal.τ).loc Cert.CmpPIdeal.main_arg1) = m ((c.tc : Thread Cert.CmpPIdeal.nD Cert.CmpPIdeal.τ).loc Cert.CmpPIdeal.main_arg1)
          ∧ r.2.mem ((c.tc : Thread Cert.CmpPIdeal.nD Cert.CmpPIdeal.τ).loc Cert.CmpPIdeal.main_arg2) = m ((c.tc : Thread Cert.CmpPIdeal.nD Cert.CmpPIdeal.τ).loc Cert.CmpPIdeal.main_arg2)
          ∧ r.2.mem ((c.tc : Thread Cert.CmpPIdeal.nD Cert.CmpPIdeal.τ).loc Cert.CmpPIdeal.main_arg3) = m ((c.tc : Thread Cert.CmpPIdeal.nD Cert.CmpPIdeal.τ).loc Cert.CmpPIdeal.main_arg3)
          ∧ r.2.mem ((c.tc : Thread Cert.CmpPIdeal.nD Cert.CmpPIdeal.τ).loc Cert.CmpPIdeal.main_arg4) = m ((c.tc : Thread Cert.CmpPIdeal.nD Cert.CmpPIdeal.τ).loc Cert.CmpPIdeal.main_arg4)
          ∧ r.2.mem ((c.tc : Thread Cert.CmpPIdeal.nD Cert.CmpPIdeal.τ).loc Cert.CmpPIdeal.main_arg5) = m ((c.tc : Thread Cert.CmpPIdeal.nD Cert.CmpPIdeal.τ).loc Cert.CmpPIdeal.main_arg5))
      ∧ θ_run (Cert.CmpPRefIdeal.defs (F := Ideal)) (onTc (τ := Cert.CmpPRefIdeal.τ) (Cert.CmpPRefIdeal.main (F := Ideal))) ⟨m', fun _ => 0, g'⟩ (fun r => ∀ c : Dev Cert.CmpPRefIdeal.nD,
          r.2.mem ((c.tc : Thread Cert.CmpPRefIdeal.nD Cert.CmpPRefIdeal.τ).loc Cert.CmpPRefIdeal.main_v69) = v0 c
          ∧ r.2.mem ((c.tc : Thread Cert.CmpPRefIdeal.nD Cert.CmpPRefIdeal.τ).loc Cert.CmpPRefIdeal.main_v71) = v1 c
          ∧ r.2.mem ((c.tc : Thread Cert.CmpPRefIdeal.nD Cert.CmpPRefIdeal.τ).loc Cert.CmpPRefIdeal.main_arg0) = m' ((c.tc : Thread Cert.CmpPRefIdeal.nD Cert.CmpPRefIdeal.τ).loc Cert.CmpPRefIdeal.main_arg0)
          ∧ r.2.mem ((c.tc : Thread Cert.CmpPRefIdeal.nD Cert.CmpPRefIdeal.τ).loc Cert.CmpPRefIdeal.main_arg1) = m' ((c.tc : Thread Cert.CmpPRefIdeal.nD Cert.CmpPRefIdeal.τ).loc Cert.CmpPRefIdeal.main_arg1)
          ∧ r.2.mem ((c.tc : Thread Cert.CmpPRefIdeal.nD Cert.CmpPRefIdeal.τ).loc Cert.CmpPRefIdeal.main_arg2) = m' ((c.tc : Thread Cert.CmpPRefIdeal.nD Cert.CmpPRefIdeal.τ).loc Cert.CmpPRefIdeal.main_arg2)
          ∧ r.2.mem ((c.tc : Thread Cert.CmpPRefIdeal.nD Cert.CmpPRefIdeal.τ).loc Cert.CmpPRefIdeal.main_arg3) = m' ((c.tc : Thread Cert.CmpPRefIdeal.nD Cert.CmpPRefIdeal.τ).loc Cert.CmpPRefIdeal.main_arg3)
          ∧ r.2.mem ((c.tc : Thread Cert.CmpPRefIdeal.nD Cert.CmpPRefIdeal.τ).loc Cert.CmpPRefIdeal.main_arg4) = m' ((c.tc : Thread Cert.CmpPRefIdeal.nD Cert.CmpPRefIdeal.τ).loc Cert.CmpPRefIdeal.main_arg4)
          ∧ r.2.mem ((c.tc : Thread Cert.CmpPRefIdeal.nD Cert.CmpPRefIdeal.τ).loc Cert.CmpPRefIdeal.main_arg5) = m' ((c.tc : Thread Cert.CmpPRefIdeal.nD Cert.CmpPRefIdeal.τ).loc Cert.CmpPRefIdeal.main_arg5))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v16)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v16) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v38) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7))

def Claim : Prop :=
  ∃ (hHgSample : Cert.HgSample.Facts) (hHgSampleIdeal : Cert.HgSampleIdeal.Facts) (hHgSampleRefIdeal : Cert.HgSampleRefIdeal.Facts) (hMlp : Cert.Mlp.Facts) (hMlpIdeal : Cert.MlpIdeal.Facts) (hMlpRefIdeal : Cert.MlpRefIdeal.Facts) (hMlpSample : Cert.MlpSample.Facts) (hMlpSampleIdeal : Cert.MlpSampleIdeal.Facts) (hMlpSampleRefIdeal : Cert.MlpSampleRefIdeal.Facts) (hMerge : Cert.Merge.Facts) (hMergeIdeal : Cert.MergeIdeal.Facts) (hMergeRefIdeal : Cert.MergeRefIdeal.Facts) (hKvRows : Cert.KvRows.Facts) (hKvRowsIdeal : Cert.KvRowsIdeal.Facts) (hKvRowsRefIdeal : Cert.KvRowsRefIdeal.Facts) (hInProj : Cert.InProj.Facts) (hInProjIdeal : Cert.InProjIdeal.Facts) (hInProjRefIdeal : Cert.InProjRefIdeal.Facts) (hInSample : Cert.InSample.Facts) (hInSampleIdeal : Cert.InSampleIdeal.Facts) (hInSampleRefIdeal : Cert.InSampleRefIdeal.Facts) (hCmpP : Cert.CmpP.Facts) (hCmpPIdeal : Cert.CmpPIdeal.Facts) (hCmpPRefIdeal : Cert.CmpPRefIdeal.Facts) (hMergeSample : Cert.MergeSample.Facts) (hMergeSampleIdeal : Cert.MergeSampleIdeal.Facts) (hMergeSampleRefIdeal : Cert.MergeSampleRefIdeal.Facts),
    quiescent_HgSample (hHgSample := hHgSample)
    ∧ quiescent_HgSampleIdeal (hHgSampleIdeal := hHgSampleIdeal)
    ∧ quiescent_HgSampleRefIdeal (hHgSampleRefIdeal := hHgSampleRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_Merge (hMerge := hMerge)
    ∧ quiescent_MergeIdeal (hMergeIdeal := hMergeIdeal)
    ∧ quiescent_MergeRefIdeal (hMergeRefIdeal := hMergeRefIdeal)
    ∧ quiescent_KvRows (hKvRows := hKvRows)
    ∧ quiescent_KvRowsIdeal (hKvRowsIdeal := hKvRowsIdeal)
    ∧ quiescent_KvRowsRefIdeal (hKvRowsRefIdeal := hKvRowsRefIdeal)
    ∧ quiescent_InProj (hInProj := hInProj)
    ∧ quiescent_InProjIdeal (hInProjIdeal := hInProjIdeal)
    ∧ quiescent_InProjRefIdeal (hInProjRefIdeal := hInProjRefIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_CmpP (hCmpP := hCmpP)
    ∧ quiescent_CmpPIdeal (hCmpPIdeal := hCmpPIdeal)
    ∧ quiescent_CmpPRefIdeal (hCmpPRefIdeal := hCmpPRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ preserves_HgSample_HgSampleIdeal
    ∧ algebraic_HgSampleIdeal_HgSampleRefIdeal (hHgSampleIdeal := hHgSampleIdeal) (hHgSampleRefIdeal := hHgSampleRefIdeal)
    ∧ preserves_Mlp_MlpIdeal
    ∧ algebraic_MlpIdeal_MlpRefIdeal (hMlpIdeal := hMlpIdeal) (hMlpRefIdeal := hMlpRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_Merge_MergeIdeal
    ∧ algebraic_MergeIdeal_MergeRefIdeal (hMergeIdeal := hMergeIdeal) (hMergeRefIdeal := hMergeRefIdeal)
    ∧ preserves_KvRows_KvRowsIdeal
    ∧ algebraic_KvRowsIdeal_KvRowsRefIdeal (hKvRowsIdeal := hKvRowsIdeal) (hKvRowsRefIdeal := hKvRowsRefIdeal)
    ∧ preserves_InProj_InProjIdeal
    ∧ algebraic_InProjIdeal_InProjRefIdeal (hInProjIdeal := hInProjIdeal) (hInProjRefIdeal := hInProjRefIdeal)
    ∧ preserves_InSample_InSampleIdeal
    ∧ algebraic_InSampleIdeal_InSampleRefIdeal (hInSampleIdeal := hInSampleIdeal) (hInSampleRefIdeal := hInSampleRefIdeal)
    ∧ preserves_CmpP_CmpPIdeal
    ∧ algebraic_CmpPIdeal_CmpPRefIdeal (hCmpPIdeal := hCmpPIdeal) (hCmpPRefIdeal := hCmpPRefIdeal)
    ∧ preserves_MergeSample_MergeSampleIdeal
    ∧ algebraic_MergeSampleIdeal_MergeSampleRefIdeal (hMergeSampleIdeal := hMergeSampleIdeal) (hMergeSampleRefIdeal := hMergeSampleRefIdeal)
-- ==== HgSample.lean ====
abbrev S128x4x512 : Shape := ⟨3, ![128, 4, 512]⟩
abbrev S2x512 : Shape := ⟨2, ![2, 512]⟩
abbrev S1x128 : Shape := ⟨2, ![1, 128]⟩
abbrev S1x128x4x128x128 : Shape := ⟨5, ![1, 128, 4, 128, 128]⟩
abbrev S_ : Shape := ⟨0, ![]⟩
abbrev S512 : Shape := ⟨1, ![512]⟩
abbrev S1x512 : Shape := ⟨2, ![1, 512]⟩
abbrev S512x2560 : Shape := ⟨2, ![512, 2560]⟩
abbrev S512x512 : Shape := ⟨2, ![512, 512]⟩
abbrev S512x1024 : Shape := ⟨2, ![512, 1024]⟩
abbrev S512x5632 : Shape := ⟨2, ![512, 5632]⟩
abbrev S128 : Shape := ⟨1, ![128]⟩
abbrev S128x4x128x128 : Shape := ⟨4, ![128, 4, 128, 128]⟩
abbrev S32x512 : Shape := ⟨2, ![32, 512]⟩
abbrev S8x4x128x128 : Shape := ⟨4, ![8, 4, 128, 128]⟩
abbrev S32x128 : Shape := ⟨2, ![32, 128]⟩
abbrev S32 : Shape := ⟨1, ![32]⟩
abbrev S32x1 : Shape := ⟨2, ![32, 1]⟩
abbrev S8x128 : Shape := ⟨2, ![8, 128]⟩
abbrev S1x1x128x128 : Shape := ⟨4, ![1, 1, 128, 128]⟩
abbrev S128x128 : Shape := ⟨2, ![128, 128]⟩
abbrev S8x512 : Shape := ⟨2, ![8, 512]⟩

abbrev nBuf : Space → Nat
  | .hbm => 41
  | .vmem => 16
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S128x4x512, .f32⟩
  | .hbm, ⟨3, _⟩ => ⟨S128x4x512, .f32⟩
  | .hbm, ⟨4, _⟩ => ⟨S2x512, .f32⟩
  | .hbm, ⟨5, _⟩ => ⟨S1x128, .f32⟩
  | .hbm, ⟨6, _⟩ => ⟨S1x128x4x128x128, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S2x512, .f32⟩
  | .hbm, ⟨20, _⟩ => ⟨S2x512, .f32⟩
  | .hbm, ⟨21, _⟩ => ⟨S_, .f32⟩
  | .hbm, ⟨22, _⟩ => ⟨S_, .f32⟩
  | .hbm, ⟨23, _⟩ => ⟨S2x512, .f32⟩
  | .hbm, ⟨24, _⟩ => ⟨S_, .f32⟩
  | .hbm, ⟨25, _⟩ => ⟨S512x2560, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x1024, .f32⟩
  | .hbm, ⟨32, _⟩ => ⟨S512x5632, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S128, .f32⟩
  | .hbm, ⟨37, _⟩ => ⟨S1x128, .f32⟩
  | .hbm, ⟨38, _⟩ => ⟨S128x4x128x128, .f32⟩
  | .hbm, ⟨39, _⟩ => ⟨S512x512, .bf16⟩
  | .hbm, ⟨40, _⟩ => ⟨S128x4x128x128, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S1x512, .f32⟩
  | .local _ .vmem, ⟨9, _⟩ => ⟨S1x128, .f32⟩
  | .local _ .vmem, ⟨10, _⟩ => ⟨S8x4x128x128, .f32⟩
  | .local _ .vmem, ⟨11, _⟩ => ⟨S8x4x128x128, .f32⟩
  | .local _ .vmem, ⟨12, _⟩ => ⟨S32x512, .bf16⟩
  | .local _ .vmem, ⟨13, _⟩ => ⟨S32x512, .bf16⟩
  | .local _ .vmem, ⟨14, _⟩ => ⟨S8x4x128x128, .f32⟩
  | .local _ .vmem, ⟨15, _⟩ => ⟨S8x4x128x128, .f32⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgSampleRefIdeal.lean ====
abbrev S128x4x512 : Shape := ⟨3, ![128, 4, 512]⟩
abbrev S2x512 : Shape := ⟨2, ![2, 512]⟩
abbrev S1x128 : Shape := ⟨2, ![1, 128]⟩
abbrev S1x128x4x128x128 : Shape := ⟨5, ![1, 128, 4, 128, 128]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S128x4x4x128 : Shape := ⟨4, ![128, 4, 4, 128]⟩
abbrev S128x4x128x128 : Shape := ⟨4, ![128, 4, 128, 128]⟩
abbrev S4x4 : Shape := ⟨2, ![4, 4]⟩
abbrev S1x4x4x1x1 : Shape := ⟨5, ![1, 4, 4, 1, 1]⟩
abbrev S128x4x1x4x128 : Shape := ⟨5, ![128, 4, 1, 4, 128]⟩
abbrev S128x1x4x4x128 : Shape := ⟨5, ![128, 1, 4, 4, 128]⟩
abbrev S128x4x4x4x128 : Shape := ⟨5, ![128, 4, 4, 4, 128]⟩
abbrev S128x4x4x4 : Shape := ⟨4, ![128, 4, 4, 4]⟩
abbrev S128x4x128x4 : Shape := ⟨4, ![128, 4, 128, 4]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S128 : Shape := ⟨1, ![128]⟩
abbrev S128x4x4 : Shape := ⟨3, ![128, 4, 4]⟩
abbrev S128x4x4x1 : Shape := ⟨4, ![128, 4, 4, 1]⟩
abbrev S1x1x1x128 : Shape := ⟨4, ![1, 1, 1, 128]⟩
abbrev S512x512 : Shape := ⟨2, ![512, 512]⟩

abbrev nBuf : Space → Nat
  | .hbm => 148
  | .vmem => 0
  | .smem => 0
  | _ => 0

abbrev hbmTy0_0 (i : Nat) : BufTy := match i % 128 with
  | 0 => ⟨S128x4x512, .f32⟩
  | 1 => ⟨S128x4x512, .f32⟩
  | 2 => ⟨S128x4x512, .f32⟩
  | 3 => ⟨S128x4x512, .f32⟩
  | 4 => ⟨S2x512, .f32⟩
  | 5 => ⟨S1x128, .f32⟩
  | 6 => ⟨S1x128x4x128x128, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S2x512, .f32⟩
  | 14 => ⟨S2x512, .f32⟩
  | 15 => ⟨S2x512, .f32⟩
  | 16 => ⟨S_, .f32⟩
  | 17 => ⟨S512, .f32⟩
  | 18 => ⟨S1x512, .f32⟩
  | 19 => ⟨S2x512, .f32⟩
  | 20 => ⟨S2x512, .f32⟩
  | 21 => ⟨S_, .f32⟩
  | 22 => ⟨S_, .f32⟩
  | 23 => ⟨S2x512, .f32⟩
  | 24 => ⟨S1x512, .f32⟩
  | 25 => ⟨S512, .f32⟩
  | 26 => ⟨S_, .f32⟩
  | 27 => ⟨S512, .f32⟩
  | 28 => ⟨S512, .f32⟩
  | 29 => ⟨S128x4x512, .f32⟩
  | 30 => ⟨S128x4x512, .f32⟩
  | 31 => ⟨S_, .f32⟩
  | 32 => ⟨S128x4x512, .f32⟩
  | 33 => ⟨S128x4x512, .f32⟩
  | 34 => ⟨S_, .f32⟩
  | 35 => ⟨S128x4x512, .f32⟩
  | 36 => ⟨S128x4x512, .f32⟩
  | 37 => ⟨S1x1x512, .f32⟩
  | 38 => ⟨S128x4x512, .f32⟩
  | 39 => ⟨S128x4x512, .f32⟩
  | 40 => ⟨S1x1x512, .f32⟩
  | 41 => ⟨S128x4x512, .f32⟩
  | 42 => ⟨S128x4x512, .f32⟩
  | 43 => ⟨S128x4x512, .f32⟩
  | 44 => ⟨S128x4x4x128, .f32⟩
  | 45 => ⟨S_, .f32⟩
  | 46 => ⟨S512, .f32⟩
  | 47 => ⟨S512, .f32⟩
  | 48 => ⟨S128x4x512, .f32⟩
  | 49 => ⟨S128x4x512, .f32⟩
  | 50 => ⟨S128x4x512, .f32⟩
  | 51 => ⟨S_, .f32⟩
  | 52 => ⟨S128x4x512, .f32⟩
  | 53 => ⟨S128x4x512, .f32⟩
  | 54 => ⟨S_, .f32⟩
  | 55 => ⟨S128x4x512, .f32⟩
  | 56 => ⟨S128x4x512, .f32⟩
  | 57 => ⟨S1x1x512, .f32⟩
  | 58 => ⟨S128x4x512, .f32⟩
  | 59 => ⟨S128x4x512, .f32⟩
  | 60 => ⟨S128x4x4x128, .f32⟩
  | 61 => ⟨S128x4x4x128, .f32⟩
  | 62 => ⟨S128x4x4x128, .f32⟩
  | 63 => ⟨S128x4x128x128, .f32⟩
  | 64 => ⟨S_, .f32⟩
  | 65 => ⟨S_, .f32⟩
  | 66 => ⟨S128x4x4x128, .f32⟩
  | 67 => ⟨S_, .i1⟩
  | 68 => ⟨S4x4, .i1⟩
  | 69 => ⟨S4x4, .i32⟩
  | 70 => ⟨S_, .i32⟩
  | 71 => ⟨S4x4, .i32⟩
  | 72 => ⟨S4x4, .i32⟩
  | 73 => ⟨S4x4, .i32⟩
  | 74 => ⟨S4x4, .i1⟩
  | 75 => ⟨S_, .i1⟩
  | 76 => ⟨S4x4, .i1⟩
  | 77 => ⟨S4x4, .i1⟩
  | 78 => ⟨S1x4x4x1x1, .i1⟩
  | 79 => ⟨S128x4x1x4x128, .f32⟩
  | 80 => ⟨S128x1x4x4x128, .f32⟩
  | 81 => ⟨S128x4x4x4x128, .f32⟩
  | 82 => ⟨S128x4x4x4x128, .f32⟩
  | 83 => ⟨S128x4x4x4x128, .f32⟩
  | 84 => ⟨S_, .f32⟩
  | 85 => ⟨S_, .f32⟩
  | 86 => ⟨S128x4x4x4x128, .i1⟩
  | 87 => ⟨S128x4x4x4x128, .f32⟩
  | 88 => ⟨S128x4x4x4x128, .f32⟩
  | 89 => ⟨S128x4x4x4x128, .f32⟩
  | 90 => ⟨S128x4x1x4x128, .f32⟩
  | 91 => ⟨S128x1x4x4x128, .f32⟩
  | 92 => ⟨S128x4x4x4x128, .f32⟩
  | 93 => ⟨S128x4x4x4x128, .f32⟩
  | 94 => ⟨S128x4x4x4x128, .f32⟩
  | 95 => ⟨S128x4x4x4x128, .f32⟩
  | 96 => ⟨S_, .f32⟩
  | 97 => ⟨S128x4x4x4, .f32⟩
  | 98 => ⟨S128x4x4x4, .f32⟩
  | 99 => ⟨S128x4x4x128, .f32⟩
  | 100 => ⟨S128x4x4x128, .f32⟩
  | 101 => ⟨S128x4x128x4, .f32⟩
  | 102 => ⟨S128x4x4x128, .f32⟩
  | 103 => ⟨S128x4x128x4, .f32⟩
  | 104 => ⟨S128x4x4x128, .f32⟩
  | 105 => ⟨S128x4x4x128, .f32⟩
  | 106 => ⟨S128x1x4x128, .f32⟩
  | 107 => ⟨S128x4x128, .f32⟩
  | 108 => ⟨S128x4x128, .f32⟩
  | 109 => ⟨S128x4x128x1, .f32⟩
  | 110 => ⟨S128x4x128x128, .f32⟩
  | 111 => ⟨S128x4x128x128, .f32⟩
  | 112 => ⟨S128x4x4x128, .f32⟩
  | 113 => ⟨S128x4x4x128, .f32⟩
  | 114 => ⟨S128x4x4x128, .f32⟩
  | 115 => ⟨S128x4x4x128, .f32⟩
  | 116 => ⟨S128x4x128x128, .f32⟩
  | 117 => ⟨S128x4x128x128, .f32⟩
  | 118 => ⟨S128, .f32⟩
  | 119 => ⟨S128x4x4x128, .f32⟩
  | 120 => ⟨S_, .f32⟩
  | 121 => ⟨S128x4x4, .f32⟩
  | 122 => ⟨S128x4x4x1, .f32⟩
  | 123 => ⟨S_, .f32⟩
  | 124 => ⟨S128x4x4x1, .f32⟩
  | 125 => ⟨S128x4x4x1, .f32⟩
  | 126 => ⟨S_, .f32⟩
  | 127 => ⟨S128x4x4x1, .f32⟩
  | _ => ⟨S128x4x512, .f32⟩

abbrev hbmTy0_1 (i : Nat) : BufTy := match i % 128 with
  | 0 => ⟨S128x4x4x1, .f32⟩
  | 1 => ⟨S128x4x4x1, .f32⟩
  | 2 => ⟨S128x4x4x128, .f32⟩
  | 3 => ⟨S128x4x4x128, .f32⟩
  | 4 => ⟨S1x1x1x128, .f32⟩
  | 5 => ⟨S128x4x4x128, .f32⟩
  | 6 => ⟨S128x4x4x128, .f32⟩
  | 7 => ⟨S128x4x4x128, .f32⟩
  | 8 => ⟨S128x4x4x128, .f32⟩
  | 9 => ⟨S128x4x4x128, .f32⟩
  | 10 => ⟨S_, .f32⟩
  | 11 => ⟨S128x4x4x128, .f32⟩
  | 12 => ⟨S128x4x4x128, .f32⟩
  | 13 => ⟨S_, .f32⟩
  | 14 => ⟨S128x4x4x128, .f32⟩
  | 15 => ⟨S128x4x4x128, .f32⟩
  | 16 => ⟨S128x4x4x128, .f32⟩
  | 17 => ⟨S128x4x4x128, .f32⟩
  | 18 => ⟨S512x512, .f32⟩
  | 19 => ⟨S512x512, .bf16⟩
  | _ => ⟨S128x4x512, .f32⟩

abbrev hbmTy (i : Nat) : BufTy := match i / 128 with
  | 0 => hbmTy0_0 i
  | 1 => hbmTy0_1 i
  | _ => ⟨S128x4x512, .f32⟩

abbrev bufTy : (tb : Table) → Fin (tcTables nBuf tb) → BufTy
  | .hbm, ⟨i, _⟩ => hbmTy i
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_call0_cst : Ref sig .tc := ⟨.hbm, 21, rfl⟩
abbrev main_call0_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call1_call0_cst : Ref sig .tc := ⟨.hbm, 64, rfl⟩
abbrev main_call1_call0_v0 : Ref sig .tc := ⟨.hbm, 65, rfl⟩
abbrev main_v46 : Ref sig .tc := ⟨.hbm, 66, rfl⟩
abbrev main_c : Ref sig .tc := ⟨.hbm, 67, rfl⟩
abbrev main_v47 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_0 : Ref sig .tc := ⟨.hbm, 75, rfl⟩
abbrev main_call2_v5 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_9 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_10 : Ref sig .tc := ⟨.hbm, 120, rfl⟩
abbrev main_v86 : Ref sig .tc := ⟨.hbm, 121, rfl⟩
abbrev main_v87 : Ref sig .tc := ⟨.hbm, 122, rfl⟩
abbrev main_cst_11 : Ref sig .tc := ⟨.hbm, 123, rfl⟩
abbrev main_v88 : Ref sig .tc := ⟨.hbm, 124, rfl⟩
abbrev main_v89 : Ref sig .tc := ⟨.hbm, 125, rfl⟩
abbrev main_cst_12 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call4_v0 : Ref sig .tc := ⟨.hbm, 136, rfl⟩
abbrev main_call4_v1 : Ref sig .tc := ⟨.hbm, 137, rfl⟩
abbrev main_call4_cst : Ref sig .tc := ⟨.hbm, 138, rfl⟩
abbrev main_call4_v2 : Ref sig .tc := ⟨.hbm, 139, rfl⟩
abbrev main_call4_v3 : Ref sig .tc := ⟨.hbm, 140, rfl⟩
abbrev main_call4_cst_0 : Ref sig .tc := ⟨.hbm, 141, rfl⟩
abbrev main_call4_v4 : Ref sig .tc := ⟨.hbm, 142, rfl⟩
abbrev main_call4_v5 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]
-- ==== Mlp.lean ====
abbrev S8x4096x1024 : Shape := ⟨3, ![8, 4096, 1024]⟩
abbrev S1x8x4096x256 : Shape := ⟨4, ![1, 8, 4096, 256]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S32768x1024 : Shape := ⟨2, ![32768, 1024]⟩
abbrev S8x4096x256 : Shape := ⟨3, ![8, 4096, 256]⟩
abbrev S32768x256 : Shape := ⟨2, ![32768, 256]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S1024 : Shape := ⟨1, ![1024]⟩
abbrev S1024x256 : Shape := ⟨2, ![1024, 256]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 27
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1x8x4096x256, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x256x1024, .f32⟩
  | .hbm, ⟨9, _⟩ => ⟨S32768x1024, .f32⟩
  | .hbm, ⟨10, _⟩ => ⟨S8x4096x256, .f32⟩
  | .hbm, ⟨11, _⟩ => ⟨S32768x256, .f32⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1024x1024, .f32⟩
  | .hbm, ⟨17, _⟩ => ⟨S1024x1024, .bf16⟩
  | .hbm, ⟨18, _⟩ => ⟨S256x1024, .f32⟩
  | .hbm, ⟨19, _⟩ => ⟨S256x1024, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x4096, .bf16⟩
  | .local _ .vmem, ⟨5, _⟩ => ⟨S4096x1024, .bf16⟩
  | .local _ .vmem, ⟨6, _⟩ => ⟨S1024x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlpRefIdeal.lean ====
abbrev S8x4096x1024 : Shape := ⟨3, ![8, 4096, 1024]⟩
abbrev S1x8x4096x256 : Shape := ⟨4, ![1, 8, 4096, 256]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S8x4096x256 : Shape := ⟨3, ![8, 4096, 256]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x8x4096x256, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x256x1024, .f32⟩
  | .hbm, ⟨9, _⟩ => ⟨S8x4096x256, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S256x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x4096x4096, .f32⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== MlpSample.lean ====
abbrev S128x4x1024 : Shape := ⟨3, ![128, 4, 1024]⟩
abbrev S1x128x4x256 : Shape := ⟨4, ![1, 128, 4, 256]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S512x1024 : Shape := ⟨2, ![512, 1024]⟩
abbrev S128x4x256 : Shape := ⟨3, ![128, 4, 256]⟩
abbrev S512x256 : Shape := ⟨2, ![512, 256]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S1024 : Shape := ⟨1, ![1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 27
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S1x128x4x256, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x256x1024, .f32⟩
  | .hbm, ⟨9, _⟩ => ⟨S512x1024, .f32⟩
  | .hbm, ⟨10, _⟩ => ⟨S128x4x256, .f32⟩
  | .hbm, ⟨11, _⟩ => ⟨S512x256, .f32⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1024x1024, .f32⟩
  | .hbm, ⟨17, _⟩ => ⟨S1024x1024, .bf16⟩
  | .hbm, ⟨18, _⟩ => ⟨S256x1024, .f32⟩
  | .hbm, ⟨19, _⟩ => ⟨S256x1024, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S512x1024, .f32⟩
  | .local _ .vmem, ⟨0, _⟩ => ⟨S512x1024, .f32⟩
  | .local _ .vmem, ⟨1, _⟩ => ⟨S512x256, .f32⟩
  | .local _ .vmem, ⟨2, _⟩ => ⟨S1024x4096, .bf16⟩
  | .local _ .vmem, ⟨3, _⟩ => ⟨S4096x1024, .bf16⟩
  | .local _ .vmem, ⟨4, _⟩ => ⟨S1024x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MlpSampleRefIdeal.lean ====
abbrev S128x4x1024 : Shape := ⟨3, ![128, 4, 1024]⟩
abbrev S1x128x4x256 : Shape := ⟨4, ![1, 128, 4, 256]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x1024x1024 : Shape := ⟨3, ![1, 1024, 1024]⟩
abbrev S1x256x1024 : Shape := ⟨3, ![1, 256, 1024]⟩
abbrev S128x4x256 : Shape := ⟨3, ![128, 4, 256]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4096 : Shape := ⟨3, ![128, 4, 4096]⟩
abbrev S512x1024 : Shape := ⟨2, ![512, 1024]⟩

abbrev nBuf : Space → Nat
  | .hbm => 85
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x4x256, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x256x1024, .f32⟩
  | .hbm, ⟨9, _⟩ => ⟨S128x4x256, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S256x1024, .f32⟩
  | .hbm, ⟨17, _⟩ => ⟨S128x4x1024, .f32⟩
  | .hbm, ⟨18, _⟩ => ⟨S_, .f32⟩
  | .hbm, ⟨19, _⟩ => ⟨S128x4, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S128x4x1, .f32⟩
  | .hbm, ⟨28, _⟩ => ⟨S128x4x1024, .f32⟩
  | .hbm, ⟨29, _⟩ => ⟨S128x4x1024, .f32⟩
  | .hbm, ⟨30, _⟩ => ⟨S1x1x1024, .f32⟩
  | .hbm, ⟨31, _⟩ => ⟨S128x4x1024, .f32⟩
  | .hbm, ⟨32, _⟩ => ⟨S128x4x1024, .f32⟩
  | .hbm, ⟨33, _⟩ => ⟨S128x4x4096, .f32⟩
  | .hbm, ⟨34, _⟩ => ⟨S_, .f32⟩
  | .hbm, ⟨35, _⟩ => ⟨S128x4x4096, .f32⟩
  | .hbm, ⟨36, _⟩ => ⟨S128x4x4096, .f32⟩
  | .hbm, ⟨37, _⟩ => ⟨S128x4x4096, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S128x4x1, .f32⟩
  | .hbm, ⟨50, _⟩ => ⟨S128x4x1024, .f32⟩
  | .hbm, ⟨51, _⟩ => ⟨S128x4x1024, .f32⟩
  | .hbm, ⟨52, _⟩ => ⟨S1x1x1024, .f32⟩
  | .hbm, ⟨53, _⟩ => ⟨S128x4x1024, .f32⟩
  | .hbm, ⟨54, _⟩ => ⟨S128x4x1024, .f32⟩
  | .hbm, ⟨55, _⟩ => ⟨S128x4x1024, .f32⟩
  | .hbm, ⟨56, _⟩ => ⟨S128x4x1024, .f32⟩
  | .hbm, ⟨57, _⟩ => ⟨S_, .f32⟩
  | .hbm, ⟨58, _⟩ => ⟨S128x4, .f32⟩
  | .hbm, ⟨59, _⟩ => ⟨S128x4x1, .f32⟩
  | .hbm, ⟨60, _⟩ => ⟨S_, .f32⟩
  | .hbm, ⟨61, _⟩ => ⟨S128x4x1, .f32⟩
  | .hbm, ⟨62, _⟩ => ⟨S128x4x1, .f32⟩
  | .hbm, ⟨63, _⟩ => ⟨S_, .f32⟩
  | .hbm, ⟨64, _⟩ => ⟨S128x4x1, .f32⟩
  | .hbm, ⟨65, _⟩ => ⟨S128x4x1, .f32⟩
  | .hbm, ⟨66, _⟩ => ⟨S128x4x1, .f32⟩
  | .hbm, ⟨67, _⟩ => ⟨S128x4x1024, .f32⟩
  | .hbm, ⟨68, _⟩ => ⟨S128x4x1024, .f32⟩
  | .hbm, ⟨69, _⟩ => ⟨S1x1x1024, .f32⟩
  | .hbm, ⟨70, _⟩ => ⟨S128x4x1024, .f32⟩
  | .hbm, ⟨71, _⟩ => ⟨S128x4x1024, .f32⟩
  | .hbm, ⟨72, _⟩ => ⟨S128x4x1024, .f32⟩
  | .hbm, ⟨73, _⟩ => ⟨S128x4x1024, .f32⟩
  | .hbm, ⟨74, _⟩ => ⟨S128x4x1024, .f32⟩
  | .hbm, ⟨75, _⟩ => ⟨S_, .f32⟩
  | .hbm, ⟨76, _⟩ => ⟨S128x4x1024, .f32⟩
  | .hbm, ⟨77, _⟩ => ⟨S128x4x1024, .f32⟩
  | .hbm, ⟨78, _⟩ => ⟨S_, .f32⟩
  | .hbm, ⟨79, _⟩ => ⟨S128x4x1024, .f32⟩
  | .hbm, ⟨80, _⟩ => ⟨S128x4x1024, .f32⟩
  | .hbm, ⟨81, _⟩ => ⟨S128x4x1024, .f32⟩
  | .hbm, ⟨82, _⟩ => ⟨S128x4x1024, .f32⟩
  | .hbm, ⟨83, _⟩ => ⟨S128x4x1024, .f32⟩
  | .hbm, ⟨84, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Merge.lean ====
abbrev S8x4096x512 : Shape := ⟨3, ![8, 4096, 512]⟩
abbrev S8x4096x2048 : Shape := ⟨3, ![8, 4096, 2048]⟩
abbrev S8x4096x1024 : Shape := ⟨3, ![8, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S32768x2048 : Shape := ⟨2, ![32768, 2048]⟩
abbrev S_ : Shape := ⟨0, ![]⟩
abbrev S32768x3584 : Shape := ⟨2, ![32768, 3584]⟩
abbrev S32768x5632 : Shape := ⟨2, ![32768, 5632]⟩
abbrev S32768x512 : Shape := ⟨2, ![32768, 512]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S512x1 : Shape := ⟨2, ![512, 1]⟩

abbrev nBuf : Space → Nat
  | .hbm => 26
  | .vmem => 16
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x2048, .f32⟩
  | .hbm, ⟨3, _⟩ => ⟨S8x4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S32768x2048, .f32⟩
  | .hbm, ⟨9, _⟩ => ⟨S_, .f32⟩
  | .hbm, ⟨10, _⟩ => ⟨S32768x3584, .f32⟩
  | .hbm, ⟨11, _⟩ => ⟨S32768x5632, .f32⟩
  | .hbm, ⟨12, _⟩ => ⟨S32768x512, .f32⟩
  | .hbm, ⟨13, _⟩ => ⟨S32768x512, .bf16⟩
  | .hbm, ⟨14, _⟩ => ⟨S32768x512, .f32⟩
  | .hbm, ⟨15, _⟩ => ⟨S32768x512, .bf16⟩
  | .hbm, ⟨16, _⟩ => ⟨S32768x1024, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S8x4096x512 : Shape := ⟨3, ![8, 4096, 512]⟩
abbrev S8x4096x2048 : Shape := ⟨3, ![8, 4096, 2048]⟩
abbrev S8x4096x1024 : Shape := ⟨3, ![8, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x2048, .f32⟩
  | .hbm, ⟨3, _⟩ => ⟨S8x4096x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S512x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S512x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S1024x1024, .f32⟩
  | .hbm, ⟨34, _⟩ => ⟨S8x4096x1024, .f32⟩
  | .hbm, ⟨35, _⟩ => ⟨S1024, .f32⟩
  | .hbm, ⟨36, _⟩ => ⟨S8x4096x1024, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S32768x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== KvRows.lean ====
abbrev S8x4096x2x2x64 : Shape := ⟨5, ![8, 4096, 2, 2, 64]⟩
abbrev S_ : Shape := ⟨0, ![]⟩
abbrev S32768x4608 : Shape := ⟨2, ![32768, 4608]⟩
abbrev S32768x256 : Shape := ⟨2, ![32768, 256]⟩
abbrev S32768x5632 : Shape := ⟨2, ![32768, 5632]⟩
abbrev S8x256x4096 : Shape := ⟨3, ![8, 256, 4096]⟩
abbrev S8x256x512 : Shape := ⟨3, ![8, 256, 512]⟩
abbrev S512x128 : Shape := ⟨2, ![512, 128]⟩
abbrev S1x256x512 : Shape := ⟨3, ![1, 256, 512]⟩
abbrev S128x128 : Shape := ⟨2, ![128, 128]⟩
abbrev S1x128x128 : Shape := ⟨3, ![1, 128, 128]⟩

abbrev nBuf : Space → Nat
  | .hbm => 14
  | .vmem => 18
  | .smem => 0
  | _ => 0

abbrev bufTy : (tb : Table) → Fin (tcTables nBuf tb) → BufTy
  | .hbm, ⟨0, _⟩ => ⟨S8x4096x2x2x64, .f32⟩
  | .hbm, ⟨1, _⟩ => ⟨S8x4096x2x2x64, .f32⟩
  | .hbm, ⟨2, _⟩ => ⟨S8x4096x2x2x64, .f32⟩
  | .hbm, ⟨3, _⟩ => ⟨S_, .f32⟩
  | .hbm, ⟨4, _⟩ => ⟨S32768x4608, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S_, .f32⟩
  | .hbm, ⟨9, _⟩ => ⟨S32768x256, .f32⟩
  | .hbm, ⟨10, _⟩ => ⟨S32768x5632, .f32⟩
  | .hbm, ⟨11, _⟩ => ⟨S8x256x4096, .f32⟩
  | .hbm, ⟨12, _⟩ => ⟨S8x256x4096, .f32⟩
  | .hbm, ⟨13, _⟩ => ⟨S8x256x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S8x4096x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c36_i32 : BitVec 32 := 36#32
  let c0_i32 : BitVec 32 := 0#32
  ![v1.toNat, c36_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c37_i32 : BitVec 32 := 37#32
  let c0_i32 : BitVec 32 := 0#32
  ![v1.toNat, c37_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c38_i32 : BitVec 32 := 38#32
  let c0_i32 : BitVec 32 := 0#32
  ![v1.toNat, c38_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c39_i32 : BitVec 32 := 39#32
  let c0_i32 : BitVec 32 := 0#32
  ![v1.toNat, c39_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c40_i32 : BitVec 32 := 40#32
  let c0_i32 : BitVec 32 := 0#32
  ![v1.toNat, c40_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c41_i32 : BitVec 32 := 41#32
  let c0_i32 : BitVec 32 := 0#32
  ![v1.toNat, c41_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KvRowsRefIdeal.lean ====
abbrev S8x4096x2x2x64 : Shape := ⟨5, ![8, 4096, 2, 2, 64]⟩
abbrev S8x2x2x64x4096 : Shape := ⟨5, ![8, 2, 2, 64, 4096]⟩
abbrev S8x256x4096 : Shape := ⟨3, ![8, 256, 4096]⟩
abbrev S8x512x2x2x64 : Shape := ⟨5, ![8, 512, 2, 2, 64]⟩
abbrev S8x2x2x64x512 : Shape := ⟨5, ![8, 2, 2, 64, 512]⟩
abbrev S8x256x512 : Shape := ⟨3, ![8, 256, 512]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2x2x64, .f32⟩
  | .hbm, ⟨1, _⟩ => ⟨S8x4096x2x2x64, .f32⟩
  | .hbm, ⟨2, _⟩ => ⟨S8x4096x2x2x64, .f32⟩
  | .hbm, ⟨3, _⟩ => ⟨S8x2x2x64x4096, .f32⟩
  | .hbm, ⟨4, _⟩ => ⟨S8x256x4096, .f32⟩
  | .hbm, ⟨5, _⟩ => ⟨S8x2x2x64x4096, .f32⟩
  | .hbm, ⟨6, _⟩ => ⟨S8x256x4096, .f32⟩
  | .hbm, ⟨7, _⟩ => ⟨S8x512x2x2x64, .f32⟩
  | .hbm, ⟨8, _⟩ => ⟨S8x2x2x64x512, .f32⟩
  | .hbm, ⟨9, _⟩ => ⟨S8x256x512, .f32⟩
  | _, _ => ⟨S8x4096x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S8x4096x1024 : Shape := ⟨3, ![8, 4096, 1024]⟩
abbrev S1x1024 : Shape := ⟨2, ![1, 1024]⟩
abbrev S1x1024x5400 : Shape := ⟨3, ![1, 1024, 5400]⟩
abbrev S32768x1024 : Shape := ⟨2, ![32768, 1024]⟩
abbrev S1024 : Shape := ⟨1, ![1024]⟩
abbrev S1024x5400 : Shape := ⟨2, ![1024, 5400]⟩
abbrev S1024x512 : Shape := ⟨2, ![1024, 512]⟩
abbrev S1024x256 : Shape := ⟨2, ![1024, 256]⟩
abbrev S1024x24 : Shape := ⟨2, ![1024, 24]⟩
abbrev S1024x2048 : Shape := ⟨2, ![1024, 2048]⟩
abbrev S_ : Shape := ⟨0, ![]⟩
abbrev S1024x232 : Shape := ⟨2, ![1024, 232]⟩
abbrev S1024x5632 : Shape := ⟨2, ![1024, 5632]⟩
abbrev S32768x5632 : Shape := ⟨2, ![32768, 5632]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 22
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5400, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x5400, .f32⟩
  | .hbm, ⟨7, _⟩ => ⟨S1024x512, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x24, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x2048, .f32⟩
  | .hbm, ⟨17, _⟩ => ⟨S_, .f32⟩
  | .hbm, ⟨18, _⟩ => ⟨S1024x232, .f32⟩
  | .hbm, ⟨19, _⟩ => ⟨S1024x5632, .f32⟩
  | .hbm, ⟨20, _⟩ => ⟨S1024x5632, .bf16⟩
  | .hbm, ⟨21, _⟩ => ⟨S32768x5632, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S1024x1408, .f32⟩
  | .local _ .vmem, ⟨5, _⟩ => ⟨S1024x1408, .f32⟩
  | .local _ .vmem, ⟨6, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c1408_i32 : BitVec 32 := 1408#32
  let v3 : BitVec 32 := Scalar.muli arg1 c1408_i32
  v3
def k0_off1 (i : grid0.Coords) : Fin 2 → Nat :=
  let c0_2 : Index := 0#32
  let arg1 : BitVec 32 := BitVec.ofNat 32 (i 1).val
  let c1408_i32 : BitVec 32 := 1408#32
  let v3 : BitVec 32 := Scalar.muli arg1 c1408_i32
  let v4 : BitVec 32 := v3
  let v6 : Index := Scalar.indexCast v4
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8x4096x1024 : Shape := ⟨3, ![8, 4096, 1024]⟩
abbrev S1x1024 : Shape := ⟨2, ![1, 1024]⟩
abbrev S1x1024x5400 : Shape := ⟨3, ![1, 1024, 5400]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5400 : Shape := ⟨2, ![1024, 5400]⟩
abbrev S8x4096x5400 : Shape := ⟨3, ![8, 4096, 5400]⟩
abbrev S8x4096x512 : Shape := ⟨3, ![8, 4096, 512]⟩
abbrev S8x4096x256 : Shape := ⟨3, ![8, 4096, 256]⟩
abbrev S8x4096x24 : Shape := ⟨3, ![8, 4096, 24]⟩
abbrev S8x4096x2048 : Shape := ⟨3, ![8, 4096, 2048]⟩
abbrev S8x4096x232 : Shape := ⟨3, ![8, 4096, 232]⟩
abbrev S8x4096x5632 : Shape := ⟨3, ![8, 4096, 5632]⟩
abbrev S32768x5632 : Shape := ⟨2, ![32768, 5632]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5400, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x5400, .f32⟩
  | .hbm, ⟨21, _⟩ => ⟨S8x4096x5400, .f32⟩
  | .hbm, ⟨22, _⟩ => ⟨S8x4096x512, .f32⟩
  | .hbm, ⟨23, _⟩ => ⟨S8x4096x256, .f32⟩
  | .hbm, ⟨24, _⟩ => ⟨S8x4096x256, .f32⟩
  | .hbm, ⟨25, _⟩ => ⟨S8x4096x256, .f32⟩
  | .hbm, ⟨26, _⟩ => ⟨S8x4096x24, .f32⟩
  | .hbm, ⟨27, _⟩ => ⟨S8x4096x512, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x2048, .f32⟩
  | .hbm, ⟨32, _⟩ => ⟨S_, .f32⟩
  | .hbm, ⟨33, _⟩ => ⟨S8x4096x232, .f32⟩
  | .hbm, ⟨34, _⟩ => ⟨S8x4096x5632, .f32⟩
  | .hbm, ⟨35, _⟩ => ⟨S32768x5632, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== InSample.lean ====
abbrev S128x4x1024 : Shape := ⟨3, ![128, 4, 1024]⟩
abbrev S1x1024 : Shape := ⟨2, ![1, 1024]⟩
abbrev S1x1024x5400 : Shape := ⟨3, ![1, 1024, 5400]⟩
abbrev S1x128x512x2x2x64 : Shape := ⟨6, ![1, 128, 512, 2, 2, 64]⟩
abbrev S512x1024 : Shape := ⟨2, ![512, 1024]⟩
abbrev S1024 : Shape := ⟨1, ![1024]⟩
abbrev S1024x5400 : Shape := ⟨2, ![1024, 5400]⟩
abbrev S1024x512 : Shape := ⟨2, ![1024, 512]⟩
abbrev S1024x256 : Shape := ⟨2, ![1024, 256]⟩
abbrev S1024x24 : Shape := ⟨2, ![1024, 24]⟩
abbrev S1024x2048 : Shape := ⟨2, ![1024, 2048]⟩
abbrev S_ : Shape := ⟨0, ![]⟩
abbrev S1024x232 : Shape := ⟨2, ![1024, 232]⟩
abbrev S1024x5632 : Shape := ⟨2, ![1024, 5632]⟩
abbrev S512x5632 : Shape := ⟨2, ![512, 5632]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S128x512x2x2x64 : Shape := ⟨5, ![128, 512, 2, 2, 64]⟩
abbrev S128x4x2x2x64 : Shape := ⟨5, ![128, 4, 2, 2, 64]⟩
abbrev S128x516x2x2x64 : Shape := ⟨5, ![128, 516, 2, 2, 64]⟩

abbrev nBuf : Space → Nat
  | .hbm => 32
  | .vmem => 6
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x5400, .f32⟩
  | .hbm, ⟨3, _⟩ => ⟨S1x128x512x2x2x64, .f32⟩
  | .hbm, ⟨4, _⟩ => ⟨S512x1024, .f32⟩
  | .hbm, ⟨5, _⟩ => ⟨S1024, .f32⟩
  | .hbm, ⟨6, _⟩ => ⟨S1x1024, .f32⟩
  | .hbm, ⟨7, _⟩ => ⟨S1024x5400, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x24, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x2048, .f32⟩
  | .hbm, ⟨18, _⟩ => ⟨S_, .f32⟩
  | .hbm, ⟨19, _⟩ => ⟨S1024x232, .f32⟩
  | .hbm, ⟨20, _⟩ => ⟨S1024x5632, .f32⟩
  | .hbm, ⟨21, _⟩ => ⟨S1024x5632, .bf16⟩
  | .hbm, ⟨22, _⟩ => ⟨S512x5632, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S128x512x2x2x64, .f32⟩
  | .hbm, ⟨27, _⟩ => ⟨S128x4x2x2x64, .f32⟩
  | .hbm, ⟨28, _⟩ => ⟨S128x516x2x2x64, .f32⟩
  | .hbm, ⟨29, _⟩ => ⟨S128x512x2x2x64, .f32⟩
  | .hbm, ⟨30, _⟩ => ⟨S128x4x2x2x64, .f32⟩
  | .hbm, ⟨31, _⟩ => ⟨S128x4x2x2x64, .f32⟩
  | .local _ .vmem, ⟨0, _⟩ => ⟨S512x1024, .f32⟩
  | .local _ .vmem, ⟨1, _⟩ => ⟨S1x1024, .f32⟩
  | .local _ .vmem, ⟨2, _⟩ => ⟨S1024x5632, .bf16⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![1, 11], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0_2 : Index := 0#32
  let arg1 : BitVec 32 := BitVec.ofNat 32 (i 1).val
  let c512_i32 : BitVec 32 := 512#32
  let v3 : BitVec 32 := Scalar.muli arg1 c512_i32
  let v4 : BitVec 32 := v3
  let v6 : Index := Scalar.indexCast v4
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSampleRefIdeal.lean ====
abbrev S128x4x1024 : Shape := ⟨3, ![128, 4, 1024]⟩
abbrev S1x1024 : Shape := ⟨2, ![1, 1024]⟩
abbrev S1x1024x5400 : Shape := ⟨3, ![1, 1024, 5400]⟩
abbrev S1x128x512x2x2x64 : Shape := ⟨6, ![1, 128, 512, 2, 2, 64]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x5400 : Shape := ⟨2, ![1024, 5400]⟩
abbrev S128x4x5400 : Shape := ⟨3, ![128, 4, 5400]⟩
abbrev S128x4x512 : Shape := ⟨3, ![128, 4, 512]⟩
abbrev S128x4x256 : Shape := ⟨3, ![128, 4, 256]⟩
abbrev S128x4x24 : Shape := ⟨3, ![128, 4, 24]⟩
abbrev S128x4x2048 : Shape := ⟨3, ![128, 4, 2048]⟩
abbrev S128x4x232 : Shape := ⟨3, ![128, 4, 232]⟩
abbrev S128x4x5632 : Shape := ⟨3, ![128, 4, 5632]⟩
abbrev S512x5632 : Shape := ⟨2, ![512, 5632]⟩
abbrev S128x4x2x2x64 : Shape := ⟨5, ![128, 4, 2, 2, 64]⟩
abbrev S128x512x2x2x64 : Shape := ⟨5, ![128, 512, 2, 2, 64]⟩
abbrev S128x516x2x2x64 : Shape := ⟨5, ![128, 516, 2, 2, 64]⟩

abbrev nBuf : Space → Nat
  | .hbm => 46
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x5400, .f32⟩
  | .hbm, ⟨3, _⟩ => ⟨S1x128x512x2x2x64, .f32⟩
  | .hbm, ⟨4, _⟩ => ⟨S1024, .f32⟩
  | .hbm, ⟨5, _⟩ => ⟨S128x4x1024, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x1024, .f32⟩
  | .hbm, ⟨17, _⟩ => ⟨S128x4x1024, .f32⟩
  | .hbm, ⟨18, _⟩ => ⟨S1x1x1024, .f32⟩
  | .hbm, ⟨19, _⟩ => ⟨S128x4x1024, .f32⟩
  | .hbm, ⟨20, _⟩ => ⟨S128x4x1024, .f32⟩
  | .hbm, ⟨21, _⟩ => ⟨S1024x5400, .f32⟩
  | .hbm, ⟨22, _⟩ => ⟨S128x4x5400, .f32⟩
  | .hbm, ⟨23, _⟩ => ⟨S128x4x512, .f32⟩
  | .hbm, ⟨24, _⟩ => ⟨S128x4x256, .f32⟩
  | .hbm, ⟨25, _⟩ => ⟨S128x4x256, .f32⟩
  | .hbm, ⟨26, _⟩ => ⟨S128x4x256, .f32⟩
  | .hbm, ⟨27, _⟩ => ⟨S128x4x24, .f32⟩
  | .hbm, ⟨28, _⟩ => ⟨S128x4x512, .f32⟩
  | .hbm, ⟨29, _⟩ => ⟨S128x4x512, .f32⟩
  | .hbm, ⟨30, _⟩ => ⟨S128x4x512, .f32⟩
  | .hbm, ⟨31, _⟩ => ⟨S128x4x512, .f32⟩
  | .hbm, ⟨32, _⟩ => ⟨S128x4x2048, .f32⟩
  | .hbm, ⟨33, _⟩ => ⟨S_, .f32⟩
  | .hbm, ⟨34, _⟩ => ⟨S128x4x232, .f32⟩
  | .hbm, ⟨35, _⟩ => ⟨S128x4x5632, .f32⟩
  | .hbm, ⟨36, _⟩ => ⟨S512x5632, .f32⟩
  | .hbm, ⟨37, _⟩ => ⟨S128x4x256, .f32⟩
  | .hbm, ⟨38, _⟩ => ⟨S128x4x2x2x64, .f32⟩
  | .hbm, ⟨39, _⟩ => ⟨S128x4x256, .f32⟩
  | .hbm, ⟨40, _⟩ => ⟨S128x4x2x2x64, .f32⟩
  | .hbm, ⟨41, _⟩ => ⟨S128x512x2x2x64, .f32⟩
  | .hbm, ⟨42, _⟩ => ⟨S128x4x256, .f32⟩
  | .hbm, ⟨43, _⟩ => ⟨S128x4x2x2x64, .f32⟩
  | .hbm, ⟨44, _⟩ => ⟨S128x516x2x2x64, .f32⟩
  | .hbm, ⟨45, _⟩ => ⟨S128x512x2x2x64, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== CmpP.lean ====
abbrev S8x4096x2x2x64 : Shape := ⟨5, ![8, 4096, 2, 2, 64]⟩
abbrev S1x2x16x64x128 : Shape := ⟨5, ![1, 2, 16, 64, 128]⟩
abbrev S1x128x64 : Shape := ⟨3, ![1, 128, 64]⟩
abbrev S1x2x16x64 : Shape := ⟨4, ![1, 2, 16, 64]⟩
abbrev S_ : Shape := ⟨0, ![]⟩
abbrev S32768x4608 : Shape := ⟨2, ![32768, 4608]⟩
abbrev S32768x256 : Shape := ⟨2, ![32768, 256]⟩
abbrev S32768x768 : Shape := ⟨2, ![32768, 768]⟩
abbrev S32768x5632 : Shape := ⟨2, ![32768, 5632]⟩
abbrev S2x16x64x128 : Shape := ⟨4, ![2, 16, 64, 128]⟩
abbrev S128x64 : Shape := ⟨2, ![128, 64]⟩
abbrev S2x16x64 : Shape := ⟨3, ![2, 16, 64]⟩
abbrev S2x2 : Shape := ⟨2, ![2, 2]⟩
abbrev S2x16x1x64x1x128 : Shape := ⟨6, ![2, 16, 1, 64, 1, 128]⟩
abbrev S1x1x2x1x2x1 : Shape := ⟨6, ![1, 1, 2, 1, 2, 1]⟩
abbrev S2x16x2x64x2x128 : Shape := ⟨6, ![2, 16, 2, 64, 2, 128]⟩
abbrev S2x2048x256 : Shape := ⟨3, ![2, 2048, 256]⟩
abbrev S1x2x2048x256 : Shape := ⟨4, ![1, 2, 2048, 256]⟩
abbrev S2x2x2048x256 : Shape := ⟨4, ![2, 2, 2048, 256]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S1x256x128 : Shape := ⟨3, ![1, 256, 128]⟩
abbrev S2x256x128 : Shape := ⟨3, ![2, 256, 128]⟩
abbrev S2x16x1x64 : Shape := ⟨4, ![2, 16, 1, 64]⟩
abbrev S2x16x2x64 : Shape := ⟨4, ![2, 16, 2, 64]⟩
abbrev S2x1x2048 : Shape := ⟨3, ![2, 1, 2048]⟩
abbrev S2x8x2048 : Shape := ⟨3, ![2, 8, 2048]⟩
abbrev S8x256x128 : Shape := ⟨3, ![8, 256, 128]⟩
abbrev S4096x128 : Shape := ⟨2, ![4096, 128]⟩
abbrev S256x2048 : Shape := ⟨2, ![256, 2048]⟩
abbrev S1x1x2048x256 : Shape := ⟨4, ![1, 1, 2048, 256]⟩
abbrev S2048x256 : Shape := ⟨2, ![2048, 256]⟩
abbrev S256x256 : Shape := ⟨2, ![256, 256]⟩
abbrev S1x8x2048 : Shape := ⟨3, ![1, 8, 2048]⟩
abbrev S8x2048 : Shape := ⟨2, ![8, 2048]⟩
abbrev S8x256 : Shape := ⟨2, ![8, 256]⟩
abbrev S1x256 : Shape := ⟨2, ![1, 256]⟩

abbrev nBuf : Space → Nat
  | .hbm => 63
  | .vmem => 11
  | .smem => 0
  | _ => 0

abbrev bufTy : (tb : Table) → Fin (tcTables nBuf tb) → BufTy
  | .hbm, ⟨0, _⟩ => ⟨S8x4096x2x2x64, .f32⟩
  | .hbm, ⟨1, _⟩ => ⟨S1x2x16x64x128, .f32⟩
  | .hbm, ⟨2, _⟩ => ⟨S1x128x64, .f32⟩
  | .hbm, ⟨3, _⟩ => ⟨S1x2x16x64x128, .f32⟩
  | .hbm, ⟨4, _⟩ => ⟨S1x128x64, .f32⟩
  | .hbm, ⟨5, _⟩ => ⟨S1x2x16x64, .f32⟩
  | .hbm, ⟨6, _⟩ => ⟨S_, .f32⟩
  | .hbm, ⟨7, _⟩ => ⟨S32768x4608, .f32⟩
  | .hbm, ⟨8, _⟩ => ⟨S32768x256, .f32⟩
  | .hbm, ⟨9, _⟩ => ⟨S_, .f32⟩
  | .hbm, ⟨10, _⟩ => ⟨S32768x768, .f32⟩
  | .hbm, ⟨11, _⟩ => ⟨S32768x5632, .f32⟩
  | .hbm, ⟨12, _⟩ => ⟨S2x16x64x128, .f32⟩
  | .hbm, ⟨13, _⟩ => ⟨S128x64, .f32⟩
  | .hbm, ⟨14, _⟩ => ⟨S2x16x64x128, .f32⟩
  | .hbm, ⟨15, _⟩ => ⟨S128x64, .f32⟩
  | .hbm, ⟨16, _⟩ => ⟨S2x16x64, .f32⟩
  | .hbm, ⟨17, _⟩ => ⟨S2x2, .i32⟩
  | .hbm, ⟨18, _⟩ => ⟨S2x2, .i32⟩
  | .hbm, ⟨19, _⟩ => ⟨S_, .i32⟩
  | .hbm, ⟨20, _⟩ => ⟨S2x2, .i32⟩
  | .hbm, ⟨21, _⟩ => ⟨S2x2, .i32⟩
  | .hbm, ⟨22, _⟩ => ⟨S2x2, .i1⟩
  | .hbm, ⟨23, _⟩ => ⟨S2x2, .f32⟩
  | .hbm, ⟨24, _⟩ => ⟨S2x16x1x64x1x128, .f32⟩
  | .hbm, ⟨25, _⟩ => ⟨S1x1x2x1x2x1, .f32⟩
  | .hbm, ⟨26, _⟩ => ⟨S2x16x2x64x2x128, .f32⟩
  | .hbm, ⟨27, _⟩ => ⟨S2x16x2x64x2x128, .f32⟩
  | .hbm, ⟨28, _⟩ => ⟨S2x16x2x64x2x128, .f32⟩
  | .hbm, ⟨29, _⟩ => ⟨S2x2048x256, .f32⟩
  | .hbm, ⟨30, _⟩ => ⟨S2x16x1x64x1x128, .f32⟩
  | .hbm, ⟨31, _⟩ => ⟨S1x1x2x1x2x1, .f32⟩
  | .hbm, ⟨32, _⟩ => ⟨S2x16x2x64x2x128, .f32⟩
  | .hbm, ⟨33, _⟩ => ⟨S2x16x2x64x2x128, .f32⟩
  | .hbm, ⟨34, _⟩ => ⟨S2x16x2x64x2x128, .f32⟩
  | .hbm, ⟨35, _⟩ => ⟨S2x2048x256, .f32⟩
  | .hbm, ⟨36, _⟩ => ⟨S1x2x2048x256, .f32⟩
  | .hbm, ⟨37, _⟩ => ⟨S1x2x2048x256, .f32⟩
  | .hbm, ⟨38, _⟩ => ⟨S2x2x2048x256, .f32⟩
  | .hbm, ⟨39, _⟩ => ⟨S2x2x2048x256, .bf16⟩
  | .hbm, ⟨40, _⟩ => ⟨S1x128x1x64, .f32⟩
  | .hbm, ⟨41, _⟩ => ⟨S2x1x2x1, .f32⟩
  | .hbm, ⟨42, _⟩ => ⟨S2x128x2x64, .f32⟩
  | .hbm, ⟨43, _⟩ => ⟨S2x128x2x64, .f32⟩
  | .hbm, ⟨44, _⟩ => ⟨S2x128x2x64, .f32⟩
  | .hbm, ⟨45, _⟩ => ⟨S256x128, .f32⟩
  | .hbm, ⟨46, _⟩ => ⟨S1x128x1x64, .f32⟩
  | .hbm, ⟨47, _⟩ => ⟨S2x1x2x1, .f32⟩
  | .hbm, ⟨48, _⟩ => ⟨S2x128x2x64, .f32⟩
  | .hbm, ⟨49, _⟩ => ⟨S2x128x2x64, .f32⟩
  | .hbm, ⟨50, _⟩ => ⟨S2x128x2x64, .f32⟩
  | .hbm, ⟨51, _⟩ => ⟨S256x128, .f32⟩
  | .hbm, ⟨52, _⟩ => ⟨S1x256x128, .f32⟩
  | .hbm, ⟨53, _⟩ => ⟨S1x256x128, .f32⟩
  | .hbm, ⟨54, _⟩ => ⟨S2x256x128, .f32⟩
  | .hbm, ⟨55, _⟩ => ⟨S2x256x128, .bf16⟩
  | .hbm, ⟨56, _⟩ => ⟨S2x16x1x64, .f32⟩
  | .hbm, ⟨57, _⟩ => ⟨S2x16x2x64, .f32⟩
  | .hbm, ⟨58, _⟩ => ⟨S2x1x2048, .f32⟩
  | .hbm, ⟨59, _⟩ => ⟨S2x8x2048, .f32⟩
  | .hbm, ⟨60, _⟩ => ⟨S2x8x2048, .bf16⟩
  | .hbm, ⟨61, _⟩ => ⟨S8x256x128, .bf16⟩
  | .hbm, ⟨62, _⟩ => ⟨S8x256x128, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S2x2x2048x256, .bf16⟩
  | .local _ .vmem, ⟨5, _⟩ => ⟨S2x256x128, .bf16⟩
  | .local _ .vmem, ⟨6, _⟩ => ⟨S2x8x2048, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | _, _ => ⟨S8x4096x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52_0 : Ref sig .tc := ⟨.hbm, 61, rfl⟩
abbrev main_v52_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c36_i32 : BitVec 32 := 36#32
  let c0_i32 : BitVec 32 := 0#32
  ![arg0.toNat, c36_i32.toNat]

def cc0_transform_1 (i : grid0.Coords) : Fin 2 → Nat :=
  let arg0 : BitVec 32 := BitVec.ofNat 32 (i 0).val
  let c37_i32 : BitVec 32 := 37#32
  let c0_i32 : BitVec 32 := 0#32
  ![arg0.toNat, c37_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2x2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CmpPRefIdeal.lean ====
abbrev S8x4096x2x2x64 : Shape := ⟨5, ![8, 4096, 2, 2, 64]⟩
abbrev S1x2x16x64x128 : Shape := ⟨5, ![1, 2, 16, 64, 128]⟩
abbrev S1x128x64 : Shape := ⟨3, ![1, 128, 64]⟩
abbrev S1x2x16x64 : Shape := ⟨4, ![1, 2, 16, 64]⟩
abbrev S8x16x2x2x64 : Shape := ⟨5, ![8, 16, 2, 2, 64]⟩
abbrev S8x4112x2x2x64 : Shape := ⟨5, ![8, 4112, 2, 2, 64]⟩
abbrev S8x4112x1x2x64 : Shape := ⟨5, ![8, 4112, 1, 2, 64]⟩
abbrev S8x4112x2x64 : Shape := ⟨4, ![8, 4112, 2, 64]⟩
abbrev S2x16x64x128 : Shape := ⟨4, ![2, 16, 64, 128]⟩
abbrev S128x64 : Shape := ⟨2, ![128, 64]⟩
abbrev S2x16x64 : Shape := ⟨3, ![2, 16, 64]⟩
abbrev S8x257x16x2x64 : Shape := ⟨5, ![8, 257, 16, 2, 64]⟩
abbrev S128 : Shape := ⟨1, ![128]⟩
abbrev S1x16x64x128 : Shape := ⟨4, ![1, 16, 64, 128]⟩
abbrev S16x64x128 : Shape := ⟨3, ![16, 64, 128]⟩
abbrev S8x257x2x128 : Shape := ⟨4, ![8, 257, 2, 128]⟩
abbrev S8x256x2x128 : Shape := ⟨4, ![8, 256, 2, 128]⟩
abbrev S1x1x1x128 : Shape := ⟨4, ![1, 1, 1, 128]⟩
abbrev S_ : Shape := ⟨0, ![]⟩
abbrev S8x256x2x64 : Shape := ⟨4, ![8, 256, 2, 64]⟩
abbrev S8x256x128 : Shape := ⟨3, ![8, 256, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x2x2x64, .f32⟩
  | .hbm, ⟨1, _⟩ => ⟨S1x2x16x64x128, .f32⟩
  | .hbm, ⟨2, _⟩ => ⟨S1x128x64, .f32⟩
  | .hbm, ⟨3, _⟩ => ⟨S1x2x16x64x128, .f32⟩
  | .hbm, ⟨4, _⟩ => ⟨S1x128x64, .f32⟩
  | .hbm, ⟨5, _⟩ => ⟨S1x2x16x64, .f32⟩
  | .hbm, ⟨6, _⟩ => ⟨S8x16x2x2x64, .f32⟩
  | .hbm, ⟨7, _⟩ => ⟨S8x4112x2x2x64, .f32⟩
  | .hbm, ⟨8, _⟩ => ⟨S8x4112x1x2x64, .f32⟩
  | .hbm, ⟨9, _⟩ => ⟨S8x4112x2x64, .f32⟩
  | .hbm, ⟨10, _⟩ => ⟨S2x16x64x128, .f32⟩
  | .hbm, ⟨11, _⟩ => ⟨S128x64, .f32⟩
  | .hbm, ⟨12, _⟩ => ⟨S2x16x64, .f32⟩
  | .hbm, ⟨13, _⟩ => ⟨S8x257x16x2x64, .f32⟩
  | .hbm, ⟨14, _⟩ => ⟨S128, .f32⟩
  | .hbm, ⟨15, _⟩ => ⟨S1x16x64x128, .f32⟩
  | .hbm, ⟨16, _⟩ => ⟨S16x64x128, .f32⟩
  | .hbm, ⟨17, _⟩ => ⟨S8x257x2x128, .f32⟩
  | .hbm, ⟨18, _⟩ => ⟨S8x256x2x128, .f32⟩
  | .hbm, ⟨19, _⟩ => ⟨S1x1x1x128, .f32⟩
  | .hbm, ⟨20, _⟩ => ⟨S8x256x2x128, .f32⟩
  | .hbm, ⟨21, _⟩ => ⟨S8x256x2x128, .f32⟩
  | .hbm, ⟨22, _⟩ => ⟨S1x16x64x128, .f32⟩
  | .hbm, ⟨23, _⟩ => ⟨S16x64x128, .f32⟩
  | .hbm, ⟨24, _⟩ => ⟨S8x257x2x128, .f32⟩
  | .hbm, ⟨25, _⟩ => ⟨S8x256x2x128, .f32⟩
  | .hbm, ⟨26, _⟩ => ⟨S8x256x2x128, .f32⟩
  | .hbm, ⟨27, _⟩ => ⟨S8x256x2x128, .f32⟩
  | .hbm, ⟨28, _⟩ => ⟨S8x256x2x128, .f32⟩
  | .hbm, ⟨29, _⟩ => ⟨S_, .f32⟩
  | .hbm, ⟨30, _⟩ => ⟨S8x256x2x128, .f32⟩
  | .hbm, ⟨31, _⟩ => ⟨S8x256x2x128, .f32⟩
  | .hbm, ⟨32, _⟩ => ⟨S8x256x2x128, .f32⟩
  | .hbm, ⟨33, _⟩ => ⟨S_, .f32⟩
  | .hbm, ⟨34, _⟩ => ⟨S8x256x2x128, .f32⟩
  | .hbm, ⟨35, _⟩ => ⟨S8x256x2x128, .f32⟩
  | .hbm, ⟨36, _⟩ => ⟨S8x256x2x128, .f32⟩
  | .hbm, ⟨37, _⟩ => ⟨S_, .f32⟩
  | .hbm, ⟨38, _⟩ => ⟨S8x256x2x128, .f32⟩
  | .hbm, ⟨39, _⟩ => ⟨S8x256x2x128, .f32⟩
  | .hbm, ⟨40, _⟩ => ⟨S_, .f32⟩
  | .hbm, ⟨41, _⟩ => ⟨S8x256x2x128, .f32⟩
  | .hbm, ⟨42, _⟩ => ⟨S8x256x2x128, .f32⟩
  | .hbm, ⟨43, _⟩ => ⟨S8x256x2x128, .f32⟩
  | .hbm, ⟨44, _⟩ => ⟨S8x256x2x64, .f32⟩
  | .hbm, ⟨45, _⟩ => ⟨S8x4112x1x2x64, .f32⟩
  | .hbm, ⟨46, _⟩ => ⟨S8x4112x2x64, .f32⟩
  | .hbm, ⟨47, _⟩ => ⟨S2x16x64x128, .f32⟩
  | .hbm, ⟨48, _⟩ => ⟨S128x64, .f32⟩
  | .hbm, ⟨49, _⟩ => ⟨S2x16x64, .f32⟩
  | .hbm, ⟨50, _⟩ => ⟨S8x257x16x2x64, .f32⟩
  | .hbm, ⟨51, _⟩ => ⟨S128, .f32⟩
  | .hbm, ⟨52, _⟩ => ⟨S1x16x64x128, .f32⟩
  | .hbm, ⟨53, _⟩ => ⟨S16x64x128, .f32⟩
  | .hbm, ⟨54, _⟩ => ⟨S8x257x2x128, .f32⟩
  | .hbm, ⟨55, _⟩ => ⟨S8x256x2x128, .f32⟩
  | .hbm, ⟨56, _⟩ => ⟨S1x1x1x128, .f32⟩
  | .hbm, ⟨57, _⟩ => ⟨S8x256x2x128, .f32⟩
  | .hbm, ⟨58, _⟩ => ⟨S8x256x2x128, .f32⟩
  | .hbm, ⟨59, _⟩ => ⟨S1x16x64x128, .f32⟩
  | .hbm, ⟨60, _⟩ => ⟨S16x64x128, .f32⟩
  | .hbm, ⟨61, _⟩ => ⟨S8x257x2x128, .f32⟩
  | .hbm, ⟨62, _⟩ => ⟨S8x256x2x128, .f32⟩
  | .hbm, ⟨63, _⟩ => ⟨S8x256x2x128, .f32⟩
  | .hbm, ⟨64, _⟩ => ⟨S8x256x2x128, .f32⟩
  | .hbm, ⟨65, _⟩ => ⟨S8x256x2x128, .f32⟩
  | .hbm, ⟨66, _⟩ => ⟨S_, .f32⟩
  | .hbm, ⟨67, _⟩ => ⟨S8x256x2x128, .f32⟩
  | .hbm, ⟨68, _⟩ => ⟨S8x256x2x128, .f32⟩
  | .hbm, ⟨69, _⟩ => ⟨S8x256x2x128, .f32⟩
  | .hbm, ⟨70, _⟩ => ⟨S_, .f32⟩
  | .hbm, ⟨71, _⟩ => ⟨S8x256x2x128, .f32⟩
  | .hbm, ⟨72, _⟩ => ⟨S8x256x2x128, .f32⟩
  | .hbm, ⟨73, _⟩ => ⟨S8x256x2x128, .f32⟩
  | .hbm, ⟨74, _⟩ => ⟨S_, .f32⟩
  | .hbm, ⟨75, _⟩ => ⟨S8x256x2x128, .f32⟩
  | .hbm, ⟨76, _⟩ => ⟨S8x256x2x128, .f32⟩
  | .hbm, ⟨77, _⟩ => ⟨S_, .f32⟩
  | .hbm, ⟨78, _⟩ => ⟨S8x256x2x128, .f32⟩
  | .hbm, ⟨79, _⟩ => ⟨S8x256x2x128, .f32⟩
  | .hbm, ⟨80, _⟩ => ⟨S8x256x2x128, .f32⟩
  | .hbm, ⟨81, _⟩ => ⟨S8x256x2x64, .f32⟩
  | .hbm, ⟨82, _⟩ => ⟨S8x256x128, .f32⟩
  | .hbm, ⟨83, _⟩ => ⟨S8x256x128, .bf16⟩
  | .hbm, ⟨84, _⟩ => ⟨S8x256x128, .f32⟩
  | .hbm, ⟨85, _⟩ => ⟨S8x256x128, .bf16⟩
  | _, _ => ⟨S8x4096x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_3 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_cst_6 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩

abbrev nD : Nat := 1
abbrev τ : Topo := Topo.v7x

variable {F : FTy → Type} [FloatOps F]
-- ==== MergeSample.lean ====
abbrev S128x4x512 : Shape := ⟨3, ![128, 4, 512]⟩
abbrev S128x4x2048 : Shape := ⟨3, ![128, 4, 2048]⟩
abbrev S128x4x1024 : Shape := ⟨3, ![128, 4, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x2048 : Shape := ⟨2, ![512, 2048]⟩
abbrev S_ : Shape := ⟨0, ![]⟩
abbrev S512x3584 : Shape := ⟨2, ![512, 3584]⟩
abbrev S512x5632 : Shape := ⟨2, ![512, 5632]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S512 : Shape := ⟨1, ![512]⟩
abbrev S512x1 : Shape := ⟨2, ![512, 1]⟩

abbrev nBuf : Space → Nat
  | .hbm => 26
  | .vmem => 10
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S128x4x2048, .f32⟩
  | .hbm, ⟨3, _⟩ => ⟨S128x4x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S512x2048, .f32⟩
  | .hbm, ⟨9, _⟩ => ⟨S_, .f32⟩
  | .hbm, ⟨10, _⟩ => ⟨S512x3584, .f32⟩
  | .hbm, ⟨11, _⟩ => ⟨S512x5632, .f32⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x1024, .f32⟩
  | .hbm, ⟨17, _⟩ => ⟨S512x1024, .f32⟩
  | .hbm, ⟨18, _⟩ => ⟨S512x1024, .bf16⟩
  | .hbm, ⟨19, _⟩ => ⟨S512x1024, .f32⟩
  | .hbm, ⟨20, _⟩ => ⟨S512x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MergeSampleRefIdeal.lean ====
abbrev S128x4x512 : Shape := ⟨3, ![128, 4, 512]⟩
abbrev S128x4x2048 : Shape := ⟨3, ![128, 4, 2048]⟩
abbrev S128x4x1024 : Shape := ⟨3, ![128, 4, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S128x4x2048, .f32⟩
  | .hbm, ⟨3, _⟩ => ⟨S128x4x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S128x4x1024, .f32⟩
  | .hbm, ⟨12, _⟩ => ⟨S_, .f32⟩
  | .hbm, ⟨13, _⟩ => ⟨S128x4x1024, .f32⟩
  | .hbm, ⟨14, _⟩ => ⟨S128x4x1024, .f32⟩
  | .hbm, ⟨15, _⟩ => ⟨S_, .f32⟩
  | .hbm, ⟨16, _⟩ => ⟨S128x4x1024, .f32⟩
  | .hbm, ⟨17, _⟩ => ⟨S128x4x1024, .f32⟩
  | .hbm, ⟨18, _⟩ => ⟨S512x1024, .f32⟩
  | .hbm, ⟨19, _⟩ => ⟨S128x4x1024, .f32⟩
  | .hbm, ⟨20, _⟩ => ⟨S128x4x1024, .f32⟩
  | .hbm, ⟨21, _⟩ => ⟨S128x4x1024, .f32⟩
  | .hbm, ⟨22, _⟩ => ⟨S128x4x1024, .f32⟩
  | .hbm, ⟨23, _⟩ => ⟨S_, .f32⟩
  | .hbm, ⟨24, _⟩ => ⟨S128x4x1024, .f32⟩
  | .hbm, ⟨25, _⟩ => ⟨S128x4x1024, .f32⟩
  | .hbm, ⟨26, _⟩ => ⟨S_, .f32⟩
  | .hbm, ⟨27, _⟩ => ⟨S128x4x1024, .f32⟩
  | .hbm, ⟨28, _⟩ => ⟨S128x4x1024, .f32⟩
  | .hbm, ⟨29, _⟩ => ⟨S512x1024, .f32⟩
  | .hbm, ⟨30, _⟩ => ⟨S128x4x1024, .f32⟩
  | .hbm, ⟨31, _⟩ => ⟨S128x4x1024, .f32⟩
  | .hbm, ⟨32, _⟩ => ⟨S128x4x1024, .f32⟩
  | .hbm, ⟨33, _⟩ => ⟨S1024x1024, .f32⟩
  | .hbm, ⟨34, _⟩ => ⟨S128x4x1024, .f32⟩
  | .hbm, ⟨35, _⟩ => ⟨S1024, .f32⟩
  | .hbm, ⟨36, _⟩ => ⟨S128x4x1024, .f32⟩
  | .hbm, ⟨37, _⟩ => ⟨S_, .f32⟩
  | .hbm, ⟨38, _⟩ => ⟨S128x4, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S128x4x1, .f32⟩
  | .hbm, ⟨47, _⟩ => ⟨S128x4x1024, .f32⟩
  | .hbm, ⟨48, _⟩ => ⟨S128x4x1024, .f32⟩
  | .hbm, ⟨49, _⟩ => ⟨S1x1x1024, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S512x1024, .f32⟩
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.HgS.Tile.lean ====
module

public import proofs.«01_k».proof.Proof.Gen.HgSampleIdeal.Value

@[expose] public section

set_option maxRecDepth 16384

noncomputable section

namespace Cert.HgS

open Cert.HgSampleIdeal Cert.HgSampleIdeal.Gen Idealize.ShloMosaic Idealize.ShloMosaic.TcCoe

variable {F : FTy → Type} [FloatOps F]

/-- The position of a row in its sequence of four tokens. -/
def tl : IVec S32x512 32 :=
  k0_pay12 (Scalar.select (Scalar.cmpi .eq 4#32 0#32) 1#32 4#32) k0_pay10 k0_pay11 0#32

/-- Which of the two sequences of a tile of eight rows a row belongs to. -/
def rw8 : IVec S8x128 32 := k0_pay54 (iota .tc S8x128 32 [0] iota_S8x128_d0_w32) 4#32 k0_pay51 k0_pay52 k0_pay53

/-- The zero array. -/
def zero (s : Shape) : FVec F s .f32 := broadcast s (Scalar.ofBits .f32 0x00000000#32)

/-- The running sum of the logarithms of the forget gate. -/
def bcum (g : FVec F S32x512 .f32) : FVec F S32x512 .f32 :=
  k0_pay13 g (Scalar.select (Scalar.cmpi .eq 4#32 0#32) 1#32 4#32) k0_pay10 k0_pay11 0#32

/-- The running sum at the last token of the row's sequence. -/
def blast (g : FVec F S32x512 .f32) : FVec F S32x512 .f32 :=
  k0_pay14 g (Scalar.select (Scalar.cmpi .eq 4#32 0#32) 1#32 4#32) k0_pay10 k0_pay11 0#32

/-- The weight, channel by channel, with which a row reads the row `d` tokens before it. -/
def wd (d : BitVec 32) (q kd bc bd : FVec F S32x512 .f32) : FVec F S32x512 .f32 :=
  select (cmpi .sge tl (broadcast S32x512 d))
    (mulf (mulf q kd) (exp (select (cmpi .sge tl (broadcast S32x512 d)) (subf bc bd) (zero S32x512)))) (zero S32x512)

/-- A rotation of the rows of a block. -/
def rot (n : BitVec 32) (x : FVec F S32x512 .f32) : FVec F S32x512 .f32 := dynamicRotate 0 n none x rotates_S32x512_d0

/-- One head's contribution of the row `d` tokens before. -/
def ia (c : ℕ) (hc : S32x512.Slices ![0, c] S32x128) (w vd : FVec F S32x512 .f32) (acc : FVec F S32x128 .f32) : FVec F S32x128 .f32 :=
  addf acc (mulf (broadcastTo S32x128 (shapeCast S32x1 (multiReduction .add [1] S32 (extractStridedSlice S32x128 ![0, c] w hc) 0x00000000#32 reduces_S32x128_S32 (.inl rfl) rfl) shapeCasts_S32_S32x1) broadcasts_S32x1_S32x128) (extractStridedSlice S32x128 ![0, c] vd hc))

/-- One head's part of the output that the chunk's own tokens give. -/
def oI (c : ℕ) (hc : S32x512.Slices ![0, c] S32x128) (q k v bc : FVec F S32x512 .f32) : FVec F S32x128 .f32 :=
  ia c hc (wd 3#32 q (rot 3#32 k) bc (rot 3#32 bc)) (rot 3#32 v)
  (ia c hc (wd 2#32 q (rot 2#32 k) bc (rot 2#32 bc)) (rot 2#32 v)
  (ia c hc (wd 1#32 q (rot 1#32 k) bc (rot 1#32 bc)) (rot 1#32 v)
  (ia c hc (wd 0#32 q k bc bc) v (zero S32x128))))

/-- The rows of a tile that belong to sequence `u`, the others zero. -/
def msk (r c : ℕ) (h : S32x512.Slices ![r, c] S8x128) (u : BitVec 32) (x : FVec F S32x512 .f32) : FVec F S8x128 .bf16 :=
  truncf .bf16 (select (cmpi .eq rw8 (broadcast S8x128 u)) (extractStridedSlice S8x128 ![r, c] x h) (zero S8x128)) bitsLt_bf16_f32

/-- One head of one tile: what the incoming states and the chunk's own tokens give. -/
def oT (r c : ℕ) (h : S32x512.Slices ![r, c] S8x128) (hc : S32x512.Slices ![0, c] S32x128) (hr : S32x128.Slices ![r, 0] S8x128)
    (q k v bc : FVec F S32x512 .f32) (s0 s1 : Vec F S1x1x128x128 .f32) : FVec F S8x128 .f32 :=
  addf (addf (addf (zero S8x128)
    (matmul dot_S8x128_S128x128_S8x128_1_0_0_1_n_n none (msk r c h 0#32 (mulf q (exp bc))) (truncf .bf16 (shapeCast S128x128 s0 shapeCasts_S1x1x128x128_S128x128) bitsLt_bf16_f32) (constant S8x128 .f32 0x00000000#32)))
    (matmul dot_S8x128_S128x128_S8x128_1_0_0_1_n_n none (msk r c h 1#32 (mulf q (exp bc))) (truncf .bf16 (shapeCast S128x128 s1 shapeCasts_S1x1x128x128_S128x128) bitsLt_bf16_f32) (constant S8x128 .f32 0x00000000#32)))
    (extractStridedSlice S8x128 ![r, 0] (oI c hc q k v bc) hr)

/-- The new state of one sequence and one head. -/
def sT (r c l : ℕ) (h : S32x512.Slices ![r, c] S8x128) (hl : S32x512.Slices ![l, c] S1x128) (u : BitVec 32)
    (kh v bc : FVec F S32x512 .f32) (s0 : Vec F S1x1x128x128 .f32) : FVec F S1x1x128x128 .f32 :=
  shapeCast S1x1x128x128 (addf
    (mulf (transpose S128x128 [1, 0] (broadcastTo S128x128 (shapeCast S1x128 (exp (extractStridedSlice S1x128 ![l, c] bc hl)) shapeCasts_S1x128_S1x128) broadcasts_S1x128_S128x128) transposes_S128x128_p1_0_S128x128)
      (shapeCast S128x128 s0 shapeCasts_S1x1x128x128_S128x128))
    (matmul dot_S8x128_S8x128_S128x128_0_0_1_1_n_n none (msk r c h u kh) (truncf .bf16 (extractStridedSlice S8x128 ![r, c] v h) bitsLt_bf16_f32) (constant S128x128 .f32 0x00000000#32)))
    shapeCasts_S128x128_S1x1x128x128

/-- The four heads of a tile. -/
def oRow (r : ℕ) (h0 : S32x512.Slices ![r, 0] S8x128) (h1 : S32x512.Slices ![r, 128] S8x128) (h2 : S32x512.Slices ![r, 256] S8x128) (h3 : S32x512.Slices ![r, 384] S8x128)
    (hr : S32x128.Slices ![r, 0] S8x128) (q k v bc : FVec F S32x512 .f32) (a b c d e f g i : Vec F S1x1x128x128 .f32) : FVec F S8x512 .f32 :=
  concatenate S8x512 1 [⟨S8x128, oT r 0 h0 slices_S32x512_o0_0_S32x128 hr q k v bc a b⟩, ⟨S8x128, oT r 128 h1 slices_S32x512_o0_128_S32x128 hr q k v bc c d⟩,
    ⟨S8x128, oT r 256 h2 slices_S32x512_o0_256_S32x128 hr q k v bc e f⟩, ⟨S8x128, oT r 384 h3 slices_S32x512_o0_384_S32x128 hr q k v bc g i⟩] concatenates_S8x128_S8x128_S8x128_S8x128_S8x512_d1

/-- The recurrence's output before its norm, all rows and heads. -/
def oAll (q k v bc : FVec F S32x512 .f32) (x6 : Vec F S8x4x128x128 .f32) : FVec F S32x512 .f32 :=
  concatenate S32x512 0 [
    ⟨S8x512, oRow 0 slices_S32x512_o0_0_S8x128 slices_S32x512_o0_128_S8x128 slices_S32x512_o0_256_S8x128 slices_S32x512_o0_384_S8x128 slices_S32x128_o0_0_S8x128 q k v bc (View.ld x6 r0_2) (View.ld x6 r0_3) (View.ld x6 r0_4) (View.ld x6 r0_5) (View.ld x6 r0_6) (View.ld x6 r0_7) (View.ld x6 r0_8) (View.ld x6 r0_9)⟩,
    ⟨S8x512, oRow 8 slices_S32x512_o8_0_S8x128 slices_S32x512_o8_128_S8x128 slices_S32x512_o8_256_S8x128 slices_S32x512_o8_384_S8x128 slices_S32x128_o8_0_S8x128 q k v bc (View.ld x6 r0_10) (View.ld x6 r0_11) (View.ld x6 r0_12) (View.ld x6 r0_13) (View.ld x6 r0_14) (View.ld x6 r0_15) (View.ld x6 r0_16) (View.ld x6 r0_17)⟩,
    ⟨S8x512, oRow 16 slices_S32x512_o16_0_S8x128 slices_S32x512_o16_128_S8x128 slices_S32x512_o16_256_S8x128 slices_S32x512_o16_384_S8x128 slices_S32x128_o16_0_S8x128 q k v bc (View.ld x6 r0_18) (View.ld x6 r0_19) (View.ld x6 r0_20) (View.ld x6 r0_21) (View.ld x6 r0_22) (View.ld x6 r0_23) (View.ld x6 r0_24) (View.ld x6 r0_25)⟩,
    ⟨S8x512, oRow 24 slices_S32x512_o24_0_S8x128 slices_S32x512_o24_128_S8x128 slices_S32x512_o24_256_S8x128 slices_S32x512_o24_384_S8x128 slices_S32x128_o24_0_S8x128 q k v bc (View.ld x6 r0_26) (View.ld x6 r0_27) (View.ld x6 r0_28) (View.ld x6 r0_29) (View.ld x6 r0_30) (View.ld x6 r0_31) (View.ld x6 r0_32) (View.ld x6 r0_33)⟩] concatenates_S8x512_S8x512_S8x512_S8x512_S32x512_d0

/-- One head's norm over its channels, times the head's gate. -/
def fin (c : ℕ) (hc : S32x512.Slices ![0, c] S32x128) (o g : FVec F S32x512 .f32) (n : FVec F S1x128 .f32) : FVec F S32x128 .f32 :=
  let oc : FVec F S32x128 .f32 := extractStridedSlice S32x128 ![0, c] o hc
  let gc : FVec F S32x128 .f32 := extractStridedSlice S32x128 ![0, c] g hc
  mulf (mulf (mulf oc (broadcastTo S32x128 (rsqrt (addf (divf (shapeCast S32x1 (multiReduction .add [1] S32 (mulf oc oc) 0x00000000#32 reduces_S32x128_S32 (.inl rfl) rfl) shapeCasts_S32_S32x1) (broadcast S32x1 (Scalar.ofBits .f32 0x43000000#32))) (broadcast S32x1 (Scalar.ofBits .f32 0x358637BD#32)))) broadcasts_S32x1_S32x128))
    (broadcastTo S32x128 n broadcasts_S1x128_S32x128))
    (mulf gc (divf (broadcast S32x128 (Scalar.ofBits .f32 0x3F800000#32)) (addf (broadcast S32x128 (Scalar.ofBits .f32 0x3F800000#32)) (exp (subf (zero S32x128) gc)))))

/-- The normed and gated output, head by head, as the block writes it. -/
def oOut (o g : FVec F S32x512 .f32) (n : FVec F S1x128 .f32) : FVec F S32x512 .bf16 :=
  truncf .bf16 (concatenate S32x512 1 [⟨S32x128, fin 0 slices_S32x512_o0_0_S32x128 o g n⟩, ⟨S32x128, fin 128 slices_S32x512_o0_128_S32x128 o g n⟩, ⟨S32x128, fin 256 slices_S32x512_o0_256_S32x128 o g n⟩, ⟨S32x128, fin 384 slices_S32x512_o0_384_S32x128 o g n⟩] concatenates_S32x128_S32x128_S32x128_S32x128_S32x512_d1) bitsLt_bf16_f32

end Cert.HgS

end
-- ==== Proof.HgS.Stores.lean ====
module

public import proofs.«01_k».proof.Proof.HgS.Tile

@[expose] public section

set_option maxRecDepth 16384
set_option maxHeartbeats 1000000

noncomputable section

namespace Cert.HgS

open Cert.HgSampleIdeal Cert.HgSampleIdeal.Gen Idealize.ShloMosaic Idealize.ShloMosaic.TcCoe

variable {F : FTy → Type} [FloatOps F]

/-- The stores of the new states, one for each sequence and head, the last first. -/
def sPieces (kh v bc : FVec F S32x512 .f32) (x6 : Vec F S8x4x128x128 .f32) : List (View.Piece (Elt F) S8x4x128x128 .f32) :=
  [⟨r0_33, sT 24 384 31 slices_S32x512_o24_384_S8x128 slices_S32x512_o31_384_S1x128 1#32 kh v bc (View.ld x6 r0_33)⟩,
    ⟨r0_32, sT 24 384 27 slices_S32x512_o24_384_S8x128 slices_S32x512_o27_384_S1x128 0#32 kh v bc (View.ld x6 r0_32)⟩,
    ⟨r0_31, sT 24 256 31 slices_S32x512_o24_256_S8x128 slices_S32x512_o31_256_S1x128 1#32 kh v bc (View.ld x6 r0_31)⟩,
    ⟨r0_30, sT 24 256 27 slices_S32x512_o24_256_S8x128 slices_S32x512_o27_256_S1x128 0#32 kh v bc (View.ld x6 r0_30)⟩,
    ⟨r0_29, sT 24 128 31 slices_S32x512_o24_128_S8x128 slices_S32x512_o31_128_S1x128 1#32 kh v bc (View.ld x6 r0_29)⟩,
    ⟨r0_28, sT 24 128 27 slices_S32x512_o24_128_S8x128 slices_S32x512_o27_128_S1x128 0#32 kh v bc (View.ld x6 r0_28)⟩,
    ⟨r0_27, sT 24 0 31 slices_S32x512_o24_0_S8x128 slices_S32x512_o31_0_S1x128 1#32 kh v bc (View.ld x6 r0_27)⟩,
    ⟨r0_26, sT 24 0 27 slices_S32x512_o24_0_S8x128 slices_S32x512_o27_0_S1x128 0#32 kh v bc (View.ld x6 r0_26)⟩,
    ⟨r0_25, sT 16 384 23 slices_S32x512_o16_384_S8x128 slices_S32x512_o23_384_S1x128 1#32 kh v bc (View.ld x6 r0_25)⟩,
    ⟨r0_24, sT 16 384 19 slices_S32x512_o16_384_S8x128 slices_S32x512_o19_384_S1x128 0#32 kh v bc (View.ld x6 r0_24)⟩,
    ⟨r0_23, sT 16 256 23 slices_S32x512_o16_256_S8x128 slices_S32x512_o23_256_S1x128 1#32 kh v bc (View.ld x6 r0_23)⟩,
    ⟨r0_22, sT 16 256 19 slices_S32x512_o16_256_S8x128 slices_S32x512_o19_256_S1x128 0#32 kh v bc (View.ld x6 r0_22)⟩,
    ⟨r0_21, sT 16 128 23 slices_S32x512_o16_128_S8x128 slices_S32x512_o23_128_S1x128 1#32 kh v bc (View.ld x6 r0_21)⟩,
    ⟨r0_20, sT 16 128 19 slices_S32x512_o16_128_S8x128 slices_S32x512_o19_128_S1x128 0#32 kh v bc (View.ld x6 r0_20)⟩,
    ⟨r0_19, sT 16 0 23 slices_S32x512_o16_0_S8x128 slices_S32x512_o23_0_S1x128 1#32 kh v bc (View.ld x6 r0_19)⟩,
    ⟨r0_18, sT 16 0 19 slices_S32x512_o16_0_S8x128 slices_S32x512_o19_0_S1x128 0#32 kh v bc (View.ld x6 r0_18)⟩,
    ⟨r0_17, sT 8 384 15 slices_S32x512_o8_384_S8x128 slices_S32x512_o15_384_S1x128 1#32 kh v bc (View.ld x6 r0_17)⟩,
    ⟨r0_16, sT 8 384 11 slices_S32x512_o8_384_S8x128 slices_S32x512_o11_384_S1x128 0#32 kh v bc (View.ld x6 r0_16)⟩,
    ⟨r0_15, sT 8 256 15 slices_S32x512_o8_256_S8x128 slices_S32x512_o15_256_S1x128 1#32 kh v bc (View.ld x6 r0_15)⟩,
    ⟨r0_14, sT 8 256 11 slices_S32x512_o8_256_S8x128 slices_S32x512_o11_256_S1x128 0#32 kh v bc (View.ld x6 r0_14)⟩,
    ⟨r0_13, sT 8 128 15 slices_S32x512_o8_128_S8x128 slices_S32x512_o15_128_S1x128 1#32 kh v bc (View.ld x6 r0_13)⟩,
    ⟨r0_12, sT 8 128 11 slices_S32x512_o8_128_S8x128 slices_S32x512_o11_128_S1x128 0#32 kh v bc (View.ld x6 r0_12)⟩,
    ⟨r0_11, sT 8 0 15 slices_S32x512_o8_0_S8x128 slices_S32x512_o15_0_S1x128 1#32 kh v bc (View.ld x6 r0_11)⟩,
    ⟨r0_10, sT 8 0 11 slices_S32x512_o8_0_S8x128 slices_S32x512_o11_0_S1x128 0#32 kh v bc (View.ld x6 r0_10)⟩,
    ⟨r0_9, sT 0 384 7 slices_S32x512_o0_384_S8x128 slices_S32x512_o7_384_S1x128 1#32 kh v bc (View.ld x6 r0_9)⟩,
    ⟨r0_8, sT 0 384 3 slices_S32x512_o0_384_S8x128 slices_S32x512_o3_384_S1x128 0#32 kh v bc (View.ld x6 r0_8)⟩,
    ⟨r0_7, sT 0 256 7 slices_S32x512_o0_256_S8x128 slices_S32x512_o7_256_S1x128 1#32 kh v bc (View.ld x6 r0_7)⟩,
    ⟨r0_6, sT 0 256 3 slices_S32x512_o0_256_S8x128 slices_S32x512_o3_256_S1x128 0#32 kh v bc (View.ld x6 r0_6)⟩,
    ⟨r0_5, sT 0 128 7 slices_S32x512_o0_128_S8x128 slices_S32x512_o7_128_S1x128 1#32 kh v bc (View.ld x6 r0_5)⟩,
    ⟨r0_4, sT 0 128 3 slices_S32x512_o0_128_S8x128 slices_S32x512_o3_128_S1x128 0#32 kh v bc (View.ld x6 r0_4)⟩,
    ⟨r0_3, sT 0 0 7 slices_S32x512_o0_0_S8x128 slices_S32x512_o7_0_S1x128 1#32 kh v bc (View.ld x6 r0_3)⟩,
    ⟨r0_2, sT 0 0 3 slices_S32x512_o0_0_S8x128 slices_S32x512_o3_0_S1x128 0#32 kh v bc (View.ld x6 r0_2)⟩]

/-- What the body leaves in the block of new states is its thirty-two stores. -/
theorem out8_eq (x0 x1 x2 x3 : Vec F S32x512 .f32) (x4 : Vec F S1x512 .f32) (x5 : Vec F S1x128 .f32) (x6 : Vec F S8x4x128x128 .f32) :
    out0_8 x0 x1 x2 x3 x4 x5 x6 = View.canon (sPieces (mulf (k0_pay9 (View.ld x1 r0_0) (View.ld x4 r0_1)) (exp (subf (blast (k0_pay8 (View.ld x1 r0_0) (View.ld x4 r0_1))) (bcum (k0_pay8 (View.ld x1 r0_0) (View.ld x4 r0_1))))))
      (k0_pay3 (View.ld x2 r0_0)) (bcum (k0_pay8 (View.ld x1 r0_0) (View.ld x4 r0_1))) x6) := rfl

/-- What the body leaves in the block of outputs is the normed and gated output of all heads. -/
theorem out7_eq (x0 x1 x2 x3 : Vec F S32x512 .f32) (x4 : Vec F S1x512 .f32) (x5 : Vec F S1x128 .f32) (x6 : Vec F S8x4x128x128 .f32) :
    out0_7 x0 x1 x2 x3 x4 x5 x6 = View.canon [⟨r0_0, oOut (oAll (k0_pay2 (View.ld x0 r0_0)) (k0_pay9 (View.ld x1 r0_0) (View.ld x4 r0_1)) (k0_pay3 (View.ld x2 r0_0)) (bcum (k0_pay8 (View.ld x1 r0_0) (View.ld x4 r0_1))) x6)
      (k0_pay213 (View.ld x3 r0_0)) (k0_pay214 (View.ld x5 r0_34))⟩] := rfl

end Cert.HgS

end
-- ==== Proof.HgS.Spec.lean ====
module

public import Idealize.ShloMosaic.PureOps.Ideal.Laws
public import Idealize.ShloMosaic.Lib.Pointwise
public import Idealize.ShloMosaic.Lib.Pipeline.Value

@[expose] public section

set_option maxRecDepth 16384

noncomputable section

namespace Cert.HgSpec

open Idealize.ShloMosaic

/-- The logarithm of a channel's forget gate: `log (l + (1 - l) sigmoid f)`. -/
def lf (f l : EReal) : EReal := Ideal.log (l + (1 - l) * Ideal.div 1 (1 + Ideal.exp (-f)))

/-- A channel's key: `(1 - l) sigmoid (-f)`. -/
def kk (f l : EReal) : EReal := (1 - l) * Ideal.div 1 (1 + Ideal.exp (- -f))

/-- The running sum over the four tokens of a sequence. -/
def csum (g : Fin 4 → EReal) (t : Fin 4) : EReal := ∑ i : Fin 4, if i ≤ t then g i else 0

/-- What token `t` reads of the tokens of its own sequence up to itself. -/
def intra (q k b : Fin 4 → Fin 128 → EReal) (v : Fin 4 → EReal) (t : Fin 4) : EReal :=
  ∑ s : Fin 4, if s ≤ t then (∑ j : Fin 128, q t j * k s j * Ideal.exp (b t j - b s j)) * v s else 0

/-- What token `t` reads of the incoming state. -/
def inter (q b : Fin 4 → Fin 128 → EReal) (s0 : Fin 128 → EReal) (t : Fin 4) : EReal :=
  ∑ j : Fin 128, q t j * Ideal.exp (b t j) * s0 j

/-- The new state of one channel pair. -/
def snew (k b : Fin 4 → EReal) (v : Fin 4 → EReal) (s0 : EReal) : EReal :=
  Ideal.exp (b 3) * s0 + ∑ t : Fin 4, k t * Ideal.exp (b 3 - b t) * v t

/-- The head's norm over its channels, its scale, and the gate. -/
def outp (o : Fin 128 → EReal) (n g : EReal) (c : Fin 128) : EReal :=
  o c * Ideal.rsqrt (Ideal.div (∑ j : Fin 128, o j * o j) (Ideal.ofBits .f32 0x43000000#32) + Ideal.ofBits .f32 0x358637BD#32) * n
    * (g * Ideal.div 1 (1 + Ideal.exp (-g)))

/-- The attention's normed and gated output of sample `n`, token `t`, head `h`, channel `c`, from the projections, the lower bound `l`,
    the norm's weights `w` and the incoming state `s0`. -/
def oRes (q f v g : Fin 128 → Fin 4 → Fin 4 → Fin 128 → EReal) (l : Fin 4 → Fin 128 → EReal) (w : Fin 128 → EReal)
    (s0 : Fin 128 → Fin 4 → Fin 128 → Fin 128 → EReal) (n : Fin 128) (t h : Fin 4) (c : Fin 128) : EReal :=
  outp (fun j =>
      inter (fun i d => q n i h d) (fun i d => csum (fun i => lf (f n i h d) (l h d)) i) (fun d => s0 n h d j) t
        + intra (fun i d => q n i h d) (fun i d => kk (f n i h d) (l h d)) (fun i d => csum (fun i => lf (f n i h d) (l h d)) i) (fun i => v n i h j) t)
    (w c) (g n t h c) c

/-- The new state of sample `n`, head `h`, key channel `d`, value channel `c`. -/
def sRes (f v : Fin 128 → Fin 4 → Fin 4 → Fin 128 → EReal) (l : Fin 4 → Fin 128 → EReal)
    (s0 : Fin 128 → Fin 4 → Fin 128 → Fin 128 → EReal) (n : Fin 128) (h : Fin 4) (d c : Fin 128) : EReal :=
  snew (fun i => kk (f n i h d) (l h d)) (fun i => csum (fun i => lf (f n i h d) (l h d)) i) (fun i => v n i h c) (s0 n h d c)

/-- exp of minus infinity is zero. -/
theorem exp_bot : Ideal.exp ⊥ = 0 := rfl

/-- exp of plus infinity is plus infinity. -/
theorem exp_top : Ideal.exp ⊤ = ⊤ := rfl

/-- exp of a real number is the real exponential. -/
theorem exp_coe (r : ℝ) : Ideal.exp (r : EReal) = (Real.exp r : EReal) := rfl

/-- One over plus infinity is zero. -/
theorem div_one_top : Ideal.div 1 ⊤ = 0 := by simp [Ideal.div]

/-- One is not minus infinity. -/
theorem one_ne_bot : (1 : EReal) ≠ ⊥ := by rw [← EReal.coe_one]; exact EReal.coe_ne_bot 1

/-- One over one is one. -/
theorem div_one_one : Ideal.div 1 1 = 1 := by
  unfold Ideal.div
  rw [if_neg one_ne_zero, one_mul, ← EReal.coe_one, ← EReal.coe_inv, inv_one]

/-- One over a nonzero real number is its inverse. -/
theorem div_one_coe (r : ℝ) (h : r ≠ 0) : Ideal.div 1 (r : EReal) = ((r⁻¹ : ℝ) : EReal) := by
  have h' : (r : EReal) ≠ 0 := by exact_mod_cast h
  simp [Ideal.div, h', ← EReal.coe_inv]

/-- The key by the sign of the gate's argument, as a kernel computes it without overflow. -/
theorem kk_eq (f l : EReal) :
    (1 - l) * (if 0 < f then Ideal.exp (-f) * Ideal.div 1 (1 + Ideal.exp (-f)) else 1 - Ideal.div 1 (1 + Ideal.exp (-f))) = kk f l := by
  unfold kk
  congr 1
  induction f using EReal.rec with
  | bot =>
    rw [if_neg (by simp), neg_neg, EReal.neg_bot, exp_top, exp_bot, EReal.add_top_of_ne_bot one_ne_bot, div_one_top, add_zero, div_one_one]
    simp
  | top =>
    rw [if_pos (by simp), neg_neg, EReal.neg_top, exp_top, exp_bot, EReal.add_top_of_ne_bot one_ne_bot, div_one_top, zero_mul]
  | coe r =>
    rw [neg_neg, ← EReal.coe_neg, exp_coe, exp_coe, ← EReal.coe_one, ← EReal.coe_add, ← EReal.coe_add, EReal.coe_one,
      div_one_coe _ (by positivity), div_one_coe _ (by positivity), ← EReal.coe_one, ← EReal.coe_mul, ← EReal.coe_sub, Real.exp_neg]
    have h := Real.exp_pos r
    split <;> (congr 1; field_simp; try ring)

end Cert.HgSpec

end
-- ==== Proof.HgS.Read.lean ====
module

public import proofs.«01_k».proof.Proof.HgS.Stores
public import proofs.«01_k».proof.Proof.HgS.Spec

@[expose] public section

set_option maxRecDepth 16384

noncomputable section

namespace Cert.HgS

open Cert.HgSampleIdeal Cert.HgSampleIdeal.Gen Idealize.ShloMosaic Idealize.ShloMosaic.TcCoe Cert.HgSpec
open Idealize.ShloMosaic.ValueIdx (broadcast_apply select_apply mulf_apply addf_apply subf_apply)

/-- Row `4 s + t` of a block: token `t` of its sequence `s`. -/
def row (s : Fin 8) (t : Fin 4) : Fin 32 := ⟨4 * s.val + t.val, by omega⟩

/-- Column `128 h + j`: channel `j` of head `h`. -/
def col (h : Fin 4) (j : Fin 128) : Fin 512 := ⟨128 * h.val + j.val, by omega⟩

/-- The table of token numbers: the row modulo four. -/
theorem tl_apply (r : Fin 32) (c : Fin 512) : tl (ix2 r c) = BitVec.ofNat 32 (r.val % 4) := by
  have h : ∀ r : Fin 32, tl (ix2 r (0 : Fin 512)) = BitVec.ofNat 32 (r.val % 4) := by decide +kernel
  exact h r

/-- The comparison "the token number is at least d" at a row. -/
theorem sge_tl (d : Fin 4) (w : BitVec 32) (hw : w = BitVec.ofNat 32 d.val) (s : Fin 8) (t : Fin 4) (c : Fin 512) :
    cmpi .sge tl (broadcast S32x512 w) (ix2 (row s t) c) = if d ≤ t then 1#1 else 0#1 := by
  show IntOp.cmpi .sge (tl (ix2 (row s t) c)) _ = _
  rw [tl_apply, hw]
  have : (row s t).val % 4 = t.val := by show (4 * s.val + t.val) % 4 = t.val; omega
  rw [this, broadcast_apply]
  clear this hw; revert d t; decide

/-- The comparison "the token number is d" at a row. -/
theorem eq_tl (d : Fin 4) (w : BitVec 32) (hw : w = BitVec.ofNat 32 d.val) (s : Fin 8) (t : Fin 4) (c : Fin 512) :
    cmpi .eq tl (broadcast S32x512 w) (ix2 (row s t) c) = if d = t then 1#1 else 0#1 := by
  show IntOp.cmpi .eq (tl (ix2 (row s t) c)) _ = _
  rw [tl_apply, hw]
  have : (row s t).val % 4 = t.val := by show (4 * s.val + t.val) % 4 = t.val; omega
  rw [this, broadcast_apply]
  clear this hw; revert d t; decide

/-- The table of sample numbers in a group of eight rows: the row divided by four. -/
theorem rw8_apply (r : Fin 8) (c : Fin 128) : rw8 (ix2 r c) = BitVec.ofNat 32 (r.val / 4) := by
  have h : ∀ r : Fin 8, rw8 (ix2 r (0 : Fin 128)) = BitVec.ofNat 32 (r.val / 4) := by decide +kernel
  exact h r

/-- A rotation of the rows by n reads the row n earlier, cyclically. -/
theorem rot_apply {α : Type} (n : ℕ) (w : BitVec 32) (hw : w = BitVec.ofNat 32 n) (hn : n < 32) (x : S32x512.Idx → α) (r r' : Fin 32) (c : Fin 512)
    (h : (r.val + 32 - n) % 32 = r'.val) : dynamicRotate 0 w none x rotates_S32x512_d0 (ix2 r c) = x (ix2 r' c) := by
  rw [hw]
  unfold dynamicRotate
  simp only [BitVec.toNat_ofNat, Nat.add_zero]
  have e : n % 2 ^ 32 % 32 = n := by omega
  refine congrArg x (funext fun b => ?_)
  match b with
  | ⟨0, _⟩ =>
    refine Fin.ext ?_
    show (r.val + 32 - n % 2 ^ 32 % 32) % 32 = r'.val
    rw [e, h]
  | ⟨1, _⟩ => rfl

/-- The zero array is zero everywhere. -/
theorem zero_apply (s : Shape) (i : s.Idx) : zero (F := Ideal) s i = 0 := by
  simp [zero, broadcast_apply, Ideal.ofBits, Ideal.ieee]

/-- The shifted and masked sums give the running sum over the tokens of a sample. -/
theorem bcum_apply (g : FVec Ideal S32x512 .f32) (s : Fin 8) (t : Fin 4) (c : Fin 512) :
    bcum g (ix2 (row s t) c) = csum (fun i => g (ix2 (row s i) c)) t := by
  show ((g (ix2 (row s t) c) + Scalar.select (cmpi .sge tl (broadcast S32x512 1#32) (ix2 (row s t) c)) (dynamicRotate 0 1#32 none g rotates_S32x512_d0 (ix2 (row s t) c)) (zero (F := Ideal) S32x512 (ix2 (row s t) c)))
    + Scalar.select (cmpi .sge tl (broadcast S32x512 2#32) (ix2 (row s t) c)) (dynamicRotate 0 2#32 none g rotates_S32x512_d0 (ix2 (row s t) c)) (zero (F := Ideal) S32x512 (ix2 (row s t) c)))
    + Scalar.select (cmpi .sge tl (broadcast S32x512 3#32) (ix2 (row s t) c)) (dynamicRotate 0 3#32 none g rotates_S32x512_d0 (ix2 (row s t) c)) (zero (F := Ideal) S32x512 (ix2 (row s t) c)) = _
  rw [zero_apply, sge_tl 1 1#32 rfl, sge_tl 2 2#32 rfl, sge_tl 3 3#32 rfl]
  unfold csum
  rw [Fin.sum_univ_four]
  match t with
  | 0 => simp [Scalar.select]
  | 1 =>
    rw [rot_apply 1 1#32 rfl (by decide) g (row s 1) (row s 0) c (by unfold row; simp; omega)]
    simp [Scalar.select, add_comm]
  | 2 =>
    rw [rot_apply 1 1#32 rfl (by decide) g (row s 2) (row s 1) c (by unfold row; simp; omega), rot_apply 2 2#32 rfl (by decide) g (row s 2) (row s 0) c (by unfold row; simp; omega)]
    simp [Scalar.select]
    abel
  | 3 =>
    rw [rot_apply 1 1#32 rfl (by decide) g (row s 3) (row s 2) c (by unfold row; simp; omega), rot_apply 2 2#32 rfl (by decide) g (row s 3) (row s 1) c (by unfold row; simp; omega),
      rot_apply 3 3#32 rfl (by decide) g (row s 3) (row s 0) c (by unfold row; simp; omega)]
    simp [Scalar.select]
    abel

/-- The rows of the last running sum, spread over the tokens of a sample. -/
theorem blast_apply (g : FVec Ideal S32x512 .f32) (s : Fin 8) (t : Fin 4) (c : Fin 512) :
    blast g (ix2 (row s t) c) = bcum g (ix2 (row s 3) c) := by
  show Scalar.select (cmpi .eq tl (broadcast S32x512 0#32) (ix2 (row s t) c)) (dynamicRotate 0 29#32 none (bcum g) rotates_S32x512_d0 (ix2 (row s t) c))
    (Scalar.select (cmpi .eq tl (broadcast S32x512 1#32) (ix2 (row s t) c)) (dynamicRotate 0 30#32 none (bcum g) rotates_S32x512_d0 (ix2 (row s t) c))
    (Scalar.select (cmpi .eq tl (broadcast S32x512 2#32) (ix2 (row s t) c)) (dynamicRotate 0 31#32 none (bcum g) rotates_S32x512_d0 (ix2 (row s t) c)) (bcum g (ix2 (row s t) c)))) = _
  rw [eq_tl 0 0#32 rfl, eq_tl 1 1#32 rfl, eq_tl 2 2#32 rfl]
  match t with
  | 0 => rw [rot_apply 29 29#32 rfl (by decide) _ (row s 0) (row s 3) c (by unfold row; simp; omega)]; simp [Scalar.select]
  | 1 => rw [rot_apply 30 30#32 rfl (by decide) _ (row s 1) (row s 3) c (by unfold row; simp; omega)]; simp [Scalar.select]
  | 2 => rw [rot_apply 31 31#32 rfl (by decide) _ (row s 2) (row s 3) c (by unfold row; simp; omega)]; simp [Scalar.select]
  | 3 => simp [Scalar.select]

/-- The log forget gate, element by element. -/
theorem lf_apply (x1 : Vec Ideal S32x512 .f32) (x4 : Vec Ideal S1x512 .f32) (r : Fin 32) (c : Fin 512) :
    k0_pay8 (View.ld x1 r0_0) (View.ld x4 r0_1) (ix2 r c) = lf (x1 (ix2 r c)) (x4 (ix2 0 c)) := by
  unfold_payloads
  pointwise
  unfold lf
  simp only [zero_sub]

/-- The key, element by element. -/
theorem kk_apply (x1 : Vec Ideal S32x512 .f32) (x4 : Vec Ideal S1x512 .f32) (r : Fin 32) (c : Fin 512) :
    k0_pay9 (View.ld x1 r0_0) (View.ld x4 r0_1) (ix2 r c) = kk (x1 (ix2 r c)) (x4 (ix2 0 c)) := by
  rw [← kk_eq]
  unfold_payloads
  pointwise
  simp only [zero_sub]

/-- The decayed product of query and key at one token distance. -/
theorem wd_apply (d : BitVec 32) (q kd bc bd : FVec Ideal S32x512 .f32) (i : S32x512.Idx) :
    wd d q kd bc bd i = Scalar.select (cmpi .sge tl (broadcast S32x512 d) i) (q i * kd i * Ideal.exp (Scalar.select (cmpi .sge tl (broadcast S32x512 d) i) (bc i - bd i) 0)) 0 := by
  rw [← zero_apply S32x512 i]
  rfl

/-- The contribution of one token distance to one head's output. -/
theorem ia_apply (h : Fin 4) (hc : S32x512.Slices ![0, 128 * h.val] S32x128) (w vd : FVec Ideal S32x512 .f32) (acc : FVec Ideal S32x128 .f32) (r : Fin 32) (j : Fin 128) :
    ia (128 * h.val) hc w vd acc (ix2 r j) = acc (ix2 r j) + (∑ i : Fin 128, w (ix2 r (col h i))) * vd (ix2 r (col h j)) := by
  pointwise [ia]
  rfl

/-- The part of the output that comes from the tokens of the step itself, as a sum over the tokens. -/
theorem oI_apply (h : Fin 4) (hc : S32x512.Slices ![0, 128 * h.val] S32x128) (q k v bc : FVec Ideal S32x512 .f32) (s : Fin 8) (t : Fin 4) (c : Fin 128) :
    oI (128 * h.val) hc q k v bc (ix2 (row s t) c)
      = intra (fun i j => q (ix2 (row s i) (col h j))) (fun i j => k (ix2 (row s i) (col h j))) (fun i j => bc (ix2 (row s i) (col h j)))
          (fun i => v (ix2 (row s i) (col h c))) t := by
  unfold oI
  rw [ia_apply, ia_apply, ia_apply, ia_apply, zero_apply]
  simp only [wd_apply]
  simp only [sge_tl 0 0#32 rfl, sge_tl 1 1#32 rfl, sge_tl 2 2#32 rfl, sge_tl 3 3#32 rfl]
  unfold intra rot
  rw [Fin.sum_univ_four]
  match t with
  | 0 => simp [Scalar.select]
  | 1 =>
    simp only [rot_apply 1 1#32 rfl (by decide) _ (row s 1) (row s 0) _ (by unfold row; simp; omega)]
    simp [Scalar.select, add_comm]
  | 2 =>
    simp only [rot_apply 1 1#32 rfl (by decide) _ (row s 2) (row s 1) _ (by unfold row; simp; omega), rot_apply 2 2#32 rfl (by decide) _ (row s 2) (row s 0) _ (by unfold row; simp; omega)]
    simp [Scalar.select]
    abel
  | 3 =>
    simp only [rot_apply 1 1#32 rfl (by decide) _ (row s 3) (row s 2) _ (by unfold row; simp; omega), rot_apply 2 2#32 rfl (by decide) _ (row s 3) (row s 1) _ (by unfold row; simp; omega),
      rot_apply 3 3#32 rfl (by decide) _ (row s 3) (row s 0) _ (by unfold row; simp; omega)]
    simp [Scalar.select]
    abel

/-- Row `4 u + t` of a tile of two sequences. -/
def trow (u : Fin 2) (t : Fin 4) : Fin 8 := ⟨4 * u.val + t.val, by omega⟩

/-- Sequence `2 j + u` of a block: sequence `u` of tile `j`. -/
def sq (j : Fin 4) (u : Fin 2) : Fin 8 := ⟨2 * j.val + u.val, by omega⟩

/-- The comparison "the sample number is d" at a row of eight. -/
theorem eq_rw8 (d : Fin 2) (w : BitVec 32) (hw : w = BitVec.ofNat 32 d.val) (u : Fin 2) (t : Fin 4) (c : Fin 128) :
    cmpi .eq rw8 (broadcast S8x128 w) (ix2 (trow u t) c) = if d = u then 1#1 else 0#1 := by
  show IntOp.cmpi .eq (rw8 (ix2 (trow u t) c)) _ = _
  rw [rw8_apply, hw]
  have : (trow u t).val / 4 = u.val := by show (4 * u.val + t.val) / 4 = u.val; omega
  rw [this, broadcast_apply]
  clear this hw; revert d u; decide

/-- The rows of one sample kept and those of the other set to zero. -/
theorem msk_apply (j h : Fin 4) (hh : S32x512.Slices ![8 * j.val, 128 * h.val] S8x128) (d : Fin 2) (w : BitVec 32) (hw : w = BitVec.ofNat 32 d.val)
    (x : FVec Ideal S32x512 .f32) (u : Fin 2) (t : Fin 4) (c : Fin 128) :
    msk (8 * j.val) (128 * h.val) hh w x (ix2 (trow u t) c) = if d = u then x (ix2 (row (sq j u) t) (col h c)) else 0 := by
  show Scalar.select (cmpi .eq rw8 (broadcast S8x128 w) (ix2 (trow u t) c)) (extractStridedSlice S8x128 ![8 * j.val, 128 * h.val] x hh (ix2 (trow u t) c)) (zero (F := Ideal) S8x128 (ix2 (trow u t) c)) = _
  rw [eq_rw8 d w hw, zero_apply]
  have : extractStridedSlice S8x128 ![8 * j.val, 128 * h.val] x hh (ix2 (trow u t) c) = x (ix2 (row (sq j u) t) (col h c)) := by
    pointwise
    refine congrArg (fun r => x (ix2 r (col h c))) (Fin.ext ?_)
    show 8 * j.val + (4 * u.val + t.val) = 4 * (2 * j.val + u.val) + t.val
    omega
  rw [this]
  split <;> rfl

/-- The part of the output that comes from the old state, as a sum over the key features. -/
theorem oT_apply (j h : Fin 4) (hh : S32x512.Slices ![8 * j.val, 128 * h.val] S8x128) (hc : S32x512.Slices ![0, 128 * h.val] S32x128)
    (hr : S32x128.Slices ![8 * j.val, 0] S8x128) (q k v bc : FVec Ideal S32x512 .f32) (s0 s1 : Vec Ideal S1x1x128x128 .f32)
    (u : Fin 2) (t : Fin 4) (c : Fin 128) :
    oT (8 * j.val) (128 * h.val) hh hc hr q k v bc s0 s1 (ix2 (trow u t) c)
      = inter (fun i j' => q (ix2 (row (sq j u) i) (col h j'))) (fun i j' => bc (ix2 (row (sq j u) i) (col h j')))
          (fun j' => (if u = 0 then s0 else s1) (ix4 0 0 j' c)) t
        + intra (fun i j' => q (ix2 (row (sq j u) i) (col h j'))) (fun i j' => k (ix2 (row (sq j u) i) (col h j'))) (fun i j' => bc (ix2 (row (sq j u) i) (col h j')))
          (fun i => v (ix2 (row (sq j u) i) (col h c))) t := by
  rw [← oI_apply h hc]
  unfold oT
  generalize oI (128 * h.val) hc q k v bc = X
  have e0 : ∀ i, msk (8 * j.val) (128 * h.val) hh 0#32 (mulf q (exp bc)) (ix2 (trow u t) i) = _ := fun i => msk_apply j h hh 0 0#32 rfl _ u t i
  have e1 : ∀ i, msk (8 * j.val) (128 * h.val) hh 1#32 (mulf q (exp bc)) (ix2 (trow u t) i) = _ := fun i => msk_apply j h hh 1 1#32 rfl _ u t i
  generalize msk (8 * j.val) (128 * h.val) hh 0#32 (mulf q (exp bc)) = A at e0 ⊢
  generalize msk (8 * j.val) (128 * h.val) hh 1#32 (mulf q (exp bc)) = B at e1 ⊢
  pointwise [zero]
  simp only [e0, e1]
  have er : (⟨8 * j.val + (trow u t).val, by have := (trow u t).isLt; omega⟩ : Fin 32) = row (sq j u) t :=
    Fin.ext (by show 8 * j.val + (4 * u.val + t.val) = 4 * (2 * j.val + u.val) + t.val; omega)
  unfold inter
  rw [er]
  congr 1
  match u with
  | 0 => simp; rfl
  | 1 => simp; rfl

/-- A sum over eight rows is a sum over two samples and four tokens. -/
theorem sum8 (f : Fin 8 → EReal) : ∑ x, f x = ∑ u : Fin 2, ∑ t : Fin 4, f (trow u t) := by
  rw [Fin.sum_univ_eight, Fin.sum_univ_two, Fin.sum_univ_four, Fin.sum_univ_four]
  show _ = f 0 + f 1 + f 2 + f 3 + (f 4 + f 5 + f 6 + f 7)
  simp only [add_assoc]

/-- The sum over the tokens that updates the state. -/
theorem sT_apply (j h : Fin 4) (l : ℕ) (hh : S32x512.Slices ![8 * j.val, 128 * h.val] S8x128) (u : Fin 2) (w : BitVec 32) (hw : w = BitVec.ofNat 32 u.val)
    (hl : S32x512.Slices ![l, 128 * h.val] S1x128) (el : l = (row (sq j u) 3).val)
    (kh v bc : FVec Ideal S32x512 .f32) (s0 : Vec Ideal S1x1x128x128 .f32) (a b : Fin 1) (d c : Fin 128) :
    sT (8 * j.val) (128 * h.val) l hh hl w kh v bc s0 (ix4 a b d c)
      = Ideal.exp (bc (ix2 (row (sq j u) 3) (col h d))) * s0 (ix4 a b d c)
        + ∑ t : Fin 4, kh (ix2 (row (sq j u) t) (col h d)) * v (ix2 (row (sq j u) t) (col h c)) := by
  unfold sT
  pointwise
  rw [sum8]
  have ea : a = 0 := Subsingleton.elim _ _
  have eb : b = 0 := Subsingleton.elim _ _
  subst ea eb
  congr 1
  · congr 1
    subst el
    rfl
  · have hv : ∀ (u' : Fin 2) (t : Fin 4), (⟨8 * j.val + (trow u' t).val, by have := (trow u' t).isLt; omega⟩ : Fin 32) = row (sq j u') t := fun u' t =>
      Fin.ext (by show 8 * j.val + (4 * u'.val + t.val) = 4 * (2 * j.val + u'.val) + t.val; omega)
    have hm : ∀ (u' : Fin 2) (t : Fin 4), msk (8 * j.val) (128 * h.val) hh w kh (ix2 (trow u' t) d) * v (ix2 ⟨8 * j.val + (trow u' t).val, by have := (trow u' t).isLt; omega⟩ (col h c))
        = if u = u' then kh (ix2 (row (sq j u) t) (col h d)) * v (ix2 (row (sq j u) t) (col h c)) else 0 := fun u' t => by
      rw [msk_apply j h hh u w hw, hv]
      split
      · rename_i e; subst e; rfl
      · rw [zero_mul]
    refine (Finset.sum_congr rfl fun u' _ => Finset.sum_congr rfl fun t _ => hm u' t).trans ?_
    rw [Fin.sum_univ_two]
    match u with
    | 0 => simp
    | 1 => simp

/-- The recurrence's output at token `t` of sequence `s`, channel `c` of head `h`, before its norm. -/
def oSpec (q k v bc : FVec Ideal S32x512 .f32) (x6 : Vec Ideal S8x4x128x128 .f32) (s : Fin 8) (t : Fin 4) (h : Fin 4) (c : Fin 128) : EReal :=
  inter (fun i j' => q (ix2 (row s i) (col h j'))) (fun i j' => bc (ix2 (row s i) (col h j'))) (fun j' => x6 (ix4 s h j' c)) t
    + intra (fun i j' => q (ix2 (row s i) (col h j'))) (fun i j' => k (ix2 (row s i) (col h j'))) (fun i j' => bc (ix2 (row s i) (col h j')))
        (fun i => v (ix2 (row s i) (col h c))) t

/-- Reading four row groups placed one below another. -/
theorem cat0 {α : Type} (A B C D : S8x512.Idx → α) (j : Fin 4) (a : Fin 8) (c : Fin 512) :
    concatenate S32x512 0 [⟨S8x512, A⟩, ⟨S8x512, B⟩, ⟨S8x512, C⟩, ⟨S8x512, D⟩] concatenates_S8x512_S8x512_S8x512_S8x512_S32x512_d0
      (ix2 ⟨8 * j.val + a.val, by omega⟩ c) = (match j with | 0 => A | 1 => B | 2 => C | 3 => D) (ix2 a c) := by
  match j with
  | 0 => pointwise
  | 1 => pointwise
  | 2 =>
    pointwise
    split_ifs <;> first | omega | exact congrArg (fun z => C (ix2 z c)) (Fin.ext (by simp; try omega))
  | 3 =>
    pointwise
    split_ifs <;> first | omega | exact congrArg (fun z => D (ix2 z c)) (Fin.ext (by simp; try omega))

/-- Reading four heads of a row group placed side by side. -/
theorem cat1 {α : Type} (A B C D : S8x128.Idx → α) (a : Fin 8) (h : Fin 4) (c : Fin 128) :
    concatenate S8x512 1 [⟨S8x128, A⟩, ⟨S8x128, B⟩, ⟨S8x128, C⟩, ⟨S8x128, D⟩] concatenates_S8x128_S8x128_S8x128_S8x128_S8x512_d1
      (ix2 a (col h c)) = (match h with | 0 => A | 1 => B | 2 => C | 3 => D) (ix2 a c) := by
  unfold col
  match h with
  | 0 => pointwise
  | 1 => pointwise
  | 2 =>
    pointwise
    split_ifs <;> first | omega | exact congrArg (fun z => C (ix2 a z)) (Fin.ext (by simp; try omega))
  | 3 =>
    pointwise
    split_ifs <;> first | omega | exact congrArg (fun z => D (ix2 a z)) (Fin.ext (by simp; try omega))

/-- Reading four heads of a block placed side by side. -/
theorem cat2 {α : Type} (A B C D : S32x128.Idx → α) (a : Fin 32) (h : Fin 4) (c : Fin 128) :
    concatenate S32x512 1 [⟨S32x128, A⟩, ⟨S32x128, B⟩, ⟨S32x128, C⟩, ⟨S32x128, D⟩] concatenates_S32x128_S32x128_S32x128_S32x128_S32x512_d1
      (ix2 a (col h c)) = (match h with | 0 => A | 1 => B | 2 => C | 3 => D) (ix2 a c) := by
  unfold col
  match h with
  | 0 => pointwise
  | 1 => pointwise
  | 2 =>
    pointwise
    split_ifs <;> first | omega | exact congrArg (fun z => C (ix2 a z)) (Fin.ext (by simp; try omega))
  | 3 =>
    pointwise
    split_ifs <;> first | omega | exact congrArg (fun z => D (ix2 a z)) (Fin.ext (by simp; try omega))

/-- One sample's and head's state as a slice of the block of states. -/
theorem ldS (x6 : Vec Ideal S8x4x128x128 .f32) (s : Fin 8) (h : Fin 4)
    (inb : ∀ a, (![s.val, h.val, 0, 0] : Fin 4 → ℕ) a + S1x1x128x128.size a ≤ S8x4x128x128.size a) (d c : Fin 128) :
    View.ld x6 (Rect.unit (s := S8x4x128x128) ![s.val, h.val, 0, 0] S1x1x128x128.size inb) (ix4 0 0 d c) = x6 (ix4 s h d c) := by
  pointwise

/-- The four heads of a tile, read at a row of one of its two sequences. -/
theorem oRow_apply (j : Fin 4) (h0 : S32x512.Slices ![8 * j.val, 0] S8x128) (h1 : S32x512.Slices ![8 * j.val, 128] S8x128) (h2 : S32x512.Slices ![8 * j.val, 256] S8x128) (h3 : S32x512.Slices ![8 * j.val, 384] S8x128)
    (hr : S32x128.Slices ![8 * j.val, 0] S8x128) (q k v bc : FVec Ideal S32x512 .f32) (x6 : Vec Ideal S8x4x128x128 .f32) (a b c d e f g i : Vec Ideal S1x1x128x128 .f32) (u : Fin 2) (t h : Fin 4) (x : Fin 128)
    (hl : ∀ j', (if u = 0 then (match h with | 0 => a | 1 => c | 2 => e | 3 => g) else (match h with | 0 => b | 1 => d | 2 => f | 3 => i)) (ix4 0 0 j' x) = x6 (ix4 (sq j u) h j' x)) :
    oRow (8 * j.val) h0 h1 h2 h3 hr q k v bc a b c d e f g i (ix2 (trow u t) (col h x)) = oSpec q k v bc x6 (sq j u) t h x := by
  unfold oRow oSpec
  rw [cat1]
  simp only [← hl]
  match h with
  | 0 => exact oT_apply j 0 h0 _ hr q k v bc a b u t x
  | 1 => exact oT_apply j 1 h1 _ hr q k v bc c d u t x
  | 2 => exact oT_apply j 2 h2 _ hr q k v bc e f u t x
  | 3 => exact oT_apply j 3 h3 _ hr q k v bc g i u t x

/-- The whole output of the recurrence at one row: the old state's part and the tokens' part. -/
theorem oAll_apply (q k v bc : FVec Ideal S32x512 .f32) (x6 : Vec Ideal S8x4x128x128 .f32) (j : Fin 4) (u : Fin 2) (t : Fin 4) (h : Fin 4) (c : Fin 128) :
    oAll q k v bc x6 (ix2 (row (sq j u) t) (col h c)) = oSpec q k v bc x6 (sq j u) t h c := by
  have er : row (sq j u) t = ⟨8 * j.val + (trow u t).val, by have := (trow u t).isLt; omega⟩ :=
    Fin.ext (by show 4 * (2 * j.val + u.val) + t.val = 8 * j.val + (4 * u.val + t.val); omega)
  rw [er]
  unfold oAll
  rw [cat0]
  match j with
  | 0 =>
    refine oRow_apply 0 _ _ _ _ _ q k v bc x6 _ _ _ _ _ _ _ _ u t h c fun j' => ?_
    match u, h with
    | 0, 0 => exact ldS x6 0 0 _ j' c
    | 0, 1 => exact ldS x6 0 1 _ j' c
    | 0, 2 => exact ldS x6 0 2 _ j' c
    | 0, 3 => exact ldS x6 0 3 _ j' c
    | 1, 0 => exact ldS x6 1 0 _ j' c
    | 1, 1 => exact ldS x6 1 1 _ j' c
    | 1, 2 => exact ldS x6 1 2 _ j' c
    | 1, 3 => exact ldS x6 1 3 _ j' c
  | 1 =>
    refine oRow_apply 1 _ _ _ _ _ q k v bc x6 _ _ _ _ _ _ _ _ u t h c fun j' => ?_
    match u, h with
    | 0, 0 => exact ldS x6 2 0 _ j' c
    | 0, 1 => exact ldS x6 2 1 _ j' c
    | 0, 2 => exact ldS x6 2 2 _ j' c
    | 0, 3 => exact ldS x6 2 3 _ j' c
    | 1, 0 => exact ldS x6 3 0 _ j' c
    | 1, 1 => exact ldS x6 3 1 _ j' c
    | 1, 2 => exact ldS x6 3 2 _ j' c
    | 1, 3 => exact ldS x6 3 3 _ j' c
  | 2 =>
    refine oRow_apply 2 _ _ _ _ _ q k v bc x6 _ _ _ _ _ _ _ _ u t h c fun j' => ?_
    match u, h with
    | 0, 0 => exact ldS x6 4 0 _ j' c
    | 0, 1 => exact ldS x6 4 1 _ j' c
    | 0, 2 => exact ldS x6 4 2 _ j' c
    | 0, 3 => exact ldS x6 4 3 _ j' c
    | 1, 0 => exact ldS x6 5 0 _ j' c
    | 1, 1 => exact ldS x6 5 1 _ j' c
    | 1, 2 => exact ldS x6 5 2 _ j' c
    | 1, 3 => exact ldS x6 5 3 _ j' c
  | 3 =>
    refine oRow_apply 3 _ _ _ _ _ q k v bc x6 _ _ _ _ _ _ _ _ u t h c fun j' => ?_
    match u, h with
    | 0, 0 => exact ldS x6 6 0 _ j' c
    | 0, 1 => exact ldS x6 6 1 _ j' c
    | 0, 2 => exact ldS x6 6 2 _ j' c
    | 0, 3 => exact ldS x6 6 3 _ j' c
    | 1, 0 => exact ldS x6 7 0 _ j' c
    | 1, 1 => exact ldS x6 7 1 _ j' c
    | 1, 2 => exact ldS x6 7 2 _ j' c
    | 1, 3 => exact ldS x6 7 3 _ j' c

end Cert.HgS

end
-- ==== Proof.HgS.Block.lean ====
module

public import proofs.«01_k».proof.Proof.HgS.Read

@[expose] public section

set_option maxRecDepth 16384

noncomputable section

namespace Cert.HgS

open Cert.HgSampleIdeal Cert.HgSampleIdeal.Gen Idealize.ShloMosaic Idealize.ShloMosaic.TcCoe Cert.HgSpec
open Idealize.ShloMosaic.ValueIdx (broadcast_apply select_apply mulf_apply addf_apply subf_apply)

/-- The normed and gated output of one head, element by element. -/
theorem fin_apply (h : Fin 4) (hc : S32x512.Slices ![0, 128 * h.val] S32x128) (o g : FVec Ideal S32x512 .f32) (n : FVec Ideal S1x128 .f32) (r : Fin 32) (c : Fin 128) :
    fin (128 * h.val) hc o g n (ix2 r c) = outp (fun j => o (ix2 r (col h j))) (n (ix2 0 c)) (g (ix2 r (col h c))) c := by
  pointwise [fin, zero]
  simp only [zero_sub]
  rfl

/-- The written attention output, element by element, from the recurrence's output and the gate. -/
theorem oOut_apply (o g : FVec Ideal S32x512 .f32) (n : FVec Ideal S1x128 .f32) (r : Fin 32) (h : Fin 4) (c : Fin 128) :
    oOut o g n (ix2 r (col h c)) = outp (fun j => o (ix2 r (col h j))) (n (ix2 0 c)) (g (ix2 r (col h c))) c := by
  unfold oOut
  rw [ValueIdx.truncf_apply, cat2]
  match h with
  | 0 => exact fin_apply 0 _ o g n r c
  | 1 => exact fin_apply 1 _ o g n r c
  | 2 => exact fin_apply 2 _ o g n r c
  | 3 => exact fin_apply 3 _ o g n r c

/-- The new state of a sequence's head, entry by entry. -/
def sSpec (kh v bc : FVec Ideal S32x512 .f32) (x6 : Vec Ideal S8x4x128x128 .f32) (y : S8x4x128x128.Idx) : EReal :=
  Ideal.exp (bc (ix2 (row (y 0) 3) (col (y 1) (y 2)))) * x6 y
    + ∑ t : Fin 4, kh (ix2 (row (y 0) t) (col (y 1) (y 2))) * v (ix2 (row (y 0) t) (col (y 1) (y 3)))

/-- One store of a new state is its part of `sSpec`. -/
theorem sp (j h : Fin 4) (u : Fin 2) (hh : S32x512.Slices ![8 * j.val, 128 * h.val] S8x128) (hl : S32x512.Slices ![(row (sq j u) 3).val, 128 * h.val] S1x128)
    (w : BitVec 32) (hw : w = BitVec.ofNat 32 u.val) (off : Fin 4 → ℕ) (hoff : off = ![(sq j u).val, h.val, 0, 0]) (kh v bc : FVec Ideal S32x512 .f32) (x6 : Vec Ideal S8x4x128x128 .f32)
    (inb : ∀ a, off a + S1x1x128x128.size a ≤ S8x4x128x128.size a) (x : S1x1x128x128.Idx) :
    sT (8 * j.val) (128 * h.val) (row (sq j u) 3).val hh hl w kh v bc (View.ld x6 (Rect.unit (s := S8x4x128x128) off S1x1x128x128.size inb)) x
      = sSpec kh v bc x6 ((Rect.unit (s := S8x4x128x128) off S1x1x128x128.size inb).emb x) := by
  subst hoff
  obtain ⟨a, b, d, c, rfl⟩ : ∃ (a b : Fin 1) (d c : Fin 128), x = ix4 a b d c := ⟨x 0, x 1, x 2, x 3, by
    funext i; match i with | ⟨0, _⟩ => rfl | ⟨1, _⟩ => rfl | ⟨2, _⟩ => rfl | ⟨3, _⟩ => rfl⟩
  have ea : a = 0 := Subsingleton.elim _ _
  have eb : b = 0 := Subsingleton.elim _ _
  subst ea eb
  have e : (Rect.unit (s := S8x4x128x128) ![(sq j u).val, h.val, 0, 0] S1x1x128x128.size inb).emb (ix4 0 0 d c) = ix4 (sq j u) h d c := by
    funext i
    match i with
    | ⟨0, _⟩ => exact Fin.ext (by simp [Rect.emb, Rect.unit, ix4])
    | ⟨1, _⟩ => exact Fin.ext (by simp [Rect.emb, Rect.unit, ix4])
    | ⟨2, _⟩ => exact Fin.ext (by simp [Rect.emb, Rect.unit, ix4])
    | ⟨3, _⟩ => exact Fin.ext (by simp [Rect.emb, Rect.unit, ix4])
  rw [e, sT_apply j h _ hh u w hw hl rfl, ldS]
  rfl

/-- The written state, element by element, from the gates and values of the block. -/
theorem out8_apply (kh v bc : FVec Ideal S32x512 .f32) (x6 : Vec Ideal S8x4x128x128 .f32) (y : S8x4x128x128.Idx) :
    View.canon (sPieces kh v bc x6) y = sSpec kh v bc x6 y := by
  refine View.canon_apply_of_pieces (Val := Elt Ideal) (e := .f32) (sSpec kh v bc x6) _ ?_ y ?_
  · unfold sPieces
    simp only [List.forall_mem_cons]
    exact ⟨fun x => sp 3 3 1 _ _ 1#32 rfl _ rfl kh v bc x6 _ x,
      fun x => sp 3 3 0 _ _ 0#32 rfl _ rfl kh v bc x6 _ x,
      fun x => sp 3 2 1 _ _ 1#32 rfl _ rfl kh v bc x6 _ x,
      fun x => sp 3 2 0 _ _ 0#32 rfl _ rfl kh v bc x6 _ x,
      fun x => sp 3 1 1 _ _ 1#32 rfl _ rfl kh v bc x6 _ x,
      fun x => sp 3 1 0 _ _ 0#32 rfl _ rfl kh v bc x6 _ x,
      fun x => sp 3 0 1 _ _ 1#32 rfl _ rfl kh v bc x6 _ x,
      fun x => sp 3 0 0 _ _ 0#32 rfl _ rfl kh v bc x6 _ x,
      fun x => sp 2 3 1 _ _ 1#32 rfl _ rfl kh v bc x6 _ x,
      fun x => sp 2 3 0 _ _ 0#32 rfl _ rfl kh v bc x6 _ x,
      fun x => sp 2 2 1 _ _ 1#32 rfl _ rfl kh v bc x6 _ x,
      fun x => sp 2 2 0 _ _ 0#32 rfl _ rfl kh v bc x6 _ x,
      fun x => sp 2 1 1 _ _ 1#32 rfl _ rfl kh v bc x6 _ x,
      fun x => sp 2 1 0 _ _ 0#32 rfl _ rfl kh v bc x6 _ x,
      fun x => sp 2 0 1 _ _ 1#32 rfl _ rfl kh v bc x6 _ x,
      fun x => sp 2 0 0 _ _ 0#32 rfl _ rfl kh v bc x6 _ x,
      fun x => sp 1 3 1 _ _ 1#32 rfl _ rfl kh v bc x6 _ x,
      fun x => sp 1 3 0 _ _ 0#32 rfl _ rfl kh v bc x6 _ x,
      fun x => sp 1 2 1 _ _ 1#32 rfl _ rfl kh v bc x6 _ x,
      fun x => sp 1 2 0 _ _ 0#32 rfl _ rfl kh v bc x6 _ x,
      fun x => sp 1 1 1 _ _ 1#32 rfl _ rfl kh v bc x6 _ x,
      fun x => sp 1 1 0 _ _ 0#32 rfl _ rfl kh v bc x6 _ x,
      fun x => sp 1 0 1 _ _ 1#32 rfl _ rfl kh v bc x6 _ x,
      fun x => sp 1 0 0 _ _ 0#32 rfl _ rfl kh v bc x6 _ x,
      fun x => sp 0 3 1 _ _ 1#32 rfl _ rfl kh v bc x6 _ x,
      fun x => sp 0 3 0 _ _ 0#32 rfl _ rfl kh v bc x6 _ x,
      fun x => sp 0 2 1 _ _ 1#32 rfl _ rfl kh v bc x6 _ x,
      fun x => sp 0 2 0 _ _ 0#32 rfl _ rfl kh v bc x6 _ x,
      fun x => sp 0 1 1 _ _ 1#32 rfl _ rfl kh v bc x6 _ x,
      fun x => sp 0 1 0 _ _ 0#32 rfl _ rfl kh v bc x6 _ x,
      fun x => sp 0 0 1 _ _ 1#32 rfl _ rfl kh v bc x6 _ x,
      fun x => sp 0 0 0 _ _ 0#32 rfl _ rfl kh v bc x6 _ x, fun _ h => absurd h List.not_mem_nil⟩
  · exact cover0_8 _ _ _ _ _ _ _ _ _ _ _ _ _ _ _ _ _ _ _ _ _ _ _ _ _ _ _ _ _ _ _ _ y

end Cert.HgS

end
-- ==== Proof.HgS.Host.lean ====
module

public import proofs.«01_k».proof.Proof.HgS.Block
public import proofs.«01_k».proof.Proof.Gen.HgSampleIdeal.Value
public import proofs.«01_k».proof.Proof.Gen.HgSampleRefIdeal.Read

@[expose] public section

set_option maxRecDepth 16384

noncomputable section

namespace Cert.HgS

open Cert.HgSampleIdeal Cert.HgSampleIdeal.Gen Idealize.ShloMosaic Idealize.ShloMosaic.TcCoe Cert.HgSpec Idealize.ShloMosaic.StableHlo
open Idealize.ShloMosaic.ValueIdx (broadcast_apply select_apply mulf_apply addf_apply subf_apply)

/-- The four projections laid side by side in the kernel's column layout, filler on both sides. -/
def zpack (a0 a1 a2 a3 : FVec Ideal S128x4x512 .f32) : FVec Ideal S512x5632 .f32 :=
  concatenate S512x5632 1
    [⟨S512x2560, broadcastInDim S512x2560 ![] bcast_S_S512x2560 (constant S_ .f32 0x00000000#32)⟩,
     ⟨S512x512, shapeCast S512x512 a0 shapeCasts_S128x4x512_S512x512⟩,
     ⟨S512x512, shapeCast S512x512 a1 shapeCasts_S128x4x512_S512x512⟩,
     ⟨S512x512, shapeCast S512x512 a2 shapeCasts_S128x4x512_S512x512⟩,
     ⟨S512x512, shapeCast S512x512 a3 shapeCasts_S128x4x512_S512x512⟩,
     ⟨S512x1024, broadcastInDim S512x1024 ![] bcast_S_S512x1024 (constant S_ .f32 0x00000000#32)⟩]
    concatenates_S512x2560_S512x512_S512x512_S512x512_S512x512_S512x1024_S512x5632_d1

variable (m : (ℓ : Loc nD τ sig) → Buf (Elt Ideal) ℓ)

/-- The region finds the packed projections. -/
theorem V_z (c : Dev nD) : V m c main_v18 = zpack (m ((c : Thread nD τ).loc main_arg0)) (m ((c : Thread nD τ).loc main_arg1)) (m ((c : Thread nD τ).loc main_arg2)) (m ((c : Thread nD τ).loc main_arg3)) := by
  simp only [V, hostOps0, hostOps0_1, hostOps0_2, List.flatten_cons, List.flatten_nil, List.append_nil, List.cons_append, List.nil_append]
  after_results
  rfl

/-- The region finds the first layer's lower bound as one row. -/
theorem V_lb (c : Dev nD) : V m c main_v21 = shapeCast S1x512 (shapeCast S512 (extractStridedSlice S1x512 ![0, 0] (Cert.HgSampleRefIdeal.Read.val_main_v11 (F := Ideal) (m ((c : Thread nD τ).loc main_arg4))) slices_S2x512_S1x512_0_0) shapeCasts_S1x512_S512) shapeCasts_S512_S1x512 := by
  simp only [V, hostOps0, hostOps0_1, hostOps0_2, List.flatten_cons, List.flatten_nil, List.append_nil, List.cons_append, List.nil_append]
  after_results
  rfl

/-- The region finds the norm's weights as one row. -/
theorem V_n (c : Dev nD) : V m c main_v23 = shapeCast S1x128 (shapeCast S128 (m ((c : Thread nD τ).loc main_arg5)) shapeCasts_S1x128_S128) shapeCasts_S128_S1x128 := by
  simp only [V, hostOps0, hostOps0_1, hostOps0_2, List.flatten_cons, List.flatten_nil, List.append_nil, List.cons_append, List.nil_append]
  after_results
  rfl

/-- The region finds the carried state without its leading unit axis. -/
theorem V_s (c : Dev nD) : V m c main_v24 = shapeCast S128x4x128x128 (m ((c : Thread nD τ).loc main_arg6)) shapeCasts_S1x128x4x128x128_S128x4x128x128 := by
  simp only [V, hostOps0, hostOps0_1, hostOps0_2, List.flatten_cons, List.flatten_nil, List.append_nil, List.cons_append, List.nil_append]
  after_results
  rfl

/-- There are sixteen grid points. -/
theorem lt_pt (t : Fin cfg0.N) : t.val < 16 := lt_of_lt_of_eq t.isLt (by decide +kernel)

/-- Row `r` of point `t`'s block, among all rows. -/
def grow (t : Fin cfg0.N) (r : Fin 32) : Fin 512 := ⟨32 * t.val + r.val, by have := lt_pt t; omega⟩
/-- Sample `s` of point `t`'s block, among all samples. -/
def gsam (t : Fin cfg0.N) (s : Fin 8) : Fin 128 := ⟨8 * t.val + s.val, by have := lt_pt t; omega⟩
/-- Column `c` of group `g` of the packed projections. -/
def zcol (g : Fin 4) (c : Fin 512) : Fin 5632 := ⟨512 * (5 + g.val) + c.val, by omega⟩

/-- The block index of window 0 at each grid point. -/
theorem ix0 : ∀ t : Fin cfg0.N, win0_0.index t = ![t.val, 5] := (by decide +kernel : ∀ t : Fin grid0.N, _)
/-- The block index of window 1 at each grid point. -/
theorem ix1 : ∀ t : Fin cfg0.N, win0_1.index t = ![t.val, 6] := (by decide +kernel : ∀ t : Fin grid0.N, _)
/-- The block index of window 2 at each grid point. -/
theorem ix2' : ∀ t : Fin cfg0.N, win0_2.index t = ![t.val, 7] := (by decide +kernel : ∀ t : Fin grid0.N, _)
/-- The block index of window 3 at each grid point. -/
theorem ix3' : ∀ t : Fin cfg0.N, win0_3.index t = ![t.val, 8] := (by decide +kernel : ∀ t : Fin grid0.N, _)
/-- The block index of window 4 at each grid point. -/
theorem ix4' : ∀ t : Fin cfg0.N, win0_4.index t = ![0, 0] := (by decide +kernel : ∀ t : Fin grid0.N, _)
/-- The block index of window 5 at each grid point. -/
theorem ix5' : ∀ t : Fin cfg0.N, win0_5.index t = ![0, 0] := (by decide +kernel : ∀ t : Fin grid0.N, _)
/-- The block index of window 6 at each grid point. -/
theorem ix6' : ∀ t : Fin cfg0.N, win0_6.index t = ![t.val, 0, 0, 0] := (by decide +kernel : ∀ t : Fin grid0.N, _)
/-- The block index of window 7 at each grid point. -/
theorem ix7' : ∀ t : Fin cfg0.N, win0_7.index t = ![t.val, 0] := (by decide +kernel : ∀ t : Fin grid0.N, _)
/-- The block index of window 8 at each grid point. -/
theorem ix8' : ∀ t : Fin cfg0.N, win0_8.index t = ![t.val, 0, 0, 0] := (by decide +kernel : ∀ t : Fin grid0.N, _)

/-- Where an element of the block of window 0 lies in its array. -/
theorem emb0 (t : Fin cfg0.N) (r : Fin 32) (c : Fin 512) : (((cfg0.win 0).blk t).view.emb (ix2 r c : S32x512.Idx) : S512x5632.Idx) = ix2 (grow t r) (zcol 0 c) := by
  have e := ix0 t
  funext a
  refine Fin.ext ?_
  show win0_0.index t a * win0_0.size a + 1 * ((ix2 r c : S32x512.Idx) a).val = _
  rw [e]
  fin_cases a <;> simp [win0_0, grow, zcol] <;> omega

/-- Where an element of the block of window 1 lies in its array. -/
theorem emb1 (t : Fin cfg0.N) (r : Fin 32) (c : Fin 512) : (((cfg0.win 1).blk t).view.emb (ix2 r c : S32x512.Idx) : S512x5632.Idx) = ix2 (grow t r) (zcol 1 c) := by
  have e := ix1 t
  funext a
  refine Fin.ext ?_
  show win0_1.index t a * win0_1.size a + 1 * ((ix2 r c : S32x512.Idx) a).val = _
  rw [e]
  fin_cases a <;> simp [win0_1, grow, zcol] <;> omega

/-- Where an element of the block of window 2 lies in its array. -/
theorem emb2 (t : Fin cfg0.N) (r : Fin 32) (c : Fin 512) : (((cfg0.win 2).blk t).view.emb (ix2 r c : S32x512.Idx) : S512x5632.Idx) = ix2 (grow t r) (zcol 2 c) := by
  have e := ix2' t
  funext a
  refine Fin.ext ?_
  show win0_2.index t a * win0_2.size a + 1 * ((ix2 r c : S32x512.Idx) a).val = _
  rw [e]
  fin_cases a <;> simp [win0_2, grow, zcol] <;> omega

/-- Where an element of the block of window 3 lies in its array. -/
theorem emb3 (t : Fin cfg0.N) (r : Fin 32) (c : Fin 512) : (((cfg0.win 3).blk t).view.emb (ix2 r c : S32x512.Idx) : S512x5632.Idx) = ix2 (grow t r) (zcol 3 c) := by
  have e := ix3' t
  funext a
  refine Fin.ext ?_
  show win0_3.index t a * win0_3.size a + 1 * ((ix2 r c : S32x512.Idx) a).val = _
  rw [e]
  fin_cases a <;> simp [win0_3, grow, zcol] <;> omega

/-- Where an element of the block of window 4 lies in its array. -/
theorem emb4 (t : Fin cfg0.N) (r : Fin 1) (c : Fin 512) : (((cfg0.win 4).blk t).view.emb (ix2 r c : S1x512.Idx) : S1x512.Idx) = ix2 r c := by
  have e := ix4' t
  funext a
  refine Fin.ext ?_
  show win0_4.index t a * win0_4.size a + 1 * ((ix2 r c : S1x512.Idx) a).val = _
  rw [e]
  fin_cases a <;> simp [win0_4, grow, zcol] <;> omega

/-- Where an element of the block of window 5 lies in its array. -/
theorem emb5 (t : Fin cfg0.N) (r : Fin 1) (c : Fin 128) : (((cfg0.win 5).blk t).view.emb (ix2 r c : S1x128.Idx) : S1x128.Idx) = ix2 r c := by
  have e := ix5' t
  funext a
  refine Fin.ext ?_
  show win0_5.index t a * win0_5.size a + 1 * ((ix2 r c : S1x128.Idx) a).val = _
  rw [e]
  fin_cases a <;> simp [win0_5, grow, zcol] <;> omega

/-- Where an element of the block of window 7 lies in its array. -/
theorem emb7 (t : Fin cfg0.N) (r : Fin 32) (c : Fin 512) : (((cfg0.win 7).blk t).view.emb (ix2 r c : S32x512.Idx) : S512x512.Idx) = ix2 (grow t r) c := by
  have e := ix7' t
  funext a
  refine Fin.ext ?_
  show win0_7.index t a * win0_7.size a + 1 * ((ix2 r c : S32x512.Idx) a).val = _
  rw [e]
  fin_cases a <;> simp [win0_7, grow, zcol] <;> omega

/-- Where an element of the block of window 6 lies in its array. -/
theorem emb6 (t : Fin cfg0.N) (s : Fin 8) (h : Fin 4) (d c : Fin 128) : (((cfg0.win 6).blk t).view.emb (ix4 s h d c : S8x4x128x128.Idx) : S128x4x128x128.Idx) = ix4 (gsam t s) h d c := by
  have e := ix6' t
  funext a
  refine Fin.ext ?_
  show win0_6.index t a * win0_6.size a + 1 * ((ix4 s h d c : S8x4x128x128.Idx) a).val = _
  rw [e]
  fin_cases a <;> simp [win0_6, gsam] <;> omega

/-- Where an element of the block of window 8 lies in its array. -/
theorem emb8 (t : Fin cfg0.N) (s : Fin 8) (h : Fin 4) (d c : Fin 128) : (((cfg0.win 8).blk t).view.emb (ix4 s h d c : S8x4x128x128.Idx) : S128x4x128x128.Idx) = ix4 (gsam t s) h d c := by
  have e := ix8' t
  funext a
  refine Fin.ext ?_
  show win0_8.index t a * win0_8.size a + 1 * ((ix4 s h d c : S8x4x128x128.Idx) a).val = _
  rw [e]
  fin_cases a <;> simp [win0_8, gsam] <;> omega

/-- An element of the block of window 0, as an element of its array. -/
theorem iblk0_apply (c : Dev nD) (t : Fin cfg0.N) (r : Fin 32) (k : Fin 512) : (iblk m c 0 t : FVec Ideal S32x512 .f32) (ix2 r k) = (V m c main_v18 : FVec Ideal S512x5632 .f32) (ix2 (grow t r) (zcol 0 k)) :=
  congrArg (V m c main_v18 : FVec Ideal S512x5632 .f32) (emb0 t r k)
/-- An element of the block of window 1, as an element of its array. -/
theorem iblk1_apply (c : Dev nD) (t : Fin cfg0.N) (r : Fin 32) (k : Fin 512) : (iblk m c 1 t : FVec Ideal S32x512 .f32) (ix2 r k) = (V m c main_v18 : FVec Ideal S512x5632 .f32) (ix2 (grow t r) (zcol 1 k)) :=
  congrArg (V m c main_v18 : FVec Ideal S512x5632 .f32) (emb1 t r k)
/-- An element of the block of window 2, as an element of its array. -/
theorem iblk2_apply (c : Dev nD) (t : Fin cfg0.N) (r : Fin 32) (k : Fin 512) : (iblk m c 2 t : FVec Ideal S32x512 .f32) (ix2 r k) = (V m c main_v18 : FVec Ideal S512x5632 .f32) (ix2 (grow t r) (zcol 2 k)) :=
  congrArg (V m c main_v18 : FVec Ideal S512x5632 .f32) (emb2 t r k)
/-- An element of the block of window 3, as an element of its array. -/
theorem iblk3_apply (c : Dev nD) (t : Fin cfg0.N) (r : Fin 32) (k : Fin 512) : (iblk m c 3 t : FVec Ideal S32x512 .f32) (ix2 r k) = (V m c main_v18 : FVec Ideal S512x5632 .f32) (ix2 (grow t r) (zcol 3 k)) :=
  congrArg (V m c main_v18 : FVec Ideal S512x5632 .f32) (emb3 t r k)
/-- An element of the block of window 4, as an element of its array. -/
theorem iblk4_apply (c : Dev nD) (t : Fin cfg0.N) (r : Fin 1) (k : Fin 512) : (iblk m c 4 t : FVec Ideal S1x512 .f32) (ix2 r k) = (V m c main_v21 : FVec Ideal S1x512 .f32) (ix2 r k) :=
  congrArg (V m c main_v21 : FVec Ideal S1x512 .f32) (emb4 t r k)
/-- An element of the block of window 5, as an element of its array. -/
theorem iblk5_apply (c : Dev nD) (t : Fin cfg0.N) (r : Fin 1) (k : Fin 128) : (iblk m c 5 t : FVec Ideal S1x128 .f32) (ix2 r k) = (V m c main_v23 : FVec Ideal S1x128 .f32) (ix2 r k) :=
  congrArg (V m c main_v23 : FVec Ideal S1x128 .f32) (emb5 t r k)
/-- An element of the block of window 6, as an element of its array. -/
theorem iblk6_apply (c : Dev nD) (t : Fin cfg0.N) (s : Fin 8) (h : Fin 4) (d k : Fin 128) : (iblk m c 6 t : FVec Ideal S8x4x128x128 .f32) (ix4 s h d k) = (V m c main_v24 : FVec Ideal S128x4x128x128 .f32) (ix4 (gsam t s) h d k) :=
  congrArg (V m c main_v24 : FVec Ideal S128x4x128x128 .f32) (emb6 t s h d k)

/-- Token `t` of sample `n`, among all rows. -/
def nrow (n : Fin 128) (t : Fin 4) : Fin 512 := ⟨4 * n.val + t.val, by omega⟩

/-- The activations, flattened to rows: row 4 n + t is token t of sample n. -/
theorem flat_apply (a : FVec Ideal S128x4x512 .f32) (n : Fin 128) (t : Fin 4) (k : Fin 512) :
    shapeCast S512x512 a shapeCasts_S128x4x512_S512x512 (ix2 (nrow n t) k) = a (ix3 n t k) := by
  refine shapeCast_apply _ _ _ _ ?_
  rw [Shape.rowMajor_val_three, Shape.rowMajor_val_two]
  simp [nrow]; omega

/-- The packed array read at the columns of one of the four groups gives that group's array. -/
theorem zpack_apply (a0 a1 a2 a3 : FVec Ideal S128x4x512 .f32) (g : Fin 4) (n : Fin 128) (t : Fin 4) (k : Fin 512) :
    zpack a0 a1 a2 a3 (ix2 (nrow n t) (zcol g k)) = (![a0, a1, a2, a3] g) (ix3 n t k) := by
  rw [← flat_apply (![a0, a1, a2, a3] g)]
  generalize nrow n t = r
  match g with
  | 0 => pointwise [zpack, zcol]
  | 1 =>
    pointwise [zpack, zcol]
    rw [dif_neg (by omega), dif_neg (by omega), dif_pos (by omega)]
    exact congrArg (fun x : Fin 512 => a1 (ix3 ⟨r.val / 4, by omega⟩ ⟨r.val % 4, by omega⟩ x)) (Fin.ext (by show 3072 + k.val - 2560 - 512 = k.val; omega))
  | 2 =>
    pointwise [zpack, zcol]
    rw [dif_neg (by omega), dif_neg (by omega), dif_neg (by omega), dif_pos (by omega)]
    exact congrArg (fun x : Fin 512 => a2 (ix3 ⟨r.val / 4, by omega⟩ ⟨r.val % 4, by omega⟩ x)) (Fin.ext (by show 3584 + k.val - 2560 - 512 - 512 = k.val; omega))
  | 3 =>
    pointwise [zpack, zcol]
    rw [dif_neg (by omega), dif_neg (by omega), dif_neg (by omega), dif_neg (by omega), dif_pos (by omega)]
    exact congrArg (fun x : Fin 512 => a3 (ix3 ⟨r.val / 4, by omega⟩ ⟨r.val % 4, by omega⟩ x)) (Fin.ext (by show 4096 + k.val - 2560 - 512 - 512 - 512 = k.val; omega))

end Cert.HgS
-- ==== Proof.HgS.Array.lean ====
module

public import proofs.«01_k».proof.Proof.HgS.Host

@[expose] public section

set_option maxRecDepth 16384

noncomputable section

namespace Cert.HgS

open Cert.HgSampleIdeal Cert.HgSampleIdeal.Gen Idealize.ShloMosaic Idealize.ShloMosaic.TcCoe Cert.HgSpec Idealize.ShloMosaic.StableHlo
open Idealize.ShloMosaic.ValueIdx (broadcast_apply select_apply mulf_apply addf_apply subf_apply)

/-! ## The body's results read at an index -/

/-- The loaded query block is the block itself. -/
theorem q_apply (x : Vec Ideal S32x512 .f32) (i : S32x512.Idx) : k0_pay2 (View.ld x r0_0) i = x i := by
  rw [View.ld_unit_zero (S := S32x512) (by decide)]
  unfold_payloads
  first | rfl | exact shapeCast_apply _ _ _ _ rfl | (simp only [shapeCast_self]; rfl)
/-- The loaded value block is the block itself. -/
theorem v_apply (x : Vec Ideal S32x512 .f32) (i : S32x512.Idx) : k0_pay3 (View.ld x r0_0) i = x i := by
  rw [View.ld_unit_zero (S := S32x512) (by decide)]
  unfold_payloads
  first | rfl | exact shapeCast_apply _ _ _ _ rfl | (simp only [shapeCast_self]; rfl)
/-- The loaded output-gate block is the block itself. -/
theorem g_apply (x : Vec Ideal S32x512 .f32) (i : S32x512.Idx) : k0_pay213 (View.ld x r0_0) i = x i := by
  rw [View.ld_unit_zero (S := S32x512) (by decide)]
  unfold_payloads
  first | rfl | exact shapeCast_apply _ _ _ _ rfl | (simp only [shapeCast_self]; rfl)
/-- The loaded norm gain is the gain itself. -/
theorem n_apply (x : Vec Ideal S1x128 .f32) (i : S1x128.Idx) : k0_pay214 (View.ld x r0_34) i = x i := by
  rw [View.ld_unit_zero (S := S1x128) (by decide)]
  unfold_payloads
  first | rfl | exact shapeCast_apply _ _ _ _ rfl | (simp only [shapeCast_self]; rfl)

/-- Each of the eight samples of a block is one of two samples of one of four row groups. -/
theorem sq_of (s : Fin 8) : ∃ (j : Fin 4) (u : Fin 2), s = sq j u :=
  ⟨⟨s.val / 2, by omega⟩, ⟨s.val % 2, by omega⟩, Fin.ext (by show s.val = 2 * (s.val / 2) + s.val % 2; omega)⟩

/-- The running sum of the log forget gates at a row of the block: the sum over the tokens up to that row's token. -/
theorem b_apply (x1 : Vec Ideal S32x512 .f32) (x4 : Vec Ideal S1x512 .f32) (s : Fin 8) (t : Fin 4) (c : Fin 512) :
    bcum (k0_pay8 (View.ld x1 r0_0) (View.ld x4 r0_1)) (ix2 (row s t) c) = csum (fun i => lf (x1 (ix2 (row s i) c)) (x4 (ix2 0 c))) t := by
  rw [bcum_apply]
  simp only [lf_apply]

/-- What one block writes to the attention output, element by element. -/
theorem out7_apply (x0 x1 x2 x3 : Vec Ideal S32x512 .f32) (x4 : Vec Ideal S1x512 .f32) (x5 : Vec Ideal S1x128 .f32) (x6 : Vec Ideal S8x4x128x128 .f32)
    (s : Fin 8) (t h : Fin 4) (c : Fin 128) :
    out0_7 x0 x1 x2 x3 x4 x5 x6 (ix2 (row s t) (col h c)) =
      outp (fun j =>
        inter (fun i d => x0 (ix2 (row s i) (col h d))) (fun i d => csum (fun i => lf (x1 (ix2 (row s i) (col h d))) (x4 (ix2 0 (col h d)))) i) (fun d => x6 (ix4 s h d j)) t
          + intra (fun i d => x0 (ix2 (row s i) (col h d))) (fun i d => kk (x1 (ix2 (row s i) (col h d))) (x4 (ix2 0 (col h d))))
              (fun i d => csum (fun i => lf (x1 (ix2 (row s i) (col h d))) (x4 (ix2 0 (col h d)))) i) (fun i => x2 (ix2 (row s i) (col h j))) t)
      (x5 (ix2 0 c)) (x3 (ix2 (row s t) (col h c))) c := by
  obtain ⟨j, u, rfl⟩ := sq_of s
  rw [out7_eq, View.canon_unit_zero (S := S32x512) (by decide), oOut_apply]
  simp only [oAll_apply, oSpec, q_apply, v_apply, g_apply, n_apply, b_apply, kk_apply]

/-- What one block writes to the new state, element by element. -/
theorem out8_apply' (x0 x1 x2 x3 : Vec Ideal S32x512 .f32) (x4 : Vec Ideal S1x512 .f32) (x5 : Vec Ideal S1x128 .f32) (x6 : Vec Ideal S8x4x128x128 .f32)
    (s : Fin 8) (h : Fin 4) (d c : Fin 128) :
    out0_8 x0 x1 x2 x3 x4 x5 x6 (ix4 s h d c) =
      snew (fun i => kk (x1 (ix2 (row s i) (col h d))) (x4 (ix2 0 (col h d)))) (fun i => csum (fun i => lf (x1 (ix2 (row s i) (col h d))) (x4 (ix2 0 (col h d)))) i)
        (fun i => x2 (ix2 (row s i) (col h c))) (x6 (ix4 s h d c)) := by
  rw [out8_eq, out8_apply]
  show Ideal.exp (bcum (F := Ideal) _ (ix2 (row s 3) (col h d))) * x6 (ix4 s h d c)
    + ∑ t : Fin 4, (k0_pay9 (View.ld x1 r0_0) (View.ld x4 r0_1) (ix2 (row s t) (col h d)) * Ideal.exp (blast (F := Ideal) _ (ix2 (row s t) (col h d)) - bcum (F := Ideal) _ (ix2 (row s t) (col h d)))) * k0_pay3 (View.ld x2 r0_0) (ix2 (row s t) (col h c)) = _
  simp only [blast_apply, b_apply, kk_apply, v_apply]
  rfl

/-! ## The arrays after the run -/

variable (m : (ℓ : Loc nD τ sig) → Buf (Elt Ideal) ℓ)

/-- The queries, by sample, token, head and feature. -/
abbrev qA (c : Dev nD) : Fin 128 → Fin 4 → Fin 4 → Fin 128 → EReal := fun n t h d => (m ((c : Thread nD τ).loc main_arg0) : FVec Ideal S128x4x512 .f32) (ix3 n t (col h d))
/-- The forget-gate pre-activations, by sample, token, head and feature. -/
abbrev fA (c : Dev nD) : Fin 128 → Fin 4 → Fin 4 → Fin 128 → EReal := fun n t h d => (m ((c : Thread nD τ).loc main_arg1) : FVec Ideal S128x4x512 .f32) (ix3 n t (col h d))
/-- The values, by sample, token, head and feature. -/
abbrev vA (c : Dev nD) : Fin 128 → Fin 4 → Fin 4 → Fin 128 → EReal := fun n t h d => (m ((c : Thread nD τ).loc main_arg2) : FVec Ideal S128x4x512 .f32) (ix3 n t (col h d))
/-- The output gates, by sample, token, head and feature. -/
abbrev gA (c : Dev nD) : Fin 128 → Fin 4 → Fin 4 → Fin 128 → EReal := fun n t h d => (m ((c : Thread nD τ).loc main_arg3) : FVec Ideal S128x4x512 .f32) (ix3 n t (col h d))
/-- The lower bound of the forget gate, by head and feature. -/
abbrev lA (c : Dev nD) : Fin 4 → Fin 128 → EReal := fun h d => (Cert.HgSampleRefIdeal.Read.val_main_v11 (F := Ideal) (m ((c : Thread nD τ).loc main_arg4)) : FVec Ideal S2x512 .f32) (ix2 0 (col h d))
/-- The gain of the output norm. -/
abbrev wA (c : Dev nD) : Fin 128 → EReal := fun d => (m ((c : Thread nD τ).loc main_arg5) : FVec Ideal S1x128 .f32) (ix2 0 d)
/-- The old state, by sample, head, key feature and value feature. -/
abbrev sA (c : Dev nD) : Fin 128 → Fin 4 → Fin 128 → Fin 128 → EReal := fun n h d e => (m ((c : Thread nD τ).loc main_arg6) : FVec Ideal S1x128x4x128x128 .f32) (ix5 0 n h d e)

/-- A row of a block, as a row of the whole array. -/
theorem grow_row (t : Fin cfg0.N) (s : Fin 8) (i : Fin 4) : grow t (row s i) = nrow (gsam t s) i :=
  Fin.ext (by show 32 * t.val + (4 * s.val + i.val) = 4 * (8 * t.val + s.val) + i.val; omega)

/-- The block of queries holds the queries of its samples. -/
theorem rd0 (c : Dev nD) (t : Fin cfg0.N) (s : Fin 8) (i h : Fin 4) (d : Fin 128) : (iblk m c 0 t : FVec Ideal S32x512 .f32) (ix2 (row s i) (col h d)) = qA m c (gsam t s) i h d := by
  rw [iblk0_apply, grow_row, V_z, zpack_apply]; rfl
/-- The block of pre-activations holds those of its samples. -/
theorem rd1 (c : Dev nD) (t : Fin cfg0.N) (s : Fin 8) (i h : Fin 4) (d : Fin 128) : (iblk m c 1 t : FVec Ideal S32x512 .f32) (ix2 (row s i) (col h d)) = fA m c (gsam t s) i h d := by
  rw [iblk1_apply, grow_row, V_z, zpack_apply]; rfl
/-- The block of values holds the values of its samples. -/
theorem rd2 (c : Dev nD) (t : Fin cfg0.N) (s : Fin 8) (i h : Fin 4) (d : Fin 128) : (iblk m c 2 t : FVec Ideal S32x512 .f32) (ix2 (row s i) (col h d)) = vA m c (gsam t s) i h d := by
  rw [iblk2_apply, grow_row, V_z, zpack_apply]; rfl
/-- The block of output gates holds the gates of its samples. -/
theorem rd3 (c : Dev nD) (t : Fin cfg0.N) (s : Fin 8) (i h : Fin 4) (d : Fin 128) : (iblk m c 3 t : FVec Ideal S32x512 .f32) (ix2 (row s i) (col h d)) = gA m c (gsam t s) i h d := by
  rw [iblk3_apply, grow_row, V_z, zpack_apply]; rfl
/-- The block of the lower bound holds the lower bound. -/
theorem rd4 (c : Dev nD) (t : Fin cfg0.N) (h : Fin 4) (d : Fin 128) : (iblk m c 4 t : FVec Ideal S1x512 .f32) (ix2 0 (col h d)) = lA m c h d := by
  rw [iblk4_apply, V_lb]
  pointwise
/-- The block of the gain holds the gain. -/
theorem rd5 (c : Dev nD) (t : Fin cfg0.N) (d : Fin 128) : (iblk m c 5 t : FVec Ideal S1x128 .f32) (ix2 0 d) = wA m c d := by
  rw [iblk5_apply, V_n]
  pointwise
/-- The block of states holds the states of its samples. -/
theorem rd6 (c : Dev nD) (t : Fin cfg0.N) (s : Fin 8) (h : Fin 4) (d e : Fin 128) : (iblk m c 6 t : FVec Ideal S8x4x128x128 .f32) (ix4 s h d e) = sA m c (gsam t s) h d e := by
  rw [iblk6_apply, V_s]
  refine shapeCast_apply (s := S1x128x4x128x128) (t := S128x4x128x128) _ _ (ix4 (gsam t s) h d e) (ix5 0 (gsam t s) h d e) ?_
  rw [Shape.rowMajor_val_five, Shape.rowMajor_val_four]
  simp

/-- Each sample lies in the block of one grid point. -/
theorem pt_of (n : Fin 128) : ∃ (t : Fin cfg0.N) (s : Fin 8), n = gsam t s := by
  have hN : cfg0.N = 16 := by decide +kernel
  exact ⟨⟨n.val / 8, by omega⟩, ⟨n.val % 8, by omega⟩, Fin.ext (by show n.val = 8 * (n.val / 8) + n.val % 8; omega)⟩

/-- The output array after the run. -/
theorem o_apply (c : Dev nD) (n : Fin 128) (t h : Fin 4) (d : Fin 128) :
    ((dats m 0 c).arrAt 7 cfg0.N : FVec Ideal S512x512 .bf16) (ix2 (nrow n t) (col h d)) = oRes (qA m c) (fA m c) (vA m c) (gA m c) (lA m c) (wA m c) (sA m c) n t h d := by
  obtain ⟨p, s, rfl⟩ := pt_of n
  have e := congrFun (Cert.HgSampleIdeal.Value.blocks7 m c p (flush0_7 p)) (ix2 (row s t) (col h d) : S32x512.Idx)
  rw [Cert.HgSampleIdeal.Value.flushed7] at e
  have e1 : ((dats m 0 c).arrAt 7 cfg0.N : FVec Ideal S512x512 .bf16) (((cfg0.win 7).blk p).view.emb (ix2 (row s t) (col h d) : S32x512.Idx))
    = out0_7 (iblk m c 0 p) (iblk m c 1 p) (iblk m c 2 p) (iblk m c 3 p) (iblk m c 4 p) (iblk m c 5 p) (iblk m c 6 p) (ix2 (row s t) (col h d)) := e
  rw [emb7, grow_row] at e1
  rw [e1, out7_apply]
  simp only [rd0, rd1, rd2, rd3, rd4, rd5, rd6]
  rfl

/-- The state array after the run. -/
theorem s_apply (c : Dev nD) (n : Fin 128) (h : Fin 4) (d e : Fin 128) :
    ((dats m 0 c).arrAt 8 cfg0.N : FVec Ideal S128x4x128x128 .f32) (ix4 n h d e) = sRes (fA m c) (vA m c) (lA m c) (sA m c) n h d e := by
  obtain ⟨p, s, rfl⟩ := pt_of n
  have e0 := congrFun (Cert.HgSampleIdeal.Value.blocks8 m c p (flush0_8 p)) (ix4 s h d e : S8x4x128x128.Idx)
  rw [Cert.HgSampleIdeal.Value.flushed8] at e0
  have e1 : ((dats m 0 c).arrAt 8 cfg0.N : FVec Ideal S128x4x128x128 .f32) (((cfg0.win 8).blk p).view.emb (ix4 s h d e : S8x4x128x128.Idx))
    = out0_8 (iblk m c 0 p) (iblk m c 1 p) (iblk m c 2 p) (iblk m c 3 p) (iblk m c 4 p) (iblk m c 5 p) (iblk m c 6 p) (ix4 s h d e) := e0
  rw [emb8] at e1
  rw [e1, out8_apply']
  simp only [rd1, rd2, rd4, rd6]
  rfl

end Cert.HgS
-- ==== Proof.HgS.Cumsum.lean ====
module

public import proofs.«01_k».proof.Proof.HgS.Spec
public import proofs.«01_k».proof.Proof.Gen.HgSampleRefIdeal.Read

@[expose] public section

set_option maxRecDepth 16384

noncomputable section

namespace Cert.HgS

open Cert.HgSampleRefIdeal Cert.HgSampleRefIdeal.Gen Idealize.ShloMosaic Cert.HgSpec

/-- The window of four tokens. -/
abbrev W4 : Shape := ⟨4, ![1, 4, 1, 1]⟩

/-- Where position `n` of the window lies. -/
theorem w4_symm : ∀ (n : Fin W4.numel) (a : Fin 4), (W4.rowMajor.symm n a).val = (![0, n.val, 0, 0] : Fin 4 → ℕ) a := by decide +kernel

/-- The reference's running sum over the tokens of a sequence, read at an index. -/
theorem cum_apply (x : FVec Ideal S128x4x4x128 .f32) (z : FVec Ideal S_ .f32) (hz : ∀ i, z i = 0)
    (hw : S128x4x4x128.ReduceWindows ![1, 4, 1, 1] ![1, 1, 1, 1] ![0, 3, 0, 0] ![0, 0, 0, 0] S128x4x4x128) (hu : 0 < S_.numel)
    (n : Fin 128) (t h : Fin 4) (d : Fin 128) :
    Host.reduceWindowAdd ![1, 4, 1, 1] ![1, 1, 1, 1] ![0, 3, 0, 0] ![0, 0, 0, 0] x z hw hu (ix4 n t h d) = csum (fun i => x (ix4 n i h d)) t := by
  have key : ∀ (k : Fin W4.numel) (I : Decidable (∀ a : Fin 4, (![0, 3, 0, 0] : Fin 4 → ℕ) a ≤ ((ix4 n t h d : S128x4x4x128.Idx) a).val * (![1, 1, 1, 1] : Fin 4 → ℕ) a + (W4.rowMajor.symm k a).val
        ∧ ((ix4 n t h d : S128x4x4x128.Idx) a).val * (![1, 1, 1, 1] : Fin 4 → ℕ) a + (W4.rowMajor.symm k a).val - (![0, 3, 0, 0] : Fin 4 → ℕ) a < S128x4x4x128.size a)),
      @dite EReal _ I (fun hin => x (fun a => ⟨((ix4 n t h d : S128x4x4x128.Idx) a).val * (![1, 1, 1, 1] : Fin 4 → ℕ) a + (W4.rowMajor.symm k a).val - (![0, 3, 0, 0] : Fin 4 → ℕ) a, (hin a).2⟩)) (fun _ => 0)
      = if hk : 3 ≤ t.val + k.val then x (ix4 n ⟨t.val + k.val - 3, by have : k.val < 4 := k.isLt; omega⟩ h d) else 0 := by
    intro k I
    have hk4 : k.val < 4 := k.isLt
    by_cases hk : 3 ≤ t.val + k.val
    · rw [dif_pos hk, dif_pos]
      · refine congrArg x (funext fun a => Fin.ext ?_)
        show ((ix4 n t h d : S128x4x4x128.Idx) a).val * _ + (W4.rowMajor.symm k a).val - _ = _
        rw [w4_symm]
        fin_cases a <;> simp
      · intro a
        rw [w4_symm]
        fin_cases a <;> simp <;> omega
    · rw [dif_neg hk, dif_neg]
      intro hin
      have := (hin 1).1
      rw [w4_symm] at this
      simp at this
      omega
  have h0 : z (Shape.Idx.first hu) = 0 := hz _
  unfold Host.reduceWindowAdd
  rw [Ideal.hostReduceWindowAdd_def]
  unfold Ideal.hostReduceWindowAdd Host.reduceWindow
  refine Eq.trans (b := (List.finRange W4.numel).foldl (fun r k => r + if hk : 3 ≤ t.val + k.val then x (ix4 n ⟨t.val + k.val - 3, by have : k.val < 4 := k.isLt; omega⟩ h d) else 0) 0) ?_ ?_
  · dsimp only
    rw [h0]
    congr 1
    funext r k
    exact congrArg (r + ·) (key k _)
  have hl : List.finRange W4.numel = [⟨0, by decide⟩, ⟨1, by decide⟩, ⟨2, by decide⟩, ⟨3, by decide⟩] := by decide
  rw [hl]
  unfold csum
  simp only [List.foldl_cons, List.foldl_nil, zero_add, Fin.sum_univ_four]
  match t with
  | 0 => simp
  | 1 => simp
  | 2 => simp
  | 3 => simp

end Cert.HgS
-- ==== Proof.HgS.Ref.lean ====
module

public import proofs.«01_k».proof.Proof.HgS.Read
public import proofs.«01_k».proof.Proof.HgS.Cumsum

@[expose] public section

set_option maxRecDepth 16384

noncomputable section

namespace Cert.HgS

open Cert.HgSampleRefIdeal Cert.HgSampleRefIdeal.Gen Cert.HgSampleRefIdeal.Read Idealize.ShloMosaic Cert.HgSpec

/-- Splitting the columns into heads and channels. -/
theorem heads_apply (x : FVec Ideal S128x4x512 .f32) (n : Fin 128) (t h : Fin 4) (d : Fin 128) :
    shapeCast S128x4x4x128 x shapeCasts_S128x4x512_S128x4x4x128 (ix4 n t h d) = x (ix3 n t (col h d)) := by
  refine shapeCast_apply (s := S128x4x512) (t := S128x4x4x128) _ _ _ _ ?_
  rw [Shape.rowMajor_val_three, Shape.rowMajor_val_four]
  simp [col]; omega

/-- The carried state without its leading unit axis. -/
theorem state_apply (s0 : FVec Ideal S1x128x4x128x128 .f32) (n : Fin 128) (h : Fin 4) (d e : Fin 128) :
    val_main_v45 (F := Ideal) s0 (ix4 n h d e) = s0 (ix5 0 n h d e) := by
  unfold val_main_v45
  refine shapeCast_apply (s := S1x128x4x128x128) (t := S128x4x128x128) _ _ (ix4 n h d e) (ix5 0 n h d e) ?_
  rw [Shape.rowMajor_val_five, Shape.rowMajor_val_four]
  simp

/-- The reference's log gate. -/
theorem r28 (f : FVec Ideal S128x4x512 .f32) (l : FVec Ideal S2x512 .f32) (n : Fin 128) (t : Fin 4) (k : Fin 512) :
    val_main_v28 (F := Ideal) f l (ix3 n t k) = lf (f (ix3 n t k)) (val_main_v11 (F := Ideal) l (ix2 0 k)) := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_cst_2 val_main_cst_3 val_main_cst_4
  generalize val_main_v11 (F := Ideal) l = w
  pointwise
  rfl

/-- The reference's keys. -/
theorem r42 (f : FVec Ideal S128x4x512 .f32) (l : FVec Ideal S2x512 .f32) (n : Fin 128) (t h : Fin 4) (d : Fin 128) :
    val_main_v42 (F := Ideal) f l (ix4 n t h d) = kk (f (ix3 n t (col h d))) (val_main_v11 (F := Ideal) l (ix2 0 (col h d))) := by
  refine (heads_apply _ n t h d).trans ?_
  generalize col h d = k
  unfold val_main_v41 val_main_v40 val_main_v39 val_main_v38 val_main_v37 val_main_v36 val_main_v35 val_main_v34 val_main_v33 val_main_v32 val_main_v31 val_main_v30 val_main_v13 val_main_v12 val_main_cst_5 val_main_cst_6 val_main_cst_7
  generalize val_main_v11 (F := Ideal) l = w
  pointwise
  rfl

/-- The reference's running sum of log gates. -/
theorem r46 (f : FVec Ideal S128x4x512 .f32) (l : FVec Ideal S2x512 .f32) (n : Fin 128) (t h : Fin 4) (d : Fin 128) :
    val_main_v46 (F := Ideal) f l (ix4 n t h d) = csum (fun i => lf (f (ix3 n i (col h d))) (val_main_v11 (F := Ideal) l (ix2 0 (col h d)))) t := by
  unfold val_main_v46
  rw [cum_apply]
  · congr 1
    funext i
    exact (heads_apply _ n i h d).trans (r28 f l n i _)
  · intro i
    rw [val_main_call1_call0_v0_apply, val_main_call1_call0_cst_apply]
    simp [Ideal.ofBits, Ideal.ieee]

/-- The causal mask. -/
theorem r48 (t s : Fin 4) : val_main_v48 (F := Ideal) (ix2 t s) = if s ≤ t then 1#1 else 0#1 := by
  revert t s
  decide +kernel

/-- The reference's scores, element by element. -/
theorem r64 (q f : FVec Ideal S128x4x512 .f32) (l : FVec Ideal S2x512 .f32) (n : Fin 128) (h t s : Fin 4) :
    val_main_v64 (F := Ideal) q f l (ix4 n h t s) = ∑ j : Fin 128, val_main_v43 (F := Ideal) q (ix4 n t h j) * val_main_v42 (F := Ideal) f l (ix4 n s h j)
      * Ideal.exp (if s ≤ t then val_main_v46 (F := Ideal) f l (ix4 n t h j) - val_main_v46 (F := Ideal) f l (ix4 n s h j) else ⊥) := by
  unfold val_main_v64 val_main_v63 val_main_v62 val_main_v61 val_main_v60 val_main_v59 val_main_v58 val_main_v57 val_main_v56 val_main_v55 val_main_v54 val_main_v53 val_main_v52 val_main_v51 val_main_v50 val_main_call3_v2 val_main_call3_v1 val_main_call3_v0 val_main_v49 val_main_cst_8 val_main_cst_9
  generalize val_main_v46 (F := Ideal) f l = b
  generalize val_main_v42 (F := Ideal) f l = k
  generalize val_main_v43 (F := Ideal) q = q
  have e := r48 t s
  generalize val_main_v48 (F := Ideal) = w at e ⊢
  pointwise
  have hb : id (constant (F := Ideal) S_ FTy.f32 0xFF800000#32) ix0 = (⊥ : EReal) := by
    show Ideal.ofBits .f32 0xFF800000#32 = ⊥
    simp [Ideal.ofBits, Ideal.ieee]
  rw [e]
  refine Finset.sum_congr rfl fun x _ => ?_
  by_cases hs : s ≤ t
  · rw [if_pos hs, if_pos hs]; rfl
  · rw [if_neg hs, if_neg hs]
    exact congrArg (fun y => _ * Ideal.exp y) hb

/-- The reference's recurrence output, element by element. -/
theorem r71 (q f v : FVec Ideal S128x4x512 .f32) (l : FVec Ideal S2x512 .f32) (s0 : FVec Ideal S1x128x4x128x128 .f32) (n : Fin 128) (t h : Fin 4) (c : Fin 128) :
    val_main_v71 (F := Ideal) q f v l s0 (ix4 n t h c) =
      (∑ j : Fin 128, val_main_v45 (F := Ideal) s0 (ix4 n h j c) * (val_main_v43 (F := Ideal) q (ix4 n t h j) * Ideal.exp (val_main_v46 (F := Ideal) f l (ix4 n t h j))))
       + ∑ s : Fin 4, val_main_v44 (F := Ideal) v (ix4 n s h c) * val_main_v64 (F := Ideal) q f l (ix4 n h t s) := by
  unfold val_main_v71 val_main_v70 val_main_v69 val_main_v68 val_main_v67 val_main_v66 val_main_v65
  generalize val_main_v46 (F := Ideal) f l = b
  generalize val_main_v43 (F := Ideal) q = q
  generalize val_main_v44 (F := Ideal) v = v
  generalize val_main_v45 (F := Ideal) s0 = s0
  generalize val_main_v64 (F := Ideal) _ f l = p
  pointwise

/-- The reference's new state, element by element. -/
theorem r83 (f v : FVec Ideal S128x4x512 .f32) (l : FVec Ideal S2x512 .f32) (s0 : FVec Ideal S1x128x4x128x128 .f32) (n : Fin 128) (h : Fin 4) (d c : Fin 128) :
    val_main_v83 (F := Ideal) f v l s0 (ix4 n h d c) =
      Ideal.exp (val_main_v46 (F := Ideal) f l (ix4 n 3 h d)) * val_main_v45 (F := Ideal) s0 (ix4 n h d c)
       + ∑ s : Fin 4, (val_main_v42 (F := Ideal) f l (ix4 n s h d) * Ideal.exp (val_main_v46 (F := Ideal) f l (ix4 n 3 h d) - val_main_v46 (F := Ideal) f l (ix4 n s h d))) * val_main_v44 (F := Ideal) v (ix4 n s h c) := by
  unfold val_main_v83 val_main_v82 val_main_v81 val_main_v80 val_main_v79 val_main_v78 val_main_v77 val_main_v76 val_main_v75 val_main_v74 val_main_v73 val_main_v72
  generalize val_main_v46 (F := Ideal) f l = b
  generalize val_main_v42 (F := Ideal) f l = k
  generalize val_main_v44 (F := Ideal) v = v
  generalize val_main_v45 (F := Ideal) s0 = s0
  pointwise

/-- The reference's normed and gated output, element by element. -/
theorem r100 (q f v g : FVec Ideal S128x4x512 .f32) (l : FVec Ideal S2x512 .f32) (w : FVec Ideal S1x128 .f32) (s0 : FVec Ideal S1x128x4x128x128 .f32) (n : Fin 128) (t h : Fin 4) (c : Fin 128) :
    val_main_v100 (F := Ideal) q f v g l w s0 (ix4 n t h c) =
      outp (fun j => val_main_v71 (F := Ideal) q f v l s0 (ix4 n t h j)) (w (ix2 0 c)) (val_main_v98 (F := Ideal) g (ix4 n t h c)) c := by
  unfold val_main_v100 val_main_v99 val_main_v97 val_main_v96 val_main_v95 val_main_v94 val_main_v93 val_main_v92 val_main_v91 val_main_v90 val_main_v89 val_main_v88 val_main_v87 val_main_v86 val_main_v85 val_main_v84 val_main_cst_10 val_main_cst_11 val_main_cst_12 val_main_call4_v5 val_main_call4_v4 val_main_call4_v3 val_main_call4_v2 val_main_call4_v1 val_main_call4_v0 val_main_call4_cst val_main_call4_cst_0
  generalize val_main_v71 (F := Ideal) q f v l s0 = o
  generalize val_main_v98 (F := Ideal) g = g
  pointwise
  rfl

/-- The reference's first result read at an index. -/
theorem ref_o (q f v g : FVec Ideal S128x4x512 .f32) (l : FVec Ideal S2x512 .f32) (w : FVec Ideal S1x128 .f32) (s0 : FVec Ideal S1x128x4x128x128 .f32) (n : Fin 128) (t h : Fin 4) (c : Fin 128) :
    val_main_v102 (F := Ideal) q f v g l w s0 (ix2 ⟨4 * n.val + t.val, by omega⟩ (col h c)) =
      oRes (fun n t h d => q (ix3 n t (col h d))) (fun n t h d => f (ix3 n t (col h d))) (fun n t h d => v (ix3 n t (col h d))) (fun n t h d => g (ix3 n t (col h d)))
        (fun h d => val_main_v11 (F := Ideal) l (ix2 0 (col h d))) (fun d => w (ix2 0 d)) (fun n h d e => s0 (ix5 0 n h d e)) n t h c := by
  have e : val_main_v102 (F := Ideal) q f v g l w s0 (ix2 ⟨4 * n.val + t.val, by omega⟩ (col h c)) = val_main_v100 (F := Ideal) q f v g l w s0 (ix4 n t h c) := by
    unfold val_main_v102 val_main_v101
    rw [ValueIdx.truncf_apply]
    refine shapeCast_apply (s := S128x4x4x128) (t := S512x512) _ _ _ _ ?_
    rw [Shape.rowMajor_val_four, Shape.rowMajor_val_two]
    simp [col]; omega
  have eq : ∀ n t h d, val_main_v43 (F := Ideal) q (ix4 n t h d) = q (ix3 n t (col h d)) := heads_apply q
  have ev : ∀ n t h d, val_main_v44 (F := Ideal) v (ix4 n t h d) = v (ix3 n t (col h d)) := heads_apply v
  have eg : ∀ n t h d, val_main_v98 (F := Ideal) g (ix4 n t h d) = g (ix3 n t (col h d)) := heads_apply g
  have es := fun n h d e => state_apply s0 n h d e
  rw [e, r100]
  simp only [r71, r64, eq, ev, eg, es, r42, r46]
  unfold oRes inter intra
  congr 1
  funext j
  congr 1
  · exact Finset.sum_congr rfl fun d _ => mul_comm _ _
  · refine Finset.sum_congr rfl fun s _ => ?_
    rw [mul_comm]
    by_cases hs : s ≤ t
    · simp only [if_pos hs]
    · simp only [if_neg hs, exp_bot, mul_zero, Finset.sum_const_zero, zero_mul]

/-- The reference's new state read at an index. -/
theorem ref_s (f v : FVec Ideal S128x4x512 .f32) (l : FVec Ideal S2x512 .f32) (s0 : FVec Ideal S1x128x4x128x128 .f32) (n : Fin 128) (h : Fin 4) (d c : Fin 128) :
    val_main_v83 (F := Ideal) f v l s0 (ix4 n h d c) =
      sRes (fun n t h d => f (ix3 n t (col h d))) (fun n t h d => v (ix3 n t (col h d)))
        (fun h d => val_main_v11 (F := Ideal) l (ix2 0 (col h d))) (fun n h d e => s0 (ix5 0 n h d e)) n h d c := by
  have ev : ∀ n t h d, val_main_v44 (F := Ideal) v (ix4 n t h d) = v (ix3 n t (col h d)) := heads_apply v
  rw [r83, state_apply]
  simp only [ev, r42, r46]
  rfl

end Cert.HgS
-- ==== Proof.HgS.Claims.lean ====
module

public import proofs.«01_k».proof.Defs
public import proofs.«01_k».proof.Proof.HgS.Array
public import proofs.«01_k».proof.Proof.HgS.Ref
public import proofs.«01_k».proof.Proof.Gen.HgSample
public import proofs.«01_k».proof.Proof.Gen.HgSample.Frame
public import proofs.«01_k».proof.Proof.Gen.HgSampleIdeal.Frame
public import proofs.«01_k».proof.Proof.Gen.HgSampleIdeal.Value
public import proofs.«01_k».proof.Proof.Gen.HgSampleRefIdeal.Run
public import Idealize.ShloMosaic.Adequacy
public import Idealize.ShloMosaic.Init

@[expose] public section

set_option maxRecDepth 16384

noncomputable section

namespace Cert.HgS

open Idealize.ShloMosaic Idealize.SL.Sem Cert.HgSpec

/-- The kernel as printed runs, keeps its arguments and leaves every counter at zero. -/
theorem frame_k : Cert.quiescent_HgSample := fun m ρ _ => Cert.HgSample.Gen.frame m ρ

/-- So does the kernel read over the reals. -/
theorem frame_i : Cert.quiescent_HgSampleIdeal := fun m ρ _ => Cert.HgSampleIdeal.Gen.frame m ρ

/-- So does the reference, which declares no semaphore. -/
theorem frame_r : Cert.quiescent_HgSampleRefIdeal := fun m ρ _ =>
  (θ_run Cert.HgSampleRefIdeal.defs _ _).mono (fun r h => ⟨fun c => (h c).2.2, sem_eq_zero_of_no_sems (by decide) r.2⟩)
    (Cert.HgSampleRefIdeal.Value.run (F := Ideal) m ρ)

/-- Every row is a token of a sample. -/
theorem row_of (r : Fin 512) : ∃ (n : Fin 128) (t : Fin 4), r = nrow n t :=
  ⟨⟨r.val / 4, by omega⟩, ⟨r.val % 4, by omega⟩, Fin.ext (by show r.val = 4 * (r.val / 4) + r.val % 4; omega)⟩

/-- Every column is a channel of a head. -/
theorem col_of (k : Fin 512) : ∃ (h : Fin 4) (d : Fin 128), k = col h d :=
  ⟨⟨k.val / 128, by omega⟩, ⟨k.val % 128, by omega⟩, Fin.ext (by show k.val = 128 * (k.val / 128) + k.val % 128; omega)⟩

/-- The two outputs agree at every index. -/
theorem o_eq (m : (ℓ : Loc Cert.HgSampleIdeal.nD Cert.HgSampleIdeal.τ Cert.HgSampleIdeal.sig) → Buf (Elt Ideal) ℓ) (c : Dev Cert.HgSampleIdeal.nD) :
    Cert.HgSampleRefIdeal.Read.val_main_v102 (F := Ideal) (m ((c.tc : Thread Cert.HgSampleIdeal.nD Cert.HgSampleIdeal.τ).loc Cert.HgSampleIdeal.main_arg0))
      (m ((c.tc : Thread Cert.HgSampleIdeal.nD Cert.HgSampleIdeal.τ).loc Cert.HgSampleIdeal.main_arg1)) (m ((c.tc : Thread Cert.HgSampleIdeal.nD Cert.HgSampleIdeal.τ).loc Cert.HgSampleIdeal.main_arg2))
      (m ((c.tc : Thread Cert.HgSampleIdeal.nD Cert.HgSampleIdeal.τ).loc Cert.HgSampleIdeal.main_arg3)) (m ((c.tc : Thread Cert.HgSampleIdeal.nD Cert.HgSampleIdeal.τ).loc Cert.HgSampleIdeal.main_arg4))
      (m ((c.tc : Thread Cert.HgSampleIdeal.nD Cert.HgSampleIdeal.τ).loc Cert.HgSampleIdeal.main_arg5)) (m ((c.tc : Thread Cert.HgSampleIdeal.nD Cert.HgSampleIdeal.τ).loc Cert.HgSampleIdeal.main_arg6))
      = (Cert.HgSampleIdeal.Gen.dats m 0 c).arrAt 7 Cert.HgSampleIdeal.cfg0.N := by
  funext i
  obtain ⟨r, k, rfl⟩ : ∃ (r k : Fin 512), i = ix2 r k := ⟨i 0, i 1, by funext a; match a with | ⟨0, _⟩ => rfl | ⟨1, _⟩ => rfl⟩
  obtain ⟨n, t, rfl⟩ := row_of r
  obtain ⟨h, d, rfl⟩ := col_of k
  exact (ref_o _ _ _ _ _ _ _ n t h d).trans (o_apply m c n t h d).symm

/-- The two new states agree at every index. -/
theorem s_eq (m : (ℓ : Loc Cert.HgSampleIdeal.nD Cert.HgSampleIdeal.τ Cert.HgSampleIdeal.sig) → Buf (Elt Ideal) ℓ) (c : Dev Cert.HgSampleIdeal.nD) :
    Cert.HgSampleRefIdeal.Read.val_main_v83 (F := Ideal)
      (m ((c.tc : Thread Cert.HgSampleIdeal.nD Cert.HgSampleIdeal.τ).loc Cert.HgSampleIdeal.main_arg1)) (m ((c.tc : Thread Cert.HgSampleIdeal.nD Cert.HgSampleIdeal.τ).loc Cert.HgSampleIdeal.main_arg2))
      (m ((c.tc : Thread Cert.HgSampleIdeal.nD Cert.HgSampleIdeal.τ).loc Cert.HgSampleIdeal.main_arg4)) (m ((c.tc : Thread Cert.HgSampleIdeal.nD Cert.HgSampleIdeal.τ).loc Cert.HgSampleIdeal.main_arg6))
      = (Cert.HgSampleIdeal.Gen.dats m 0 c).arrAt 8 Cert.HgSampleIdeal.cfg0.N := by
  funext i
  obtain ⟨n, h, d, e, rfl⟩ : ∃ (n : Fin 128) (h : Fin 4) (d e : Fin 128), i = ix4 n h d e :=
    ⟨i 0, i 1, i 2, i 3, by funext a; match a with | ⟨0, _⟩ => rfl | ⟨1, _⟩ => rfl | ⟨2, _⟩ => rfl | ⟨3, _⟩ => rfl⟩
  exact (ref_s _ _ _ _ n h d e).trans (s_apply m c n h d e).symm

/-- Over the reals the kernel and the reference end with equal outputs and equal new states. -/
theorem algebraic : Cert.algebraic_HgSampleIdeal_HgSampleRefIdeal := by
  intro m ρ m' ρ' _ hagree
  refine ⟨fun c => (Cert.HgSampleIdeal.Gen.dats m 0 c).arrAt 7 Cert.HgSampleIdeal.cfg0.N, fun c => (Cert.HgSampleIdeal.Gen.dats m 0 c).arrAt 8 Cert.HgSampleIdeal.cfg0.N, ?_, ?_⟩
  · exact Cert.HgSampleIdeal.Value.run_blocks m ρ
  · refine (θ_run Cert.HgSampleRefIdeal.defs _ _).mono (fun r h c => ⟨(h c).1.trans ?_, (h c).2.1.trans ?_, (h c).2.2⟩)
      (Cert.HgSampleRefIdeal.Value.run (F := Ideal) m' ρ')
    · obtain ⟨h0, h1, h2, h3, h4, h5, h6⟩ := hagree c
      refine (Cert.HgSampleRefIdeal.Read.val_main_v102_eq m' c).trans ?_
      rw [h0, h1, h2, h3, h4, h5, h6]
      exact o_eq m c
    · obtain ⟨h0, h1, h2, h3, h4, h5, h6⟩ := hagree c
      refine (Cert.HgSampleRefIdeal.Read.val_main_v83_eq m' c).trans ?_
      rw [h1, h2, h4, h6]
      exact s_eq m c

end Cert.HgS
-- ==== Proof.Row.Spec.lean ====
module

public import Idealize.ShloMosaic.PureOps.Ideal.Laws
public import Idealize.ShloMosaic.Lib.Pointwise
public import Idealize.ShloMosaic.Lib.Pipeline.Value

@[expose] public section

noncomputable section

namespace Cert.RowSpec

open Idealize.ShloMosaic

/-- One row of the root-mean-square norm over 1024 features, with its gain. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The logistic function. -/
def sig (x : EReal) : EReal := Ideal.div 1 (1 + Ideal.exp (-x))

/-- The square of the positive part. -/
def act (x : EReal) : EReal := max x 0 * max x 0

/-- A row times a matrix. -/
def rowmul {n p : ℕ} (x : Fin n → EReal) (w : Fin n → Fin p → EReal) (k : Fin p) : EReal := ∑ j : Fin n, x j * w j k

/-- One row of the channel mixer: the squared positive part of the first product, times the second matrix. -/
def ffn (x : Fin 1024 → EReal) (wu : Fin 1024 → Fin 4096 → EReal) (wd : Fin 4096 → Fin 1024 → EReal) (k : Fin 1024) : EReal :=
  ∑ f : Fin 4096, act (rowmul x wu f) * wd f k

/-- One row after the channel mixer: the row plus the normed mixer's result of the normed row. -/
def afterFfn (h g1 g2 : Fin 1024 → EReal) (wu : Fin 1024 → Fin 4096 → EReal) (wd : Fin 4096 → Fin 1024 → EReal) (k : Fin 1024) : EReal :=
  h k + rms (ffn (rms h g1) wu wd) g2 k

/-- One row after the gated per-layer embedding `p`. -/
def afterPle (h g3 : Fin 1024 → EReal) (p : Fin 256 → EReal) (wg : Fin 1024 → Fin 1024 → EReal) (wp : Fin 256 → Fin 1024 → EReal) (k : Fin 1024) : EReal :=
  h k + sig (rowmul (rms h g3) wg k) * rowmul p wp k

/-- One row of the merge of two branches, gated, projected, normed and added to `x`. -/
def merged (on oh : Fin 512 → EReal) (ga gb x : Fin 1024 → EReal) (wn wh : Fin 512 → Fin 1024 → EReal) (wo : Fin 1024 → Fin 1024 → EReal)
    (g : Fin 1024 → EReal) (k : Fin 1024) : EReal :=
  x k + rms (rowmul (fun j => sig (ga j) * rowmul on wn j + sig (gb j) * rowmul oh wh j) wo) g k

/-- Column `j` of chunk `c` of the 4096 hidden features. -/
def chunk (c : Fin 8) (j : Fin 512) : Fin 4096 := ⟨512 * c.val + j.val, by omega⟩

/-- The part of the channel mixer's row that one chunk of hidden features gives. -/
def ffnPart (x : Fin 1024 → EReal) (wu : Fin 1024 → Fin 4096 → EReal) (wd : Fin 4096 → Fin 1024 → EReal) (k : Fin 1024) (c : Fin 8) : EReal :=
  ∑ j : Fin 512, act (rowmul x wu (chunk c j)) * wd (chunk c j) k

/-- A sum over the hidden features is the sum over the chunks. -/
theorem sum_chunk (f : Fin 4096 → EReal) : ∑ i, f i = ∑ c : Fin 8, ∑ j : Fin 512, f (chunk c j) := by
  rw [← Fintype.sum_prod_type']
  refine (Fintype.sum_equiv (finProdFinEquiv (m := 8) (n := 512)) _ _ ?_).symm
  rintro ⟨c, j⟩
  refine congrArg f (Fin.ext ?_)
  show 512 * c.val + j.val = j.val + 512 * c.val
  omega

/-- The channel mixer's row, chunk after chunk. -/
theorem ffn_chunks (x : Fin 1024 → EReal) (wu : Fin 1024 → Fin 4096 → EReal) (wd : Fin 4096 → Fin 1024 → EReal) (k : Fin 1024) :
    ffn x wu wd k = ffnPart x wu wd k 0 + ffnPart x wu wd k 1 + ffnPart x wu wd k 2 + ffnPart x wu wd k 3 + ffnPart x wu wd k 4
      + ffnPart x wu wd k 5 + ffnPart x wu wd k 6 + ffnPart x wu wd k 7 := by
  unfold ffn
  rw [sum_chunk, Fin.sum_univ_eight]
  rfl

end Cert.RowSpec

end
-- ==== Proof.Mlp.Block.lean ====
module

public import proofs.«01_k».proof.Proof.Row.Spec
public import proofs.«01_k».proof.Proof.Gen.MlpIdeal.Value

@[expose] public section

set_option maxRecDepth 16384

noncomputable section

namespace Cert.Mlp

open Cert.MlpIdeal Cert.MlpIdeal.Gen Idealize.ShloMosaic Idealize.ShloMosaic.TcCoe Cert.RowSpec

/-- The block's first norm, element by element. -/
theorem pay2_apply (v0 : Vec Ideal S1024x1024 .f32) (v2 : Vec Ideal S1x1024 .f32) (r k : Fin 1024) :
    k0_pay2 v0 v2 (ix2 r k) = rms (fun j => v0 (ix2 r j)) (fun j => v2 (ix2 0 j)) k := by
  unfold k0_pay2 k0_pay1
  pointwise
  rfl

/-- A chunk's part of the channel mixer, as the block computes it. -/
def part (xn : FVec Ideal S1024x1024 .bf16) (u : Vec Ideal S1024x512 .bf16) (d : Vec Ideal S512x1024 .bf16) (r k : Fin 1024) : EReal :=
  ∑ j : Fin 512, act (∑ i : Fin 1024, xn (ix2 r i) * u (ix2 i j)) * d (ix2 j k)

/-- The first chunk. -/
theorem pay3_apply (v0 : Vec Ideal S1024x1024 .f32) (v2 : Vec Ideal S1x1024 .f32) (u : Vec Ideal S1024x512 .bf16) (d : Vec Ideal S512x1024 .bf16) (r k : Fin 1024) :
    k0_pay3 v0 v2 u d (ix2 r k) = part (k0_pay2 v0 v2) u d r k := by
  unfold k0_pay3 part
  generalize k0_pay2 v0 v2 = xn
  pointwise
  rfl

/-- The second to fifth chunk, added to the first. -/
theorem pay6_apply (v0 : Vec Ideal S1024x1024 .f32) (v2 : Vec Ideal S1x1024 .f32) (a : FVec Ideal S1024x1024 .f32)
    (u1 u2 u3 u4 : Vec Ideal S1024x512 .bf16) (d1 d2 d3 d4 : Vec Ideal S512x1024 .bf16) (r k : Fin 1024) :
    k0_pay6 (k0_pay2 v0 v2) a (k0_pay4 v0 v2 u1) (k0_pay5 d1) u2 d2 u3 d3 u4 d4 (ix2 r k)
      = a (ix2 r k) + part (k0_pay2 v0 v2) u1 d1 r k + part (k0_pay2 v0 v2) u2 d2 r k + part (k0_pay2 v0 v2) u3 d3 r k + part (k0_pay2 v0 v2) u4 d4 r k := by
  unfold k0_pay6 k0_pay4 k0_pay5 part
  generalize k0_pay2 v0 v2 = xn
  pointwise
  rfl

/-- The last three chunks, added to the others. -/
theorem pay7_apply (xn : FVec Ideal S1024x1024 .bf16) (a : FVec Ideal S1024x1024 .f32)
    (u1 u2 u3 : Vec Ideal S1024x512 .bf16) (d1 d2 d3 : Vec Ideal S512x1024 .bf16) (r k : Fin 1024) :
    k0_pay7 xn a u1 d1 u2 d2 u3 d3 (ix2 r k)
      = a (ix2 r k) + part xn u1 d1 r k + part xn u2 d2 r k + part xn u3 d3 r k := by
  unfold k0_pay7 part
  pointwise
  rfl

/-- The two norms, the gate and the embedding after the channel mixer. -/
theorem pay10_apply (h : FVec Ideal S1024x1024 .f32) (xn : FVec Ideal S1024x1024 .bf16) (a : FVec Ideal S1024x1024 .f32)
    (u1 u2 u3 : Vec Ideal S1024x512 .bf16) (d1 d2 d3 : Vec Ideal S512x1024 .bf16)
    (g2 g3 : Vec Ideal S1x1024 .f32) (wg : Vec Ideal S1024x1024 .bf16) (p : Vec Ideal S1024x256 .f32) (wp : Vec Ideal S256x1024 .bf16) (r k : Fin 1024) :
    k0_pay10 (k0_pay1 h) (k0_pay7 xn a u1 d1 u2 d2 u3 d3) (k0_pay8 g2) (k0_pay9 xn a u1 d1 u2 d2 u3 d3) (Scalar.ofBits .f32 0x44800000#32) g3 wg p wp (ix2 r k)
      = afterPle (fun k => h (ix2 r k) + rms (fun j => k0_pay7 xn a u1 d1 u2 d2 u3 d3 (ix2 r j)) (fun j => g2 (ix2 0 j)) k)
          (fun j => g3 (ix2 0 j)) (fun j => p (ix2 r j)) (fun i j => wg (ix2 i j)) (fun i j => wp (ix2 i j)) k := by
  unfold k0_pay10 k0_pay9 k0_pay8 k0_pay1
  generalize k0_pay7 xn a u1 d1 u2 d2 u3 d3 = y
  pointwise
  simp only [zero_sub]
  rfl

end Cert.Mlp

end
-- ==== Proof.Mlp.Array.lean ====
module

public import proofs.«01_k».proof.Proof.Mlp.Block

@[expose] public section

set_option maxRecDepth 16384

noncomputable section

namespace Cert.Mlp

open Cert.MlpIdeal Cert.MlpIdeal.Gen Idealize.ShloMosaic Idealize.ShloMosaic.TcCoe Cert.RowSpec Idealize.ShloMosaic.StableHlo

/-! ## What one block writes -/

/-- A chunk of columns loaded from the first weight matrix. -/
theorem ldU (c : Fin 8) (inb : ∀ a, (![0, 512 * c.val] : Fin 2 → ℕ) a + S1024x512.size a ≤ S1024x4096.size a) (x : Vec Ideal S1024x4096 .bf16) (i : Fin 1024) (j : Fin 512) :
    View.ld x (Rect.unit (s := S1024x4096) ![0, 512 * c.val] S1024x512.size inb) (ix2 i j) = x (ix2 i (chunk c j)) := by
  refine congrArg x ?_
  funext a
  match a with
  | ⟨0, _⟩ => exact Fin.ext (by simp [Rect.emb, Rect.unit, ix2])
  | ⟨1, _⟩ => exact Fin.ext (by simp [Rect.emb, Rect.unit, ix2, chunk])

/-- A chunk of rows loaded from the second weight matrix. -/
theorem ldD (c : Fin 8) (inb : ∀ a, (![512 * c.val, 0] : Fin 2 → ℕ) a + S512x1024.size a ≤ S4096x1024.size a) (x : Vec Ideal S4096x1024 .bf16) (j : Fin 512) (k : Fin 1024) :
    View.ld x (Rect.unit (s := S4096x1024) ![512 * c.val, 0] S512x1024.size inb) (ix2 j k) = x (ix2 (chunk c j) k) := by
  refine congrArg x ?_
  funext a
  match a with
  | ⟨0, _⟩ => exact Fin.ext (by simp [Rect.emb, Rect.unit, ix2, chunk])
  | ⟨1, _⟩ => exact Fin.ext (by simp [Rect.emb, Rect.unit, ix2])

/-- A chunk's part of the channel mixer, from the two weight matrices. -/
theorem part_ld (c : Fin 8) (v0 : Vec Ideal S1024x1024 .f32) (v2 : Vec Ideal S1x1024 .f32) (x2 : Vec Ideal S1024x4096 .bf16) (x3 : Vec Ideal S4096x1024 .bf16)
    (inb : ∀ a, (![0, 512 * c.val] : Fin 2 → ℕ) a + S1024x512.size a ≤ S1024x4096.size a)
    (inb' : ∀ a, (![512 * c.val, 0] : Fin 2 → ℕ) a + S512x1024.size a ≤ S4096x1024.size a) (r k : Fin 1024) :
    part (k0_pay2 v0 v2) (View.ld x2 (Rect.unit (s := S1024x4096) ![0, 512 * c.val] S1024x512.size inb))
        (View.ld x3 (Rect.unit (s := S4096x1024) ![512 * c.val, 0] S512x1024.size inb')) r k
      = ffnPart (rms (fun j => v0 (ix2 r j)) (fun j => v2 (ix2 0 j))) (fun i j => x2 (ix2 i j)) (fun i j => x3 (ix2 i j)) k c := by
  unfold part ffnPart rowmul
  refine Finset.sum_congr rfl fun j _ => ?_
  rw [ldD]
  refine congrArg (fun y => act y * x3 (ix2 (chunk c j) k)) (Finset.sum_congr rfl fun i _ => ?_)
  rw [ldU, pay2_apply]

/-- What one block writes, element by element. -/
theorem out9_apply (x0 : Vec Ideal S1024x1024 .f32) (x1 : Vec Ideal S1024x256 .f32) (x2 : Vec Ideal S1024x4096 .bf16) (x3 : Vec Ideal S4096x1024 .bf16)
    (x4 : Vec Ideal S1024x1024 .bf16) (x5 : Vec Ideal S256x1024 .bf16) (x6 x7 x8 : Vec Ideal S1x1024 .f32) (r k : Fin 1024) :
    out0_9 x0 x1 x2 x3 x4 x5 x6 x7 x8 (ix2 r k)
      = afterPle (afterFfn (fun j => x0 (ix2 r j)) (fun j => x6 (ix2 0 j)) (fun j => x7 (ix2 0 j)) (fun i j => x2 (ix2 i j)) (fun i j => x3 (ix2 i j)))
          (fun j => x8 (ix2 0 j)) (fun j => x1 (ix2 r j)) (fun i j => x4 (ix2 i j)) (fun i j => x5 (ix2 i j)) k := by
  unfold out0_9
  rw [View.canon_unit_zero (S := S1024x1024) (by decide), pay10_apply]
  rw [View.ld_unit_zero (S := S1024x1024) (by decide), View.ld_unit_zero (S := S1x1024) (by decide), View.ld_unit_zero (S := S1x1024) (by decide),
    View.ld_unit_zero (S := S1024x1024) (by decide), View.ld_unit_zero (S := S1024x256) (by decide), View.ld_unit_zero (S := S256x1024) (by decide)]
  unfold afterFfn
  congr 1
  funext k
  congr 2
  funext j
  rw [pay7_apply]
  unfold k0_pay12 k0_pay11
  rw [pay6_apply, pay3_apply, ffn_chunks]
  rw [View.ld_unit_zero (S := S1024x1024) (by decide), View.ld_unit_zero (S := S1x1024) (by decide)]
  rw [← part_ld 0 x0 x6 x2 x3 inb_S1024x4096_S1024x512_0_0 inb_S4096x1024_S512x1024_0_0,
    ← part_ld 1 x0 x6 x2 x3 inb_S1024x4096_S1024x512_0_512 inb_S4096x1024_S512x1024_512_0,
    ← part_ld 2 x0 x6 x2 x3 inb_S1024x4096_S1024x512_0_1024 inb_S4096x1024_S512x1024_1024_0,
    ← part_ld 3 x0 x6 x2 x3 inb_S1024x4096_S1024x512_0_1536 inb_S4096x1024_S512x1024_1536_0,
    ← part_ld 4 x0 x6 x2 x3 inb_S1024x4096_S1024x512_0_2048 inb_S4096x1024_S512x1024_2048_0,
    ← part_ld 5 x0 x6 x2 x3 inb_S1024x4096_S1024x512_0_2560 inb_S4096x1024_S512x1024_2560_0,
    ← part_ld 6 x0 x6 x2 x3 inb_S1024x4096_S1024x512_0_3072 inb_S4096x1024_S512x1024_3072_0,
    ← part_ld 7 x0 x6 x2 x3 inb_S1024x4096_S1024x512_0_3584 inb_S4096x1024_S512x1024_3584_0]
  rfl

/-! ## The arrays that the region finds -/

/-- Position `s` of sequence `b`, among all rows. -/
def rowOf (b : Fin 8) (s : Fin 4096) : Fin 32768 := ⟨4096 * b.val + s.val, by omega⟩

variable (m : (ℓ : Loc nD τ sig) → Buf (Elt Ideal) ℓ)

/-- The region finds the activations as rows. -/
theorem V_h (c : Dev nD) : V m c main_v0 = shapeCast S32768x1024 (m ((c : Thread nD τ).loc main_arg0)) shapeCasts_S8x4096x1024_S32768x1024 := by
  simp only [V, hostOps0, List.flatten_cons, List.flatten_nil, List.append_nil, List.cons_append, List.nil_append]
  after_results
  rfl

/-- The region finds the embeddings as rows. -/
theorem V_p (c : Dev nD) : V m c main_v2 = shapeCast S32768x256 (shapeCast S8x4096x256 (m ((c : Thread nD τ).loc main_arg1)) shapeCasts_S1x8x4096x256_S8x4096x256) shapeCasts_S8x4096x256_S32768x256 := by
  simp only [V, hostOps0, List.flatten_cons, List.flatten_nil, List.append_nil, List.cons_append, List.nil_append]
  after_results
  rfl

/-- The region finds the first weight matrix, cast. -/
theorem V_wu (c : Dev nD) : (V m c main_v4 : FVec Ideal S1024x4096 .bf16) = truncf (F := Ideal) .bf16 (shapeCast S1024x4096 (m ((c : Thread nD τ).loc main_arg3) : FVec Ideal S1x1024x4096 .f32) shapeCasts_S1x1024x4096_S1024x4096) bitsLt_bf16_f32 := by
  simp only [V, hostOps0, List.flatten_cons, List.flatten_nil, List.append_nil, List.cons_append, List.nil_append]
  after_results
  rfl

/-- The region finds the second weight matrix, cast. -/
theorem V_wd (c : Dev nD) : (V m c main_v6 : FVec Ideal S4096x1024 .bf16) = truncf (F := Ideal) .bf16 (shapeCast S4096x1024 (m ((c : Thread nD τ).loc main_arg4) : FVec Ideal S1x4096x1024 .f32) shapeCasts_S1x4096x1024_S4096x1024) bitsLt_bf16_f32 := by
  simp only [V, hostOps0, List.flatten_cons, List.flatten_nil, List.append_nil, List.cons_append, List.nil_append]
  after_results
  rfl

/-- The region finds the gate's weight matrix, cast. -/
theorem V_wg (c : Dev nD) : (V m c main_v8 : FVec Ideal S1024x1024 .bf16) = truncf (F := Ideal) .bf16 (shapeCast S1024x1024 (m ((c : Thread nD τ).loc main_arg7) : FVec Ideal S1x1024x1024 .f32) shapeCasts_S1x1024x1024_S1024x1024) bitsLt_bf16_f32 := by
  simp only [V, hostOps0, List.flatten_cons, List.flatten_nil, List.append_nil, List.cons_append, List.nil_append]
  after_results
  rfl

/-- The region finds the embedding's weight matrix, cast. -/
theorem V_wp (c : Dev nD) : (V m c main_v10 : FVec Ideal S256x1024 .bf16) = truncf (F := Ideal) .bf16 (shapeCast S256x1024 (m ((c : Thread nD τ).loc main_arg8) : FVec Ideal S1x256x1024 .f32) shapeCasts_S1x256x1024_S256x1024) bitsLt_bf16_f32 := by
  simp only [V, hostOps0, List.flatten_cons, List.flatten_nil, List.append_nil, List.cons_append, List.nil_append]
  after_results
  rfl

/-- The region finds the first norm's gain as one row. -/
theorem V_g1 (c : Dev nD) : V m c main_v12 = shapeCast S1x1024 (shapeCast S1024 (m ((c : Thread nD τ).loc main_arg2)) shapeCasts_S1x1024_S1024) shapeCasts_S1024_S1x1024 := by
  simp only [V, hostOps0, List.flatten_cons, List.flatten_nil, List.append_nil, List.cons_append, List.nil_append]
  after_results
  rfl

/-- The region finds the second norm's gain as one row. -/
theorem V_g2 (c : Dev nD) : V m c main_v14 = shapeCast S1x1024 (shapeCast S1024 (m ((c : Thread nD τ).loc main_arg5)) shapeCasts_S1x1024_S1024) shapeCasts_S1024_S1x1024 := by
  simp only [V, hostOps0, List.flatten_cons, List.flatten_nil, List.append_nil, List.cons_append, List.nil_append]
  after_results
  rfl

/-- The region finds the third norm's gain as one row. -/
theorem V_g3 (c : Dev nD) : V m c main_v16 = shapeCast S1x1024 (shapeCast S1024 (m ((c : Thread nD τ).loc main_arg6)) shapeCasts_S1x1024_S1024) shapeCasts_S1024_S1x1024 := by
  simp only [V, hostOps0, List.flatten_cons, List.flatten_nil, List.append_nil, List.cons_append, List.nil_append]
  after_results
  rfl

/-- The activations as rows, element by element. -/
theorem rows_apply (a : FVec Ideal S8x4096x1024 .f32) (b : Fin 8) (s : Fin 4096) (k : Fin 1024) :
    shapeCast S32768x1024 a shapeCasts_S8x4096x1024_S32768x1024 (ix2 (rowOf b s) k) = a (ix3 b s k) := by
  refine shapeCast_apply _ _ _ _ ?_
  rw [Shape.rowMajor_val_three, Shape.rowMajor_val_two]
  simp [rowOf]; omega

/-- The embeddings as rows, element by element. -/
theorem prows_apply (a : FVec Ideal S8x4096x256 .f32) (b : Fin 8) (s : Fin 4096) (k : Fin 256) :
    shapeCast S32768x256 a shapeCasts_S8x4096x256_S32768x256 (ix2 (rowOf b s) k) = a (ix3 b s k) := by
  refine shapeCast_apply _ _ _ _ ?_
  rw [Shape.rowMajor_val_three, Shape.rowMajor_val_two]
  simp [rowOf]; omega

/-- The first weight matrix, cast, element by element. -/
theorem wu_apply (a : FVec Ideal S1x1024x4096 .f32) (r : Fin 1024) (k : Fin 4096) :
    truncf (F := Ideal) .bf16 (shapeCast S1024x4096 a shapeCasts_S1x1024x4096_S1024x4096) bitsLt_bf16_f32 (ix2 r k) = a (ix3 0 r k) := by
  show shapeCast S1024x4096 a shapeCasts_S1x1024x4096_S1024x4096 (ix2 r k) = _
  refine shapeCast_apply _ _ _ _ ?_
  rw [Shape.rowMajor_val_three, Shape.rowMajor_val_two]
  simp

/-- The second weight matrix, cast, element by element. -/
theorem wd_apply (a : FVec Ideal S1x4096x1024 .f32) (r : Fin 4096) (k : Fin 1024) :
    truncf (F := Ideal) .bf16 (shapeCast S4096x1024 a shapeCasts_S1x4096x1024_S4096x1024) bitsLt_bf16_f32 (ix2 r k) = a (ix3 0 r k) := by
  show shapeCast S4096x1024 a shapeCasts_S1x4096x1024_S4096x1024 (ix2 r k) = _
  refine shapeCast_apply _ _ _ _ ?_
  rw [Shape.rowMajor_val_three, Shape.rowMajor_val_two]
  simp

/-- The gate's weight matrix, cast, element by element. -/
theorem wg_apply (a : FVec Ideal S1x1024x1024 .f32) (r : Fin 1024) (k : Fin 1024) :
    truncf (F := Ideal) .bf16 (shapeCast S1024x1024 a shapeCasts_S1x1024x1024_S1024x1024) bitsLt_bf16_f32 (ix2 r k) = a (ix3 0 r k) := by
  show shapeCast S1024x1024 a shapeCasts_S1x1024x1024_S1024x1024 (ix2 r k) = _
  refine shapeCast_apply _ _ _ _ ?_
  rw [Shape.rowMajor_val_three, Shape.rowMajor_val_two]
  simp

/-- The embedding's weight matrix, cast, element by element. -/
theorem wp_apply (a : FVec Ideal S1x256x1024 .f32) (r : Fin 256) (k : Fin 1024) :
    truncf (F := Ideal) .bf16 (shapeCast S256x1024 a shapeCasts_S1x256x1024_S256x1024) bitsLt_bf16_f32 (ix2 r k) = a (ix3 0 r k) := by
  show shapeCast S256x1024 a shapeCasts_S1x256x1024_S256x1024 (ix2 r k) = _
  refine shapeCast_apply _ _ _ _ ?_
  rw [Shape.rowMajor_val_three, Shape.rowMajor_val_two]
  simp

/-- The embeddings without their leading axis, element by element. -/
theorem p_apply (a : FVec Ideal S1x8x4096x256 .f32) (b : Fin 8) (s : Fin 4096) (k : Fin 256) :
    shapeCast S8x4096x256 a shapeCasts_S1x8x4096x256_S8x4096x256 (ix3 b s k) = a (ix4 0 b s k) := by
  refine shapeCast_apply _ _ _ _ ?_
  rw [Shape.rowMajor_val_four, Shape.rowMajor_val_three]
  simp

/-! ## The blocks -/

/-- There are 32 grid points. -/
theorem lt_pt (t : Fin cfg0.N) : t.val < 32 := lt_of_lt_of_eq t.isLt (by decide +kernel)

/-- Row `r` of point `t`'s block, among all rows. -/
def grow (t : Fin cfg0.N) (r : Fin 1024) : Fin 32768 := ⟨1024 * t.val + r.val, by have := lt_pt t; omega⟩

/-- The block of activations at a grid point. -/
theorem ixA : ∀ t : Fin cfg0.N, win0_0.index t = ![t.val, 0] := (by decide +kernel : ∀ t : Fin grid0.N, _)
/-- The block of embeddings at a grid point. -/
theorem ixB : ∀ t : Fin cfg0.N, win0_1.index t = ![t.val, 0] := (by decide +kernel : ∀ t : Fin grid0.N, _)
/-- The only block of the first weight matrix. -/
theorem ixC : ∀ t : Fin cfg0.N, win0_2.index t = ![0, 0] := (by decide +kernel : ∀ t : Fin grid0.N, _)
/-- The only block of the second weight matrix. -/
theorem ixD : ∀ t : Fin cfg0.N, win0_3.index t = ![0, 0] := (by decide +kernel : ∀ t : Fin grid0.N, _)
/-- The only block of the gate's weight matrix. -/
theorem ixE : ∀ t : Fin cfg0.N, win0_4.index t = ![0, 0] := (by decide +kernel : ∀ t : Fin grid0.N, _)
/-- The only block of the embedding's weight matrix. -/
theorem ixF : ∀ t : Fin cfg0.N, win0_5.index t = ![0, 0] := (by decide +kernel : ∀ t : Fin grid0.N, _)
/-- The only block of the first gain. -/
theorem ixG : ∀ t : Fin cfg0.N, win0_6.index t = ![0, 0] := (by decide +kernel : ∀ t : Fin grid0.N, _)
/-- The only block of the second gain. -/
theorem ixH : ∀ t : Fin cfg0.N, win0_7.index t = ![0, 0] := (by decide +kernel : ∀ t : Fin grid0.N, _)
/-- The only block of the third gain. -/
theorem ixI : ∀ t : Fin cfg0.N, win0_8.index t = ![0, 0] := (by decide +kernel : ∀ t : Fin grid0.N, _)
/-- The block of the result at a grid point. -/
theorem ixJ : ∀ t : Fin cfg0.N, win0_9.index t = ![t.val, 0] := (by decide +kernel : ∀ t : Fin grid0.N, _)

/-- The block of activations holds the rows of its grid point. -/
theorem rdA (c : Dev nD) (t : Fin cfg0.N) (r k : Fin 1024) : (iblk m c 0 t : FVec Ideal S1024x1024 .f32) (ix2 r k) = (V m c main_v0 : FVec Ideal S32768x1024 .f32) (ix2 (grow t r) k) := by
  refine congrArg (V m c main_v0 : FVec Ideal S32768x1024 .f32) ?_
  funext a
  refine Fin.ext ?_
  show win0_0.index t a * win0_0.size a + 1 * ((ix2 r k : S1024x1024.Idx) a).val = _
  rw [ixA t]
  fin_cases a <;> simp [win0_0, grow] <;> omega

/-- The block of embeddings holds the rows of its grid point. -/
theorem rdB (c : Dev nD) (t : Fin cfg0.N) (r : Fin 1024) (k : Fin 256) : (iblk m c 1 t : FVec Ideal S1024x256 .f32) (ix2 r k) = (V m c main_v2 : FVec Ideal S32768x256 .f32) (ix2 (grow t r) k) := by
  refine congrArg (V m c main_v2 : FVec Ideal S32768x256 .f32) ?_
  funext a
  refine Fin.ext ?_
  show win0_1.index t a * win0_1.size a + 1 * ((ix2 r k : S1024x256.Idx) a).val = _
  rw [ixB t]
  fin_cases a <;> simp [win0_1, grow] <;> omega

/-- The block of the first weight matrix is the matrix. -/
theorem rdC (c : Dev nD) (t : Fin cfg0.N) (r : Fin 1024) (k : Fin 4096) : (iblk m c 2 t : FVec Ideal S1024x4096 .bf16) (ix2 r k) = (m ((c : Thread nD τ).loc main_arg3) : FVec Ideal S1x1024x4096 .f32) (ix3 0 r k) := by
  refine (congrArg (V m c main_v4 : FVec Ideal S1024x4096 .bf16) (?_ : _ = ix2 r k)).trans ?_
  · funext a
    refine Fin.ext ?_
    show win0_2.index t a * win0_2.size a + 1 * ((ix2 r k : S1024x4096.Idx) a).val = _
    rw [ixC t]
    fin_cases a <;> simp [win0_2]
  · rw [V_wu]; exact wu_apply _ r k

/-- The block of the second weight matrix is the matrix. -/
theorem rdD (c : Dev nD) (t : Fin cfg0.N) (r : Fin 4096) (k : Fin 1024) : (iblk m c 3 t : FVec Ideal S4096x1024 .bf16) (ix2 r k) = (m ((c : Thread nD τ).loc main_arg4) : FVec Ideal S1x4096x1024 .f32) (ix3 0 r k) := by
  refine (congrArg (V m c main_v6 : FVec Ideal S4096x1024 .bf16) (?_ : _ = ix2 r k)).trans ?_
  · funext a
    refine Fin.ext ?_
    show win0_3.index t a * win0_3.size a + 1 * ((ix2 r k : S4096x1024.Idx) a).val = _
    rw [ixD t]
    fin_cases a <;> simp [win0_3]
  · rw [V_wd]; exact wd_apply _ r k

/-- The block of the gate's weight matrix is the matrix. -/
theorem rdE (c : Dev nD) (t : Fin cfg0.N) (r k : Fin 1024) : (iblk m c 4 t : FVec Ideal S1024x1024 .bf16) (ix2 r k) = (m ((c : Thread nD τ).loc main_arg7) : FVec Ideal S1x1024x1024 .f32) (ix3 0 r k) := by
  refine (congrArg (V m c main_v8 : FVec Ideal S1024x1024 .bf16) (?_ : _ = ix2 r k)).trans ?_
  · funext a
    refine Fin.ext ?_
    show win0_4.index t a * win0_4.size a + 1 * ((ix2 r k : S1024x1024.Idx) a).val = _
    rw [ixE t]
    fin_cases a <;> simp [win0_4]
  · rw [V_wg]; exact wg_apply _ r k

/-- The block of the embedding's weight matrix is the matrix. -/
theorem rdF (c : Dev nD) (t : Fin cfg0.N) (r : Fin 256) (k : Fin 1024) : (iblk m c 5 t : FVec Ideal S256x1024 .bf16) (ix2 r k) = (m ((c : Thread nD τ).loc main_arg8) : FVec Ideal S1x256x1024 .f32) (ix3 0 r k) := by
  refine (congrArg (V m c main_v10 : FVec Ideal S256x1024 .bf16) (?_ : _ = ix2 r k)).trans ?_
  · funext a
    refine Fin.ext ?_
    show win0_5.index t a * win0_5.size a + 1 * ((ix2 r k : S256x1024.Idx) a).val = _
    rw [ixF t]
    fin_cases a <;> simp [win0_5]
  · rw [V_wp]; exact wp_apply _ r k

/-- The block of the first gain is the gain. -/
theorem rdG (c : Dev nD) (t : Fin cfg0.N) (k : Fin 1024) : (iblk m c 6 t : FVec Ideal S1x1024 .f32) (ix2 0 k) = (m ((c : Thread nD τ).loc main_arg2) : FVec Ideal S1x1024 .f32) (ix2 0 k) := by
  refine (congrArg (V m c main_v12 : FVec Ideal S1x1024 .f32) (?_ : _ = ix2 0 k)).trans ?_
  · funext a
    refine Fin.ext ?_
    show win0_6.index t a * win0_6.size a + 1 * ((ix2 0 k : S1x1024.Idx) a).val = _
    rw [ixG t]
    fin_cases a <;> simp [win0_6]
  · rw [V_g1]; pointwise

/-- The block of the second gain is the gain. -/
theorem rdH (c : Dev nD) (t : Fin cfg0.N) (k : Fin 1024) : (iblk m c 7 t : FVec Ideal S1x1024 .f32) (ix2 0 k) = (m ((c : Thread nD τ).loc main_arg5) : FVec Ideal S1x1024 .f32) (ix2 0 k) := by
  refine (congrArg (V m c main_v14 : FVec Ideal S1x1024 .f32) (?_ : _ = ix2 0 k)).trans ?_
  · funext a
    refine Fin.ext ?_
    show win0_7.index t a * win0_7.size a + 1 * ((ix2 0 k : S1x1024.Idx) a).val = _
    rw [ixH t]
    fin_cases a <;> simp [win0_7]
  · rw [V_g2]; pointwise

/-- The block of the third gain is the gain. -/
theorem rdI (c : Dev nD) (t : Fin cfg0.N) (k : Fin 1024) : (iblk m c 8 t : FVec Ideal S1x1024 .f32) (ix2 0 k) = (m ((c : Thread nD τ).loc main_arg6) : FVec Ideal S1x1024 .f32) (ix2 0 k) := by
  refine (congrArg (V m c main_v16 : FVec Ideal S1x1024 .f32) (?_ : _ = ix2 0 k)).trans ?_
  · funext a
    refine Fin.ext ?_
    show win0_8.index t a * win0_8.size a + 1 * ((ix2 0 k : S1x1024.Idx) a).val = _
    rw [ixI t]
    fin_cases a <;> simp [win0_8]
  · rw [V_g3]; pointwise

/-- Where an element of the result's block lies in the result. -/
theorem embJ (t : Fin cfg0.N) (r k : Fin 1024) : (((cfg0.win 9).blk t).view.emb (ix2 r k : S1024x1024.Idx) : S32768x1024.Idx) = ix2 (grow t r) k := by
  funext a
  refine Fin.ext ?_
  show win0_9.index t a * win0_9.size a + 1 * ((ix2 r k : S1024x1024.Idx) a).val = _
  rw [ixJ t]
  fin_cases a <;> simp [win0_9, grow] <;> omega

/-- Each row lies in the block of one grid point. -/
theorem pt_of (R : Fin 32768) : ∃ (t : Fin cfg0.N) (r : Fin 1024), R = grow t r := by
  have hN : cfg0.N = 32 := by decide +kernel
  exact ⟨⟨R.val / 1024, by omega⟩, ⟨R.val % 1024, by omega⟩, Fin.ext (by show R.val = 1024 * (R.val / 1024) + R.val % 1024; omega)⟩

/-- A row of the block of activations. -/
theorem rowA (c : Dev nD) (t : Fin cfg0.N) (r : Fin 1024) (b : Fin 8) (s : Fin 4096) (hR : rowOf b s = grow t r) (k : Fin 1024) :
    (iblk m c 0 t : FVec Ideal S1024x1024 .f32) (ix2 r k) = (m ((c : Thread nD τ).loc main_arg0) : FVec Ideal S8x4096x1024 .f32) (ix3 b s k) := by
  rw [rdA, ← hR, V_h, rows_apply]

/-- A row of the block of embeddings. -/
theorem rowB (c : Dev nD) (t : Fin cfg0.N) (r : Fin 1024) (b : Fin 8) (s : Fin 4096) (hR : rowOf b s = grow t r) (k : Fin 256) :
    (iblk m c 1 t : FVec Ideal S1024x256 .f32) (ix2 r k) = (m ((c : Thread nD τ).loc main_arg1) : FVec Ideal S1x8x4096x256 .f32) (ix4 0 b s k) := by
  rw [rdB, ← hR, V_p, prows_apply]
  exact p_apply _ b s k

/-- The result array after the run, element by element. -/
theorem y_apply (c : Dev nD) (b : Fin 8) (s : Fin 4096) (k : Fin 1024) :
    ((dats m 0 c).arrAt 9 cfg0.N : FVec Ideal S32768x1024 .f32) (ix2 (rowOf b s) k)
      = afterPle (afterFfn (fun j => (m ((c : Thread nD τ).loc main_arg0) : FVec Ideal S8x4096x1024 .f32) (ix3 b s j))
            (fun j => (m ((c : Thread nD τ).loc main_arg2) : FVec Ideal S1x1024 .f32) (ix2 0 j)) (fun j => (m ((c : Thread nD τ).loc main_arg5) : FVec Ideal S1x1024 .f32) (ix2 0 j))
            (fun i j => (m ((c : Thread nD τ).loc main_arg3) : FVec Ideal S1x1024x4096 .f32) (ix3 0 i j)) (fun i j => (m ((c : Thread nD τ).loc main_arg4) : FVec Ideal S1x4096x1024 .f32) (ix3 0 i j)))
          (fun j => (m ((c : Thread nD τ).loc main_arg6) : FVec Ideal S1x1024 .f32) (ix2 0 j)) (fun j => (m ((c : Thread nD τ).loc main_arg1) : FVec Ideal S1x8x4096x256 .f32) (ix4 0 b s j))
          (fun i j => (m ((c : Thread nD τ).loc main_arg7) : FVec Ideal S1x1024x1024 .f32) (ix3 0 i j)) (fun i j => (m ((c : Thread nD τ).loc main_arg8) : FVec Ideal S1x256x1024 .f32) (ix3 0 i j)) k := by
  obtain ⟨t, r, hR⟩ := pt_of (rowOf b s)
  have e := congrFun (Cert.MlpIdeal.Value.blocks9 m c t (flush0_9 t)) (ix2 r k : S1024x1024.Idx)
  rw [Cert.MlpIdeal.Value.flushed9] at e
  have e1 : ((dats m 0 c).arrAt 9 cfg0.N : FVec Ideal S32768x1024 .f32) (((cfg0.win 9).blk t).view.emb (ix2 r k : S1024x1024.Idx))
    = out0_9 (iblk m c 0 t) (iblk m c 1 t) (iblk m c 2 t) (iblk m c 3 t) (iblk m c 4 t) (iblk m c 5 t) (iblk m c 6 t) (iblk m c 7 t) (iblk m c 8 t) (ix2 r k) := e
  rw [embJ, ← hR] at e1
  rw [e1, out9_apply]
  simp only [rowA m c t r b s hR, rowB m c t r b s hR, rdC, rdD, rdE, rdF, rdG, rdH, rdI]

end Cert.Mlp

end
-- ==== Proof.Mlp.Ref.lean ====
module

public import proofs.«01_k».proof.Proof.Row.Spec
public import proofs.«01_k».proof.Proof.Gen.MlpRefIdeal.Read

@[expose] public section

set_option maxRecDepth 16384

noncomputable section

namespace Cert.Mlp

open Cert.MlpRefIdeal Cert.MlpRefIdeal.Gen Cert.MlpRefIdeal.Read Idealize.ShloMosaic Cert.RowSpec

variable (h : FVec Ideal S8x4096x1024 .f32) (p : FVec Ideal S1x8x4096x256 .f32) (g1 g2 g3 : FVec Ideal S1x1024 .f32)
  (wu : FVec Ideal S1x1024x4096 .f32) (wd : FVec Ideal S1x4096x1024 .f32) (wg : FVec Ideal S1x1024x1024 .f32) (wp : FVec Ideal S1x256x1024 .f32)

/-- The reference's first norm. -/
theorem r20 (b : Fin 8) (s : Fin 4096) (k : Fin 1024) :
    val_main_v20 (F := Ideal) h g1 (ix3 b s k) = rms (fun j => h (ix3 b s j)) (fun j => g1 (ix2 0 j)) k := by
  unfold val_main_v20 val_main_v19 val_main_v18 val_main_v17 val_main_v16 val_main_v15 val_main_v14 val_main_v13 val_main_v12 val_main_v11 val_main_v10 val_main_v9 val_main_v8 val_main_v1 val_main_cst val_main_cst_0 val_main_cst_1
  pointwise
  rfl

/-- The reference's channel mixer. -/
theorem r24 (b : Fin 8) (s : Fin 4096) (k : Fin 1024) :
    val_main_v24 (F := Ideal) h g1 wu wd (ix3 b s k) = ffn (rms (fun j => h (ix3 b s j)) (fun j => g1 (ix2 0 j))) (fun i j => wu (ix3 0 i j)) (fun i j => wd (ix3 0 i j)) k := by
  have e : rms (fun j => h (ix3 b s j)) (fun j => g1 (ix2 0 j)) = fun k => val_main_v20 (F := Ideal) h g1 (ix3 b s k) := funext fun k => (r20 h g1 b s k).symm
  rw [e]
  unfold val_main_v24 val_main_v23 val_main_v22 val_main_v21 val_main_call0_v0 val_main_v3 val_main_v2 val_main_call0_cst
  generalize val_main_v20 (F := Ideal) h g1 = x
  pointwise
  rfl

/-- The reference after the channel mixer. -/
theorem r38 (b : Fin 8) (s : Fin 4096) (k : Fin 1024) :
    val_main_v38 (F := Ideal) h g1 wu wd g2 (ix3 b s k) = afterFfn (fun j => h (ix3 b s j)) (fun j => g1 (ix2 0 j)) (fun j => g2 (ix2 0 j)) (fun i j => wu (ix3 0 i j)) (fun i j => wd (ix3 0 i j)) k := by
  unfold afterFfn
  have e : ffn (rms (fun j => h (ix3 b s j)) (fun j => g1 (ix2 0 j))) (fun i j => wu (ix3 0 i j)) (fun i j => wd (ix3 0 i j))
      = fun k => val_main_v24 (F := Ideal) h g1 wu wd (ix3 b s k) := funext fun k => (r24 h g1 wu wd b s k).symm
  rw [e]
  unfold val_main_v38 val_main_v37 val_main_v36 val_main_v35 val_main_v34 val_main_v33 val_main_v32 val_main_v31 val_main_v30 val_main_v29 val_main_v28 val_main_v27 val_main_v26 val_main_v25 val_main_v4 val_main_cst_2 val_main_cst_3 val_main_cst_4
  generalize val_main_v24 (F := Ideal) h g1 wu wd = x
  pointwise
  rfl

/-- The reference's result before its last reshape. -/
theorem r61 (b : Fin 8) (s : Fin 4096) (k : Fin 1024) :
    val_main_v61 (F := Ideal) h p g1 wu wd g2 g3 wg wp (ix3 b s k)
      = afterPle (afterFfn (fun j => h (ix3 b s j)) (fun j => g1 (ix2 0 j)) (fun j => g2 (ix2 0 j)) (fun i j => wu (ix3 0 i j)) (fun i j => wd (ix3 0 i j)))
          (fun j => g3 (ix2 0 j)) (fun j => p (ix4 0 b s j)) (fun i j => wg (ix3 0 i j)) (fun i j => wp (ix3 0 i j)) k := by
  have e : afterFfn (fun j => h (ix3 b s j)) (fun j => g1 (ix2 0 j)) (fun j => g2 (ix2 0 j)) (fun i j => wu (ix3 0 i j)) (fun i j => wd (ix3 0 i j))
      = fun k => val_main_v38 (F := Ideal) h g1 wu wd g2 (ix3 b s k) := funext fun k => (r38 h g1 g2 wu wd b s k).symm
  rw [e]
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v0 val_main_v5 val_main_v6 val_main_v7 val_main_cst_5 val_main_cst_6 val_main_cst_7 val_main_cst_8 val_main_cst_9
  generalize val_main_v38 (F := Ideal) h g1 wu wd g2 = x
  pointwise
  rfl

end Cert.Mlp

end
-- ==== Proof.Mlp.Claims.lean ====
module

public import proofs.«01_k».proof.Defs
public import proofs.«01_k».proof.Proof.Mlp.Array
public import proofs.«01_k».proof.Proof.Mlp.Ref
public import proofs.«01_k».proof.Proof.Gen.Mlp
public import proofs.«01_k».proof.Proof.Gen.Mlp.Frame
public import proofs.«01_k».proof.Proof.Gen.MlpRefIdeal.Run
public import Idealize.ShloMosaic.Adequacy
public import Idealize.ShloMosaic.Init

@[expose] public section

set_option maxRecDepth 16384

noncomputable section

namespace Cert.Mlp

open Idealize.ShloMosaic Idealize.SL.Sem Cert.RowSpec

/-- The kernel as printed runs, keeps its arguments and leaves every counter at zero. -/
theorem frame_k : Cert.quiescent_Mlp := fun m ρ _ => Cert.Mlp.Gen.frame m ρ

/-- So does the kernel read over the reals. -/
theorem frame_i : Cert.quiescent_MlpIdeal := fun m ρ _ => Cert.MlpIdeal.Gen.frame m ρ

/-- So does the reference, which declares no semaphore. -/
theorem frame_r : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- Every row is a position of a sequence. -/
theorem row_of (r : Fin 32768) : ∃ (b : Fin 8) (s : Fin 4096), r = rowOf b s :=
  ⟨⟨r.val / 4096, by omega⟩, ⟨r.val % 4096, by omega⟩, Fin.ext (by show r.val = 4096 * (r.val / 4096) + r.val % 4096; omega)⟩

/-- The reference's result and the kernel's agree at every index. -/
theorem y_eq (m : (ℓ : Loc Cert.MlpIdeal.nD Cert.MlpIdeal.τ Cert.MlpIdeal.sig) → Buf (Elt Ideal) ℓ) (c : Dev Cert.MlpIdeal.nD) :
    Cert.MlpRefIdeal.Read.val_main_v62 (F := Ideal) (m ((c.tc : Thread Cert.MlpIdeal.nD Cert.MlpIdeal.τ).loc Cert.MlpIdeal.main_arg0))
      (m ((c.tc : Thread Cert.MlpIdeal.nD Cert.MlpIdeal.τ).loc Cert.MlpIdeal.main_arg1)) (m ((c.tc : Thread Cert.MlpIdeal.nD Cert.MlpIdeal.τ).loc Cert.MlpIdeal.main_arg2))
      (m ((c.tc : Thread Cert.MlpIdeal.nD Cert.MlpIdeal.τ).loc Cert.MlpIdeal.main_arg3)) (m ((c.tc : Thread Cert.MlpIdeal.nD Cert.MlpIdeal.τ).loc Cert.MlpIdeal.main_arg4))
      (m ((c.tc : Thread Cert.MlpIdeal.nD Cert.MlpIdeal.τ).loc Cert.MlpIdeal.main_arg5)) (m ((c.tc : Thread Cert.MlpIdeal.nD Cert.MlpIdeal.τ).loc Cert.MlpIdeal.main_arg6))
      (m ((c.tc : Thread Cert.MlpIdeal.nD Cert.MlpIdeal.τ).loc Cert.MlpIdeal.main_arg7)) (m ((c.tc : Thread Cert.MlpIdeal.nD Cert.MlpIdeal.τ).loc Cert.MlpIdeal.main_arg8))
      = (Cert.MlpIdeal.Gen.dats m 0 c).arrAt 9 Cert.MlpIdeal.cfg0.N := by
  funext i
  obtain ⟨r, k, rfl⟩ : ∃ (r : Fin 32768) (k : Fin 1024), i = ix2 r k := ⟨i 0, i 1, by funext a; match a with | ⟨0, _⟩ => rfl | ⟨1, _⟩ => rfl⟩
  obtain ⟨b, s, rfl⟩ := row_of r
  exact ((rows_apply _ b s k).trans (r61 _ _ _ _ _ _ _ _ _ b s k)).trans (y_apply m c b s k).symm

/-- Over the reals the kernel and the reference end with equal results. -/
theorem algebraic : Cert.algebraic_MlpIdeal_MlpRefIdeal := by
  intro m ρ m' ρ' _ hagree
  refine ⟨fun c => (Cert.MlpIdeal.Gen.dats m 0 c).arrAt 9 Cert.MlpIdeal.cfg0.N, ?_, ?_⟩
  · exact Cert.MlpIdeal.Value.run_blocks m ρ
  · refine (θ_run Cert.MlpRefIdeal.defs _ _).mono (fun r h c => ⟨(h c).1.trans ?_, (h c).2⟩) (Cert.MlpRefIdeal.Value.run (F := Ideal) m' ρ')
    obtain ⟨h0, h1, h2, h3, h4, h5, h6, h7, h8⟩ := hagree c
    refine (Cert.MlpRefIdeal.Read.val_main_v62_eq m' c).trans ?_
    rw [h0, h1, h2, h3, h4, h5, h6, h7, h8]
    exact y_eq m c

end Cert.Mlp

end
-- ==== Proof.MlpSample.Block.lean ====
module

public import proofs.«01_k».proof.Proof.Row.Spec
public import proofs.«01_k».proof.Proof.Gen.MlpSampleIdeal.Value

@[expose] public section

set_option maxRecDepth 16384

noncomputable section

namespace Cert.MlpSample

open Cert.MlpSampleIdeal Cert.MlpSampleIdeal.Gen Idealize.ShloMosaic Idealize.ShloMosaic.TcCoe Cert.RowSpec

/-- The block's first norm, element by element. -/
theorem pay2_apply (v0 : Vec Ideal S512x1024 .f32) (v2 : Vec Ideal S1x1024 .f32) (r : Fin 512) (k : Fin 1024) :
    k0_pay2 v0 v2 (ix2 r k) = rms (fun j => v0 (ix2 r j)) (fun j => v2 (ix2 0 j)) k := by
  unfold k0_pay2 k0_pay1
  pointwise
  rfl

/-- A chunk's part of the channel mixer, as the block computes it. -/
def part (xn : FVec Ideal S512x1024 .bf16) (u : Vec Ideal S1024x512 .bf16) (d : Vec Ideal S512x1024 .bf16) (r : Fin 512) (k : Fin 1024) : EReal :=
  ∑ j : Fin 512, act (∑ i : Fin 1024, xn (ix2 r i) * u (ix2 i j)) * d (ix2 j k)

/-- The first chunk. -/
theorem pay3_apply (v0 : Vec Ideal S512x1024 .f32) (v2 : Vec Ideal S1x1024 .f32) (u : Vec Ideal S1024x512 .bf16) (d : Vec Ideal S512x1024 .bf16) (r : Fin 512) (k : Fin 1024) :
    k0_pay3 v0 v2 u d (ix2 r k) = part (k0_pay2 v0 v2) u d r k := by
  unfold k0_pay3 part
  generalize k0_pay2 v0 v2 = xn
  pointwise
  rfl

/-- The second to fifth chunk, added to the first. -/
theorem pay6_apply (v0 : Vec Ideal S512x1024 .f32) (v2 : Vec Ideal S1x1024 .f32) (a : FVec Ideal S512x1024 .f32)
    (u1 u2 u3 u4 : Vec Ideal S1024x512 .bf16) (d1 d2 d3 d4 : Vec Ideal S512x1024 .bf16) (r : Fin 512) (k : Fin 1024) :
    k0_pay6 (k0_pay2 v0 v2) a (k0_pay4 v0 v2 u1) (k0_pay5 d1) u2 d2 u3 d3 u4 d4 (ix2 r k)
      = a (ix2 r k) + part (k0_pay2 v0 v2) u1 d1 r k + part (k0_pay2 v0 v2) u2 d2 r k + part (k0_pay2 v0 v2) u3 d3 r k + part (k0_pay2 v0 v2) u4 d4 r k := by
  unfold k0_pay6 k0_pay4 k0_pay5 part
  generalize k0_pay2 v0 v2 = xn
  pointwise
  rfl

/-- The last three chunks, added to the others. -/
theorem pay7_apply (xn : FVec Ideal S512x1024 .bf16) (a : FVec Ideal S512x1024 .f32)
    (u1 u2 u3 : Vec Ideal S1024x512 .bf16) (d1 d2 d3 : Vec Ideal S512x1024 .bf16) (r : Fin 512) (k : Fin 1024) :
    k0_pay7 xn a u1 d1 u2 d2 u3 d3 (ix2 r k)
      = a (ix2 r k) + part xn u1 d1 r k + part xn u2 d2 r k + part xn u3 d3 r k := by
  unfold k0_pay7 part
  pointwise
  rfl

/-- The two norms, the gate and the embedding after the channel mixer. -/
theorem pay10_apply (h : FVec Ideal S512x1024 .f32) (xn : FVec Ideal S512x1024 .bf16) (a : FVec Ideal S512x1024 .f32)
    (u1 u2 u3 : Vec Ideal S1024x512 .bf16) (d1 d2 d3 : Vec Ideal S512x1024 .bf16)
    (g2 g3 : Vec Ideal S1x1024 .f32) (wg : Vec Ideal S1024x1024 .bf16) (p : Vec Ideal S512x256 .f32) (wp : Vec Ideal S256x1024 .bf16) (r : Fin 512) (k : Fin 1024) :
    k0_pay10 (k0_pay1 h) (k0_pay7 xn a u1 d1 u2 d2 u3 d3) (k0_pay8 g2) (k0_pay9 xn a u1 d1 u2 d2 u3 d3) (Scalar.ofBits .f32 0x44800000#32) g3 wg p wp (ix2 r k)
      = afterPle (fun k => h (ix2 r k) + rms (fun j => k0_pay7 xn a u1 d1 u2 d2 u3 d3 (ix2 r j)) (fun j => g2 (ix2 0 j)) k)
          (fun j => g3 (ix2 0 j)) (fun j => p (ix2 r j)) (fun i j => wg (ix2 i j)) (fun i j => wp (ix2 i j)) k := by
  unfold k0_pay10 k0_pay9 k0_pay8 k0_pay1
  generalize k0_pay7 xn a u1 d1 u2 d2 u3 d3 = y
  pointwise
  simp only [zero_sub]
  rfl

end Cert.MlpSample

end
-- ==== Proof.MlpSample.Array.lean ====
module

public import proofs.«01_k».proof.Proof.MlpSample.Block

@[expose] public section

set_option maxRecDepth 16384

noncomputable section

namespace Cert.MlpSample

open Cert.MlpSampleIdeal Cert.MlpSampleIdeal.Gen Idealize.ShloMosaic Idealize.ShloMosaic.TcCoe Cert.RowSpec Idealize.ShloMosaic.StableHlo

/-! ## What one block writes -/

/-- A chunk of columns loaded from the first weight matrix. -/
theorem ldU (c : Fin 8) (inb : ∀ a, (![0, 512 * c.val] : Fin 2 → ℕ) a + S1024x512.size a ≤ S1024x4096.size a) (x : Vec Ideal S1024x4096 .bf16) (i : Fin 1024) (j : Fin 512) :
    View.ld x (Rect.unit (s := S1024x4096) ![0, 512 * c.val] S1024x512.size inb) (ix2 i j) = x (ix2 i (chunk c j)) := by
  refine congrArg x ?_
  funext a
  match a with
  | ⟨0, _⟩ => exact Fin.ext (by simp [Rect.emb, Rect.unit, ix2])
  | ⟨1, _⟩ => exact Fin.ext (by simp [Rect.emb, Rect.unit, ix2, chunk])

/-- A chunk of rows loaded from the second weight matrix. -/
theorem ldD (c : Fin 8) (inb : ∀ a, (![512 * c.val, 0] : Fin 2 → ℕ) a + S512x1024.size a ≤ S4096x1024.size a) (x : Vec Ideal S4096x1024 .bf16) (j : Fin 512) (k : Fin 1024) :
    View.ld x (Rect.unit (s := S4096x1024) ![512 * c.val, 0] S512x1024.size inb) (ix2 j k) = x (ix2 (chunk c j) k) := by
  refine congrArg x ?_
  funext a
  match a with
  | ⟨0, _⟩ => exact Fin.ext (by simp [Rect.emb, Rect.unit, ix2, chunk])
  | ⟨1, _⟩ => exact Fin.ext (by simp [Rect.emb, Rect.unit, ix2])

/-- A chunk's part of the channel mixer, from the two weight matrices. -/
theorem part_ld (c : Fin 8) (v0 : Vec Ideal S512x1024 .f32) (v2 : Vec Ideal S1x1024 .f32) (x2 : Vec Ideal S1024x4096 .bf16) (x3 : Vec Ideal S4096x1024 .bf16)
    (inb : ∀ a, (![0, 512 * c.val] : Fin 2 → ℕ) a + S1024x512.size a ≤ S1024x4096.size a)
    (inb' : ∀ a, (![512 * c.val, 0] : Fin 2 → ℕ) a + S512x1024.size a ≤ S4096x1024.size a) (r : Fin 512) (k : Fin 1024) :
    part (k0_pay2 v0 v2) (View.ld x2 (Rect.unit (s := S1024x4096) ![0, 512 * c.val] S1024x512.size inb))
        (View.ld x3 (Rect.unit (s := S4096x1024) ![512 * c.val, 0] S512x1024.size inb')) r k
      = ffnPart (rms (fun j => v0 (ix2 r j)) (fun j => v2 (ix2 0 j))) (fun i j => x2 (ix2 i j)) (fun i j => x3 (ix2 i j)) k c := by
  unfold part ffnPart rowmul
  refine Finset.sum_congr rfl fun j _ => ?_
  rw [ldD]
  refine congrArg (fun y => act y * x3 (ix2 (chunk c j) k)) (Finset.sum_congr rfl fun i _ => ?_)
  rw [ldU, pay2_apply]

/-- What one block writes, element by element. -/
theorem out9_apply (x0 : Vec Ideal S512x1024 .f32) (x1 : Vec Ideal S512x256 .f32) (x2 : Vec Ideal S1024x4096 .bf16) (x3 : Vec Ideal S4096x1024 .bf16)
    (x4 : Vec Ideal S1024x1024 .bf16) (x5 : Vec Ideal S256x1024 .bf16) (x6 x7 x8 : Vec Ideal S1x1024 .f32) (r : Fin 512) (k : Fin 1024) :
    out0_9 x0 x1 x2 x3 x4 x5 x6 x7 x8 (ix2 r k)
      = afterPle (afterFfn (fun j => x0 (ix2 r j)) (fun j => x6 (ix2 0 j)) (fun j => x7 (ix2 0 j)) (fun i j => x2 (ix2 i j)) (fun i j => x3 (ix2 i j)))
          (fun j => x8 (ix2 0 j)) (fun j => x1 (ix2 r j)) (fun i j => x4 (ix2 i j)) (fun i j => x5 (ix2 i j)) k := by
  unfold out0_9
  rw [View.canon_unit_zero (S := S512x1024) (by decide), pay10_apply]
  rw [View.ld_unit_zero (S := S512x1024) (by decide), View.ld_unit_zero (S := S1x1024) (by decide), View.ld_unit_zero (S := S1x1024) (by decide),
    View.ld_unit_zero (S := S1024x1024) (by decide), View.ld_unit_zero (S := S512x256) (by decide), View.ld_unit_zero (S := S256x1024) (by decide)]
  unfold afterFfn
  congr 1
  funext k
  congr 2
  funext j
  rw [pay7_apply]
  unfold k0_pay12 k0_pay11
  rw [pay6_apply, pay3_apply, ffn_chunks]
  rw [View.ld_unit_zero (S := S512x1024) (by decide), View.ld_unit_zero (S := S1x1024) (by decide)]
  rw [← part_ld 0 x0 x6 x2 x3 inb_S1024x4096_S1024x512_0_0 inb_S4096x1024_S512x1024_0_0,
    ← part_ld 1 x0 x6 x2 x3 inb_S1024x4096_S1024x512_0_512 inb_S4096x1024_S512x1024_512_0,
    ← part_ld 2 x0 x6 x2 x3 inb_S1024x4096_S1024x512_0_1024 inb_S4096x1024_S512x1024_1024_0,
    ← part_ld 3 x0 x6 x2 x3 inb_S1024x4096_S1024x512_0_1536 inb_S4096x1024_S512x1024_1536_0,
    ← part_ld 4 x0 x6 x2 x3 inb_S1024x4096_S1024x512_0_2048 inb_S4096x1024_S512x1024_2048_0,
    ← part_ld 5 x0 x6 x2 x3 inb_S1024x4096_S1024x512_0_2560 inb_S4096x1024_S512x1024_2560_0,
    ← part_ld 6 x0 x6 x2 x3 inb_S1024x4096_S1024x512_0_3072 inb_S4096x1024_S512x1024_3072_0,
    ← part_ld 7 x0 x6 x2 x3 inb_S1024x4096_S1024x512_0_3584 inb_S4096x1024_S512x1024_3584_0]
  rfl

/-! ## The arrays that the region finds -/

/-- Position `s` of sequence `b`, among all rows. -/
def rowOf (b : Fin 128) (s : Fin 4) : Fin 512 := ⟨4 * b.val + s.val, by omega⟩

variable (m : (ℓ : Loc nD τ sig) → Buf (Elt Ideal) ℓ)

/-- The region finds the activations as rows. -/
theorem V_h (c : Dev nD) : V m c main_v0 = shapeCast S512x1024 (m ((c : Thread nD τ).loc main_arg0)) shapeCasts_S128x4x1024_S512x1024 := by
  simp only [V, hostOps0, List.flatten_cons, List.flatten_nil, List.append_nil, List.cons_append, List.nil_append]
  after_results
  rfl

/-- The region finds the embeddings as rows. -/
theorem V_p (c : Dev nD) : V m c main_v2 = shapeCast S512x256 (shapeCast S128x4x256 (m ((c : Thread nD τ).loc main_arg1)) shapeCasts_S1x128x4x256_S128x4x256) shapeCasts_S128x4x256_S512x256 := by
  simp only [V, hostOps0, List.flatten_cons, List.flatten_nil, List.append_nil, List.cons_append, List.nil_append]
  after_results
  rfl

/-- The region finds the first weight matrix, cast. -/
theorem V_wu (c : Dev nD) : (V m c main_v4 : FVec Ideal S1024x4096 .bf16) = truncf (F := Ideal) .bf16 (shapeCast S1024x4096 (m ((c : Thread nD τ).loc main_arg3) : FVec Ideal S1x1024x4096 .f32) shapeCasts_S1x1024x4096_S1024x4096) bitsLt_bf16_f32 := by
  simp only [V, hostOps0, List.flatten_cons, List.flatten_nil, List.append_nil, List.cons_append, List.nil_append]
  after_results
  rfl

/-- The region finds the second weight matrix, cast. -/
theorem V_wd (c : Dev nD) : (V m c main_v6 : FVec Ideal S4096x1024 .bf16) = truncf (F := Ideal) .bf16 (shapeCast S4096x1024 (m ((c : Thread nD τ).loc main_arg4) : FVec Ideal S1x4096x1024 .f32) shapeCasts_S1x4096x1024_S4096x1024) bitsLt_bf16_f32 := by
  simp only [V, hostOps0, List.flatten_cons, List.flatten_nil, List.append_nil, List.cons_append, List.nil_append]
  after_results
  rfl

/-- The region finds the gate's weight matrix, cast. -/
theorem V_wg (c : Dev nD) : (V m c main_v8 : FVec Ideal S1024x1024 .bf16) = truncf (F := Ideal) .bf16 (shapeCast S1024x1024 (m ((c : Thread nD τ).loc main_arg7) : FVec Ideal S1x1024x1024 .f32) shapeCasts_S1x1024x1024_S1024x1024) bitsLt_bf16_f32 := by
  simp only [V, hostOps0, List.flatten_cons, List.flatten_nil, List.append_nil, List.cons_append, List.nil_append]
  after_results
  rfl

/-- The region finds the embedding's weight matrix, cast. -/
theorem V_wp (c : Dev nD) : (V m c main_v10 : FVec Ideal S256x1024 .bf16) = truncf (F := Ideal) .bf16 (shapeCast S256x1024 (m ((c : Thread nD τ).loc main_arg8) : FVec Ideal S1x256x1024 .f32) shapeCasts_S1x256x1024_S256x1024) bitsLt_bf16_f32 := by
  simp only [V, hostOps0, List.flatten_cons, List.flatten_nil, List.append_nil, List.cons_append, List.nil_append]
  after_results
  rfl

/-- The region finds the first norm's gain as one row. -/
theorem V_g1 (c : Dev nD) : V m c main_v12 = shapeCast S1x1024 (shapeCast S1024 (m ((c : Thread nD τ).loc main_arg2)) shapeCasts_S1x1024_S1024) shapeCasts_S1024_S1x1024 := by
  simp only [V, hostOps0, List.flatten_cons, List.flatten_nil, List.append_nil, List.cons_append, List.nil_append]
  after_results
  rfl

/-- The region finds the second norm's gain as one row. -/
theorem V_g2 (c : Dev nD) : V m c main_v14 = shapeCast S1x1024 (shapeCast S1024 (m ((c : Thread nD τ).loc main_arg5)) shapeCasts_S1x1024_S1024) shapeCasts_S1024_S1x1024 := by
  simp only [V, hostOps0, List.flatten_cons, List.flatten_nil, List.append_nil, List.cons_append, List.nil_append]
  after_results
  rfl

/-- The region finds the third norm's gain as one row. -/
theorem V_g3 (c : Dev nD) : V m c main_v16 = shapeCast S1x1024 (shapeCast S1024 (m ((c : Thread nD τ).loc main_arg6)) shapeCasts_S1x1024_S1024) shapeCasts_S1024_S1x1024 := by
  simp only [V, hostOps0, List.flatten_cons, List.flatten_nil, List.append_nil, List.cons_append, List.nil_append]
  after_results
  rfl

/-- The activations as rows, element by element. -/
theorem rows_apply (a : FVec Ideal S128x4x1024 .f32) (b : Fin 128) (s : Fin 4) (k : Fin 1024) :
    shapeCast S512x1024 a shapeCasts_S128x4x1024_S512x1024 (ix2 (rowOf b s) k) = a (ix3 b s k) := by
  refine shapeCast_apply _ _ _ _ ?_
  rw [Shape.rowMajor_val_three, Shape.rowMajor_val_two]
  simp [rowOf]; omega

/-- The embeddings as rows, element by element. -/
theorem prows_apply (a : FVec Ideal S128x4x256 .f32) (b : Fin 128) (s : Fin 4) (k : Fin 256) :
    shapeCast S512x256 a shapeCasts_S128x4x256_S512x256 (ix2 (rowOf b s) k) = a (ix3 b s k) := by
  refine shapeCast_apply _ _ _ _ ?_
  rw [Shape.rowMajor_val_three, Shape.rowMajor_val_two]
  simp [rowOf]; omega

/-- The first weight matrix, cast, element by element. -/
theorem wu_apply (a : FVec Ideal S1x1024x4096 .f32) (r : Fin 1024) (k : Fin 4096) :
    truncf (F := Ideal) .bf16 (shapeCast S1024x4096 a shapeCasts_S1x1024x4096_S1024x4096) bitsLt_bf16_f32 (ix2 r k) = a (ix3 0 r k) := by
  show shapeCast S1024x4096 a shapeCasts_S1x1024x4096_S1024x4096 (ix2 r k) = _
  refine shapeCast_apply _ _ _ _ ?_
  rw [Shape.rowMajor_val_three, Shape.rowMajor_val_two]
  simp

/-- The second weight matrix, cast, element by element. -/
theorem wd_apply (a : FVec Ideal S1x4096x1024 .f32) (r : Fin 4096) (k : Fin 1024) :
    truncf (F := Ideal) .bf16 (shapeCast S4096x1024 a shapeCasts_S1x4096x1024_S4096x1024) bitsLt_bf16_f32 (ix2 r k) = a (ix3 0 r k) := by
  show shapeCast S4096x1024 a shapeCasts_S1x4096x1024_S4096x1024 (ix2 r k) = _
  refine shapeCast_apply _ _ _ _ ?_
  rw [Shape.rowMajor_val_three, Shape.rowMajor_val_two]
  simp

/-- The gate's weight matrix, cast, element by element. -/
theorem wg_apply (a : FVec Ideal S1x1024x1024 .f32) (r : Fin 1024) (k : Fin 1024) :
    truncf (F := Ideal) .bf16 (shapeCast S1024x1024 a shapeCasts_S1x1024x1024_S1024x1024) bitsLt_bf16_f32 (ix2 r k) = a (ix3 0 r k) := by
  show shapeCast S1024x1024 a shapeCasts_S1x1024x1024_S1024x1024 (ix2 r k) = _
  refine shapeCast_apply _ _ _ _ ?_
  rw [Shape.rowMajor_val_three, Shape.rowMajor_val_two]
  simp

/-- The embedding's weight matrix, cast, element by element. -/
theorem wp_apply (a : FVec Ideal S1x256x1024 .f32) (r : Fin 256) (k : Fin 1024) :
    truncf (F := Ideal) .bf16 (shapeCast S256x1024 a shapeCasts_S1x256x1024_S256x1024) bitsLt_bf16_f32 (ix2 r k) = a (ix3 0 r k) := by
  show shapeCast S256x1024 a shapeCasts_S1x256x1024_S256x1024 (ix2 r k) = _
  refine shapeCast_apply _ _ _ _ ?_
  rw [Shape.rowMajor_val_three, Shape.rowMajor_val_two]
  simp

/-- The embeddings without their leading axis, element by element. -/
theorem p_apply (a : FVec Ideal S1x128x4x256 .f32) (b : Fin 128) (s : Fin 4) (k : Fin 256) :
    shapeCast S128x4x256 a shapeCasts_S1x128x4x256_S128x4x256 (ix3 b s k) = a (ix4 0 b s k) := by
  refine shapeCast_apply _ _ _ _ ?_
  rw [Shape.rowMajor_val_four, Shape.rowMajor_val_three]
  simp

/-! ## The blocks -/

/-- There is one grid point. -/
theorem lt_pt (t : Fin cfg0.N) : t.val < 1 := lt_of_lt_of_eq t.isLt (by decide +kernel)

/-- Row `r` of point `t`'s block, among all rows. -/
def grow (t : Fin cfg0.N) (r : Fin 512) : Fin 512 := ⟨512 * t.val + r.val, by have := lt_pt t; omega⟩

/-- The block of activations at a grid point. -/
theorem ixA : ∀ t : Fin cfg0.N, win0_0.index t = ![t.val, 0] := (by decide +kernel : ∀ t : Fin grid0.N, _)
/-- The block of embeddings at a grid point. -/
theorem ixB : ∀ t : Fin cfg0.N, win0_1.index t = ![t.val, 0] := (by decide +kernel : ∀ t : Fin grid0.N, _)
/-- The only block of the first weight matrix. -/
theorem ixC : ∀ t : Fin cfg0.N, win0_2.index t = ![0, 0] := (by decide +kernel : ∀ t : Fin grid0.N, _)
/-- The only block of the second weight matrix. -/
theorem ixD : ∀ t : Fin cfg0.N, win0_3.index t = ![0, 0] := (by decide +kernel : ∀ t : Fin grid0.N, _)
/-- The only block of the gate's weight matrix. -/
theorem ixE : ∀ t : Fin cfg0.N, win0_4.index t = ![0, 0] := (by decide +kernel : ∀ t : Fin grid0.N, _)
/-- The only block of the embedding's weight matrix. -/
theorem ixF : ∀ t : Fin cfg0.N, win0_5.index t = ![0, 0] := (by decide +kernel : ∀ t : Fin grid0.N, _)
/-- The only block of the first gain. -/
theorem ixG : ∀ t : Fin cfg0.N, win0_6.index t = ![0, 0] := (by decide +kernel : ∀ t : Fin grid0.N, _)
/-- The only block of the second gain. -/
theorem ixH : ∀ t : Fin cfg0.N, win0_7.index t = ![0, 0] := (by decide +kernel : ∀ t : Fin grid0.N, _)
/-- The only block of the third gain. -/
theorem ixI : ∀ t : Fin cfg0.N, win0_8.index t = ![0, 0] := (by decide +kernel : ∀ t : Fin grid0.N, _)
/-- The block of the result at a grid point. -/
theorem ixJ : ∀ t : Fin cfg0.N, win0_9.index t = ![t.val, 0] := (by decide +kernel : ∀ t : Fin grid0.N, _)

/-- The block of activations holds the rows of its grid point. -/
theorem rdA (c : Dev nD) (t : Fin cfg0.N) (r : Fin 512) (k : Fin 1024) : (iblk m c 0 t : FVec Ideal S512x1024 .f32) (ix2 r k) = (V m c main_v0 : FVec Ideal S512x1024 .f32) (ix2 (grow t r) k) := by
  refine congrArg (V m c main_v0 : FVec Ideal S512x1024 .f32) ?_
  funext a
  refine Fin.ext ?_
  show win0_0.index t a * win0_0.size a + 1 * ((ix2 r k : S512x1024.Idx) a).val = _
  rw [ixA t]
  fin_cases a <;> simp [win0_0, grow] <;> omega

/-- The block of embeddings holds the rows of its grid point. -/
theorem rdB (c : Dev nD) (t : Fin cfg0.N) (r : Fin 512) (k : Fin 256) : (iblk m c 1 t : FVec Ideal S512x256 .f32) (ix2 r k) = (V m c main_v2 : FVec Ideal S512x256 .f32) (ix2 (grow t r) k) := by
  refine congrArg (V m c main_v2 : FVec Ideal S512x256 .f32) ?_
  funext a
  refine Fin.ext ?_
  show win0_1.index t a * win0_1.size a + 1 * ((ix2 r k : S512x256.Idx) a).val = _
  rw [ixB t]
  fin_cases a <;> simp [win0_1, grow] <;> omega

/-- The block of the first weight matrix is the matrix. -/
theorem rdC (c : Dev nD) (t : Fin cfg0.N) (r : Fin 1024) (k : Fin 4096) : (iblk m c 2 t : FVec Ideal S1024x4096 .bf16) (ix2 r k) = (m ((c : Thread nD τ).loc main_arg3) : FVec Ideal S1x1024x4096 .f32) (ix3 0 r k) := by
  refine (congrArg (V m c main_v4 : FVec Ideal S1024x4096 .bf16) (?_ : _ = ix2 r k)).trans ?_
  · funext a
    refine Fin.ext ?_
    show win0_2.index t a * win0_2.size a + 1 * ((ix2 r k : S1024x4096.Idx) a).val = _
    rw [ixC t]
    fin_cases a <;> simp [win0_2]
  · rw [V_wu]; exact wu_apply _ r k

/-- The block of the second weight matrix is the matrix. -/
theorem rdD (c : Dev nD) (t : Fin cfg0.N) (r : Fin 4096) (k : Fin 1024) : (iblk m c 3 t : FVec Ideal S4096x1024 .bf16) (ix2 r k) = (m ((c : Thread nD τ).loc main_arg4) : FVec Ideal S1x4096x1024 .f32) (ix3 0 r k) := by
  refine (congrArg (V m c main_v6 : FVec Ideal S4096x1024 .bf16) (?_ : _ = ix2 r k)).trans ?_
  · funext a
    refine Fin.ext ?_
    show win0_3.index t a * win0_3.size a + 1 * ((ix2 r k : S4096x1024.Idx) a).val = _
    rw [ixD t]
    fin_cases a <;> simp [win0_3]
  · rw [V_wd]; exact wd_apply _ r k

/-- The block of the gate's weight matrix is the matrix. -/
theorem rdE (c : Dev nD) (t : Fin cfg0.N) (r k : Fin 1024) : (iblk m c 4 t : FVec Ideal S1024x1024 .bf16) (ix2 r k) = (m ((c : Thread nD τ).loc main_arg7) : FVec Ideal S1x1024x1024 .f32) (ix3 0 r k) := by
  refine (congrArg (V m c main_v8 : FVec Ideal S1024x1024 .bf16) (?_ : _ = ix2 r k)).trans ?_
  · funext a
    refine Fin.ext ?_
    show win0_4.index t a * win0_4.size a + 1 * ((ix2 r k : S1024x1024.Idx) a).val = _
    rw [ixE t]
    fin_cases a <;> simp [win0_4]
  · rw [V_wg]; exact wg_apply _ r k

/-- The block of the embedding's weight matrix is the matrix. -/
theorem rdF (c : Dev nD) (t : Fin cfg0.N) (r : Fin 256) (k : Fin 1024) : (iblk m c 5 t : FVec Ideal S256x1024 .bf16) (ix2 r k) = (m ((c : Thread nD τ).loc main_arg8) : FVec Ideal S1x256x1024 .f32) (ix3 0 r k) := by
  refine (congrArg (V m c main_v10 : FVec Ideal S256x1024 .bf16) (?_ : _ = ix2 r k)).trans ?_
  · funext a
    refine Fin.ext ?_
    show win0_5.index t a * win0_5.size a + 1 * ((ix2 r k : S256x1024.Idx) a).val = _
    rw [ixF t]
    fin_cases a <;> simp [win0_5]
  · rw [V_wp]; exact wp_apply _ r k

/-- The block of the first gain is the gain. -/
theorem rdG (c : Dev nD) (t : Fin cfg0.N) (k : Fin 1024) : (iblk m c 6 t : FVec Ideal S1x1024 .f32) (ix2 0 k) = (m ((c : Thread nD τ).loc main_arg2) : FVec Ideal S1x1024 .f32) (ix2 0 k) := by
  refine (congrArg (V m c main_v12 : FVec Ideal S1x1024 .f32) (?_ : _ = ix2 0 k)).trans ?_
  · funext a
    refine Fin.ext ?_
    show win0_6.index t a * win0_6.size a + 1 * ((ix2 0 k : S1x1024.Idx) a).val = _
    rw [ixG t]
    fin_cases a <;> simp [win0_6]
  · rw [V_g1]; pointwise

/-- The block of the second gain is the gain. -/
theorem rdH (c : Dev nD) (t : Fin cfg0.N) (k : Fin 1024) : (iblk m c 7 t : FVec Ideal S1x1024 .f32) (ix2 0 k) = (m ((c : Thread nD τ).loc main_arg5) : FVec Ideal S1x1024 .f32) (ix2 0 k) := by
  refine (congrArg (V m c main_v14 : FVec Ideal S1x1024 .f32) (?_ : _ = ix2 0 k)).trans ?_
  · funext a
    refine Fin.ext ?_
    show win0_7.index t a * win0_7.size a + 1 * ((ix2 0 k : S1x1024.Idx) a).val = _
    rw [ixH t]
    fin_cases a <;> simp [win0_7]
  · rw [V_g2]; pointwise

/-- The block of the third gain is the gain. -/
theorem rdI (c : Dev nD) (t : Fin cfg0.N) (k : Fin 1024) : (iblk m c 8 t : FVec Ideal S1x1024 .f32) (ix2 0 k) = (m ((c : Thread nD τ).loc main_arg6) : FVec Ideal S1x1024 .f32) (ix2 0 k) := by
  refine (congrArg (V m c main_v16 : FVec Ideal S1x1024 .f32) (?_ : _ = ix2 0 k)).trans ?_
  · funext a
    refine Fin.ext ?_
    show win0_8.index t a * win0_8.size a + 1 * ((ix2 0 k : S1x1024.Idx) a).val = _
    rw [ixI t]
    fin_cases a <;> simp [win0_8]
  · rw [V_g3]; pointwise

/-- Where an element of the result's block lies in the result. -/
theorem embJ (t : Fin cfg0.N) (r : Fin 512) (k : Fin 1024) : (((cfg0.win 9).blk t).view.emb (ix2 r k : S512x1024.Idx) : S512x1024.Idx) = ix2 (grow t r) k := by
  funext a
  refine Fin.ext ?_
  show win0_9.index t a * win0_9.size a + 1 * ((ix2 r k : S512x1024.Idx) a).val = _
  rw [ixJ t]
  fin_cases a <;> simp [win0_9, grow] <;> omega

/-- Each row lies in the block of one grid point. -/
theorem pt_of (R : Fin 512) : ∃ (t : Fin cfg0.N) (r : Fin 512), R = grow t r := by
  have hN : cfg0.N = 1 := by decide +kernel
  exact ⟨⟨R.val / 512, by omega⟩, ⟨R.val % 512, by omega⟩, Fin.ext (by show R.val = 512 * (R.val / 512) + R.val % 512; omega)⟩

/-- A row of the block of activations. -/
theorem rowA (c : Dev nD) (t : Fin cfg0.N) (r : Fin 512) (b : Fin 128) (s : Fin 4) (hR : rowOf b s = grow t r) (k : Fin 1024) :
    (iblk m c 0 t : FVec Ideal S512x1024 .f32) (ix2 r k) = (m ((c : Thread nD τ).loc main_arg0) : FVec Ideal S128x4x1024 .f32) (ix3 b s k) := by
  rw [rdA, ← hR, V_h, rows_apply]

/-- A row of the block of embeddings. -/
theorem rowB (c : Dev nD) (t : Fin cfg0.N) (r : Fin 512) (b : Fin 128) (s : Fin 4) (hR : rowOf b s = grow t r) (k : Fin 256) :
    (iblk m c 1 t : FVec Ideal S512x256 .f32) (ix2 r k) = (m ((c : Thread nD τ).loc main_arg1) : FVec Ideal S1x128x4x256 .f32) (ix4 0 b s k) := by
  rw [rdB, ← hR, V_p, prows_apply]
  exact p_apply _ b s k

/-- The result array after the run, element by element. -/
theorem y_apply (c : Dev nD) (b : Fin 128) (s : Fin 4) (k : Fin 1024) :
    ((dats m 0 c).arrAt 9 cfg0.N : FVec Ideal S512x1024 .f32) (ix2 (rowOf b s) k)
      = afterPle (afterFfn (fun j => (m ((c : Thread nD τ).loc main_arg0) : FVec Ideal S128x4x1024 .f32) (ix3 b s j))
            (fun j => (m ((c : Thread nD τ).loc main_arg2) : FVec Ideal S1x1024 .f32) (ix2 0 j)) (fun j => (m ((c : Thread nD τ).loc main_arg5) : FVec Ideal S1x1024 .f32) (ix2 0 j))
            (fun i j => (m ((c : Thread nD τ).loc main_arg3) : FVec Ideal S1x1024x4096 .f32) (ix3 0 i j)) (fun i j => (m ((c : Thread nD τ).loc main_arg4) : FVec Ideal S1x4096x1024 .f32) (ix3 0 i j)))
          (fun j => (m ((c : Thread nD τ).loc main_arg6) : FVec Ideal S1x1024 .f32) (ix2 0 j)) (fun j => (m ((c : Thread nD τ).loc main_arg1) : FVec Ideal S1x128x4x256 .f32) (ix4 0 b s j))
          (fun i j => (m ((c : Thread nD τ).loc main_arg7) : FVec Ideal S1x1024x1024 .f32) (ix3 0 i j)) (fun i j => (m ((c : Thread nD τ).loc main_arg8) : FVec Ideal S1x256x1024 .f32) (ix3 0 i j)) k := by
  obtain ⟨t, r, hR⟩ := pt_of (rowOf b s)
  have e := congrFun (Cert.MlpSampleIdeal.Value.blocks9 m c t (flush0_9 t)) (ix2 r k : S512x1024.Idx)
  rw [Cert.MlpSampleIdeal.Value.flushed9] at e
  have e1 : ((dats m 0 c).arrAt 9 cfg0.N : FVec Ideal S512x1024 .f32) (((cfg0.win 9).blk t).view.emb (ix2 r k : S512x1024.Idx))
    = out0_9 (iblk m c 0 t) (iblk m c 1 t) (iblk m c 2 t) (iblk m c 3 t) (iblk m c 4 t) (iblk m c 5 t) (iblk m c 6 t) (iblk m c 7 t) (iblk m c 8 t) (ix2 r k) := e
  rw [embJ, ← hR] at e1
  rw [e1, out9_apply]
  simp only [rowA m c t r b s hR, rowB m c t r b s hR, rdC, rdD, rdE, rdF, rdG, rdH, rdI]

end Cert.MlpSample

end
-- ==== Proof.MlpSample.Ref.lean ====
module

public import proofs.«01_k».proof.Proof.Row.Spec
public import proofs.«01_k».proof.Proof.Gen.MlpSampleRefIdeal.Read

@[expose] public section

set_option maxRecDepth 16384

noncomputable section

namespace Cert.MlpSample

open Cert.MlpSampleRefIdeal Cert.MlpSampleRefIdeal.Gen Cert.MlpSampleRefIdeal.Read Idealize.ShloMosaic Cert.RowSpec

variable (h : FVec Ideal S128x4x1024 .f32) (p : FVec Ideal S1x128x4x256 .f32) (g1 g2 g3 : FVec Ideal S1x1024 .f32)
  (wu : FVec Ideal S1x1024x4096 .f32) (wd : FVec Ideal S1x4096x1024 .f32) (wg : FVec Ideal S1x1024x1024 .f32) (wp : FVec Ideal S1x256x1024 .f32)

/-- The reference's first norm. -/
theorem r20 (b : Fin 128) (s : Fin 4) (k : Fin 1024) :
    val_main_v20 (F := Ideal) h g1 (ix3 b s k) = rms (fun j => h (ix3 b s j)) (fun j => g1 (ix2 0 j)) k := by
  unfold val_main_v20 val_main_v19 val_main_v18 val_main_v17 val_main_v16 val_main_v15 val_main_v14 val_main_v13 val_main_v12 val_main_v11 val_main_v10 val_main_v9 val_main_v8 val_main_v1 val_main_cst val_main_cst_0 val_main_cst_1
  pointwise
  rfl

/-- The reference's channel mixer. -/
theorem r24 (b : Fin 128) (s : Fin 4) (k : Fin 1024) :
    val_main_v24 (F := Ideal) h g1 wu wd (ix3 b s k) = ffn (rms (fun j => h (ix3 b s j)) (fun j => g1 (ix2 0 j))) (fun i j => wu (ix3 0 i j)) (fun i j => wd (ix3 0 i j)) k := by
  have e : rms (fun j => h (ix3 b s j)) (fun j => g1 (ix2 0 j)) = fun k => val_main_v20 (F := Ideal) h g1 (ix3 b s k) := funext fun k => (r20 h g1 b s k).symm
  rw [e]
  unfold val_main_v24 val_main_v23 val_main_v22 val_main_v21 val_main_call0_v0 val_main_v3 val_main_v2 val_main_call0_cst
  generalize val_main_v20 (F := Ideal) h g1 = x
  pointwise
  rfl

/-- The reference after the channel mixer. -/
theorem r38 (b : Fin 128) (s : Fin 4) (k : Fin 1024) :
    val_main_v38 (F := Ideal) h g1 wu wd g2 (ix3 b s k) = afterFfn (fun j => h (ix3 b s j)) (fun j => g1 (ix2 0 j)) (fun j => g2 (ix2 0 j)) (fun i j => wu (ix3 0 i j)) (fun i j => wd (ix3 0 i j)) k := by
  unfold afterFfn
  have e : ffn (rms (fun j => h (ix3 b s j)) (fun j => g1 (ix2 0 j))) (fun i j => wu (ix3 0 i j)) (fun i j => wd (ix3 0 i j))
      = fun k => val_main_v24 (F := Ideal) h g1 wu wd (ix3 b s k) := funext fun k => (r24 h g1 wu wd b s k).symm
  rw [e]
  unfold val_main_v38 val_main_v37 val_main_v36 val_main_v35 val_main_v34 val_main_v33 val_main_v32 val_main_v31 val_main_v30 val_main_v29 val_main_v28 val_main_v27 val_main_v26 val_main_v25 val_main_v4 val_main_cst_2 val_main_cst_3 val_main_cst_4
  generalize val_main_v24 (F := Ideal) h g1 wu wd = x
  pointwise
  rfl

/-- The reference's result before its last reshape. -/
theorem r61 (b : Fin 128) (s : Fin 4) (k : Fin 1024) :
    val_main_v61 (F := Ideal) h p g1 wu wd g2 g3 wg wp (ix3 b s k)
      = afterPle (afterFfn (fun j => h (ix3 b s j)) (fun j => g1 (ix2 0 j)) (fun j => g2 (ix2 0 j)) (fun i j => wu (ix3 0 i j)) (fun i j => wd (ix3 0 i j)))
          (fun j => g3 (ix2 0 j)) (fun j => p (ix4 0 b s j)) (fun i j => wg (ix3 0 i j)) (fun i j => wp (ix3 0 i j)) k := by
  have e : afterFfn (fun j => h (ix3 b s j)) (fun j => g1 (ix2 0 j)) (fun j => g2 (ix2 0 j)) (fun i j => wu (ix3 0 i j)) (fun i j => wd (ix3 0 i j))
      = fun k => val_main_v38 (F := Ideal) h g1 wu wd g2 (ix3 b s k) := funext fun k => (r38 h g1 g2 wu wd b s k).symm
  rw [e]
  unfold val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v0 val_main_v5 val_main_v6 val_main_v7 val_main_cst_5 val_main_cst_6 val_main_cst_7 val_main_cst_8 val_main_cst_9
  generalize val_main_v38 (F := Ideal) h g1 wu wd g2 = x
  pointwise
  rfl

end Cert.MlpSample

end
-- ==== Proof.MlpSample.Claims.lean ====
module

public import proofs.«01_k».proof.Defs
public import proofs.«01_k».proof.Proof.MlpSample.Array
public import proofs.«01_k».proof.Proof.MlpSample.Ref
public import proofs.«01_k».proof.Proof.Gen.MlpSample
public import proofs.«01_k».proof.Proof.Gen.MlpSample.Frame
public import proofs.«01_k».proof.Proof.Gen.MlpSampleRefIdeal.Run
public import Idealize.ShloMosaic.Adequacy
public import Idealize.ShloMosaic.Init

@[expose] public section

set_option maxRecDepth 16384

noncomputable section

namespace Cert.MlpSample

open Idealize.ShloMosaic Idealize.SL.Sem Cert.RowSpec

/-- The kernel as printed runs, keeps its arguments and leaves every counter at zero. -/
theorem frame_k : Cert.quiescent_MlpSample := fun m ρ _ => Cert.MlpSample.Gen.frame m ρ

/-- So does the kernel read over the reals. -/
theorem frame_i : Cert.quiescent_MlpSampleIdeal := fun m ρ _ => Cert.MlpSampleIdeal.Gen.frame m ρ

/-- So does the reference, which declares no semaphore. -/
theorem frame_r : Cert.quiescent_MlpSampleRefIdeal := fun m ρ _ =>
  (θ_run Cert.MlpSampleRefIdeal.defs _ _).mono (fun r h => ⟨fun c => (h c).2, sem_eq_zero_of_no_sems (by decide) r.2⟩)
    (Cert.MlpSampleRefIdeal.Value.run (F := Ideal) m ρ)

/-- Every row is a position of a sequence. -/
theorem row_of (r : Fin 512) : ∃ (b : Fin 128) (s : Fin 4), r = rowOf b s :=
  ⟨⟨r.val / 4, by omega⟩, ⟨r.val % 4, by omega⟩, Fin.ext (by show r.val = 4 * (r.val / 4) + r.val % 4; omega)⟩

/-- The reference's result and the kernel's agree at every index. -/
theorem y_eq (m : (ℓ : Loc Cert.MlpSampleIdeal.nD Cert.MlpSampleIdeal.τ Cert.MlpSampleIdeal.sig) → Buf (Elt Ideal) ℓ) (c : Dev Cert.MlpSampleIdeal.nD) :
    Cert.MlpSampleRefIdeal.Read.val_main_v62 (F := Ideal) (m ((c.tc : Thread Cert.MlpSampleIdeal.nD Cert.MlpSampleIdeal.τ).loc Cert.MlpSampleIdeal.main_arg0))
      (m ((c.tc : Thread Cert.MlpSampleIdeal.nD Cert.MlpSampleIdeal.τ).loc Cert.MlpSampleIdeal.main_arg1)) (m ((c.tc : Thread Cert.MlpSampleIdeal.nD Cert.MlpSampleIdeal.τ).loc Cert.MlpSampleIdeal.main_arg2))
      (m ((c.tc : Thread Cert.MlpSampleIdeal.nD Cert.MlpSampleIdeal.τ).loc Cert.MlpSampleIdeal.main_arg3)) (m ((c.tc : Thread Cert.MlpSampleIdeal.nD Cert.MlpSampleIdeal.τ).loc Cert.MlpSampleIdeal.main_arg4))
      (m ((c.tc : Thread Cert.MlpSampleIdeal.nD Cert.MlpSampleIdeal.τ).loc Cert.MlpSampleIdeal.main_arg5)) (m ((c.tc : Thread Cert.MlpSampleIdeal.nD Cert.MlpSampleIdeal.τ).loc Cert.MlpSampleIdeal.main_arg6))
      (m ((c.tc : Thread Cert.MlpSampleIdeal.nD Cert.MlpSampleIdeal.τ).loc Cert.MlpSampleIdeal.main_arg7)) (m ((c.tc : Thread Cert.MlpSampleIdeal.nD Cert.MlpSampleIdeal.τ).loc Cert.MlpSampleIdeal.main_arg8))
      = (Cert.MlpSampleIdeal.Gen.dats m 0 c).arrAt 9 Cert.MlpSampleIdeal.cfg0.N := by
  funext i
  obtain ⟨r, k, rfl⟩ : ∃ (r : Fin 512) (k : Fin 1024), i = ix2 r k := ⟨i 0, i 1, by funext a; match a with | ⟨0, _⟩ => rfl | ⟨1, _⟩ => rfl⟩
  obtain ⟨b, s, rfl⟩ := row_of r
  exact ((rows_apply _ b s k).trans (r61 _ _ _ _ _ _ _ _ _ b s k)).trans (y_apply m c b s k).symm

/-- Over the reals the kernel and the reference end with equal results. -/
theorem algebraic : Cert.algebraic_MlpSampleIdeal_MlpSampleRefIdeal := by
  intro m ρ m' ρ' _ hagree
  refine ⟨fun c => (Cert.MlpSampleIdeal.Gen.dats m 0 c).arrAt 9 Cert.MlpSampleIdeal.cfg0.N, ?_, ?_⟩
  · exact Cert.MlpSampleIdeal.Value.run_blocks m ρ
  · refine (θ_run Cert.MlpSampleRefIdeal.defs _ _).mono (fun r h c => ⟨(h c).1.trans ?_, (h c).2⟩) (Cert.MlpSampleRefIdeal.Value.run (F := Ideal) m' ρ')
    obtain ⟨h0, h1, h2, h3, h4, h5, h6, h7, h8⟩ := hagree c
    refine (Cert.MlpSampleRefIdeal.Read.val_main_v62_eq m' c).trans ?_
    rw [h0, h1, h2, h3, h4, h5, h6, h7, h8]
    exact y_eq m c

end Cert.MlpSample

end
-- ==== Proof.Merge.Block.lean ====
module

public import proofs.«01_k».proof.Proof.Row.Spec
public import proofs.«01_k».proof.Proof.Gen.MergeIdeal.Value
public import Idealize.ShloMosaic.Lib.Tactic

@[expose] public section

set_option maxRecDepth 16384

noncomputable section

namespace Cert.Merge

open Cert.MergeIdeal Cert.MergeIdeal.Gen Idealize.ShloMosaic Idealize.ShloMosaic.TcCoe Cert.RowSpec

/-- The gated sum of the two branches, projected, element by element. -/
theorem pay2_apply (ga : Vec Ideal S512x1024 .f32) (on : Vec Ideal S512x512 .bf16) (wn : Vec Ideal S512x1024 .bf16) (gb : Vec Ideal S512x1024 .f32)
    (oh : Vec Ideal S512x512 .bf16) (wh : Vec Ideal S512x1024 .bf16) (wo : Vec Ideal S1024x1024 .bf16) (r : Fin 512) (k : Fin 1024) :
    k0_pay2 ga on wn gb oh wh wo (ix2 r k)
      = rowmul (fun j => sig (ga (ix2 r j)) * rowmul (fun i => on (ix2 r i)) (fun i j => wn (ix2 i j)) j
          + sig (gb (ix2 r j)) * rowmul (fun i => oh (ix2 r i)) (fun i j => wh (ix2 i j)) j) (fun i j => wo (ix2 i j)) k := by
  unfold k0_pay2
  pointwise
  simp only [zero_sub]
  rfl

/-- The norm and the residual, element by element. -/
theorem pay1_apply (y x : FVec Ideal S512x1024 .f32) (g : Vec Ideal S1x1024 .f32) (r : Fin 512) (k : Fin 1024) :
    k0_pay1 y x g (ix2 r k) = x (ix2 r k) + rms (fun j => y (ix2 r j)) (fun j => g (ix2 0 j)) k := by
  unfold k0_pay1
  pointwise
  rfl

/-- What a point leaves in the result's block. -/
theorem out_A (c : Dev nD) (i : grid0.Coords) (a1 : Memref sig .tc .vmem S512x512 .bf16) (h1 : a1.IsWhole) (a2 : Memref sig .tc .vmem S512x512 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S512x1024 .bf16) (h7 : a7.IsWhole) (a8 : Memref sig .tc .vmem S1024x1024 .bf16) (h8 : a8.IsWhole) (a9 : Memref sig .tc .vmem S1x1024 .f32) (h9 : a9.IsWhole) (a10 : Memref sig .tc .vmem S512x1024 .f32) (h10 : a10.IsWhole)
    (x0 : Vec Ideal S512x512 .bf16) (x1 : Vec Ideal S512x512 .bf16) (x2 : Vec Ideal S512x1024 .f32) (x3 : Vec Ideal S512x1024 .f32) (x4 : Vec Ideal S512x1024 .f32) (x5 : Vec Ideal S512x1024 .bf16) (x6 : Vec Ideal S512x1024 .bf16) (x7 : Vec Ideal S1024x1024 .bf16) (x8 : Vec Ideal S1x1024 .f32) :
    out0_A_9 c i a1 h1 a2 h2 a3 h3 a4 h4 a5 h5 a6 h6 a7 h7 a8 h8 a9 h9 a10 h10 x0 x1 x2 x3 x4 x5 x6 x7 x8 = k0_pay1 (k0_pay2 x2 x0 x5 x3 x1 x6 x7) x4 x8 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_unit_zero (S := S512x1024) (by decide)]
  simp only [View.readAt_eq_ld, h1.read_unread, h2.read_unread, h3.read_unread, h4.read_unread, h5.read_unread, h6.read_unread, h7.read_unread, h8.read_unread, h9.read_unread]
  simp only [View.ld_unit_zero (S := S512x1024) (off := ![0, 0]) (by decide), View.ld_unit_zero (S := S512x512) (off := ![0, 0]) (by decide), View.ld_unit_zero (S := S1024x1024) (off := ![0, 0]) (by decide), View.ld_unit_zero (S := S1x1024) (off := ![0, 0]) (by decide)]

/-- What a point leaves in the result's block, element by element. -/
theorem out_apply (c : Dev nD) (i : grid0.Coords) (a1 : Memref sig .tc .vmem S512x512 .bf16) (h1 : a1.IsWhole) (a2 : Memref sig .tc .vmem S512x512 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S512x1024 .bf16) (h7 : a7.IsWhole) (a8 : Memref sig .tc .vmem S1024x1024 .bf16) (h8 : a8.IsWhole) (a9 : Memref sig .tc .vmem S1x1024 .f32) (h9 : a9.IsWhole) (a10 : Memref sig .tc .vmem S512x1024 .f32) (h10 : a10.IsWhole)
    (x0 : Vec Ideal S512x512 .bf16) (x1 : Vec Ideal S512x512 .bf16) (x2 : Vec Ideal S512x1024 .f32) (x3 : Vec Ideal S512x1024 .f32) (x4 : Vec Ideal S512x1024 .f32) (x5 : Vec Ideal S512x1024 .bf16) (x6 : Vec Ideal S512x1024 .bf16) (x7 : Vec Ideal S1024x1024 .bf16) (x8 : Vec Ideal S1x1024 .f32) (r : Fin 512) (k : Fin 1024) :
    out0_A_9 c i a1 h1 a2 h2 a3 h3 a4 h4 a5 h5 a6 h6 a7 h7 a8 h8 a9 h9 a10 h10 x0 x1 x2 x3 x4 x5 x6 x7 x8 (ix2 r k)
      = merged (fun j => x0 (ix2 r j)) (fun j => x1 (ix2 r j)) (fun j => x2 (ix2 r j)) (fun j => x3 (ix2 r j)) (fun j => x4 (ix2 r j))
          (fun i j => x5 (ix2 i j)) (fun i j => x6 (ix2 i j)) (fun i j => x7 (ix2 i j)) (fun j => x8 (ix2 0 j)) k := by
  rw [out_A, pay1_apply]
  simp only [pay2_apply]
  rfl

end Cert.Merge

end
-- ==== Proof.Merge.Ref.lean ====
module

public import proofs.«01_k».proof.Proof.Row.Spec
public import proofs.«01_k».proof.Proof.Gen.MergeRefIdeal.Read

@[expose] public section

set_option maxRecDepth 16384

noncomputable section

namespace Cert.Merge

open Cert.MergeRefIdeal Cert.MergeRefIdeal.Gen Cert.MergeRefIdeal.Read Idealize.ShloMosaic Cert.RowSpec

variable (on oh : FVec Ideal S8x4096x512 .f32) (gm : FVec Ideal S8x4096x2048 .f32) (x : FVec Ideal S8x4096x1024 .f32)
  (wn wh : FVec Ideal S1x512x1024 .f32) (wo : FVec Ideal S1x1024x1024 .f32) (g : FVec Ideal S1x1024 .f32)

/-- Column `j` of the first branch's gates. -/
abbrev gateA (j : Fin 1024) : Fin 2048 := ⟨j.val, by omega⟩
/-- Column `j` of the second branch's gates. -/
abbrev gateB (j : Fin 1024) : Fin 2048 := ⟨1024 + j.val, by omega⟩

/-- The reference's gated sum of the two branches. -/
theorem r20 (b : Fin 8) (s : Fin 4096) (k : Fin 1024) :
    val_main_v20 (F := Ideal) on oh gm wn wh (ix3 b s k)
      = sig (gm (ix3 b s (gateA k))) * rowmul (fun i => on (ix3 b s i)) (fun i j => wn (ix3 0 i j)) k
          + sig (gm (ix3 b s (gateB k))) * rowmul (fun i => oh (ix3 b s i)) (fun i j => wh (ix3 0 i j)) k := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl

/-- The reference's result before its last reshape. -/
theorem r37 (b : Fin 8) (s : Fin 4096) (k : Fin 1024) :
    val_main_v37 (F := Ideal) on oh gm x wn wh wo g (ix3 b s k)
      = merged (fun j => on (ix3 b s j)) (fun j => oh (ix3 b s j)) (fun j => gm (ix3 b s (gateA j))) (fun j => gm (ix3 b s (gateB j))) (fun j => x (ix3 b s j))
          (fun i j => wn (ix3 0 i j)) (fun i j => wh (ix3 0 i j)) (fun i j => wo (ix3 0 i j)) (fun j => g (ix2 0 j)) k := by
  unfold merged
  simp only [← r20]
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_cst_3 val_main_cst_4 val_main_cst_5
  generalize val_main_v20 (F := Ideal) on oh gm wn wh = y
  pointwise
  rfl

end Cert.Merge

end
-- ==== Proof.Merge.Array.lean ====
module

public import proofs.«01_k».proof.Proof.Merge.Block
public import proofs.«01_k».proof.Proof.Merge.Ref

@[expose] public section

set_option maxRecDepth 16384

noncomputable section

namespace Cert.Merge

open Cert.MergeIdeal Cert.MergeIdeal.Gen Idealize.ShloMosaic Idealize.ShloMosaic.TcCoe Cert.RowSpec Idealize.ShloMosaic.StableHlo

/-! ## The arrays that the region finds -/

/-- Position `s` of sequence `b`, among all rows. -/
def rowOf (b : Fin 8) (s : Fin 4096) : Fin 32768 := ⟨4096 * b.val + s.val, by omega⟩

variable (m : (ℓ : Loc nD τ sig) → Buf (Elt Ideal) ℓ)

/-- The gates as the leading columns of the packed array, with zeros behind them. -/
def packed (a : FVec Ideal S8x4096x2048 .f32) : FVec Ideal S32768x5632 .f32 :=
  concatenate S32768x5632 1 [⟨S32768x2048, shapeCast S32768x2048 a shapeCasts_S8x4096x2048_S32768x2048⟩,
    ⟨S32768x3584, broadcastInDim S32768x3584 ![] bcast_S_S32768x3584 (constant S_ .f32 0x00000000#32)⟩]
    concatenates_S32768x2048_S32768x3584_S32768x5632_d1

/-- The region finds the gates packed. -/
theorem V_z (c : Dev nD) : V m c main_v2 = packed (m ((c : Thread nD τ).loc main_arg2)) := by
  simp only [V, hostOps0, List.flatten_cons, List.flatten_nil, List.append_nil, List.cons_append, List.nil_append]
  after_results
  rfl

/-- The region finds the first branch as rows, cast. -/
theorem V_on (c : Dev nD) : (V m c main_v4 : FVec Ideal S32768x512 .bf16) = truncf (F := Ideal) .bf16 (shapeCast S32768x512 (m ((c : Thread nD τ).loc main_arg0) : FVec Ideal S8x4096x512 .f32) shapeCasts_S8x4096x512_S32768x512) bitsLt_bf16_f32 := by
  simp only [V, hostOps0, List.flatten_cons, List.flatten_nil, List.append_nil, List.cons_append, List.nil_append]
  after_results
  rfl

/-- The region finds the second branch as rows, cast. -/
theorem V_oh (c : Dev nD) : (V m c main_v6 : FVec Ideal S32768x512 .bf16) = truncf (F := Ideal) .bf16 (shapeCast S32768x512 (m ((c : Thread nD τ).loc main_arg1) : FVec Ideal S8x4096x512 .f32) shapeCasts_S8x4096x512_S32768x512) bitsLt_bf16_f32 := by
  simp only [V, hostOps0, List.flatten_cons, List.flatten_nil, List.append_nil, List.cons_append, List.nil_append]
  after_results
  rfl

/-- The region finds the residual stream as rows. -/
theorem V_x (c : Dev nD) : V m c main_v7 = shapeCast S32768x1024 (m ((c : Thread nD τ).loc main_arg3)) shapeCasts_S8x4096x1024_S32768x1024 := by
  simp only [V, hostOps0, List.flatten_cons, List.flatten_nil, List.append_nil, List.cons_append, List.nil_append]
  after_results
  rfl

/-- The region finds the first branch's weight matrix, cast. -/
theorem V_wn (c : Dev nD) : (V m c main_v9 : FVec Ideal S512x1024 .bf16) = truncf (F := Ideal) .bf16 (shapeCast S512x1024 (m ((c : Thread nD τ).loc main_arg4) : FVec Ideal S1x512x1024 .f32) shapeCasts_S1x512x1024_S512x1024) bitsLt_bf16_f32 := by
  simp only [V, hostOps0, List.flatten_cons, List.flatten_nil, List.append_nil, List.cons_append, List.nil_append]
  after_results
  rfl

/-- The region finds the second branch's weight matrix, cast. -/
theorem V_wh (c : Dev nD) : (V m c main_v11 : FVec Ideal S512x1024 .bf16) = truncf (F := Ideal) .bf16 (shapeCast S512x1024 (m ((c : Thread nD τ).loc main_arg5) : FVec Ideal S1x512x1024 .f32) shapeCasts_S1x512x1024_S512x1024) bitsLt_bf16_f32 := by
  simp only [V, hostOps0, List.flatten_cons, List.flatten_nil, List.append_nil, List.cons_append, List.nil_append]
  after_results
  rfl

/-- The region finds the output's weight matrix, cast. -/
theorem V_wo (c : Dev nD) : (V m c main_v13 : FVec Ideal S1024x1024 .bf16) = truncf (F := Ideal) .bf16 (shapeCast S1024x1024 (m ((c : Thread nD τ).loc main_arg6) : FVec Ideal S1x1024x1024 .f32) shapeCasts_S1x1024x1024_S1024x1024) bitsLt_bf16_f32 := by
  simp only [V, hostOps0, List.flatten_cons, List.flatten_nil, List.append_nil, List.cons_append, List.nil_append]
  after_results
  rfl

/-- The region finds the norm's gain as one row. -/
theorem V_g (c : Dev nD) : V m c main_v15 = shapeCast S1x1024 (shapeCast S1024 (m ((c : Thread nD τ).loc main_arg7)) shapeCasts_S1x1024_S1024) shapeCasts_S1024_S1x1024 := by
  simp only [V, hostOps0, List.flatten_cons, List.flatten_nil, List.append_nil, List.cons_append, List.nil_append]
  after_results
  rfl

/-- A branch as rows, element by element. -/
theorem rows512 (a : FVec Ideal S8x4096x512 .f32) (b : Fin 8) (s : Fin 4096) (k : Fin 512) :
    shapeCast S32768x512 a shapeCasts_S8x4096x512_S32768x512 (ix2 (rowOf b s) k) = a (ix3 b s k) := by
  refine shapeCast_apply _ _ _ _ ?_
  rw [Shape.rowMajor_val_three, Shape.rowMajor_val_two]
  simp [rowOf]; omega

/-- The residual stream as rows, element by element. -/
theorem rows1024 (a : FVec Ideal S8x4096x1024 .f32) (b : Fin 8) (s : Fin 4096) (k : Fin 1024) :
    shapeCast S32768x1024 a shapeCasts_S8x4096x1024_S32768x1024 (ix2 (rowOf b s) k) = a (ix3 b s k) := by
  refine shapeCast_apply _ _ _ _ ?_
  rw [Shape.rowMajor_val_three, Shape.rowMajor_val_two]
  simp [rowOf]; omega

/-- The gates as rows, element by element. -/
theorem rows2048 (a : FVec Ideal S8x4096x2048 .f32) (b : Fin 8) (s : Fin 4096) (k : Fin 2048) :
    shapeCast S32768x2048 a shapeCasts_S8x4096x2048_S32768x2048 (ix2 (rowOf b s) k) = a (ix3 b s k) := by
  refine shapeCast_apply _ _ _ _ ?_
  rw [Shape.rowMajor_val_three, Shape.rowMajor_val_two]
  simp [rowOf]; omega

/-- A branch's weight matrix, cast, element by element. -/
theorem wb_apply (a : FVec Ideal S1x512x1024 .f32) (r : Fin 512) (k : Fin 1024) :
    truncf (F := Ideal) .bf16 (shapeCast S512x1024 a shapeCasts_S1x512x1024_S512x1024) bitsLt_bf16_f32 (ix2 r k) = a (ix3 0 r k) := by
  show shapeCast S512x1024 a shapeCasts_S1x512x1024_S512x1024 (ix2 r k) = _
  refine shapeCast_apply _ _ _ _ ?_
  rw [Shape.rowMajor_val_three, Shape.rowMajor_val_two]
  simp

/-- The output's weight matrix, cast, element by element. -/
theorem wo_apply (a : FVec Ideal S1x1024x1024 .f32) (r : Fin 1024) (k : Fin 1024) :
    truncf (F := Ideal) .bf16 (shapeCast S1024x1024 a shapeCasts_S1x1024x1024_S1024x1024) bitsLt_bf16_f32 (ix2 r k) = a (ix3 0 r k) := by
  show shapeCast S1024x1024 a shapeCasts_S1x1024x1024_S1024x1024 (ix2 r k) = _
  refine shapeCast_apply _ _ _ _ ?_
  rw [Shape.rowMajor_val_three, Shape.rowMajor_val_two]
  simp

/-- A leading column of the packed array is the gate's. -/
theorem packed_apply (a : FVec Ideal S8x4096x2048 .f32) (b : Fin 8) (s : Fin 4096) (j : Fin 2048) (C : Fin 5632) (hC : C.val = j.val) :
    packed a (ix2 (rowOf b s) C) = a (ix3 b s j) := by
  unfold packed
  rw [← rows2048 a b s j]
  generalize shapeCast S32768x2048 a shapeCasts_S8x4096x2048_S32768x2048 = v
  have h : C.val < 2048 := by omega
  pointwise
  rw [dif_pos h]
  exact congrArg (fun q => v (ix2 (rowOf b s) q)) (Fin.ext hC)

/-! ## The blocks -/

/-- There are 64 grid points. -/
theorem lt_pt (t : Fin cfg0.N) : t.val < 64 := lt_of_lt_of_eq t.isLt (by decide +kernel)

/-- Row `r` of point `t`'s block, among all rows. -/
def grow (t : Fin cfg0.N) (r : Fin 512) : Fin 32768 := ⟨512 * t.val + r.val, by have := lt_pt t; omega⟩

/-- The block of the first branch at a grid point. -/
theorem ix_0 : ∀ t : Fin cfg0.N, win0_0.index t = ![t.val, 0] := (by decide +kernel : ∀ t : Fin grid0.N, _)
/-- The block of the second branch at a grid point. -/
theorem ix_1 : ∀ t : Fin cfg0.N, win0_1.index t = ![t.val, 0] := (by decide +kernel : ∀ t : Fin grid0.N, _)
/-- The block of the first gates at a grid point. -/
theorem ix_2 : ∀ t : Fin cfg0.N, win0_2.index t = ![t.val, 0] := (by decide +kernel : ∀ t : Fin grid0.N, _)
/-- The block of the second gates at a grid point. -/
theorem ix_3 : ∀ t : Fin cfg0.N, win0_3.index t = ![t.val, 1] := (by decide +kernel : ∀ t : Fin grid0.N, _)
/-- The block of the residual stream at a grid point. -/
theorem ix_4 : ∀ t : Fin cfg0.N, win0_4.index t = ![t.val, 0] := (by decide +kernel : ∀ t : Fin grid0.N, _)
/-- The only block of the first branch's weight matrix. -/
theorem ix_5 : ∀ t : Fin cfg0.N, win0_5.index t = ![0, 0] := (by decide +kernel : ∀ t : Fin grid0.N, _)
/-- The only block of the second branch's weight matrix. -/
theorem ix_6 : ∀ t : Fin cfg0.N, win0_6.index t = ![0, 0] := (by decide +kernel : ∀ t : Fin grid0.N, _)
/-- The only block of the output's weight matrix. -/
theorem ix_7 : ∀ t : Fin cfg0.N, win0_7.index t = ![0, 0] := (by decide +kernel : ∀ t : Fin grid0.N, _)
/-- The only block of the gain. -/
theorem ix_8 : ∀ t : Fin cfg0.N, win0_8.index t = ![0, 0] := (by decide +kernel : ∀ t : Fin grid0.N, _)
/-- The block of the result at a grid point. -/
theorem ix_9 : ∀ t : Fin cfg0.N, win0_9.index t = ![t.val, 0] := (by decide +kernel : ∀ t : Fin grid0.N, _)

/-- The block of the first branch at a grid point holds its rows. -/
theorem rd_0 (c : Dev nD) (t : Fin cfg0.N) (r : Fin 512) (b : Fin 8) (s : Fin 4096) (hR : rowOf b s = grow t r) (k : Fin 512) :
    (iblk m c 0 t : FVec Ideal S512x512 .bf16) (ix2 r k) = (m ((c : Thread nD τ).loc main_arg0) : FVec Ideal S8x4096x512 .f32) (ix3 b s k) := by
  refine (congrArg (V m c main_v4 : FVec Ideal S32768x512 .bf16) (?_ : _ = ix2 (grow t r) k)).trans ?_
  · funext a
    refine Fin.ext ?_
    show win0_0.index t a * win0_0.size a + 1 * ((ix2 r k : S512x512.Idx) a).val = _
    rw [ix_0 t]
    fin_cases a <;> simp [win0_0, grow] <;> omega
  · rw [← hR, V_on]; exact rows512 _ b s k

/-- The block of the second branch at a grid point holds its rows. -/
theorem rd_1 (c : Dev nD) (t : Fin cfg0.N) (r : Fin 512) (b : Fin 8) (s : Fin 4096) (hR : rowOf b s = grow t r) (k : Fin 512) :
    (iblk m c 1 t : FVec Ideal S512x512 .bf16) (ix2 r k) = (m ((c : Thread nD τ).loc main_arg1) : FVec Ideal S8x4096x512 .f32) (ix3 b s k) := by
  refine (congrArg (V m c main_v6 : FVec Ideal S32768x512 .bf16) (?_ : _ = ix2 (grow t r) k)).trans ?_
  · funext a
    refine Fin.ext ?_
    show win0_1.index t a * win0_1.size a + 1 * ((ix2 r k : S512x512.Idx) a).val = _
    rw [ix_1 t]
    fin_cases a <;> simp [win0_1, grow] <;> omega
  · rw [← hR, V_oh]; exact rows512 _ b s k

/-- The block of the residual stream at a grid point holds its rows. -/
theorem rd_4 (c : Dev nD) (t : Fin cfg0.N) (r : Fin 512) (b : Fin 8) (s : Fin 4096) (hR : rowOf b s = grow t r) (k : Fin 1024) :
    (iblk m c 4 t : FVec Ideal S512x1024 .f32) (ix2 r k) = (m ((c : Thread nD τ).loc main_arg3) : FVec Ideal S8x4096x1024 .f32) (ix3 b s k) := by
  refine (congrArg (V m c main_v7 : FVec Ideal S32768x1024 .f32) (?_ : _ = ix2 (grow t r) k)).trans ?_
  · funext a
    refine Fin.ext ?_
    show win0_4.index t a * win0_4.size a + 1 * ((ix2 r k : S512x1024.Idx) a).val = _
    rw [ix_4 t]
    fin_cases a <;> simp [win0_4, grow] <;> omega
  · rw [← hR, V_x]; exact rows1024 _ b s k

/-- The block of the first gates at a grid point holds its rows. -/
theorem rd_2 (c : Dev nD) (t : Fin cfg0.N) (r : Fin 512) (b : Fin 8) (s : Fin 4096) (hR : rowOf b s = grow t r) (k : Fin 1024) :
    (X0_2 m c t : FVec Ideal S512x1024 .f32) (ix2 r k) = (m ((c : Thread nD τ).loc main_arg2) : FVec Ideal S8x4096x2048 .f32) (ix3 b s (gateA k)) := by
  have e : X0_2 m c t (ix2 r k : S512x1024.Idx) = (V m c main_v2 : FVec Ideal S32768x5632 .f32) (ix2 (grow t r) ⟨k.val, by omega⟩) := by
    unfold X0_2 Pipeline.Window.fill
    rw [dif_pos (moved0_2 t _)]
    refine congrArg (V m c main_v2 : FVec Ideal S32768x5632 .f32) ?_
    funext a
    refine Fin.ext ?_
    show win0_2.index t a * win0_2.size a + 1 * ((ix2 r k : S512x1024.Idx) a).val = _
    rw [ix_2 t]
    fin_cases a <;> simp [win0_2, grow] <;> omega
  rw [← hR, V_z] at e
  exact e.trans (packed_apply _ b s _ _ rfl)

/-- The block of the second gates at a grid point holds its rows. -/
theorem rd_3 (c : Dev nD) (t : Fin cfg0.N) (r : Fin 512) (b : Fin 8) (s : Fin 4096) (hR : rowOf b s = grow t r) (k : Fin 1024) :
    (X0_3 m c t : FVec Ideal S512x1024 .f32) (ix2 r k) = (m ((c : Thread nD τ).loc main_arg2) : FVec Ideal S8x4096x2048 .f32) (ix3 b s (gateB k)) := by
  have e : X0_3 m c t (ix2 r k : S512x1024.Idx) = (V m c main_v2 : FVec Ideal S32768x5632 .f32) (ix2 (grow t r) ⟨1024 + k.val, by omega⟩) := by
    unfold X0_3 Pipeline.Window.fill
    rw [dif_pos (moved0_3 t _)]
    refine congrArg (V m c main_v2 : FVec Ideal S32768x5632 .f32) ?_
    funext a
    refine Fin.ext ?_
    show win0_3.index t a * win0_3.size a + 1 * ((ix2 r k : S512x1024.Idx) a).val = _
    rw [ix_3 t]
    fin_cases a <;> simp [win0_3, grow] <;> omega
  rw [← hR, V_z] at e
  exact e.trans (packed_apply _ b s _ _ rfl)

/-- The only block of the first branch's weight matrix is the matrix. -/
theorem rd_5 (c : Dev nD) (t : Fin cfg0.N) (r : Fin 512) (k : Fin 1024) : (iblk m c 5 t : FVec Ideal S512x1024 .bf16) (ix2 r k) = (m ((c : Thread nD τ).loc main_arg4) : FVec Ideal S1x512x1024 .f32) (ix3 0 r k) := by
  refine (congrArg (V m c main_v9 : FVec Ideal S512x1024 .bf16) (?_ : _ = ix2 r k)).trans ?_
  · funext a
    refine Fin.ext ?_
    show win0_5.index t a * win0_5.size a + 1 * ((ix2 r k : S512x1024.Idx) a).val = _
    rw [ix_5 t]
    fin_cases a <;> simp [win0_5]
  · rw [V_wn]; exact wb_apply _ r k

/-- The only block of the second branch's weight matrix is the matrix. -/
theorem rd_6 (c : Dev nD) (t : Fin cfg0.N) (r : Fin 512) (k : Fin 1024) : (iblk m c 6 t : FVec Ideal S512x1024 .bf16) (ix2 r k) = (m ((c : Thread nD τ).loc main_arg5) : FVec Ideal S1x512x1024 .f32) (ix3 0 r k) := by
  refine (congrArg (V m c main_v11 : FVec Ideal S512x1024 .bf16) (?_ : _ = ix2 r k)).trans ?_
  · funext a
    refine Fin.ext ?_
    show win0_6.index t a * win0_6.size a + 1 * ((ix2 r k : S512x1024.Idx) a).val = _
    rw [ix_6 t]
    fin_cases a <;> simp [win0_6]
  · rw [V_wh]; exact wb_apply _ r k

/-- The only block of the output's weight matrix is the matrix. -/
theorem rd_7 (c : Dev nD) (t : Fin cfg0.N) (r : Fin 1024) (k : Fin 1024) : (iblk m c 7 t : FVec Ideal S1024x1024 .bf16) (ix2 r k) = (m ((c : Thread nD τ).loc main_arg6) : FVec Ideal S1x1024x1024 .f32) (ix3 0 r k) := by
  refine (congrArg (V m c main_v13 : FVec Ideal S1024x1024 .bf16) (?_ : _ = ix2 r k)).trans ?_
  · funext a
    refine Fin.ext ?_
    show win0_7.index t a * win0_7.size a + 1 * ((ix2 r k : S1024x1024.Idx) a).val = _
    rw [ix_7 t]
    fin_cases a <;> simp [win0_7]
  · rw [V_wo]; exact wo_apply _ r k

/-- The block of the gain is the gain. -/
theorem rd_8 (c : Dev nD) (t : Fin cfg0.N) (k : Fin 1024) : (iblk m c 8 t : FVec Ideal S1x1024 .f32) (ix2 0 k) = (m ((c : Thread nD τ).loc main_arg7) : FVec Ideal S1x1024 .f32) (ix2 0 k) := by
  refine (congrArg (V m c main_v15 : FVec Ideal S1x1024 .f32) (?_ : _ = ix2 0 k)).trans ?_
  · funext a
    refine Fin.ext ?_
    show win0_8.index t a * win0_8.size a + 1 * ((ix2 0 k : S1x1024.Idx) a).val = _
    rw [ix_8 t]
    fin_cases a <;> simp [win0_8]
  · rw [V_g]; pointwise

/-- Where an element of the result's block lies in the result. -/
theorem emb_9 (t : Fin cfg0.N) (r : Fin 512) (k : Fin 1024) : (((cfg0.win 9).blk t).view.emb (ix2 r k : S512x1024.Idx) : S32768x1024.Idx) = ix2 (grow t r) k := by
  funext a
  refine Fin.ext ?_
  show win0_9.index t a * win0_9.size a + 1 * ((ix2 r k : S512x1024.Idx) a).val = _
  rw [ix_9 t]
  fin_cases a <;> simp [win0_9, grow] <;> omega

/-- Each row lies in the block of one grid point. -/
theorem pt_of (R : Fin 32768) : ∃ (t : Fin cfg0.N) (r : Fin 512), R = grow t r := by
  have hN : cfg0.N = 64 := by decide +kernel
  exact ⟨⟨R.val / 512, by omega⟩, ⟨R.val % 512, by omega⟩, Fin.ext (by show R.val = 512 * (R.val / 512) + R.val % 512; omega)⟩

/-- The result array after the run, element by element. -/
theorem y_apply (c : Dev nD) (b : Fin 8) (s : Fin 4096) (k : Fin 1024) :
    ((dats m 0 c).arrAt 9 cfg0.N : FVec Ideal S32768x1024 .f32) (ix2 (rowOf b s) k)
      = merged (fun j => (m ((c : Thread nD τ).loc main_arg0) : FVec Ideal S8x4096x512 .f32) (ix3 b s j)) (fun j => (m ((c : Thread nD τ).loc main_arg1) : FVec Ideal S8x4096x512 .f32) (ix3 b s j))
          (fun j => (m ((c : Thread nD τ).loc main_arg2) : FVec Ideal S8x4096x2048 .f32) (ix3 b s (gateA j))) (fun j => (m ((c : Thread nD τ).loc main_arg2) : FVec Ideal S8x4096x2048 .f32) (ix3 b s (gateB j)))
          (fun j => (m ((c : Thread nD τ).loc main_arg3) : FVec Ideal S8x4096x1024 .f32) (ix3 b s j)) (fun i j => (m ((c : Thread nD τ).loc main_arg4) : FVec Ideal S1x512x1024 .f32) (ix3 0 i j)) (fun i j => (m ((c : Thread nD τ).loc main_arg5) : FVec Ideal S1x512x1024 .f32) (ix3 0 i j))
          (fun i j => (m ((c : Thread nD τ).loc main_arg6) : FVec Ideal S1x1024x1024 .f32) (ix3 0 i j)) (fun j => (m ((c : Thread nD τ).loc main_arg7) : FVec Ideal S1x1024 .f32) (ix2 0 j)) k := by
  obtain ⟨t, r, hR⟩ := pt_of (rowOf b s)
  have e := congrFun (Cert.MergeIdeal.Value.blocks9 m c t (flush0_9 t)) (ix2 r k : S512x1024.Idx)
  rw [Cert.MergeIdeal.Value.flushed9_A] at e
  have e1 : ((dats m 0 c).arrAt 9 cfg0.N : FVec Ideal S32768x1024 .f32) (((cfg0.win 9).blk t).view.emb (ix2 r k : S512x1024.Idx))
    = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (iblk m c 0 t) (iblk m c 1 t) (X0_2 m c t) (X0_3 m c t) (iblk m c 4 t) (iblk m c 5 t) (iblk m c 6 t) (iblk m c 7 t) (iblk m c 8 t) (ix2 r k) := e
  rw [emb_9, ← hR] at e1
  rw [e1, out_apply]
  simp only [rd_0 m c t r b s hR, rd_1 m c t r b s hR, rd_2 m c t r b s hR, rd_3 m c t r b s hR, rd_4 m c t r b s hR, rd_5, rd_6, rd_7, rd_8]

end Cert.Merge

end
-- ==== Proof.Merge.Claims.lean ====
module

public import proofs.«01_k».proof.Defs
public import proofs.«01_k».proof.Proof.Merge.Array
public import proofs.«01_k».proof.Proof.Merge.Ref
public import proofs.«01_k».proof.Proof.Gen.Merge
public import proofs.«01_k».proof.Proof.Gen.Merge.Frame
public import proofs.«01_k».proof.Proof.Gen.MergeRefIdeal.Run
public import Idealize.ShloMosaic.Adequacy
public import Idealize.ShloMosaic.Init

@[expose] public section

set_option maxRecDepth 16384

noncomputable section

namespace Cert.Merge

open Idealize.ShloMosaic Idealize.SL.Sem Cert.RowSpec

/-- The kernel as printed runs, keeps its arguments and leaves every counter at zero. -/
theorem frame_k : Cert.quiescent_Merge := fun m ρ _ => Cert.Merge.Gen.frame m ρ

/-- So does the kernel read over the reals. -/
theorem frame_i : Cert.quiescent_MergeIdeal := fun m ρ _ => Cert.MergeIdeal.Gen.frame m ρ

/-- So does the reference, which declares no semaphore. -/
theorem frame_r : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- Every row is a position of a sequence. -/
theorem row_of (r : Fin 32768) : ∃ (b : Fin 8) (s : Fin 4096), r = rowOf b s :=
  ⟨⟨r.val / 4096, by omega⟩, ⟨r.val % 4096, by omega⟩, Fin.ext (by show r.val = 4096 * (r.val / 4096) + r.val % 4096; omega)⟩

/-- The reference's result and the kernel's agree at every index. -/
theorem y_eq (m : (ℓ : Loc Cert.MergeIdeal.nD Cert.MergeIdeal.τ Cert.MergeIdeal.sig) → Buf (Elt Ideal) ℓ) (c : Dev Cert.MergeIdeal.nD) :
    Cert.MergeRefIdeal.Read.val_main_v38 (F := Ideal) (m ((c.tc : Thread Cert.MergeIdeal.nD Cert.MergeIdeal.τ).loc Cert.MergeIdeal.main_arg0))
      (m ((c.tc : Thread Cert.MergeIdeal.nD Cert.MergeIdeal.τ).loc Cert.MergeIdeal.main_arg1)) (m ((c.tc : Thread Cert.MergeIdeal.nD Cert.MergeIdeal.τ).loc Cert.MergeIdeal.main_arg2))
      (m ((c.tc : Thread Cert.MergeIdeal.nD Cert.MergeIdeal.τ).loc Cert.MergeIdeal.main_arg3)) (m ((c.tc : Thread Cert.MergeIdeal.nD Cert.MergeIdeal.τ).loc Cert.MergeIdeal.main_arg4))
      (m ((c.tc : Thread Cert.MergeIdeal.nD Cert.MergeIdeal.τ).loc Cert.MergeIdeal.main_arg5)) (m ((c.tc : Thread Cert.MergeIdeal.nD Cert.MergeIdeal.τ).loc Cert.MergeIdeal.main_arg6))
      (m ((c.tc : Thread Cert.MergeIdeal.nD Cert.MergeIdeal.τ).loc Cert.MergeIdeal.main_arg7))
      = (Cert.MergeIdeal.Gen.dats m 0 c).arrAt 9 Cert.MergeIdeal.cfg0.N := by
  funext i
  obtain ⟨r, k, rfl⟩ : ∃ (r : Fin 32768) (k : Fin 1024), i = ix2 r k := ⟨i 0, i 1, by funext a; match a with | ⟨0, _⟩ => rfl | ⟨1, _⟩ => rfl⟩
  obtain ⟨b, s, rfl⟩ := row_of r
  exact ((rows1024 _ b s k).trans (r37 _ _ _ _ _ _ _ _ b s k)).trans (y_apply m c b s k).symm

/-- Over the reals the kernel and the reference end with equal results. -/
theorem algebraic : Cert.algebraic_MergeIdeal_MergeRefIdeal := by
  intro m ρ m' ρ' _ hagree
  refine ⟨fun c => (Cert.MergeIdeal.Gen.dats m 0 c).arrAt 9 Cert.MergeIdeal.cfg0.N, ?_, ?_⟩
  · exact Cert.MergeIdeal.Value.run_blocks m ρ
  · refine (θ_run Cert.MergeRefIdeal.defs _ _).mono (fun r h c => ⟨(h c).1.trans ?_, (h c).2⟩) (Cert.MergeRefIdeal.Value.run (F := Ideal) m' ρ')
    obtain ⟨h0, h1, h2, h3, h4, h5, h6, h7⟩ := hagree c
    refine (Cert.MergeRefIdeal.Read.val_main_v38_eq m' c).trans ?_
    rw [h0, h1, h2, h3, h4, h5, h6, h7]
    exact y_eq m c

end Cert.Merge

end
-- ==== Proof.KvRows.Block.lean ====
module

public import proofs.«01_k».proof.Proof.Gen.KvRowsIdeal.Value
public import Idealize.ShloMosaic.Lib.Tactic
public import proofs.«01_k».proof.Proof.Row.Spec

@[expose] public section

set_option maxRecDepth 16384

noncomputable section

namespace Cert.KvRows

open Cert.KvRowsIdeal Cert.KvRowsIdeal.Gen Idealize.ShloMosaic Idealize.ShloMosaic.TcCoe

/-- A tile transposed, as the block stores it. -/
def tr (v : Vec Ideal S128x128 .f32) : FVec Ideal S1x128x128 .f32 :=
  shapeCast S1x128x128 (transpose S128x128 [1, 0] (shapeCast S128x128 v shapeCasts_S128x128_S128x128) transposes_S128x128_p1_0_S128x128) shapeCasts_S128x128_S1x128x128

/-- A tile transposed, element by element. -/
theorem tr_apply (v : Vec Ideal S128x128 .f32) (a : Fin 1) (i l : Fin 128) : tr v (ix3 a i l) = v (ix2 l i) := by
  unfold tr
  pointwise

/-- What a block of one result holds: the two inputs' blocks transposed, one above the other. -/
def stacked (x y : Vec Ideal S512x128 .f32) (q : Fin 256) (l : Fin 512) : EReal :=
  if h : q.val < 128 then x (ix2 l ⟨q.val, h⟩) else y (ix2 l ⟨q.val - 128, by omega⟩)

/-- A stored tile of the first input is its part of the block. -/
theorem upper (j : Fin 4) (x y : Vec Ideal S512x128 .f32) (o1 : Fin 2 → ℕ) (h1 : o1 = ![128 * j.val, 0]) (o2 : Fin 3 → ℕ) (h2 : o2 = ![0, 0, 128 * j.val])
    (inb : ∀ a, o1 a + S128x128.size a ≤ S512x128.size a) (inb' : ∀ a, o2 a + S1x128x128.size a ≤ S1x256x512.size a) (z : S1x128x128.Idx) :
    tr (View.ld x (Rect.unit (s := S512x128) o1 S128x128.size inb)) z
      = (fun u : S1x256x512.Idx => stacked x y (u 1) (u 2)) ((Rect.unit (s := S1x256x512) o2 S1x128x128.size inb').emb z) := by
  subst h1 h2
  obtain ⟨a, i, l, rfl⟩ : ∃ (a : Fin 1) (i l : Fin 128), z = ix3 a i l := ⟨z 0, z 1, z 2, by
    funext c; match c with | ⟨0, _⟩ => rfl | ⟨1, _⟩ => rfl | ⟨2, _⟩ => rfl⟩
  rw [tr_apply]
  have e1 : ((Rect.unit (s := S1x256x512) ![0, 0, 128 * j.val] S1x128x128.size inb').emb (ix3 a i l)) 1 = (⟨i.val, by omega⟩ : Fin 256) := Fin.ext (by simp [Rect.emb, Rect.unit, ix3])
  have e2 : ((Rect.unit (s := S1x256x512) ![0, 0, 128 * j.val] S1x128x128.size inb').emb (ix3 a i l)) 2 = (⟨128 * j.val + l.val, by omega⟩ : Fin 512) := Fin.ext (by simp [Rect.emb, Rect.unit, ix3])
  show _ = stacked x y _ _
  rw [e1, e2]
  unfold stacked
  rw [dif_pos i.isLt]
  refine congrArg x ?_
  funext c
  match c with
  | ⟨0, _⟩ => exact Fin.ext (by simp [Rect.emb, Rect.unit, ix2])
  | ⟨1, _⟩ => exact Fin.ext (by simp [Rect.emb, Rect.unit, ix2])

/-- A stored tile of the second input is its part of the block. -/
theorem lower (j : Fin 4) (x y : Vec Ideal S512x128 .f32) (o1 : Fin 2 → ℕ) (h1 : o1 = ![128 * j.val, 0]) (o2 : Fin 3 → ℕ) (h2 : o2 = ![0, 128, 128 * j.val])
    (inb : ∀ a, o1 a + S128x128.size a ≤ S512x128.size a) (inb' : ∀ a, o2 a + S1x128x128.size a ≤ S1x256x512.size a) (z : S1x128x128.Idx) :
    tr (View.ld y (Rect.unit (s := S512x128) o1 S128x128.size inb)) z
      = (fun u : S1x256x512.Idx => stacked x y (u 1) (u 2)) ((Rect.unit (s := S1x256x512) o2 S1x128x128.size inb').emb z) := by
  subst h1 h2
  obtain ⟨a, i, l, rfl⟩ : ∃ (a : Fin 1) (i l : Fin 128), z = ix3 a i l := ⟨z 0, z 1, z 2, by
    funext c; match c with | ⟨0, _⟩ => rfl | ⟨1, _⟩ => rfl | ⟨2, _⟩ => rfl⟩
  rw [tr_apply]
  have e1 : ((Rect.unit (s := S1x256x512) ![0, 128, 128 * j.val] S1x128x128.size inb').emb (ix3 a i l)) 1 = (⟨128 + i.val, by omega⟩ : Fin 256) := Fin.ext (by simp [Rect.emb, Rect.unit, ix3])
  have e2 : ((Rect.unit (s := S1x256x512) ![0, 128, 128 * j.val] S1x128x128.size inb').emb (ix3 a i l)) 2 = (⟨128 * j.val + l.val, by omega⟩ : Fin 512) := Fin.ext (by simp [Rect.emb, Rect.unit, ix3])
  show _ = stacked x y _ _
  rw [e1, e2]
  unfold stacked
  rw [dif_neg (show ¬(128 + i.val < 128) by omega)]
  refine congrArg y ?_
  funext c
  match c with
  | ⟨0, _⟩ => exact Fin.ext (by simp [Rect.emb, Rect.unit, ix2])
  | ⟨1, _⟩ => exact Fin.ext (by simp [Rect.emb, Rect.unit, ix2])

/-- The eight tiles that a point stores in one result's block. -/
def tiles (x y : Vec Ideal S512x128 .f32) : List (View.Piece (Elt Ideal) S1x256x512 .f32) :=
  [⟨r0_11, tr (View.ld y r0_6)⟩, ⟨r0_10, tr (View.ld y r0_4)⟩, ⟨r0_9, tr (View.ld y r0_2)⟩, ⟨r0_8, tr (View.ld y r0_0)⟩,
   ⟨r0_7, tr (View.ld x r0_6)⟩, ⟨r0_5, tr (View.ld x r0_4)⟩, ⟨r0_3, tr (View.ld x r0_2)⟩, ⟨r0_1, tr (View.ld x r0_0)⟩]

/-- The eight tiles together, element by element. -/
theorem tiles_apply (x y : Vec Ideal S512x128 .f32) (u : S1x256x512.Idx) : View.canon (tiles x y) u = stacked x y (u 1) (u 2) := by
  refine View.canon_apply_of_pieces (Val := Elt Ideal) (e := .f32) (fun u : S1x256x512.Idx => stacked x y (u 1) (u 2)) _ ?_ u ?_
  · unfold tiles
    simp only [List.forall_mem_cons]
    exact ⟨fun z => lower 3 x y _ rfl _ rfl _ _ z, fun z => lower 2 x y _ rfl _ rfl _ _ z, fun z => lower 1 x y _ rfl _ rfl _ _ z, fun z => lower 0 x y _ rfl _ rfl _ _ z,
      fun z => upper 3 x y _ rfl _ rfl _ _ z, fun z => upper 2 x y _ rfl _ rfl _ _ z, fun z => upper 1 x y _ rfl _ rfl _ _ z, fun z => upper 0 x y _ rfl _ rfl _ _ z,
      fun _ h => absurd h List.not_mem_nil⟩
  · exact cover0_6 _ _ _ _ _ _ _ _ u

/-- The block of the first result is its eight tiles. -/
theorem out6_eq (x0 x1 x2 x3 x4 x5 : Vec Ideal S512x128 .f32) : out0_6 x0 x1 x2 x3 x4 x5 = View.canon (tiles x0 x1) := rfl
/-- The block of the second result is its eight tiles. -/
theorem out7_eq (x0 x1 x2 x3 x4 x5 : Vec Ideal S512x128 .f32) : out0_7 x0 x1 x2 x3 x4 x5 = View.canon (tiles x2 x3) := rfl
/-- The block of the third result is its eight tiles. -/
theorem out8_eq (x0 x1 x2 x3 x4 x5 : Vec Ideal S512x128 .f32) : out0_8 x0 x1 x2 x3 x4 x5 = View.canon (tiles x4 x5) := rfl

end Cert.KvRows

end
-- ==== Proof.KvRows.Ref.lean ====
module

public import proofs.«01_k».proof.Proof.Gen.KvRowsRefIdeal.Read
public import Idealize.ShloMosaic.Lib.Pointwise

@[expose] public section

set_option maxRecDepth 16384

noncomputable section

namespace Cert.KvRows

open Cert.KvRowsRefIdeal Cert.KvRowsRefIdeal.Gen Cert.KvRowsRefIdeal.Read Idealize.ShloMosaic

/-- The column of feature `d` of head `h` of the keys or the values, among 256. -/
def flat (p h : Fin 2) (d : Fin 64) : Fin 256 := ⟨128 * p.val + 64 * h.val + d.val, by omega⟩

/-- Every column is one of those. -/
theorem flat_of (q : Fin 256) : ∃ (p h : Fin 2) (d : Fin 64), q = flat p h d :=
  ⟨⟨q.val / 128, by omega⟩, ⟨q.val / 64 % 2, by omega⟩, ⟨q.val % 64, by omega⟩, Fin.ext (by show q.val = 128 * (q.val / 128) + 64 * (q.val / 64 % 2) + q.val % 64; omega)⟩

/-- The reference's first result, element by element. -/
theorem r1 (x : FVec Ideal S8x4096x2x2x64 .f32) (b : Fin 8) (s : Fin 4096) (p h : Fin 2) (d : Fin 64) :
    val_main_v1 (F := Ideal) x (ix3 b (flat p h d) s) = x (ix5 b s p h d) := by
  unfold val_main_v1
  refine (shapeCast_apply _ _ _ (ix5 b p h d s) ?_).trans ?_
  · rw [Shape.rowMajor_val_five, Shape.rowMajor_val_three]
    simp [flat]; omega
  · unfold val_main_v0
    pointwise

/-- The reference's second result, element by element. -/
theorem r3 (x : FVec Ideal S8x4096x2x2x64 .f32) (b : Fin 8) (s : Fin 4096) (p h : Fin 2) (d : Fin 64) :
    val_main_v3 (F := Ideal) x (ix3 b (flat p h d) s) = x (ix5 b s p h d) := r1 x b s p h d

/-- Position `s` of the last 512. -/
def late (s : Fin 512) : Fin 4096 := ⟨3584 + s.val, by omega⟩

/-- The reference's third result, element by element. -/
theorem r6 (x : FVec Ideal S8x4096x2x2x64 .f32) (b : Fin 8) (s : Fin 512) (p h : Fin 2) (d : Fin 64) :
    val_main_v6 (F := Ideal) x (ix3 b (flat p h d) s) = x (ix5 b (late s) p h d) := by
  unfold val_main_v6
  refine (shapeCast_apply _ _ _ (ix5 b p h d s) ?_).trans ?_
  · rw [Shape.rowMajor_val_five, Shape.rowMajor_val_three]
    simp [flat]; omega
  · unfold val_main_v5 val_main_v4
    pointwise
    rfl

end Cert.KvRows

end
-- ==== Proof.KvRows.Array.lean ====
module

public import proofs.«01_k».proof.Proof.KvRows.Block
public import proofs.«01_k».proof.Proof.KvRows.Ref

@[expose] public section

set_option maxRecDepth 16384

noncomputable section

namespace Cert.KvRows

open Cert.KvRowsIdeal Cert.KvRowsIdeal.Gen Idealize.ShloMosaic Idealize.ShloMosaic.TcCoe Idealize.ShloMosaic.StableHlo

/-! ## The packed array that the region finds -/

/-- Position `s` of sequence `b`, among all rows. -/
def rowOf (b : Fin 8) (s : Fin 4096) : Fin 32768 := ⟨4096 * b.val + s.val, by omega⟩

/-- Column `q` of projection `k`, among all columns. -/
def zcol (k : Fin 3) (q : Fin 256) : Fin 5632 := ⟨4608 + 256 * k.val + q.val, by omega⟩

variable (m : (ℓ : Loc nD τ sig) → Buf (Elt Ideal) ℓ)

/-- Three projections side by side, with zeros on both sides. -/
def sides (x0 x1 x2 : FVec Ideal S32768x256 .f32) : FVec Ideal S32768x5632 .f32 :=
  concatenate S32768x5632 1
    [⟨S32768x4608, broadcastInDim S32768x4608 ![] bcast_S_S32768x4608 (constant S_ .f32 0x00000000#32)⟩,
     ⟨S32768x256, x0⟩, ⟨S32768x256, x1⟩, ⟨S32768x256, x2⟩,
     ⟨S32768x256, broadcastInDim S32768x256 ![] bcast_S_S32768x256 (constant S_ .f32 0x00000000#32)⟩]
    concatenates_S32768x4608_S32768x256_S32768x256_S32768x256_S32768x256_S32768x5632_d1

/-- A projection as rows. -/
def rows (a : FVec Ideal S8x4096x2x2x64 .f32) : FVec Ideal S32768x256 .f32 := shapeCast S32768x256 a shapeCasts_S8x4096x2x2x64_S32768x256

/-- A projection as rows, element by element. -/
theorem rows_apply (a : FVec Ideal S8x4096x2x2x64 .f32) (b : Fin 8) (s : Fin 4096) (p h : Fin 2) (d : Fin 64) :
    rows a (ix2 (rowOf b s) (flat p h d)) = a (ix5 b s p h d) := by
  unfold rows
  refine shapeCast_apply _ _ _ _ ?_
  rw [Shape.rowMajor_val_five, Shape.rowMajor_val_two]
  simp [rowOf, flat]; omega

/-- The region finds the three projections packed. -/
theorem V_z (c : Dev nD) : V m c main_v5 = sides (rows (m ((c : Thread nD τ).loc main_arg0))) (rows (m ((c : Thread nD τ).loc main_arg1))) (rows (m ((c : Thread nD τ).loc main_arg2))) := by
  simp only [V, hostOps0, List.flatten_cons, List.flatten_nil, List.append_nil, List.cons_append, List.nil_append]
  after_results
  rfl

/-- The packed array at a column of the first projection. -/
theorem sides0 (x0 x1 x2 : FVec Ideal S32768x256 .f32) (r : Fin 32768) (q : Fin 256) : sides x0 x1 x2 (ix2 r (zcol 0 q)) = x0 (ix2 r q) := by
  unfold sides
  have hq := q.isLt
  pointwise
  rw [dif_neg (show ¬((zcol 0 q).val < 4608) by show ¬(4608 + 256 * 0 + q.val < 4608); omega), dif_pos (show (zcol 0 q).val - 4608 < 256 by show 4608 + 256 * 0 + q.val - 4608 < 256; omega)]
  exact congrArg (fun q => x0 (ix2 r q)) (Fin.ext (by show 4608 + 256 * 0 + q.val - 4608 = q.val; omega))

/-- The packed array at a column of the second projection. -/
theorem sides1 (x0 x1 x2 : FVec Ideal S32768x256 .f32) (r : Fin 32768) (q : Fin 256) : sides x0 x1 x2 (ix2 r (zcol 1 q)) = x1 (ix2 r q) := by
  unfold sides
  have hq := q.isLt
  pointwise
  rw [dif_neg (show ¬((zcol 1 q).val < 4608) by show ¬(4608 + 256 * 1 + q.val < 4608); omega), dif_neg (show ¬((zcol 1 q).val - 4608 < 256) by show ¬(4608 + 256 * 1 + q.val - 4608 < 256); omega), dif_pos (show (zcol 1 q).val - 4608 - 256 < 256 by show 4608 + 256 * 1 + q.val - 4608 - 256 < 256; omega)]
  exact congrArg (fun q => x1 (ix2 r q)) (Fin.ext (by show 4608 + 256 * 1 + q.val - 4608 - 256 = q.val; omega))

/-- The packed array at a column of the third projection. -/
theorem sides2 (x0 x1 x2 : FVec Ideal S32768x256 .f32) (r : Fin 32768) (q : Fin 256) : sides x0 x1 x2 (ix2 r (zcol 2 q)) = x2 (ix2 r q) := by
  unfold sides
  have hq := q.isLt
  pointwise
  rw [dif_neg (show ¬((zcol 2 q).val < 4608) by show ¬(4608 + 256 * 2 + q.val < 4608); omega), dif_neg (show ¬((zcol 2 q).val - 4608 < 256) by show ¬(4608 + 256 * 2 + q.val - 4608 < 256); omega), dif_neg (show ¬((zcol 2 q).val - 4608 - 256 < 256) by show ¬(4608 + 256 * 2 + q.val - 4608 - 256 < 256); omega), dif_pos (show (zcol 2 q).val - 4608 - 256 - 256 < 256 by show 4608 + 256 * 2 + q.val - 4608 - 256 - 256 < 256; omega)]
  exact congrArg (fun q => x2 (ix2 r q)) (Fin.ext (by show 4608 + 256 * 2 + q.val - 4608 - 256 - 256 = q.val; omega))

/-! ## The blocks of the windows -/

/-- There are sixty-four grid points. -/
theorem lt_pt (t : Fin cfg0.N) : t.val < 64 := lt_of_lt_of_eq t.isLt (by decide +kernel)

/-- Row `l` of point `t`'s block, among all rows. -/
def grow (t : Fin cfg0.N) (l : Fin 512) : Fin 32768 := ⟨512 * t.val + l.val, by have := lt_pt t; omega⟩
/-- The sequence of point `t`. -/
def seq (t : Fin cfg0.N) : Fin 8 := ⟨t.val / 8, by have := lt_pt t; omega⟩
/-- Position `l` of point `t`'s block, in its sequence. -/
def pos (t : Fin cfg0.N) (l : Fin 512) : Fin 4096 := ⟨512 * (t.val % 8) + l.val, by omega⟩

/-- A row of a block, as a position of a sequence. -/
theorem grow_eq (t : Fin cfg0.N) (l : Fin 512) : grow t l = rowOf (seq t) (pos t l) :=
  Fin.ext (by show 512 * t.val + l.val = 4096 * (t.val / 8) + (512 * (t.val % 8) + l.val); omega)

/-- The block index of window 0 at each grid point. -/
theorem ix_0 : ∀ t : Fin cfg0.N, win0_0.index t = ![t.val, 36] := (by decide +kernel : ∀ t : Fin grid0.N, _)

/-- The block of window 0, element by element. -/
theorem blk_0 (c : Dev nD) (t : Fin cfg0.N) (l : Fin 512) (i : Fin 128) :
    (iblk m c 0 t : FVec Ideal S512x128 .f32) (ix2 l i) = (V m c main_v5 : FVec Ideal S32768x5632 .f32) (ix2 (grow t l) (zcol 0 ⟨0 + i.val, by omega⟩)) := by
  refine congrArg (V m c main_v5 : FVec Ideal S32768x5632 .f32) ?_
  funext a
  refine Fin.ext ?_
  show win0_0.index t a * win0_0.size a + 1 * ((ix2 l i : S512x128.Idx) a).val = _
  rw [ix_0 t]
  fin_cases a <;> simp [win0_0, grow, zcol] <;> omega

/-- The block index of window 1 at each grid point. -/
theorem ix_1 : ∀ t : Fin cfg0.N, win0_1.index t = ![t.val, 37] := (by decide +kernel : ∀ t : Fin grid0.N, _)

/-- The block of window 1, element by element. -/
theorem blk_1 (c : Dev nD) (t : Fin cfg0.N) (l : Fin 512) (i : Fin 128) :
    (iblk m c 1 t : FVec Ideal S512x128 .f32) (ix2 l i) = (V m c main_v5 : FVec Ideal S32768x5632 .f32) (ix2 (grow t l) (zcol 0 ⟨128 + i.val, by omega⟩)) := by
  refine congrArg (V m c main_v5 : FVec Ideal S32768x5632 .f32) ?_
  funext a
  refine Fin.ext ?_
  show win0_1.index t a * win0_1.size a + 1 * ((ix2 l i : S512x128.Idx) a).val = _
  rw [ix_1 t]
  fin_cases a <;> simp [win0_1, grow, zcol] <;> omega

/-- The block index of window 2 at each grid point. -/
theorem ix_2 : ∀ t : Fin cfg0.N, win0_2.index t = ![t.val, 38] := (by decide +kernel : ∀ t : Fin grid0.N, _)

/-- The block of window 2, element by element. -/
theorem blk_2 (c : Dev nD) (t : Fin cfg0.N) (l : Fin 512) (i : Fin 128) :
    (iblk m c 2 t : FVec Ideal S512x128 .f32) (ix2 l i) = (V m c main_v5 : FVec Ideal S32768x5632 .f32) (ix2 (grow t l) (zcol 1 ⟨0 + i.val, by omega⟩)) := by
  refine congrArg (V m c main_v5 : FVec Ideal S32768x5632 .f32) ?_
  funext a
  refine Fin.ext ?_
  show win0_2.index t a * win0_2.size a + 1 * ((ix2 l i : S512x128.Idx) a).val = _
  rw [ix_2 t]
  fin_cases a <;> simp [win0_2, grow, zcol] <;> omega

/-- The block index of window 3 at each grid point. -/
theorem ix_3 : ∀ t : Fin cfg0.N, win0_3.index t = ![t.val, 39] := (by decide +kernel : ∀ t : Fin grid0.N, _)

/-- The block of window 3, element by element. -/
theorem blk_3 (c : Dev nD) (t : Fin cfg0.N) (l : Fin 512) (i : Fin 128) :
    (iblk m c 3 t : FVec Ideal S512x128 .f32) (ix2 l i) = (V m c main_v5 : FVec Ideal S32768x5632 .f32) (ix2 (grow t l) (zcol 1 ⟨128 + i.val, by omega⟩)) := by
  refine congrArg (V m c main_v5 : FVec Ideal S32768x5632 .f32) ?_
  funext a
  refine Fin.ext ?_
  show win0_3.index t a * win0_3.size a + 1 * ((ix2 l i : S512x128.Idx) a).val = _
  rw [ix_3 t]
  fin_cases a <;> simp [win0_3, grow, zcol] <;> omega

/-- The block index of window 4 at each grid point. -/
theorem ix_4 : ∀ t : Fin cfg0.N, win0_4.index t = ![t.val, 40] := (by decide +kernel : ∀ t : Fin grid0.N, _)

/-- The block of window 4, element by element. -/
theorem blk_4 (c : Dev nD) (t : Fin cfg0.N) (l : Fin 512) (i : Fin 128) :
    (iblk m c 4 t : FVec Ideal S512x128 .f32) (ix2 l i) = (V m c main_v5 : FVec Ideal S32768x5632 .f32) (ix2 (grow t l) (zcol 2 ⟨0 + i.val, by omega⟩)) := by
  refine congrArg (V m c main_v5 : FVec Ideal S32768x5632 .f32) ?_
  funext a
  refine Fin.ext ?_
  show win0_4.index t a * win0_4.size a + 1 * ((ix2 l i : S512x128.Idx) a).val = _
  rw [ix_4 t]
  fin_cases a <;> simp [win0_4, grow, zcol] <;> omega

/-- The block index of window 5 at each grid point. -/
theorem ix_5 : ∀ t : Fin cfg0.N, win0_5.index t = ![t.val, 41] := (by decide +kernel : ∀ t : Fin grid0.N, _)

/-- The block of window 5, element by element. -/
theorem blk_5 (c : Dev nD) (t : Fin cfg0.N) (l : Fin 512) (i : Fin 128) :
    (iblk m c 5 t : FVec Ideal S512x128 .f32) (ix2 l i) = (V m c main_v5 : FVec Ideal S32768x5632 .f32) (ix2 (grow t l) (zcol 2 ⟨128 + i.val, by omega⟩)) := by
  refine congrArg (V m c main_v5 : FVec Ideal S32768x5632 .f32) ?_
  funext a
  refine Fin.ext ?_
  show win0_5.index t a * win0_5.size a + 1 * ((ix2 l i : S512x128.Idx) a).val = _
  rw [ix_5 t]
  fin_cases a <;> simp [win0_5, grow, zcol] <;> omega

/-- The two blocks of the first projection, one above the other. -/
theorem both0 (c : Dev nD) (t : Fin cfg0.N) (l : Fin 512) (p h : Fin 2) (d : Fin 64) :
    stacked (iblk m c 0 t) (iblk m c 1 t) (flat p h d) l = (m ((c : Thread nD τ).loc main_arg0) : FVec Ideal S8x4096x2x2x64 .f32) (ix5 (seq t) (pos t l) p h d) := by
  have hz : (V m c main_v5 : FVec Ideal S32768x5632 .f32) (ix2 (grow t l) (zcol 0 (flat p h d))) = (m ((c : Thread nD τ).loc main_arg0) : FVec Ideal S8x4096x2x2x64 .f32) (ix5 (seq t) (pos t l) p h d) := by
    rw [V_z, sides0, grow_eq, rows_apply]
  refine Eq.trans ?_ hz
  unfold stacked
  by_cases hq : (flat p h d).val < 128
  · rw [dif_pos hq, blk_0]
    exact congrArg (fun q => (V m c main_v5 : FVec Ideal S32768x5632 .f32) (ix2 (grow t l) (zcol 0 q))) (Fin.ext (by show 0 + (flat p h d).val = (flat p h d).val; omega))
  · rw [dif_neg hq, blk_1]
    exact congrArg (fun q => (V m c main_v5 : FVec Ideal S32768x5632 .f32) (ix2 (grow t l) (zcol 0 q))) (Fin.ext (by show 128 + ((flat p h d).val - 128) = (flat p h d).val; omega))

/-- The two blocks of the second projection, one above the other. -/
theorem both1 (c : Dev nD) (t : Fin cfg0.N) (l : Fin 512) (p h : Fin 2) (d : Fin 64) :
    stacked (iblk m c 2 t) (iblk m c 3 t) (flat p h d) l = (m ((c : Thread nD τ).loc main_arg1) : FVec Ideal S8x4096x2x2x64 .f32) (ix5 (seq t) (pos t l) p h d) := by
  have hz : (V m c main_v5 : FVec Ideal S32768x5632 .f32) (ix2 (grow t l) (zcol 1 (flat p h d))) = (m ((c : Thread nD τ).loc main_arg1) : FVec Ideal S8x4096x2x2x64 .f32) (ix5 (seq t) (pos t l) p h d) := by
    rw [V_z, sides1, grow_eq, rows_apply]
  refine Eq.trans ?_ hz
  unfold stacked
  by_cases hq : (flat p h d).val < 128
  · rw [dif_pos hq, blk_2]
    exact congrArg (fun q => (V m c main_v5 : FVec Ideal S32768x5632 .f32) (ix2 (grow t l) (zcol 1 q))) (Fin.ext (by show 0 + (flat p h d).val = (flat p h d).val; omega))
  · rw [dif_neg hq, blk_3]
    exact congrArg (fun q => (V m c main_v5 : FVec Ideal S32768x5632 .f32) (ix2 (grow t l) (zcol 1 q))) (Fin.ext (by show 128 + ((flat p h d).val - 128) = (flat p h d).val; omega))

/-- The two blocks of the third projection, one above the other. -/
theorem both2 (c : Dev nD) (t : Fin cfg0.N) (l : Fin 512) (p h : Fin 2) (d : Fin 64) :
    stacked (iblk m c 4 t) (iblk m c 5 t) (flat p h d) l = (m ((c : Thread nD τ).loc main_arg2) : FVec Ideal S8x4096x2x2x64 .f32) (ix5 (seq t) (pos t l) p h d) := by
  have hz : (V m c main_v5 : FVec Ideal S32768x5632 .f32) (ix2 (grow t l) (zcol 2 (flat p h d))) = (m ((c : Thread nD τ).loc main_arg2) : FVec Ideal S8x4096x2x2x64 .f32) (ix5 (seq t) (pos t l) p h d) := by
    rw [V_z, sides2, grow_eq, rows_apply]
  refine Eq.trans ?_ hz
  unfold stacked
  by_cases hq : (flat p h d).val < 128
  · rw [dif_pos hq, blk_4]
    exact congrArg (fun q => (V m c main_v5 : FVec Ideal S32768x5632 .f32) (ix2 (grow t l) (zcol 2 q))) (Fin.ext (by show 0 + (flat p h d).val = (flat p h d).val; omega))
  · rw [dif_neg hq, blk_5]
    exact congrArg (fun q => (V m c main_v5 : FVec Ideal S32768x5632 .f32) (ix2 (grow t l) (zcol 2 q))) (Fin.ext (by show 128 + ((flat p h d).val - 128) = (flat p h d).val; omega))

/-! ## The arrays after the run -/

/-- Each position of each sequence lies in the block of one grid point. -/
theorem pt_of (b : Fin 8) (s : Fin 4096) : ∃ (t : Fin cfg0.N) (l : Fin 512), b = seq t ∧ s = pos t l := by
  have hN : cfg0.N = 64 := by decide +kernel
  refine ⟨⟨8 * b.val + s.val / 512, by omega⟩, ⟨s.val % 512, by omega⟩, Fin.ext ?_, Fin.ext ?_⟩
  · show b.val = (8 * b.val + s.val / 512) / 8; omega
  · show s.val = 512 * ((8 * b.val + s.val / 512) % 8) + s.val % 512; omega

/-- The block index of window 6 at each grid point. -/
theorem ix_6 : ∀ t : Fin cfg0.N, win0_6.index t = ![t.val / 8, 0, t.val % 8] := (by decide +kernel : ∀ t : Fin grid0.N, _)

/-- Where an element of the block of window 6 lies in its array. -/
theorem emb_6 (t : Fin cfg0.N) (q : Fin 256) (l : Fin 512) : (((cfg0.win 6).blk t).view.emb (ix3 0 q l : S1x256x512.Idx) : S8x256x4096.Idx) = ix3 (seq t) q (pos t l) := by
  have e := ix_6 t
  funext a
  refine Fin.ext ?_
  show win0_6.index t a * win0_6.size a + 1 * ((ix3 0 q l : S1x256x512.Idx) a).val = _
  rw [e]
  fin_cases a <;> simp [win0_6, seq, pos] <;> omega

/-- The first result after the run. -/
theorem arr_6 (c : Dev nD) (b : Fin 8) (s : Fin 4096) (p h : Fin 2) (d : Fin 64) :
    ((dats m 0 c).arrAt 6 cfg0.N : FVec Ideal S8x256x4096 .f32) (ix3 b (flat p h d) s) = (m ((c : Thread nD τ).loc main_arg0) : FVec Ideal S8x4096x2x2x64 .f32) (ix5 b s p h d) := by
  obtain ⟨t, l, rfl, rfl⟩ := pt_of b s
  have e := congrFun (Cert.KvRowsIdeal.Value.blocks6 m c t (flush0_6 t)) (ix3 0 (flat p h d) l : S1x256x512.Idx)
  rw [Cert.KvRowsIdeal.Value.flushed6] at e
  have e1 : ((dats m 0 c).arrAt 6 cfg0.N : FVec Ideal S8x256x4096 .f32) (((cfg0.win 6).blk t).view.emb (ix3 0 (flat p h d) l : S1x256x512.Idx))
    = out0_6 (iblk m c 0 t) (iblk m c 1 t) (iblk m c 2 t) (iblk m c 3 t) (iblk m c 4 t) (iblk m c 5 t) (ix3 0 (flat p h d) l) := e
  rw [emb_6] at e1
  rw [e1, out6_eq, tiles_apply]
  exact both0 m c t l p h d

/-- The block index of window 7 at each grid point. -/
theorem ix_7 : ∀ t : Fin cfg0.N, win0_7.index t = ![t.val / 8, 0, t.val % 8] := (by decide +kernel : ∀ t : Fin grid0.N, _)

/-- Where an element of the block of window 7 lies in its array. -/
theorem emb_7 (t : Fin cfg0.N) (q : Fin 256) (l : Fin 512) : (((cfg0.win 7).blk t).view.emb (ix3 0 q l : S1x256x512.Idx) : S8x256x4096.Idx) = ix3 (seq t) q (pos t l) := by
  have e := ix_7 t
  funext a
  refine Fin.ext ?_
  show win0_7.index t a * win0_7.size a + 1 * ((ix3 0 q l : S1x256x512.Idx) a).val = _
  rw [e]
  fin_cases a <;> simp [win0_7, seq, pos] <;> omega

/-- The second result after the run. -/
theorem arr_7 (c : Dev nD) (b : Fin 8) (s : Fin 4096) (p h : Fin 2) (d : Fin 64) :
    ((dats m 0 c).arrAt 7 cfg0.N : FVec Ideal S8x256x4096 .f32) (ix3 b (flat p h d) s) = (m ((c : Thread nD τ).loc main_arg1) : FVec Ideal S8x4096x2x2x64 .f32) (ix5 b s p h d) := by
  obtain ⟨t, l, rfl, rfl⟩ := pt_of b s
  have e := congrFun (Cert.KvRowsIdeal.Value.blocks7 m c t (flush0_7 t)) (ix3 0 (flat p h d) l : S1x256x512.Idx)
  rw [Cert.KvRowsIdeal.Value.flushed7] at e
  have e1 : ((dats m 0 c).arrAt 7 cfg0.N : FVec Ideal S8x256x4096 .f32) (((cfg0.win 7).blk t).view.emb (ix3 0 (flat p h d) l : S1x256x512.Idx))
    = out0_7 (iblk m c 0 t) (iblk m c 1 t) (iblk m c 2 t) (iblk m c 3 t) (iblk m c 4 t) (iblk m c 5 t) (ix3 0 (flat p h d) l) := e
  rw [emb_7] at e1
  rw [e1, out7_eq, tiles_apply]
  exact both1 m c t l p h d

/-- The block index of window 8 at each grid point. -/
theorem ix_8 : ∀ t : Fin cfg0.N, win0_8.index t = ![t.val / 8, 0, 0] := (by decide +kernel : ∀ t : Fin grid0.N, _)

/-- Two points that write window 8 back write different blocks. -/
theorem idx8 : ∀ t t' : Fin cfg0.N, t.val % 8 = 7 → t'.val % 8 = 7 → win0_8.index t = win0_8.index t' → t = t' := by
  intro t t' h h' e
  have e0 := congrFun e 0
  rw [ix_8 t, ix_8 t'] at e0
  have e1 : t.val / 8 = t'.val / 8 := e0
  exact Fin.ext (by omega)

/-- So those blocks share no element. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' h h' hne => (cfg0.win 8).disjoint_blk fun e => hne (idx8 t t' ((flush0_8 t).1 h) ((flush0_8 t').1 h') e)

/-- Where an element of the block of window 8 lies in its array. -/
theorem emb_8 (t : Fin cfg0.N) (q : Fin 256) (l : Fin 512) : (((cfg0.win 8).blk t).view.emb (ix3 0 q l : S1x256x512.Idx) : S8x256x512.Idx) = ix3 (seq t) q l := by
  have e := ix_8 t
  funext a
  refine Fin.ext ?_
  show win0_8.index t a * win0_8.size a + 1 * ((ix3 0 q l : S1x256x512.Idx) a).val = _
  rw [e]
  fin_cases a <;> simp [win0_8, seq]

/-- The last point of each sequence. -/
theorem last_of (b : Fin 8) : ∃ t : Fin cfg0.N, b = seq t ∧ t.val % 8 = 7 := by
  have hN : cfg0.N = 64 := by decide +kernel
  refine ⟨⟨8 * b.val + 7, by omega⟩, Fin.ext ?_, ?_⟩
  · show b.val = (8 * b.val + 7) / 8; omega
  · show (8 * b.val + 7) % 8 = 7; omega

/-- The third result after the run: the last 512 positions of each sequence. -/
theorem arr_8 (c : Dev nD) (b : Fin 8) (s : Fin 512) (p h : Fin 2) (d : Fin 64) :
    ((dats m 0 c).arrAt 8 cfg0.N : FVec Ideal S8x256x512 .f32) (ix3 b (flat p h d) s) = (m ((c : Thread nD τ).loc main_arg2) : FVec Ideal S8x4096x2x2x64 .f32) (ix5 b (late s) p h d) := by
  obtain ⟨t, rfl, ht⟩ := last_of b
  have e := congrFun ((dats m 0 c).read_blk_arrAt_eq_flushed 8 disjoint8 cfg0.N t t.isLt ((flush0_8 t).2 ht)) (ix3 0 (flat p h d) s : S1x256x512.Idx)
  rw [Cert.KvRowsIdeal.Value.flushed8] at e
  have e1 : ((dats m 0 c).arrAt 8 cfg0.N : FVec Ideal S8x256x512 .f32) (((cfg0.win 8).blk t).view.emb (ix3 0 (flat p h d) s : S1x256x512.Idx))
    = out0_8 (iblk m c 0 t) (iblk m c 1 t) (iblk m c 2 t) (iblk m c 3 t) (iblk m c 4 t) (iblk m c 5 t) (ix3 0 (flat p h d) s) := e
  rw [emb_8] at e1
  rw [e1, out8_eq, tiles_apply]
  refine (both2 m c t s p h d).trans ?_
  exact congrArg (fun s => (m ((c : Thread nD τ).loc main_arg2) : FVec Ideal S8x4096x2x2x64 .f32) (ix5 (seq t) s p h d)) (Fin.ext (by show 512 * (t.val % 8) + s.val = 3584 + s.val; omega))

end Cert.KvRows

end
-- ==== Proof.KvRows.Claims.lean ====
module

public import proofs.«01_k».proof.Defs
public import proofs.«01_k».proof.Proof.KvRows.Array
public import proofs.«01_k».proof.Proof.KvRows.Ref
public import proofs.«01_k».proof.Proof.Gen.KvRows
public import proofs.«01_k».proof.Proof.Gen.KvRows.Frame
public import proofs.«01_k».proof.Proof.Gen.KvRowsIdeal.Frame
public import proofs.«01_k».proof.Proof.Gen.KvRowsIdeal.Value
public import proofs.«01_k».proof.Proof.Gen.KvRowsRefIdeal.Run
public import Idealize.ShloMosaic.Adequacy
public import Idealize.ShloMosaic.Init

@[expose] public section

set_option maxRecDepth 16384

noncomputable section

namespace Cert.KvRows

open Idealize.ShloMosaic Idealize.SL.Sem

/-- The kernel as printed runs, keeps its arguments and leaves every counter at zero. -/
theorem frame_k : Cert.quiescent_KvRows := fun m ρ _ => Cert.KvRows.Gen.frame m ρ

/-- So does the kernel read over the reals. -/
theorem frame_i : Cert.quiescent_KvRowsIdeal := fun m ρ _ => Cert.KvRowsIdeal.Gen.frame m ρ

/-- So does the reference, which declares no semaphore. -/
theorem frame_r : Cert.quiescent_KvRowsRefIdeal := fun m ρ _ =>
  (θ_run Cert.KvRowsRefIdeal.defs _ _).mono (fun r h => ⟨fun c => (h c).2.2.2, sem_eq_zero_of_no_sems (by decide) r.2⟩)
    (Cert.KvRowsRefIdeal.Value.run (F := Ideal) m ρ)

/-- The two first results agree at every index. -/
theorem eq_6 (m : (ℓ : Loc Cert.KvRowsIdeal.nD Cert.KvRowsIdeal.τ Cert.KvRowsIdeal.sig) → Buf (Elt Ideal) ℓ) (c : Dev Cert.KvRowsIdeal.nD) :
    Cert.KvRowsRefIdeal.Read.val_main_v1 (F := Ideal) (m ((c.tc : Thread Cert.KvRowsIdeal.nD Cert.KvRowsIdeal.τ).loc Cert.KvRowsIdeal.main_arg0))
      = (Cert.KvRowsIdeal.Gen.dats m 0 c).arrAt 6 Cert.KvRowsIdeal.cfg0.N := by
  funext i
  obtain ⟨b, q, s, rfl⟩ : ∃ (b : Fin 8) (q : Fin 256) (s : Fin 4096), i = ix3 b q s :=
    ⟨i 0, i 1, i 2, by funext a; match a with | ⟨0, _⟩ => rfl | ⟨1, _⟩ => rfl | ⟨2, _⟩ => rfl⟩
  obtain ⟨p, h, d, rfl⟩ := flat_of q
  exact (r1 _ b s p h d).trans (arr_6 m c b s p h d).symm

/-- The two second results agree at every index. -/
theorem eq_7 (m : (ℓ : Loc Cert.KvRowsIdeal.nD Cert.KvRowsIdeal.τ Cert.KvRowsIdeal.sig) → Buf (Elt Ideal) ℓ) (c : Dev Cert.KvRowsIdeal.nD) :
    Cert.KvRowsRefIdeal.Read.val_main_v3 (F := Ideal) (m ((c.tc : Thread Cert.KvRowsIdeal.nD Cert.KvRowsIdeal.τ).loc Cert.KvRowsIdeal.main_arg1))
      = (Cert.KvRowsIdeal.Gen.dats m 0 c).arrAt 7 Cert.KvRowsIdeal.cfg0.N := by
  funext i
  obtain ⟨b, q, s, rfl⟩ : ∃ (b : Fin 8) (q : Fin 256) (s : Fin 4096), i = ix3 b q s :=
    ⟨i 0, i 1, i 2, by funext a; match a with | ⟨0, _⟩ => rfl | ⟨1, _⟩ => rfl | ⟨2, _⟩ => rfl⟩
  obtain ⟨p, h, d, rfl⟩ := flat_of q
  exact (r3 _ b s p h d).trans (arr_7 m c b s p h d).symm

/-- The two third results agree at every index. -/
theorem eq_8 (m : (ℓ : Loc Cert.KvRowsIdeal.nD Cert.KvRowsIdeal.τ Cert.KvRowsIdeal.sig) → Buf (Elt Ideal) ℓ) (c : Dev Cert.KvRowsIdeal.nD) :
    Cert.KvRowsRefIdeal.Read.val_main_v6 (F := Ideal) (m ((c.tc : Thread Cert.KvRowsIdeal.nD Cert.KvRowsIdeal.τ).loc Cert.KvRowsIdeal.main_arg2))
      = (Cert.KvRowsIdeal.Gen.dats m 0 c).arrAt 8 Cert.KvRowsIdeal.cfg0.N := by
  funext i
  obtain ⟨b, q, s, rfl⟩ : ∃ (b : Fin 8) (q : Fin 256) (s : Fin 512), i = ix3 b q s :=
    ⟨i 0, i 1, i 2, by funext a; match a with | ⟨0, _⟩ => rfl | ⟨1, _⟩ => rfl | ⟨2, _⟩ => rfl⟩
  obtain ⟨p, h, d, rfl⟩ := flat_of q
  exact (r6 _ b s p h d).trans (arr_8 m c b s p h d).symm

/-- Over the reals the kernel and the reference end with equal results. -/
theorem algebraic : Cert.algebraic_KvRowsIdeal_KvRowsRefIdeal := by
  intro m ρ m' ρ' _ hagree
  refine ⟨fun c => (Cert.KvRowsIdeal.Gen.dats m 0 c).arrAt 6 Cert.KvRowsIdeal.cfg0.N, fun c => (Cert.KvRowsIdeal.Gen.dats m 0 c).arrAt 7 Cert.KvRowsIdeal.cfg0.N,
    fun c => (Cert.KvRowsIdeal.Gen.dats m 0 c).arrAt 8 Cert.KvRowsIdeal.cfg0.N, ?_, ?_⟩
  · exact Cert.KvRowsIdeal.Value.run_blocks m ρ
  · refine (θ_run Cert.KvRowsRefIdeal.defs _ _).mono (fun r h c => ⟨(h c).1.trans ?_, (h c).2.1.trans ?_, (h c).2.2.1.trans ?_, (h c).2.2.2⟩)
      (Cert.KvRowsRefIdeal.Value.run (F := Ideal) m' ρ')
    · obtain ⟨h0, h1, h2⟩ := hagree c
      refine (Cert.KvRowsRefIdeal.Read.val_main_v1_eq _).trans ?_
      rw [h0]
      exact eq_6 m c
    · obtain ⟨h0, h1, h2⟩ := hagree c
      refine (Cert.KvRowsRefIdeal.Read.val_main_v3_eq _).trans ?_
      rw [h1]
      exact eq_7 m c
    · obtain ⟨h0, h1, h2⟩ := hagree c
      refine (Cert.KvRowsRefIdeal.Read.val_main_v6_eq _).trans ?_
      rw [h2]
      exact eq_8 m c

end Cert.KvRows

end
-- ==== Proof.Proj.Spec.lean ====
module

public import proofs.«01_k».proof.Proof.Row.Spec

@[expose] public section

noncomputable section

namespace Cert.ProjSpec

open Idealize.ShloMosaic Cert.RowSpec

/-- The column of the weight matrix that gives column `c` of the projection as the kernel lays it out: the merge gates
    first, then the queries, the recurrence's four arrays, and the rows for the caches with the branch gates. -/
def src (c : Fin 5632) (h : c.val < 5400) : Fin 5400 :=
  ⟨if c.val < 2048 then c.val + 3352 else if c.val < 2560 then c.val - 2048 else if c.val < 4608 then c.val - 1256 else c.val - 4096,
    by split_ifs <;> omega⟩

/-- Column `c` of a row in the kernel's layout, zero in the columns that only pad. -/
def wsel (w : Fin 5400 → EReal) (c : Fin 5632) : EReal := if h : c.val < 5400 then w (src c h) else 0

/-- One row of the projection: the normed row times the weight matrix, laid out as the kernel does. -/
def proj (x g : Fin 1024 → EReal) (w : Fin 1024 → Fin 5400 → EReal) (c : Fin 5632) : EReal :=
  wsel (fun k => rowmul (rms x g) w k) c

/-- Laying out the weight matrix first, or the product after, is the same. -/
theorem proj_eq (x g : Fin 1024 → EReal) (w : Fin 1024 → Fin 5400 → EReal) (c : Fin 5632) :
    rowmul (rms x g) (fun i c => wsel (w i) c) c = proj x g w c := by
  unfold proj wsel rowmul
  by_cases h : c.val < 5400
  · simp only [dif_pos h]
  · simp only [dif_neg h, mul_zero, Finset.sum_const_zero]

/-- A column that is not padding. -/
theorem wsel_of (w : Fin 5400 → EReal) (c : Fin 5632) (k : Fin 5400) (h : c.val < 5400) (e : (src c h).val = k.val) : wsel w c = w k := by
  unfold wsel
  rw [dif_pos h]
  exact congrArg w (Fin.ext e)

/-- A column of the merge gates. -/
theorem wsel_gates (w : Fin 5400 → EReal) (c : Fin 5632) (k : Fin 5400) (h : c.val < 2048) (e : k.val = c.val + 3352) : wsel w c = w k :=
  wsel_of w c k (by omega) (by unfold src; dsimp only; rw [if_pos h]; omega)

/-- A column of the queries. -/
theorem wsel_query (w : Fin 5400 → EReal) (c : Fin 5632) (k : Fin 5400) (h : 2048 ≤ c.val) (h' : c.val < 2560) (e : k.val + 2048 = c.val) : wsel w c = w k :=
  wsel_of w c k (by omega) (by unfold src; dsimp only; rw [if_neg (by omega), if_pos h']; omega)

/-- A column of the recurrence's arrays. -/
theorem wsel_rec (w : Fin 5400 → EReal) (c : Fin 5632) (k : Fin 5400) (h : 2560 ≤ c.val) (h' : c.val < 4608) (e : k.val + 1256 = c.val) : wsel w c = w k :=
  wsel_of w c k (by omega) (by unfold src; dsimp only; rw [if_neg (by omega), if_neg (by omega), if_pos h']; omega)

/-- A column of the cache rows or of the branch gates. -/
theorem wsel_kv (w : Fin 5400 → EReal) (c : Fin 5632) (k : Fin 5400) (h : 4608 ≤ c.val) (h' : c.val < 5400) (e : k.val + 4096 = c.val) : wsel w c = w k :=
  wsel_of w c k (by omega) (by unfold src; dsimp only; rw [if_neg (by omega), if_neg (by omega), if_neg (by omega)]; omega)

/-- A column that only pads. -/
theorem wsel_pad (w : Fin 5400 → EReal) (c : Fin 5632) (h : 5400 ≤ c.val) : wsel w c = 0 := by
  unfold wsel
  rw [dif_neg (by omega)]

/-- A choice equals a value that both its branches equal. -/
theorem choice_eq {p : Prop} [Decidable p] {a : p → EReal} {b : ¬p → EReal} {x : EReal} (h : ∀ h, a h = x) (h' : ∀ h, b h = x) : dite p a b = x := by
  by_cases q : p
  · rw [dif_pos q]; exact h q
  · rw [dif_neg q]; exact h' q

end Cert.ProjSpec

end
-- ==== Proof.InProj.Block.lean ====
module

public import proofs.«01_k».proof.Proof.Proj.Spec
public import proofs.«01_k».proof.Proof.Gen.InProjIdeal.Value
public import Idealize.ShloMosaic.Lib.Tactic

@[expose] public section

set_option maxRecDepth 16384

noncomputable section

namespace Cert.InProj

open Cert.InProjIdeal Cert.InProjIdeal.Gen Idealize.ShloMosaic Idealize.ShloMosaic.TcCoe Cert.RowSpec Cert.ProjSpec Idealize.ShloMosaic.StableHlo

/-! ## The two payloads, element by element -/

/-- The normed block. -/
theorem pay1_apply (v0 : Vec Ideal S1024x1024 .f32) (v2 : Vec Ideal S1x1024 .f32) (r k : Fin 1024) :
    k0_pay1 v0 v2 (ix2 r k) = rms (fun j => v0 (ix2 r j)) (fun j => v2 (ix2 0 j)) k := by
  unfold k0_pay1
  pointwise
  rfl

/-- The product of the normed block with a block of columns. -/
theorem pay2_apply (v5 : Vec Ideal S1024x1024 .bf16) (v7 : Vec Ideal S1024x1408 .bf16) (r : Fin 1024) (k : Fin 1408) :
    k0_pay2 v5 v7 (ix2 r k) = ∑ j : Fin 1024, v5 (ix2 r j) * v7 (ix2 j k) := by
  unfold k0_pay2
  pointwise

/-! ## What a point leaves -/

/-- A point that starts a row block leaves the normed block in the scratch. -/
theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S1024x1408 .f32) (h5 : a5.IsWhole) (a6 : Memref sig .tc .vmem S1024x1024 .bf16) (h6 : a6.IsWhole)
    (hc : cond0_0 i) (x0 : Vec Ideal S1024x1024 .f32) (x1 : Vec Ideal S1x1024 .f32) (x2 : Vec Ideal S1024x5632 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S1024x1024) (by decide)]
  simp only [View.readAt_eq_ld, h2.read_unread, h3.read_unread]
  rw [View.ld_unit_zero (S := S1024x1024) (by decide), View.ld_unit_zero (S := S1x1024) (by decide)]

/-- The columns of the weights that a point reads. -/
abbrev cols (i : grid0.Coords) (x2 : Vec Ideal S1024x5632 .bf16) : Vec Ideal S1024x1408 .bf16 :=
  View.ld x2 (Rect.unit (s := S1024x5632) (k0_off1 i) S1024x1408.size (k0_off1_inb i))

/-- A point that starts a row block leaves the product of the normed block with its columns. -/
theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S1024x1408 .f32) (h5 : a5.IsWhole) (a6 : Memref sig .tc .vmem S1024x1024 .bf16) (h6 : a6.IsWhole)
    (hc : cond0_0 i) (x0 : Vec Ideal S1024x1024 .f32) (x1 : Vec Ideal S1x1024 .f32) (x2 : Vec Ideal S1024x5632 .bf16) :
    out0_A_3 c i a2 h2 a3 h3 a4 h4 a5 h5 a6 h6 hc x0 x1 x2 = k0_pay2 (k0_pay1 x0 x1) (cols i x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1024x1408) (by decide), View.readCov_unit_zero (S := S1024x1024) _ (by decide)]
  simp only [View.readAt_eq_ld, h2.read_unread, h3.read_unread, h4.read_unread]
  rw [View.ld_unit_zero (S := S1024x1024) (by decide), View.ld_unit_zero (S := S1x1024) (by decide)]
  rfl

/-- A later point leaves the product of the carried block with its columns. -/
theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S1024x1408 .f32) (h5 : a5.IsWhole) (a6 : Memref sig .tc .vmem S1024x1024 .bf16) (h6 : a6.IsWhole)
    (hc : ¬cond0_0 i) (x0 : Vec Ideal S1024x1024 .f32) (x1 : Vec Ideal S1x1024 .f32) (x2 : Vec Ideal S1024x5632 .bf16) (xs : Vec Ideal S1024x1024 .bf16) :
    out0_B_3 c i a2 h2 a3 h3 a4 h4 a5 h5 a6 h6 hc x0 x1 x2 xs = k0_pay2 xs (cols i x2) := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S1024x1408) (by decide)]
  simp only [View.readAt_eq_ld, h4.read_unread, h6.read_unread]
  rw [View.ld_unit_zero (S := S1024x1024) (by decide)]
  rfl

/-! ## The weights as the host lays them out -/

/-- The weight matrix with its columns in the kernel's order. -/
def prep (w : FVec Ideal S1x1024x5400 .f32) : FVec Ideal S1024x5632 .f32 :=
  let v3 : FVec Ideal S1024x5400 .f32 := shapeCast S1024x5400 w shapeCasts_S1x1024x5400_S1024x5400
  concatenate S1024x5632 1
    [⟨S1024x2048, extractStridedSlice S1024x2048 ![0, 3352] v3 slices_S1024x5400_S1024x2048_0_3352⟩,
     ⟨S1024x512, extractStridedSlice S1024x512 ![0, 0] v3 slices_S1024x5400_S1024x512_0_0⟩,
     ⟨S1024x512, extractStridedSlice S1024x512 ![0, 1304] v3 slices_S1024x5400_S1024x512_0_1304⟩,
     ⟨S1024x512, extractStridedSlice S1024x512 ![0, 1816] v3 slices_S1024x5400_S1024x512_0_1816⟩,
     ⟨S1024x512, extractStridedSlice S1024x512 ![0, 2328] v3 slices_S1024x5400_S1024x512_0_2328⟩,
     ⟨S1024x512, extractStridedSlice S1024x512 ![0, 2840] v3 slices_S1024x5400_S1024x512_0_2840⟩,
     ⟨S1024x256, extractStridedSlice S1024x256 ![0, 512] v3 slices_S1024x5400_S1024x256_0_512⟩,
     ⟨S1024x256, extractStridedSlice S1024x256 ![0, 768] v3 slices_S1024x5400_S1024x256_0_768⟩,
     ⟨S1024x256, extractStridedSlice S1024x256 ![0, 1024] v3 slices_S1024x5400_S1024x256_0_1024⟩,
     ⟨S1024x24, extractStridedSlice S1024x24 ![0, 1280] v3 slices_S1024x5400_S1024x24_0_1280⟩,
     ⟨S1024x232, broadcastInDim S1024x232 ![] bcast_S_S1024x232 (constant S_ .f32 0x00000000#32)⟩]
    concatenates_S1024x2048_S1024x512_S1024x512_S1024x512_S1024x512_S1024x512_S1024x256_S1024x256_S1024x256_S1024x24_S1024x232_S1024x5632_d1

/-- The weight matrix without its unit axis. -/
theorem w_apply (a : FVec Ideal S1x1024x5400 .f32) (r : Fin 1024) (k : Fin 5400) :
    shapeCast S1024x5400 a shapeCasts_S1x1024x5400_S1024x5400 (ix2 r k) = a (ix3 0 r k) := by
  refine shapeCast_apply _ _ _ _ ?_
  rw [Shape.rowMajor_val_three, Shape.rowMajor_val_two]
  simp

/-- The laid out weights, element by element. -/
theorem prep_apply (w : FVec Ideal S1x1024x5400 .f32) (r : Fin 1024) (c : Fin 5632) :
    prep w (ix2 r c) = wsel (fun k => w (ix3 0 r k)) c := by
  unfold prep
  simp only [← w_apply]
  generalize shapeCast S1024x5400 w shapeCasts_S1x1024x5400_S1024x5400 = v
  pointwise
  refine choice_eq (fun h1 => ?_) fun n1 => ?_
  · exact Eq.symm (wsel_gates _ c _ (by omega) (by dsimp only; omega))
  refine choice_eq (fun h2 => ?_) fun n2 => ?_
  · exact Eq.symm (wsel_query _ c _ (by omega) (by omega) (by dsimp only; omega))
  refine choice_eq (fun h3 => ?_) fun n3 => ?_
  · exact Eq.symm (wsel_rec _ c _ (by omega) (by omega) (by dsimp only; omega))
  refine choice_eq (fun h4 => ?_) fun n4 => ?_
  · exact Eq.symm (wsel_rec _ c _ (by omega) (by omega) (by dsimp only; omega))
  refine choice_eq (fun h5 => ?_) fun n5 => ?_
  · exact Eq.symm (wsel_rec _ c _ (by omega) (by omega) (by dsimp only; omega))
  refine choice_eq (fun h6 => ?_) fun n6 => ?_
  · exact Eq.symm (wsel_rec _ c _ (by omega) (by omega) (by dsimp only; omega))
  refine choice_eq (fun h7 => ?_) fun n7 => ?_
  · exact Eq.symm (wsel_kv _ c _ (by omega) (by omega) (by dsimp only; omega))
  refine choice_eq (fun h8 => ?_) fun n8 => ?_
  · exact Eq.symm (wsel_kv _ c _ (by omega) (by omega) (by dsimp only; omega))
  refine choice_eq (fun h9 => ?_) fun n9 => ?_
  · exact Eq.symm (wsel_kv _ c _ (by omega) (by omega) (by dsimp only; omega))
  refine choice_eq (fun h10 => ?_) fun n10 => ?_
  · exact Eq.symm (wsel_kv _ c _ (by omega) (by omega) (by dsimp only; omega))
  exact Eq.symm (wsel_pad _ c (by omega))

end Cert.InProj

end
-- ==== Proof.InProj.Array.lean ====
module

public import proofs.«01_k».proof.Proof.InProj.Block

@[expose] public section

set_option maxRecDepth 16384

noncomputable section

namespace Cert.InProj

open Cert.InProjIdeal Cert.InProjIdeal.Gen Idealize.ShloMosaic Idealize.ShloMosaic.TcCoe Cert.RowSpec Cert.ProjSpec Idealize.ShloMosaic.StableHlo

/-! ## The arrays that the region finds -/

/-- Position `s` of sequence `b`, among all rows. -/
def rowOf (b : Fin 8) (s : Fin 4096) : Fin 32768 := ⟨4096 * b.val + s.val, by omega⟩

variable (m : (ℓ : Loc nD τ sig) → Buf (Elt Ideal) ℓ)

/-- The region finds the inputs as rows. -/
theorem V_x (c : Dev nD) : V m c main_v0 = shapeCast S32768x1024 (m ((c : Thread nD τ).loc main_arg0)) shapeCasts_S8x4096x1024_S32768x1024 := by
  simp only [V, hostOps0, List.flatten_cons, List.flatten_nil, List.append_nil, List.cons_append, List.nil_append]
  after_results
  rfl

/-- The region finds the gain as one row. -/
theorem V_g (c : Dev nD) : V m c main_v2 = shapeCast S1x1024 (shapeCast S1024 (m ((c : Thread nD τ).loc main_arg1)) shapeCasts_S1x1024_S1024) shapeCasts_S1024_S1x1024 := by
  simp only [V, hostOps0, List.flatten_cons, List.flatten_nil, List.append_nil, List.cons_append, List.nil_append]
  after_results
  rfl

/-- The region finds the laid out weights, cast. -/
theorem V_w (c : Dev nD) : (V m c main_v16 : FVec Ideal S1024x5632 .bf16) = truncf (F := Ideal) .bf16 (prep (m ((c : Thread nD τ).loc main_arg2))) bitsLt_bf16_f32 := by
  simp only [V, hostOps0, List.flatten_cons, List.flatten_nil, List.append_nil, List.cons_append, List.nil_append]
  after_results
  rfl

/-- The inputs as rows, element by element. -/
theorem rows_apply (a : FVec Ideal S8x4096x1024 .f32) (b : Fin 8) (s : Fin 4096) (k : Fin 1024) :
    shapeCast S32768x1024 a shapeCasts_S8x4096x1024_S32768x1024 (ix2 (rowOf b s) k) = a (ix3 b s k) := by
  refine shapeCast_apply _ _ _ _ ?_
  rw [Shape.rowMajor_val_three, Shape.rowMajor_val_two]
  simp [rowOf]; omega

/-! ## The blocks -/

/-- The number of grid points. -/
theorem lt_pt (t : Fin cfg0.N) : t.val < 128 := lt_of_lt_of_eq t.isLt (by decide +kernel)

/-- Row `r` of the row block of point `n`, among all rows. -/
def grow (n : ℕ) (h : n < cfg0.N) (r : Fin 1024) : Fin 32768 := ⟨1024 * (n / 4) + r.val, by have := lt_pt ⟨n, h⟩; dsimp only at this; omega⟩

/-- Column `k` of the column block of point `n`, among all columns. -/
def gcol (n : ℕ) (k : Fin 1408) : Fin 5632 := ⟨1408 * (n % 4) + k.val, by omega⟩

/-- The block of rows at a grid point. -/
theorem ixA : ∀ t : Fin cfg0.N, win0_0.index t = ![t.val / 4, 0] := (by decide +kernel : ∀ t : Fin grid0.N, _)
/-- The only block of the gain. -/
theorem ixB : ∀ t : Fin cfg0.N, win0_1.index t = ![0, 0] := (by decide +kernel : ∀ t : Fin grid0.N, _)
/-- The only block of the weights. -/
theorem ixC : ∀ t : Fin cfg0.N, win0_2.index t = ![0, 0] := (by decide +kernel : ∀ t : Fin grid0.N, _)
/-- The block of the result at a grid point. -/
theorem ixD : ∀ t : Fin cfg0.N, win0_3.index t = ![t.val / 4, t.val % 4] := (by decide +kernel : ∀ t : Fin grid0.N, _)
/-- The columns that a grid point reads. -/
theorem off1 : ∀ t : Fin cfg0.N, k0_off1 (grid0.coords t) = ![0, 1408 * (t.val % 4)] := (by decide +kernel : ∀ t : Fin grid0.N, _)

/-- The block of rows. -/
theorem rdA (c : Dev nD) (t : Fin cfg0.N) (r k : Fin 1024) :
    (iblk m c 0 t : FVec Ideal S1024x1024 .f32) (ix2 r k) = (V m c main_v0 : FVec Ideal S32768x1024 .f32) (ix2 (grow t.val t.isLt r) k) := by
  refine congrArg (V m c main_v0 : FVec Ideal S32768x1024 .f32) ?_
  funext a
  refine Fin.ext ?_
  show win0_0.index t a * win0_0.size a + 1 * ((ix2 r k : S1024x1024.Idx) a).val = _
  rw [ixA t]
  fin_cases a <;> simp [win0_0, grow] <;> omega

/-- The block of the gain is the gain. -/
theorem rdB (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  refine (congrArg (V m c main_v2 : FVec Ideal S1x1024 .f32) (?_ : _ = ix2 0 k)).trans ?_
  · funext a
    refine Fin.ext ?_
    show win0_1.index t a * win0_1.size a + 1 * ((ix2 0 k : S1x1024.Idx) a).val = _
    rw [ixB t]
    fin_cases a <;> simp [win0_1]
  · rw [V_g]; pointwise

/-- The block of the weights is the laid out weight matrix. -/
theorem rdC (c : Dev nD) (t : Fin cfg0.N) (r : Fin 1024) (k : Fin 5632) :
    (iblk m c 2 t : FVec Ideal S1024x5632 .bf16) (ix2 r k) = wsel (fun j => (m ((c : Thread nD τ).loc main_arg2) : FVec Ideal S1x1024x5400 .f32) (ix3 0 r j)) k := by
  refine (congrArg (V m c main_v16 : FVec Ideal S1024x5632 .bf16) (?_ : _ = ix2 r k)).trans ?_
  · funext a
    refine Fin.ext ?_
    show win0_2.index t a * win0_2.size a + 1 * ((ix2 r k : S1024x5632.Idx) a).val = _
    rw [ixC t]
    fin_cases a <;> simp [win0_2]
  · rw [V_w]; exact prep_apply _ r k

/-- The columns that a grid point reads, element by element. -/
theorem cols_apply (t : Fin cfg0.N) (x : Vec Ideal S1024x5632 .bf16) (j : Fin 1024) (k : Fin 1408) :
    cols (grid0.coords t) x (ix2 j k) = x (ix2 j (gcol t.val k)) := by
  refine congrArg x ?_
  funext a
  refine Fin.ext ?_
  show k0_off1 (grid0.coords t) a + 1 * ((ix2 j k : S1024x1408.Idx) a).val = _
  rw [off1 t]
  fin_cases a <;> simp [gcol]

/-- Where an element of the result's block lies in the result. -/
theorem embD (t : Fin cfg0.N) (r : Fin 1024) (k : Fin 1408) :
    (((cfg0.win 3).blk t).view.emb (ix2 r k : S1024x1408.Idx) : S32768x5632.Idx) = ix2 (grow t.val t.isLt r) (gcol t.val k) := by
  funext a
  refine Fin.ext ?_
  show win0_3.index t a * win0_3.size a + 1 * ((ix2 r k : S1024x1408.Idx) a).val = _
  rw [ixD t]
  fin_cases a <;> simp [win0_3, grow, gcol] <;> omega

/-! ## What the points leave -/

/-- The rows that the region finds, normed. -/
abbrev nrm (c : Dev nD) (r : Fin 32768) (k : Fin 1024) : EReal :=
  rms (fun j => (V m c main_v0 : FVec Ideal S32768x1024 .f32) (ix2 r j)) (fun j => (m ((c : Thread nD τ).loc main_arg1) : FVec Ideal S1x1024 .f32) (ix2 0 j)) k

/-- The block of rows, normed. -/
theorem pay1_blk (c : Dev nD) (t : Fin cfg0.N) (r k : Fin 1024) : k0_pay1 (iblk m c 0 t) (iblk m c 1 t) (ix2 r k) = nrm m c (grow t.val t.isLt r) k := by
  rw [pay1_apply]
  simp only [rdA, rdB]

/-- After each point the scratch holds the normed rows of its row block. -/
theorem scr (c : Dev nD) : ∀ (n : ℕ) (h : n < cfg0.N) (r k : Fin 1024), (outsAt0 m c n h).2 (ix2 r k) = nrm m c (grow n h r) k := by
  intro n
  induction n with
  | zero =>
    intro h r k
    have e := outsAt0_A m c ⟨0, h⟩ rfl
    rw [show outsAt0 m c 0 h = _ from e]
    dsimp only
    rw [sout_A]
    exact pay1_blk m c ⟨0, h⟩ r k
  | succ n ih =>
    intro h r k
    by_cases h0 : (n + 1) % 4 = 0
    · have e := outsAt0_A m c ⟨n + 1, h⟩ h0
      rw [show outsAt0 m c (n + 1) h = _ from e]
      dsimp only
      rw [sout_A]
      exact pay1_blk m c ⟨n + 1, h⟩ r k
    · have e := outsAt0_B m c ⟨n + 1, h⟩ h0
      rw [show outsAt0 m c (n + 1) h = _ from e]
      dsimp only
      refine (ih (Nat.lt_of_succ_lt h) r k).trans ?_
      refine congrArg (fun R => nrm m c R k) (Fin.ext ?_)
      show 1024 * (n / 4) + r.val = 1024 * ((n + 1) / 4) + r.val
      omega

/-- What each point leaves in the result's block. -/
theorem out (c : Dev nD) (t : Fin cfg0.N) (r : Fin 1024) (k : Fin 1408) :
    (outsAt0 m c t.val t.isLt).1 (ix2 r k)
      = rowmul (nrm m c (grow t.val t.isLt r)) (fun i => wsel (fun j => (m ((c : Thread nD τ).loc main_arg2) : FVec Ideal S1x1024x5400 .f32) (ix3 0 i j))) (gcol t.val k) := by
  unfold rowmul
  by_cases h0 : t.val % 4 = 0
  · rw [outsAt0_A m c t h0]
    dsimp only
    rw [out_A, pay2_apply]
    refine Finset.sum_congr rfl fun j _ => ?_
    rw [pay1_blk, cols_apply, rdC]
  · rw [outsAt0_B m c t h0]
    dsimp only
    rw [out_B, pay2_apply]
    refine Finset.sum_congr rfl fun j _ => ?_
    rw [scr, cols_apply, rdC]
    refine congrArg (fun R => nrm m c R j * _) (Fin.ext ?_)
    show 1024 * ((t.val - 1) / 4) + r.val = 1024 * (t.val / 4) + r.val
    omega

/-- Each element lies in the block of one grid point. -/
theorem pt_of (R : Fin 32768) (C : Fin 5632) : ∃ (t : Fin cfg0.N) (r : Fin 1024) (k : Fin 1408), R = grow t.val t.isLt r ∧ C = gcol t.val k := by
  have hN : cfg0.N = 128 := by decide +kernel
  refine ⟨⟨4 * (R.val / 1024) + C.val / 1408, by omega⟩, ⟨R.val % 1024, by omega⟩, ⟨C.val % 1408, by omega⟩, Fin.ext ?_, Fin.ext ?_⟩
  · show R.val = 1024 * ((4 * (R.val / 1024) + C.val / 1408) / 4) + R.val % 1024
    omega
  · show C.val = 1408 * ((4 * (R.val / 1024) + C.val / 1408) % 4) + C.val % 1408
    omega

/-- The result array after the run, element by element. -/
theorem z_apply (c : Dev nD) (b : Fin 8) (s : Fin 4096) (C : Fin 5632) :
    ((dats m 0 c).arrAt 3 cfg0.N : FVec Ideal S32768x5632 .f32) (ix2 (rowOf b s) C)
      = proj (fun j => (m ((c : Thread nD τ).loc main_arg0) : FVec Ideal S8x4096x1024 .f32) (ix3 b s j)) (fun j => (m ((c : Thread nD τ).loc main_arg1) : FVec Ideal S1x1024 .f32) (ix2 0 j))
          (fun i j => (m ((c : Thread nD τ).loc main_arg2) : FVec Ideal S1x1024x5400 .f32) (ix3 0 i j)) C := by
  obtain ⟨t, r, k, hR, hC⟩ := pt_of (rowOf b s) C
  have e := congrFun (Cert.InProjIdeal.Value.blocks3 m c t (flush0_3 t)) (ix2 r k : S1024x1408.Idx)
  rw [Cert.InProjIdeal.Value.flushed3] at e
  have e1 : ((dats m 0 c).arrAt 3 cfg0.N : FVec Ideal S32768x5632 .f32) (((cfg0.win 3).blk t).view.emb (ix2 r k : S1024x1408.Idx))
    = (outsAt0 m c t.val t.isLt).1 (ix2 r k) := e
  rw [embD, ← hR, ← hC, out, ← hR, ← hC] at e1
  have hx : ∀ j, (V m c main_v0 : FVec Ideal S32768x1024 .f32) (ix2 (rowOf b s) j) = (m ((c : Thread nD τ).loc main_arg0) : FVec Ideal S8x4096x1024 .f32) (ix3 b s j) := fun j => by
    rw [V_x, rows_apply]
  have hn : nrm m c (rowOf b s) = rms (fun j => (m ((c : Thread nD τ).loc main_arg0) : FVec Ideal S8x4096x1024 .f32) (ix3 b s j)) (fun j => (m ((c : Thread nD τ).loc main_arg1) : FVec Ideal S1x1024 .f32) (ix2 0 j)) := by
    funext k
    exact congrArg (fun x => rms x _ k) (funext hx)
  rw [e1, ← proj_eq, hn]

end Cert.InProj

end
-- ==== Proof.InProj.Ref.lean ====
module

public import proofs.«01_k».proof.Proof.Proj.Spec
public import proofs.«01_k».proof.Proof.Gen.InProjRefIdeal.Read

@[expose] public section

set_option maxRecDepth 16384

noncomputable section

namespace Cert.InProj

open Cert.InProjRefIdeal Cert.InProjRefIdeal.Gen Cert.InProjRefIdeal.Read Idealize.ShloMosaic Cert.RowSpec Cert.ProjSpec

variable (x : FVec Ideal S8x4096x1024 .f32) (g : FVec Ideal S1x1024 .f32) (w : FVec Ideal S1x1024x5400 .f32)

/-- The reference's norm. -/
theorem r13 (b : Fin 8) (s : Fin 4096) (k : Fin 1024) :
    val_main_v13 (F := Ideal) x g (ix3 b s k) = rms (fun j => x (ix3 b s j)) (fun j => g (ix2 0 j)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The reference's weight matrix without its unit axis. -/
theorem r14 (r : Fin 1024) (k : Fin 5400) : val_main_v14 (F := Ideal) w (ix2 r k) = w (ix3 0 r k) := by
  unfold val_main_v14
  refine shapeCast_apply _ _ _ _ ?_
  rw [Shape.rowMajor_val_three, Shape.rowMajor_val_two]
  simp

/-- The reference's projection. -/
theorem r15 (b : Fin 8) (s : Fin 4096) (k : Fin 5400) :
    val_main_v15 (F := Ideal) x g w (ix3 b s k) = rowmul (rms (fun j => x (ix3 b s j)) (fun j => g (ix2 0 j))) (fun i j => w (ix3 0 i j)) k := by
  unfold rowmul
  simp only [← r13, ← r14]
  unfold val_main_v15
  generalize val_main_v13 (F := Ideal) x g = y
  generalize val_main_v14 (F := Ideal) w = v
  pointwise

/-- The reference's result before its last reshape. -/
theorem r27 (b : Fin 8) (s : Fin 4096) (c : Fin 5632) :
    val_main_v27 (F := Ideal) x g w (ix3 b s c) = proj (fun j => x (ix3 b s j)) (fun j => g (ix2 0 j)) (fun i j => w (ix3 0 i j)) c := by
  unfold proj
  simp only [← r15]
  unfold val_main_v27 val_main_v26 val_main_v25 val_main_v24 val_main_v23 val_main_v22 val_main_v21 val_main_v20 val_main_v19 val_main_v18 val_main_v17 val_main_v16 val_main_cst_2
  generalize val_main_v15 (F := Ideal) x g w = v
  pointwise
  refine choice_eq (fun h1 => ?_) fun n1 => ?_
  · exact Eq.symm (wsel_gates _ c _ (by omega) (by dsimp only; omega))
  refine choice_eq (fun h2 => ?_) fun n2 => ?_
  · exact Eq.symm (wsel_query _ c _ (by omega) (by omega) (by dsimp only; omega))
  refine choice_eq (fun h3 => ?_) fun n3 => ?_
  · exact Eq.symm (wsel_rec _ c _ (by omega) (by omega) (by dsimp only; omega))
  refine choice_eq (fun h4 => ?_) fun n4 => ?_
  · exact Eq.symm (wsel_rec _ c _ (by omega) (by omega) (by dsimp only; omega))
  refine choice_eq (fun h5 => ?_) fun n5 => ?_
  · exact Eq.symm (wsel_rec _ c _ (by omega) (by omega) (by dsimp only; omega))
  refine choice_eq (fun h6 => ?_) fun n6 => ?_
  · exact Eq.symm (wsel_rec _ c _ (by omega) (by omega) (by dsimp only; omega))
  refine choice_eq (fun h7 => ?_) fun n7 => ?_
  · exact Eq.symm (wsel_kv _ c _ (by omega) (by omega) (by dsimp only; omega))
  refine choice_eq (fun h8 => ?_) fun n8 => ?_
  · exact Eq.symm (wsel_kv _ c _ (by omega) (by omega) (by dsimp only; omega))
  refine choice_eq (fun h9 => ?_) fun n9 => ?_
  · exact Eq.symm (wsel_kv _ c _ (by omega) (by omega) (by dsimp only; omega))
  refine choice_eq (fun h10 => ?_) fun n10 => ?_
  · exact Eq.symm (wsel_kv _ c _ (by omega) (by omega) (by dsimp only; omega))
  exact Eq.symm (wsel_pad _ c (by omega))

end Cert.InProj

end
-- ==== Proof.InProj.Claims.lean ====
module

public import proofs.«01_k».proof.Defs
public import proofs.«01_k».proof.Proof.InProj.Array
public import proofs.«01_k».proof.Proof.InProj.Ref
public import proofs.«01_k».proof.Proof.Gen.InProj
public import proofs.«01_k».proof.Proof.Gen.InProj.Frame
public import proofs.«01_k».proof.Proof.Gen.InProjRefIdeal.Run
public import Idealize.ShloMosaic.Adequacy
public import Idealize.ShloMosaic.Init

@[expose] public section

set_option maxRecDepth 16384

noncomputable section

namespace Cert.InProj

open Idealize.ShloMosaic Idealize.SL.Sem Cert.RowSpec

/-- The kernel as printed runs, keeps its arguments and leaves every counter at zero. -/
theorem frame_k : Cert.quiescent_InProj := fun m ρ _ => Cert.InProj.Gen.frame m ρ

/-- So does the kernel read over the reals. -/
theorem frame_i : Cert.quiescent_InProjIdeal := fun m ρ _ => Cert.InProjIdeal.Gen.frame m ρ

/-- So does the reference, which declares no semaphore. -/
theorem frame_r : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Every row is a position of a sequence. -/
theorem row_of (r : Fin 32768) : ∃ (b : Fin 8) (s : Fin 4096), r = rowOf b s :=
  ⟨⟨r.val / 4096, by omega⟩, ⟨r.val % 4096, by omega⟩, Fin.ext (by show r.val = 4096 * (r.val / 4096) + r.val % 4096; omega)⟩

/-- The reference's last reshape, element by element. -/
theorem zrows_apply (a : FVec Ideal Cert.InProjRefIdeal.S8x4096x5632 .f32) (h : Cert.InProjRefIdeal.S8x4096x5632.ShapeCasts Cert.InProjRefIdeal.S32768x5632) (b : Fin 8) (s : Fin 4096) (k : Fin 5632) :
    shapeCast Cert.InProjRefIdeal.S32768x5632 a h (ix2 (rowOf b s) k) = a (ix3 b s k) := by
  refine shapeCast_apply _ _ _ _ ?_
  rw [Shape.rowMajor_val_three, Shape.rowMajor_val_two]
  simp [rowOf]; omega

/-- The reference's result and the kernel's agree at every index. -/
theorem z_eq (m : (ℓ : Loc Cert.InProjIdeal.nD Cert.InProjIdeal.τ Cert.InProjIdeal.sig) → Buf (Elt Ideal) ℓ) (c : Dev Cert.InProjIdeal.nD) :
    Cert.InProjRefIdeal.Read.val_main_v28 (F := Ideal) (m ((c.tc : Thread Cert.InProjIdeal.nD Cert.InProjIdeal.τ).loc Cert.InProjIdeal.main_arg0))
      (m ((c.tc : Thread Cert.InProjIdeal.nD Cert.InProjIdeal.τ).loc Cert.InProjIdeal.main_arg1)) (m ((c.tc : Thread Cert.InProjIdeal.nD Cert.InProjIdeal.τ).loc Cert.InProjIdeal.main_arg2))
      = (Cert.InProjIdeal.Gen.dats m 0 c).arrAt 3 Cert.InProjIdeal.cfg0.N := by
  funext i
  obtain ⟨r, k, rfl⟩ : ∃ (r : Fin 32768) (k : Fin 5632), i = ix2 r k := ⟨i 0, i 1, by funext a; match a with | ⟨0, _⟩ => rfl | ⟨1, _⟩ => rfl⟩
  obtain ⟨b, s, rfl⟩ := row_of r
  exact ((zrows_apply _ _ b s k).trans (r27 _ _ _ b s k)).trans (z_apply m c b s k).symm

/-- Over the reals the kernel and the reference end with equal results. -/
theorem algebraic : Cert.algebraic_InProjIdeal_InProjRefIdeal := by
  intro m ρ m' ρ' _ hagree
  refine ⟨fun c => (Cert.InProjIdeal.Gen.dats m 0 c).arrAt 3 Cert.InProjIdeal.cfg0.N, ?_, ?_⟩
  · exact Cert.InProjIdeal.Value.run_blocks m ρ
  · refine (θ_run Cert.InProjRefIdeal.defs _ _).mono (fun r h c => ⟨(h c).1.trans ?_, (h c).2⟩) (Cert.InProjRefIdeal.Value.run (F := Ideal) m' ρ')
    obtain ⟨h0, h1, h2⟩ := hagree c
    refine (Cert.InProjRefIdeal.Read.val_main_v28_eq m' c).trans ?_
    rw [h0, h1, h2]
    exact z_eq m c

end Cert.InProj

end
-- ==== Proof.InSample.Block.lean ====
module

public import proofs.«01_k».proof.Proof.Proj.Spec
public import proofs.«01_k».proof.Proof.Gen.InSampleIdeal.Frame
public import Idealize.ShloMosaic.Lib.Tactic

@[expose] public section

set_option maxRecDepth 16384

noncomputable section

namespace Cert.InSample

open Cert.InSampleIdeal Cert.InSampleIdeal.Gen Idealize.ShloMosaic Idealize.ShloMosaic.TcCoe Cert.RowSpec Cert.ProjSpec Idealize.ShloMosaic.StableHlo

/-! ## The two payloads, element by element -/

/-- The normed block. -/
theorem pay1_apply (v0 : Vec Ideal S512x1024 .f32) (v2 : Vec Ideal S1x1024 .f32) (r : Fin 512) (k : Fin 1024) :
    k0_pay1 v0 v2 (ix2 r k) = rms (fun j => v0 (ix2 r j)) (fun j => v2 (ix2 0 j)) k := by
  unfold k0_pay1
  pointwise
  rfl

/-- The product of the normed block with a block of columns. -/
theorem pay2_apply (v5 : Vec Ideal S512x1024 .bf16) (v7 : Vec Ideal S1024x512 .bf16) (r : Fin 512) (k : Fin 512) :
    k0_pay2 v5 v7 (ix2 r k) = ∑ j : Fin 1024, v5 (ix2 r j) * v7 (ix2 j k) := by
  unfold k0_pay2
  pointwise

/-! ## What a point leaves -/

/-- A point that starts a row block leaves the normed block in the scratch. -/
theorem sout_A (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S512x512 .f32) (h5 : a5.IsWhole) (a6 : Memref sig .tc .vmem S512x1024 .bf16) (h6 : a6.IsWhole)
    (hc : cond0_0 i) (x0 : Vec Ideal S512x1024 .f32) (x1 : Vec Ideal S1x1024 .f32) (x2 : Vec Ideal S1024x5632 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S512x1024) (by decide)]
  simp only [View.readAt_eq_ld, h2.read_unread, h3.read_unread]
  rw [View.ld_unit_zero (S := S512x1024) (by decide), View.ld_unit_zero (S := S1x1024) (by decide)]

/-- The columns of the weights that a point reads. -/
abbrev cols (i : grid0.Coords) (x2 : Vec Ideal S1024x5632 .bf16) : Vec Ideal S1024x512 .bf16 :=
  View.ld x2 (Rect.unit (s := S1024x5632) (k0_off1 i) S1024x512.size (k0_off1_inb i))

/-- A point that starts a row block leaves the product of the normed block with its columns. -/
theorem out_A (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S512x512 .f32) (h5 : a5.IsWhole) (a6 : Memref sig .tc .vmem S512x1024 .bf16) (h6 : a6.IsWhole)
    (hc : cond0_0 i) (x0 : Vec Ideal S512x1024 .f32) (x1 : Vec Ideal S1x1024 .f32) (x2 : Vec Ideal S1024x5632 .bf16) :
    out0_A_3 c i a2 h2 a3 h3 a4 h4 a5 h5 a6 h6 hc x0 x1 x2 = k0_pay2 (k0_pay1 x0 x1) (cols i x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S512x512) (by decide), View.readCov_unit_zero (S := S512x1024) _ (by decide)]
  simp only [View.readAt_eq_ld, h2.read_unread, h3.read_unread, h4.read_unread]
  rw [View.ld_unit_zero (S := S512x1024) (by decide), View.ld_unit_zero (S := S1x1024) (by decide)]
  rfl

/-- A later point leaves the product of the carried block with its columns. -/
theorem out_B (c : Dev nD) (i : grid0.Coords) (a2 : Memref sig .tc .vmem S512x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S512x512 .f32) (h5 : a5.IsWhole) (a6 : Memref sig .tc .vmem S512x1024 .bf16) (h6 : a6.IsWhole)
    (hc : ¬cond0_0 i) (x0 : Vec Ideal S512x1024 .f32) (x1 : Vec Ideal S1x1024 .f32) (x2 : Vec Ideal S1024x5632 .bf16) (xs : Vec Ideal S512x1024 .bf16) :
    out0_B_3 c i a2 h2 a3 h3 a4 h4 a5 h5 a6 h6 hc x0 x1 x2 xs = k0_pay2 xs (cols i x2) := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S512x512) (by decide)]
  simp only [View.readAt_eq_ld, h4.read_unread, h6.read_unread]
  rw [View.ld_unit_zero (S := S512x1024) (by decide)]
  rfl

/-! ## The weights as the host lays them out -/

/-- The weight matrix with its columns in the kernel's order. -/
def prep (w : FVec Ideal S1x1024x5400 .f32) : FVec Ideal S1024x5632 .f32 :=
  let v3 : FVec Ideal S1024x5400 .f32 := shapeCast S1024x5400 w shapeCasts_S1x1024x5400_S1024x5400
  concatenate S1024x5632 1
    [⟨S1024x2048, extractStridedSlice S1024x2048 ![0, 3352] v3 slices_S1024x5400_S1024x2048_0_3352⟩,
     ⟨S1024x512, extractStridedSlice S1024x512 ![0, 0] v3 slices_S1024x5400_S1024x512_0_0⟩,
     ⟨S1024x512, extractStridedSlice S1024x512 ![0, 1304] v3 slices_S1024x5400_S1024x512_0_1304⟩,
     ⟨S1024x512, extractStridedSlice S1024x512 ![0, 1816] v3 slices_S1024x5400_S1024x512_0_1816⟩,
     ⟨S1024x512, extractStridedSlice S1024x512 ![0, 2328] v3 slices_S1024x5400_S1024x512_0_2328⟩,
     ⟨S1024x512, extractStridedSlice S1024x512 ![0, 2840] v3 slices_S1024x5400_S1024x512_0_2840⟩,
     ⟨S1024x256, extractStridedSlice S1024x256 ![0, 512] v3 slices_S1024x5400_S1024x256_0_512⟩,
     ⟨S1024x256, extractStridedSlice S1024x256 ![0, 768] v3 slices_S1024x5400_S1024x256_0_768⟩,
     ⟨S1024x256, extractStridedSlice S1024x256 ![0, 1024] v3 slices_S1024x5400_S1024x256_0_1024⟩,
     ⟨S1024x24, extractStridedSlice S1024x24 ![0, 1280] v3 slices_S1024x5400_S1024x24_0_1280⟩,
     ⟨S1024x232, broadcastInDim S1024x232 ![] bcast_S_S1024x232 (constant S_ .f32 0x00000000#32)⟩]
    concatenates_S1024x2048_S1024x512_S1024x512_S1024x512_S1024x512_S1024x512_S1024x256_S1024x256_S1024x256_S1024x24_S1024x232_S1024x5632_d1

/-- The weight matrix without its unit axis. -/
theorem w_apply (a : FVec Ideal S1x1024x5400 .f32) (r : Fin 1024) (k : Fin 5400) :
    shapeCast S1024x5400 a shapeCasts_S1x1024x5400_S1024x5400 (ix2 r k) = a (ix3 0 r k) := by
  refine shapeCast_apply _ _ _ _ ?_
  rw [Shape.rowMajor_val_three, Shape.rowMajor_val_two]
  simp

/-- The laid out weights, element by element. -/
theorem prep_apply (w : FVec Ideal S1x1024x5400 .f32) (r : Fin 1024) (c : Fin 5632) :
    prep w (ix2 r c) = wsel (fun k => w (ix3 0 r k)) c := by
  unfold prep
  simp only [← w_apply]
  generalize shapeCast S1024x5400 w shapeCasts_S1x1024x5400_S1024x5400 = v
  pointwise
  refine choice_eq (fun h1 => ?_) fun n1 => ?_
  · exact Eq.symm (wsel_gates _ c _ (by omega) (by dsimp only; omega))
  refine choice_eq (fun h2 => ?_) fun n2 => ?_
  · exact Eq.symm (wsel_query _ c _ (by omega) (by omega) (by dsimp only; omega))
  refine choice_eq (fun h3 => ?_) fun n3 => ?_
  · exact Eq.symm (wsel_rec _ c _ (by omega) (by omega) (by dsimp only; omega))
  refine choice_eq (fun h4 => ?_) fun n4 => ?_
  · exact Eq.symm (wsel_rec _ c _ (by omega) (by omega) (by dsimp only; omega))
  refine choice_eq (fun h5 => ?_) fun n5 => ?_
  · exact Eq.symm (wsel_rec _ c _ (by omega) (by omega) (by dsimp only; omega))
  refine choice_eq (fun h6 => ?_) fun n6 => ?_
  · exact Eq.symm (wsel_rec _ c _ (by omega) (by omega) (by dsimp only; omega))
  refine choice_eq (fun h7 => ?_) fun n7 => ?_
  · exact Eq.symm (wsel_kv _ c _ (by omega) (by omega) (by dsimp only; omega))
  refine choice_eq (fun h8 => ?_) fun n8 => ?_
  · exact Eq.symm (wsel_kv _ c _ (by omega) (by omega) (by dsimp only; omega))
  refine choice_eq (fun h9 => ?_) fun n9 => ?_
  · exact Eq.symm (wsel_kv _ c _ (by omega) (by omega) (by dsimp only; omega))
  refine choice_eq (fun h10 => ?_) fun n10 => ?_
  · exact Eq.symm (wsel_kv _ c _ (by omega) (by omega) (by dsimp only; omega))
  exact Eq.symm (wsel_pad _ c (by omega))

end Cert.InSample

end
-- ==== Proof.InSample.Array.lean ====
module

public import proofs.«01_k».proof.Proof.InSample.Block

@[expose] public section

set_option maxRecDepth 16384

noncomputable section

namespace Cert.InSample

open Cert.InSampleIdeal Cert.InSampleIdeal.Gen Idealize.ShloMosaic Idealize.ShloMosaic.TcCoe Cert.RowSpec Cert.ProjSpec Idealize.ShloMosaic.StableHlo

/-! ## The arrays that the region finds -/

/-- Position `s` of sequence `b`, among all rows. -/
def rowOf (b : Fin 128) (s : Fin 4) : Fin 512 := ⟨4 * b.val + s.val, by omega⟩

variable (m : (ℓ : Loc nD τ sig) → Buf (Elt Ideal) ℓ)

/-- The region finds the inputs as rows. -/
theorem V_x (c : Dev nD) : V m c main_v0 = shapeCast S512x1024 (m ((c : Thread nD τ).loc main_arg0)) shapeCasts_S128x4x1024_S512x1024 := by
  simp only [V, V0, hostOps0, List.flatten_cons, List.flatten_nil, List.append_nil, List.cons_append, List.nil_append]
  after_results
  rfl

/-- The region finds the gain as one row. -/
theorem V_g (c : Dev nD) : V m c main_v2 = shapeCast S1x1024 (shapeCast S1024 (m ((c : Thread nD τ).loc main_arg1)) shapeCasts_S1x1024_S1024) shapeCasts_S1024_S1x1024 := by
  simp only [V, V0, hostOps0, List.flatten_cons, List.flatten_nil, List.append_nil, List.cons_append, List.nil_append]
  after_results
  rfl

/-- The region finds the laid out weights, cast. -/
theorem V_w (c : Dev nD) : (V m c main_v16 : FVec Ideal S1024x5632 .bf16) = truncf (F := Ideal) .bf16 (prep (m ((c : Thread nD τ).loc main_arg2))) bitsLt_bf16_f32 := by
  simp only [V, V0, hostOps0, List.flatten_cons, List.flatten_nil, List.append_nil, List.cons_append, List.nil_append]
  after_results
  rfl

/-- The inputs as rows, element by element. -/
theorem rows_apply (a : FVec Ideal S128x4x1024 .f32) (b : Fin 128) (s : Fin 4) (k : Fin 1024) :
    shapeCast S512x1024 a shapeCasts_S128x4x1024_S512x1024 (ix2 (rowOf b s) k) = a (ix3 b s k) := by
  refine shapeCast_apply _ _ _ _ ?_
  rw [Shape.rowMajor_val_three, Shape.rowMajor_val_two]
  simp [rowOf]; omega

/-! ## The blocks -/

/-- The number of grid points. -/
theorem lt_pt (t : Fin cfg0.N) : t.val < 11 := lt_of_lt_of_eq t.isLt (by decide +kernel)

/-- Row `r` of the row block of point `n`, among all rows. -/
def grow (n : ℕ) (h : n < cfg0.N) (r : Fin 512) : Fin 512 := ⟨512 * (n / 11) + r.val, by have := lt_pt ⟨n, h⟩; dsimp only at this; omega⟩

/-- Column `k` of the column block of point `n`, among all columns. -/
def gcol (n : ℕ) (k : Fin 512) : Fin 5632 := ⟨512 * (n % 11) + k.val, by omega⟩

/-- The block of rows at a grid point. -/
theorem ixA : ∀ t : Fin cfg0.N, win0_0.index t = ![t.val / 11, 0] := (by decide +kernel : ∀ t : Fin grid0.N, _)
/-- The only block of the gain. -/
theorem ixB : ∀ t : Fin cfg0.N, win0_1.index t = ![0, 0] := (by decide +kernel : ∀ t : Fin grid0.N, _)
/-- The only block of the weights. -/
theorem ixC : ∀ t : Fin cfg0.N, win0_2.index t = ![0, 0] := (by decide +kernel : ∀ t : Fin grid0.N, _)
/-- The block of the result at a grid point. -/
theorem ixD : ∀ t : Fin cfg0.N, win0_3.index t = ![t.val / 11, t.val % 11] := (by decide +kernel : ∀ t : Fin grid0.N, _)
/-- The columns that a grid point reads. -/
theorem off1 : ∀ t : Fin cfg0.N, k0_off1 (grid0.coords t) = ![0, 512 * (t.val % 11)] := (by decide +kernel : ∀ t : Fin grid0.N, _)

/-- The block of rows. -/
theorem rdA (c : Dev nD) (t : Fin cfg0.N) (r : Fin 512) (k : Fin 1024) :
    (iblk m c 0 t : FVec Ideal S512x1024 .f32) (ix2 r k) = (V m c main_v0 : FVec Ideal S512x1024 .f32) (ix2 (grow t.val t.isLt r) k) := by
  refine congrArg (V m c main_v0 : FVec Ideal S512x1024 .f32) ?_
  funext a
  refine Fin.ext ?_
  show win0_0.index t a * win0_0.size a + 1 * ((ix2 r k : S512x1024.Idx) a).val = _
  rw [ixA t]
  fin_cases a <;> simp [win0_0, grow] <;> omega

/-- The block of the gain is the gain. -/
theorem rdB (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  refine (congrArg (V m c main_v2 : FVec Ideal S1x1024 .f32) (?_ : _ = ix2 0 k)).trans ?_
  · funext a
    refine Fin.ext ?_
    show win0_1.index t a * win0_1.size a + 1 * ((ix2 0 k : S1x1024.Idx) a).val = _
    rw [ixB t]
    fin_cases a <;> simp [win0_1]
  · rw [V_g]; pointwise

/-- The block of the weights is the laid out weight matrix. -/
theorem rdC (c : Dev nD) (t : Fin cfg0.N) (r : Fin 1024) (k : Fin 5632) :
    (iblk m c 2 t : FVec Ideal S1024x5632 .bf16) (ix2 r k) = wsel (fun j => (m ((c : Thread nD τ).loc main_arg2) : FVec Ideal S1x1024x5400 .f32) (ix3 0 r j)) k := by
  refine (congrArg (V m c main_v16 : FVec Ideal S1024x5632 .bf16) (?_ : _ = ix2 r k)).trans ?_
  · funext a
    refine Fin.ext ?_
    show win0_2.index t a * win0_2.size a + 1 * ((ix2 r k : S1024x5632.Idx) a).val = _
    rw [ixC t]
    fin_cases a <;> simp [win0_2]
  · rw [V_w]; exact prep_apply _ r k

/-- The columns that a grid point reads, element by element. -/
theorem cols_apply (t : Fin cfg0.N) (x : Vec Ideal S1024x5632 .bf16) (j : Fin 1024) (k : Fin 512) :
    cols (grid0.coords t) x (ix2 j k) = x (ix2 j (gcol t.val k)) := by
  refine congrArg x ?_
  funext a
  refine Fin.ext ?_
  show k0_off1 (grid0.coords t) a + 1 * ((ix2 j k : S1024x512.Idx) a).val = _
  rw [off1 t]
  fin_cases a <;> simp [gcol]

/-- Where an element of the result's block lies in the result. -/
theorem embD (t : Fin cfg0.N) (r : Fin 512) (k : Fin 512) :
    (((cfg0.win 3).blk t).view.emb (ix2 r k : S512x512.Idx) : S512x5632.Idx) = ix2 (grow t.val t.isLt r) (gcol t.val k) := by
  funext a
  refine Fin.ext ?_
  show win0_3.index t a * win0_3.size a + 1 * ((ix2 r k : S512x512.Idx) a).val = _
  rw [ixD t]
  fin_cases a <;> simp [win0_3, grow, gcol] <;> omega

/-! ## What the points leave -/

/-- The rows that the region finds, normed. -/
abbrev nrm (c : Dev nD) (r : Fin 512) (k : Fin 1024) : EReal :=
  rms (fun j => (V m c main_v0 : FVec Ideal S512x1024 .f32) (ix2 r j)) (fun j => (m ((c : Thread nD τ).loc main_arg1) : FVec Ideal S1x1024 .f32) (ix2 0 j)) k

/-- The block of rows, normed. -/
theorem pay1_blk (c : Dev nD) (t : Fin cfg0.N) (r : Fin 512) (k : Fin 1024) : k0_pay1 (iblk m c 0 t) (iblk m c 1 t) (ix2 r k) = nrm m c (grow t.val t.isLt r) k := by
  rw [pay1_apply]
  simp only [rdA, rdB]

/-- After each point the scratch holds the normed rows of its row block. -/
theorem scr (c : Dev nD) : ∀ (n : ℕ) (h : n < cfg0.N) (r : Fin 512) (k : Fin 1024), (outsAt0 m c n h).2 (ix2 r k) = nrm m c (grow n h r) k := by
  intro n
  induction n with
  | zero =>
    intro h r k
    have e := outsAt0_A m c ⟨0, h⟩ rfl
    rw [show outsAt0 m c 0 h = _ from e]
    dsimp only
    rw [sout_A]
    exact pay1_blk m c ⟨0, h⟩ r k
  | succ n ih =>
    intro h r k
    by_cases h0 : (n + 1) % 11 = 0
    · have e := outsAt0_A m c ⟨n + 1, h⟩ h0
      rw [show outsAt0 m c (n + 1) h = _ from e]
      dsimp only
      rw [sout_A]
      exact pay1_blk m c ⟨n + 1, h⟩ r k
    · have e := outsAt0_B m c ⟨n + 1, h⟩ h0
      rw [show outsAt0 m c (n + 1) h = _ from e]
      dsimp only
      refine (ih (Nat.lt_of_succ_lt h) r k).trans ?_
      refine congrArg (fun R => nrm m c R k) (Fin.ext ?_)
      show 512 * (n / 11) + r.val = 512 * ((n + 1) / 11) + r.val
      omega

/-- What each point leaves in the result's block. -/
theorem out (c : Dev nD) (t : Fin cfg0.N) (r : Fin 512) (k : Fin 512) :
    (outsAt0 m c t.val t.isLt).1 (ix2 r k)
      = rowmul (nrm m c (grow t.val t.isLt r)) (fun i => wsel (fun j => (m ((c : Thread nD τ).loc main_arg2) : FVec Ideal S1x1024x5400 .f32) (ix3 0 i j))) (gcol t.val k) := by
  unfold rowmul
  by_cases h0 : t.val % 11 = 0
  · rw [outsAt0_A m c t h0]
    dsimp only
    rw [out_A, pay2_apply]
    refine Finset.sum_congr rfl fun j _ => ?_
    rw [pay1_blk, cols_apply, rdC]
  · rw [outsAt0_B m c t h0]
    dsimp only
    rw [out_B, pay2_apply]
    refine Finset.sum_congr rfl fun j _ => ?_
    rw [scr, cols_apply, rdC]
    refine congrArg (fun R => nrm m c R j * _) (Fin.ext ?_)
    show 512 * ((t.val - 1) / 11) + r.val = 512 * (t.val / 11) + r.val
    omega

/-- Each element lies in the block of one grid point. -/
theorem pt_of (R : Fin 512) (C : Fin 5632) : ∃ (t : Fin cfg0.N) (r : Fin 512) (k : Fin 512), R = grow t.val t.isLt r ∧ C = gcol t.val k := by
  have hN : cfg0.N = 11 := by decide +kernel
  refine ⟨⟨11 * (R.val / 512) + C.val / 512, by omega⟩, ⟨R.val % 512, by omega⟩, ⟨C.val % 512, by omega⟩, Fin.ext ?_, Fin.ext ?_⟩
  · show R.val = 512 * ((11 * (R.val / 512) + C.val / 512) / 11) + R.val % 512
    omega
  · show C.val = 512 * ((11 * (R.val / 512) + C.val / 512) % 11) + C.val % 512
    omega

/-- Different points write different blocks. -/
theorem blk_ne : ∀ t t' : Fin cfg0.N, win0_3.index t = win0_3.index t' → t = t' :=
  (by decide +kernel : ∀ t t' : Fin grid0.N, win0_3.index t = win0_3.index t' → t = t')

/-- A block of the result after the run is what its point left there. -/
theorem blk_eq (c : Dev nD) (t : Fin cfg0.N) :
    ((cfg0.win 3).blk t).view.read (Elt Ideal) ((dats m 0 c).arrAt 3 cfg0.N) = (cfg0.win 3).cut (grid0.coords t) ((outsAt0 m c t.val t.isLt).1) := by
  refine ((dats m 0 c).read_blk_arrAt_eq_flushed 3 (fun t t' _ _ hne => (cfg0.win 3).disjoint_blk fun h => hne (blk_ne t t' h)) cfg0.N t t.isLt (flush0_3 t)).trans ?_
  show (cfg0.win 3).cut (grid0.coords t) ((dats m 0 c).after 3 t) = _
  rw [after0_3]

/-- The result array after the run, element by element. -/
theorem z_apply (c : Dev nD) (b : Fin 128) (s : Fin 4) (C : Fin 5632) :
    ((dats m 0 c).arrAt 3 cfg0.N : FVec Ideal S512x5632 .f32) (ix2 (rowOf b s) C)
      = proj (fun j => (m ((c : Thread nD τ).loc main_arg0) : FVec Ideal S128x4x1024 .f32) (ix3 b s j)) (fun j => (m ((c : Thread nD τ).loc main_arg1) : FVec Ideal S1x1024 .f32) (ix2 0 j))
          (fun i j => (m ((c : Thread nD τ).loc main_arg2) : FVec Ideal S1x1024x5400 .f32) (ix3 0 i j)) C := by
  obtain ⟨t, r, k, hR, hC⟩ := pt_of (rowOf b s) C
  have e := congrFun (blk_eq m c t) (ix2 r k : S512x512.Idx)
  have e1 : ((dats m 0 c).arrAt 3 cfg0.N : FVec Ideal S512x5632 .f32) (((cfg0.win 3).blk t).view.emb (ix2 r k : S512x512.Idx))
    = (outsAt0 m c t.val t.isLt).1 (ix2 r k) := e
  rw [embD, ← hR, ← hC, out, ← hR, ← hC] at e1
  have hx : ∀ j, (V m c main_v0 : FVec Ideal S512x1024 .f32) (ix2 (rowOf b s) j) = (m ((c : Thread nD τ).loc main_arg0) : FVec Ideal S128x4x1024 .f32) (ix3 b s j) := fun j => by
    rw [V_x, rows_apply]
  have hn : nrm m c (rowOf b s) = rms (fun j => (m ((c : Thread nD τ).loc main_arg0) : FVec Ideal S128x4x1024 .f32) (ix3 b s j)) (fun j => (m ((c : Thread nD τ).loc main_arg1) : FVec Ideal S1x1024 .f32) (ix2 0 j)) := by
    funext k
    exact congrArg (fun x => rms x _ k) (funext hx)
  rw [e1, ← proj_eq, hn]

end Cert.InSample

end
-- ==== Proof.InSample.Tail.lean ====
module

public import proofs.«01_k».proof.Proof.InSample.Array

@[expose] public section

set_option maxRecDepth 16384

noncomputable section

namespace Cert.InSample

open Cert.InSampleIdeal Cert.InSampleIdeal.Gen Idealize.ShloMosaic Idealize.ShloMosaic.TcCoe Idealize.SL.Sem Cert.RowSpec Cert.ProjSpec Idealize.ShloMosaic.StableHlo

/-! ## The host work after the region -/

/-- The compression's keys and values, cut out of the packed projection. -/
def cmpOf (z : FVec Ideal S512x5632 .f32) : FVec Ideal S128x4x2x2x64 .f32 :=
  shapeCast S128x4x2x2x64 (extractStridedSlice S512x256 ![0, 4608] z slices_S512x5632_S512x256_0_4608) shapeCasts_S512x256_S128x4x2x2x64

/-- The selection's keys and values, cut out of the packed projection. -/
def selOf (z : FVec Ideal S512x5632 .f32) : FVec Ideal S128x4x2x2x64 .f32 :=
  shapeCast S128x4x2x2x64 (extractStridedSlice S512x256 ![0, 4864] z slices_S512x5632_S512x256_0_4864) shapeCasts_S512x256_S128x4x2x2x64

/-- The window's keys and values, cut out of the packed projection. -/
def winRows (z : FVec Ideal S512x5632 .f32) : FVec Ideal S128x4x2x2x64 .f32 :=
  shapeCast S128x4x2x2x64 (extractStridedSlice S512x256 ![0, 5120] z slices_S512x5632_S512x256_0_5120) shapeCasts_S512x256_S128x4x2x2x64

/-- The window's cache with the new rows appended and the oldest four dropped. -/
def winOf (z : FVec Ideal S512x5632 .f32) (a : FVec Ideal S1x128x512x2x2x64 .f32) : FVec Ideal S128x512x2x2x64 .f32 :=
  extractStridedSlice S128x512x2x2x64 ![0, 4, 0, 0, 0]
    (concatenate S128x516x2x2x64 1 [⟨S128x512x2x2x64, shapeCast S128x512x2x2x64 a shapeCasts_S1x128x512x2x2x64_S128x512x2x2x64⟩, ⟨S128x4x2x2x64, winRows z⟩]
      concatenates_S128x512x2x2x64_S128x4x2x2x64_S128x516x2x2x64_d1) slices_S128x516x2x2x64_S128x512x2x2x64_0_4_0_0_0

/-- What the last host operations leave as the compression's rows. -/
theorem ops_cmp (U : Valuation τ sig (Elt Ideal)) : after [hostOps1 (F := Ideal)].flatten U (Proc.devRef .tc main_v25) = cmpOf (U (Proc.devRef .tc main_v17)) := by
  simp only [hostOps1, List.flatten_cons, List.flatten_nil, List.append_nil, List.cons_append, List.nil_append]
  after_results
  rfl

/-- What the last host operations leave as the selection's rows. -/
theorem ops_sel (U : Valuation τ sig (Elt Ideal)) : after [hostOps1 (F := Ideal)].flatten U (Proc.devRef .tc main_v26) = selOf (U (Proc.devRef .tc main_v17)) := by
  simp only [hostOps1, List.flatten_cons, List.flatten_nil, List.append_nil, List.cons_append, List.nil_append]
  after_results
  rfl

/-- What the last host operations leave as the window. -/
theorem ops_win (U : Valuation τ sig (Elt Ideal)) : after [hostOps1 (F := Ideal)].flatten U (Proc.devRef .tc main_v24) = winOf (U (Proc.devRef .tc main_v17)) (U (Proc.devRef .tc main_arg3)) := by
  simp only [hostOps1, List.flatten_cons, List.flatten_nil, List.append_nil, List.cons_append, List.nil_append]
  after_results
  rfl

variable (m : (ℓ : Loc nD τ sig) → Buf (Elt Ideal) ℓ) (ρ : Dev nD → PrngReg)

/-- The packed projection after the region. -/
abbrev zOf (c : Dev nD) : FVec Ideal S512x5632 .f32 := (dats m 0 c).arrAt 3 cfg0.N

/-- The buffers as the region leaves them. -/
abbrev left (c : Dev nD) : Valuation τ sig (Elt Ideal) := Pipeline.withArrays spec0 c (V0 m c) fun w => (dats m 0 c).arrAt w cfg0.N

/-- The region leaves the packed projection. -/
theorem left_z (c : Dev nD) : left m c (Proc.devRef .tc main_v17) = zOf m c :=
  Pipeline.withArrays_arr spec0 (by decide) c (V0 m c) (fun w => (dats m 0 c).arrAt w cfg0.N) 3

/-- The region leaves the cache as launched. -/
theorem left_a (c : Dev nD) : left m c (Proc.devRef .tc main_arg3) = m ((c : Thread nD τ).loc main_arg3) :=
  (Pipeline.withArrays_of_ne spec0 c (V0 m c) (fun w => (dats m 0 c).arrAt w cfg0.N) main_arg3 (by decide)).trans (V_main_arg3 m c)

/-- The run with each result named and the arguments as launched. -/
theorem run : θ_run defs (onTc (τ := τ) (main (F := Ideal))) ⟨m, fun _ => 0, ρ⟩ fun r => ∀ c : Dev nD,
      r.2.mem ((c : Thread nD τ).loc main_v17) = zOf m c
      ∧ r.2.mem ((c : Thread nD τ).loc main_v25) = cmpOf (zOf m c)
      ∧ r.2.mem ((c : Thread nD τ).loc main_v26) = selOf (zOf m c)
      ∧ r.2.mem ((c : Thread nD τ).loc main_v24) = winOf (zOf m c) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (θ_run_and (run_main m ρ) (unchanged m ρ))
  refine ⟨(h.1 c).1 3, ?_, ?_, ?_, h.2 c⟩
  · exact ((h.1 c).2 main_v25 (Pipeline.mem_restRefs_of main_v25 (by decide) (by decide))).trans ((ops_cmp (left m c)).trans (congrArg cmpOf (left_z m c)))
  · exact ((h.1 c).2 main_v26 (Pipeline.mem_restRefs_of main_v26 (by decide) (by decide))).trans ((ops_sel (left m c)).trans (congrArg selOf (left_z m c)))
  · exact ((h.1 c).2 main_v24 (Pipeline.mem_restRefs_of main_v24 (by decide) (by decide))).trans
      ((ops_win (left m c)).trans (congrArg₂ winOf (left_z m c) (left_a m c)))

end Cert.InSample

end
-- ==== Proof.InSample.Ref.lean ====
module

public import proofs.«01_k».proof.Proof.Proj.Spec
public import proofs.«01_k».proof.Proof.Gen.InSampleRefIdeal.Read

@[expose] public section

set_option maxRecDepth 16384

noncomputable section

namespace Cert.InSample

open Cert.InSampleRefIdeal Cert.InSampleRefIdeal.Gen Cert.InSampleRefIdeal.Read Idealize.ShloMosaic Cert.RowSpec Cert.ProjSpec

variable (x : FVec Ideal S128x4x1024 .f32) (g : FVec Ideal S1x1024 .f32) (w : FVec Ideal S1x1024x5400 .f32)

/-- The reference's norm. -/
theorem r13 (b : Fin 128) (s : Fin 4) (k : Fin 1024) :
    val_main_v13 (F := Ideal) x g (ix3 b s k) = rms (fun j => x (ix3 b s j)) (fun j => g (ix2 0 j)) k := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The reference's weight matrix without its unit axis. -/
theorem r14 (r : Fin 1024) (k : Fin 5400) : val_main_v14 (F := Ideal) w (ix2 r k) = w (ix3 0 r k) := by
  unfold val_main_v14
  refine shapeCast_apply _ _ _ _ ?_
  rw [Shape.rowMajor_val_three, Shape.rowMajor_val_two]
  simp

/-- The reference's projection. -/
theorem r15 (b : Fin 128) (s : Fin 4) (k : Fin 5400) :
    val_main_v15 (F := Ideal) x g w (ix3 b s k) = rowmul (rms (fun j => x (ix3 b s j)) (fun j => g (ix2 0 j))) (fun i j => w (ix3 0 i j)) k := by
  unfold rowmul
  simp only [← r13, ← r14]
  unfold val_main_v15
  generalize val_main_v13 (F := Ideal) x g = y
  generalize val_main_v14 (F := Ideal) w = v
  pointwise

/-- The reference's result before its last reshape. -/
theorem r27 (b : Fin 128) (s : Fin 4) (c : Fin 5632) :
    val_main_v27 (F := Ideal) x g w (ix3 b s c) = proj (fun j => x (ix3 b s j)) (fun j => g (ix2 0 j)) (fun i j => w (ix3 0 i j)) c := by
  unfold proj
  simp only [← r15]
  unfold val_main_v27 val_main_v26 val_main_v25 val_main_v24 val_main_v23 val_main_v22 val_main_v21 val_main_v20 val_main_v19 val_main_v18 val_main_v17 val_main_v16 val_main_cst_2
  generalize val_main_v15 (F := Ideal) x g w = v
  pointwise
  refine choice_eq (fun h1 => ?_) fun n1 => ?_
  · exact Eq.symm (wsel_gates _ c _ (by omega) (by dsimp only; omega))
  refine choice_eq (fun h2 => ?_) fun n2 => ?_
  · exact Eq.symm (wsel_query _ c _ (by omega) (by omega) (by dsimp only; omega))
  refine choice_eq (fun h3 => ?_) fun n3 => ?_
  · exact Eq.symm (wsel_rec _ c _ (by omega) (by omega) (by dsimp only; omega))
  refine choice_eq (fun h4 => ?_) fun n4 => ?_
  · exact Eq.symm (wsel_rec _ c _ (by omega) (by omega) (by dsimp only; omega))
  refine choice_eq (fun h5 => ?_) fun n5 => ?_
  · exact Eq.symm (wsel_rec _ c _ (by omega) (by omega) (by dsimp only; omega))
  refine choice_eq (fun h6 => ?_) fun n6 => ?_
  · exact Eq.symm (wsel_rec _ c _ (by omega) (by omega) (by dsimp only; omega))
  refine choice_eq (fun h7 => ?_) fun n7 => ?_
  · exact Eq.symm (wsel_kv _ c _ (by omega) (by omega) (by dsimp only; omega))
  refine choice_eq (fun h8 => ?_) fun n8 => ?_
  · exact Eq.symm (wsel_kv _ c _ (by omega) (by omega) (by dsimp only; omega))
  refine choice_eq (fun h9 => ?_) fun n9 => ?_
  · exact Eq.symm (wsel_kv _ c _ (by omega) (by omega) (by dsimp only; omega))
  refine choice_eq (fun h10 => ?_) fun n10 => ?_
  · exact Eq.symm (wsel_kv _ c _ (by omega) (by omega) (by dsimp only; omega))
  exact Eq.symm (wsel_pad _ c (by omega))

end Cert.InSample

end
-- ==== Proof.InSample.Claims.lean ====
module

public import proofs.«01_k».proof.Defs
public import proofs.«01_k».proof.Proof.InSample.Tail
public import proofs.«01_k».proof.Proof.InSample.Ref
public import proofs.«01_k».proof.Proof.Gen.InSample
public import proofs.«01_k».proof.Proof.Gen.InSample.Frame
public import proofs.«01_k».proof.Proof.Gen.InSampleRefIdeal.Run
public import Idealize.ShloMosaic.Adequacy
public import Idealize.ShloMosaic.Init

@[expose] public section

set_option maxRecDepth 16384

noncomputable section

namespace Cert.InSample

open Idealize.ShloMosaic Idealize.SL.Sem Cert.RowSpec

/-- The kernel as printed runs, keeps its arguments and leaves every counter at zero. -/
theorem frame_k : Cert.quiescent_InSample := fun m ρ _ => Cert.InSample.Gen.frame m ρ

/-- So does the kernel read over the reals. -/
theorem frame_i : Cert.quiescent_InSampleIdeal := fun m ρ _ => Cert.InSampleIdeal.Gen.frame m ρ

/-- So does the reference, which declares no semaphore. -/
theorem frame_r : Cert.quiescent_InSampleRefIdeal := fun m ρ _ =>
  (θ_run Cert.InSampleRefIdeal.defs _ _).mono (fun r h => ⟨fun c => (h c).2.2.2.2, sem_eq_zero_of_no_sems (by decide) r.2⟩)
    (Cert.InSampleRefIdeal.Value.run (F := Ideal) m ρ)

/-- Every row is a position of a sequence. -/
theorem row_of (r : Fin 512) : ∃ (b : Fin 128) (s : Fin 4), r = rowOf b s :=
  ⟨⟨r.val / 4, by omega⟩, ⟨r.val % 4, by omega⟩, Fin.ext (by show r.val = 4 * (r.val / 4) + r.val % 4; omega)⟩

/-- The reference's last reshape, element by element. -/
theorem zrows_apply (a : FVec Ideal Cert.InSampleRefIdeal.S128x4x5632 .f32) (h : Cert.InSampleRefIdeal.S128x4x5632.ShapeCasts Cert.InSampleRefIdeal.S512x5632) (b : Fin 128) (s : Fin 4) (k : Fin 5632) :
    shapeCast Cert.InSampleRefIdeal.S512x5632 a h (ix2 (rowOf b s) k) = a (ix3 b s k) := by
  refine shapeCast_apply _ _ _ _ ?_
  rw [Shape.rowMajor_val_three, Shape.rowMajor_val_two]
  simp [rowOf]; omega

/-- The reference's result and the kernel's agree at every index. -/
theorem z_eq (m : (ℓ : Loc Cert.InSampleIdeal.nD Cert.InSampleIdeal.τ Cert.InSampleIdeal.sig) → Buf (Elt Ideal) ℓ) (c : Dev Cert.InSampleIdeal.nD) :
    Cert.InSampleRefIdeal.Read.val_main_v28 (F := Ideal) (m ((c.tc : Thread Cert.InSampleIdeal.nD Cert.InSampleIdeal.τ).loc Cert.InSampleIdeal.main_arg0))
      (m ((c.tc : Thread Cert.InSampleIdeal.nD Cert.InSampleIdeal.τ).loc Cert.InSampleIdeal.main_arg1)) (m ((c.tc : Thread Cert.InSampleIdeal.nD Cert.InSampleIdeal.τ).loc Cert.InSampleIdeal.main_arg2))
      = (Cert.InSampleIdeal.Gen.dats m 0 c).arrAt 3 Cert.InSampleIdeal.cfg0.N := by
  funext i
  obtain ⟨r, k, rfl⟩ : ∃ (r : Fin 512) (k : Fin 5632), i = ix2 r k := ⟨i 0, i 1, by funext a; match a with | ⟨0, _⟩ => rfl | ⟨1, _⟩ => rfl⟩
  obtain ⟨b, s, rfl⟩ := row_of r
  exact ((zrows_apply _ _ b s k).trans (r27 _ _ _ b s k)).trans (z_apply m c b s k).symm

/-- Cutting 256 columns and splitting them by kind, head and feature, from sequences or from rows, comes to the same. -/
theorem cut_eq (o : ℕ) (ho : o + 256 ≤ 5632) (a : FVec Ideal Cert.InSampleRefIdeal.S128x4x5632 .f32)
    (h : Cert.InSampleRefIdeal.S128x4x5632.ShapeCasts Cert.InSampleRefIdeal.S512x5632)
    (h1 : Cert.InSampleRefIdeal.S128x4x5632.Slices ![0, 0, o] Cert.InSampleRefIdeal.S128x4x256)
    (h2 : Cert.InSampleRefIdeal.S128x4x256.ShapeCasts Cert.InSampleRefIdeal.S128x4x2x2x64)
    (h3 : Cert.InSampleIdeal.S512x5632.Slices ![0, o] Cert.InSampleIdeal.S512x256)
    (h4 : Cert.InSampleIdeal.S512x256.ShapeCasts Cert.InSampleIdeal.S128x4x2x2x64) :
    shapeCast Cert.InSampleRefIdeal.S128x4x2x2x64 (extractStridedSlice Cert.InSampleRefIdeal.S128x4x256 ![0, 0, o] a h1) h2
      = shapeCast Cert.InSampleIdeal.S128x4x2x2x64 (extractStridedSlice Cert.InSampleIdeal.S512x256 ![0, o] (shapeCast Cert.InSampleRefIdeal.S512x5632 a h) h3) h4 := by
  funext i
  obtain ⟨b, s, p, q, k, rfl⟩ : ∃ (b : Fin 128) (s : Fin 4) (p q : Fin 2) (k : Fin 64), i = ix5 b s p q k :=
    ⟨i 0, i 1, i 2, i 3, i 4, by funext a; match a with | ⟨0, _⟩ => rfl | ⟨1, _⟩ => rfl | ⟨2, _⟩ => rfl | ⟨3, _⟩ => rfl | ⟨4, _⟩ => rfl⟩
  have l : shapeCast Cert.InSampleRefIdeal.S128x4x2x2x64 (extractStridedSlice Cert.InSampleRefIdeal.S128x4x256 ![0, 0, o] a h1) h2 (ix5 b s p q k)
      = extractStridedSlice Cert.InSampleRefIdeal.S128x4x256 ![0, 0, o] a h1 (ix3 b s (⟨128 * p.val + 64 * q.val + k.val, by omega⟩ : Fin 256)) := by
    refine shapeCast_apply _ _ _ _ ?_
    rw [Shape.rowMajor_val_three, Shape.rowMajor_val_five]
    simp; omega
  have e : shapeCast Cert.InSampleIdeal.S128x4x2x2x64 (extractStridedSlice Cert.InSampleIdeal.S512x256 ![0, o] (shapeCast Cert.InSampleRefIdeal.S512x5632 a h) h3) h4 (ix5 b s p q k)
      = extractStridedSlice Cert.InSampleIdeal.S512x256 ![0, o] (shapeCast Cert.InSampleRefIdeal.S512x5632 a h) h3 (ix2 (rowOf b s) (⟨128 * p.val + 64 * q.val + k.val, by omega⟩ : Fin 256)) := by
    refine shapeCast_apply _ _ _ _ ?_
    rw [Shape.rowMajor_val_two, Shape.rowMajor_val_five]
    simp [rowOf]; omega
  have c : extractStridedSlice Cert.InSampleIdeal.S512x256 ![0, o] (shapeCast Cert.InSampleRefIdeal.S512x5632 a h) h3 (ix2 (rowOf b s) (⟨128 * p.val + 64 * q.val + k.val, by omega⟩ : Fin 256))
      = shapeCast Cert.InSampleRefIdeal.S512x5632 a h (ix2 (rowOf b s) (⟨o + (128 * p.val + 64 * q.val + k.val), by omega⟩ : Fin 5632)) := by
    generalize shapeCast Cert.InSampleRefIdeal.S512x5632 a h = z
    refine congrArg z ?_
    funext d
    refine Fin.ext ?_
    match d with
    | ⟨0, _⟩ => exact Nat.zero_add _
    | ⟨1, _⟩ => rfl
  refine l.trans (Eq.trans ?_ (e.trans (c.trans (zrows_apply a h b s _))).symm)
  refine congrArg a ?_
  funext d
  refine Fin.ext ?_
  match d with
  | ⟨0, _⟩ => exact Nat.zero_add _
  | ⟨1, _⟩ => exact Nat.zero_add _
  | ⟨2, _⟩ => rfl

section

variable (x : FVec Ideal Cert.InSampleRefIdeal.S128x4x1024 .f32) (g : FVec Ideal Cert.InSampleRefIdeal.S1x1024 .f32) (w : FVec Ideal Cert.InSampleRefIdeal.S1x1024x5400 .f32)
  (a : FVec Ideal Cert.InSampleRefIdeal.S1x128x512x2x2x64 .f32)

open Cert.InSampleRefIdeal.Read

/-- The reference's rows for the compression are cut out of its packed projection. -/
theorem cmp_eq : val_main_v30 (F := Ideal) x g w = cmpOf (val_main_v28 (F := Ideal) x g w) := cut_eq 4608 (by omega) _ _ _ _ _ _

/-- The reference's rows for the selection are cut out of its packed projection. -/
theorem sel_eq : val_main_v32 (F := Ideal) x g w = selOf (val_main_v28 (F := Ideal) x g w) := cut_eq 4864 (by omega) _ _ _ _ _ _

/-- The reference's rows for the window are cut out of its packed projection. -/
theorem rows_eq : val_main_v35 (F := Ideal) x g w = winRows (val_main_v28 (F := Ideal) x g w) := cut_eq 5120 (by omega) _ _ _ _ _ _

/-- The reference's window is the cache with those rows appended and the oldest dropped. -/
theorem win_eq : val_main_v37 (F := Ideal) x g w a = winOf (val_main_v28 (F := Ideal) x g w) a := by
  unfold val_main_v37 val_main_v36 winOf
  rw [rows_eq]
  rfl

end

/-- Over the reals the kernel and the reference end with equal results. -/
theorem algebraic : Cert.algebraic_InSampleIdeal_InSampleRefIdeal := by
  intro m ρ m' ρ' _ hagree
  refine ⟨fun c => zOf m c, fun c => cmpOf (zOf m c), fun c => selOf (zOf m c),
    fun c => winOf (zOf m c) (m ((c.tc : Thread Cert.InSampleIdeal.nD Cert.InSampleIdeal.τ).loc Cert.InSampleIdeal.main_arg3)), run m ρ, ?_⟩
  refine (θ_run Cert.InSampleRefIdeal.defs _ _).mono (fun r h c => ?_) (Cert.InSampleRefIdeal.Value.run (F := Ideal) m' ρ')
  obtain ⟨h0, h1, h2, h3⟩ := hagree c
  obtain ⟨e0, e1, e2, e3, k⟩ := h c
  have z := z_eq m c
  refine ⟨e0.trans ?_, e1.trans ?_, e2.trans ?_, e3.trans ?_, k⟩
  · refine (Cert.InSampleRefIdeal.Read.val_main_v28_eq m' c).trans ?_
    rw [h0, h1, h2]
    exact z
  · refine (Cert.InSampleRefIdeal.Read.val_main_v30_eq m' c).trans ?_
    rw [h0, h1, h2, cmp_eq]
    exact congrArg cmpOf z
  · refine (Cert.InSampleRefIdeal.Read.val_main_v32_eq m' c).trans ?_
    rw [h0, h1, h2, sel_eq]
    exact congrArg selOf z
  · refine (Cert.InSampleRefIdeal.Read.val_main_v37_eq m' c).trans ?_
    rw [h0, h1, h2, h3, win_eq]
    exact congrArg (fun y => winOf y _) z

end Cert.InSample

end
-- ==== Proof.CmpP.Spec.lean ====
module

public import proofs.«01_k».proof.Proof.Row.Spec

@[expose] public section

noncomputable section

namespace Cert.CmpSpec

open Idealize.ShloMosaic

/-- The activation between the two products: the tanh form of the Gaussian error unit. -/
def gelu (y : EReal) : EReal :=
  Ideal.ofBits .f32 0x3F000000#32 * y * (1 + Ideal.tanh (Ideal.ofBits .f32 0x3F4C422A#32 * (y + Ideal.ofBits .f32 0x3D372713#32 * (y * y * y))))

/-- The activation with its cube and its half bracketed the other way. -/
theorem gelu_eq (y : EReal) :
    y * (Ideal.ofBits .f32 0x3F000000#32 * (1 + Ideal.tanh (Ideal.ofBits .f32 0x3F4C422A#32 * (y + Ideal.ofBits .f32 0x3D372713#32 * (y * (y * y)))))) = gelu y := by
  unfold gelu
  rw [mul_assoc y y y, mul_left_comm, ← mul_assoc (Ideal.ofBits .f32 0x3F000000#32) y]

/-- One hidden feature of a compressed token: the products of its two segments of sixteen rows, and of the positions. -/
def hid (x y : Fin 16 → Fin 64 → EReal) (w : Fin 2 → Fin 16 → Fin 64 → Fin 128 → EReal) (p : Fin 2 → Fin 16 → Fin 64 → EReal) (h : Fin 128) : EReal :=
  (∑ s : Fin 16, ∑ d : Fin 64, x s d * w 0 s d h) + (∑ s : Fin 16, ∑ d : Fin 64, y s d * w 1 s d h)
    + ((∑ s : Fin 16, ∑ d : Fin 64, p 0 s d * w 0 s d h) + ∑ s : Fin 16, ∑ d : Fin 64, p 1 s d * w 1 s d h)

/-- One feature of a compressed token. -/
def tok (x y : Fin 16 → Fin 64 → EReal) (w : Fin 2 → Fin 16 → Fin 64 → Fin 128 → EReal) (p : Fin 2 → Fin 16 → Fin 64 → EReal) (w2 : Fin 128 → Fin 64 → EReal)
    (d : Fin 64) : EReal :=
  ∑ h : Fin 128, gelu (hid x y w p h) * w2 h d

/-- Column of row `s`, head `k`, feature `d` among the 2048 columns of a segment. -/
def col (s : Fin 16) (k : Fin 2) (d : Fin 64) : Fin 2048 := ⟨128 * s.val + (64 * k.val + d.val), by omega⟩

/-- Column of head `k`, feature `d` among 128. -/
def lane (k : Fin 2) (d : Fin 64) : Fin 128 := ⟨64 * k.val + d.val, by omega⟩

/-- Column of head `k`, hidden feature `h` among 256. -/
def unit (k : Fin 2) (h : Fin 128) : Fin 256 := ⟨128 * k.val + h.val, by omega⟩

/-- A sum over the 128 columns, by head and feature. -/
theorem sum_lane (f : Fin 128 → EReal) : ∑ j, f j = ∑ k : Fin 2, ∑ d : Fin 64, f (lane k d) := by
  rw [← Fintype.sum_prod_type']
  refine (Fintype.sum_equiv (finProdFinEquiv (m := 2) (n := 64)) _ _ ?_).symm
  rintro ⟨c, j⟩
  refine congrArg f (Fin.ext ?_)
  show 64 * c.val + j.val = j.val + 64 * c.val
  omega

/-- A sum over the 256 hidden columns, by head and hidden feature. -/
theorem sum_unit (f : Fin 256 → EReal) : ∑ j, f j = ∑ k : Fin 2, ∑ h : Fin 128, f (unit k h) := by
  rw [← Fintype.sum_prod_type']
  refine (Fintype.sum_equiv (finProdFinEquiv (m := 2) (n := 128)) _ _ ?_).symm
  rintro ⟨c, j⟩
  refine congrArg f (Fin.ext ?_)
  show 128 * c.val + j.val = j.val + 128 * c.val
  omega

/-- A sum over the 2048 columns, by row, head and feature. -/
theorem sum_col (f : Fin 2048 → EReal) : ∑ j, f j = ∑ s : Fin 16, ∑ k : Fin 2, ∑ d : Fin 64, f (col s k d) := by
  have e : ∀ s : Fin 16, ∑ k : Fin 2, ∑ d : Fin 64, f (col s k d) = ∑ j : Fin 128, f ⟨128 * s.val + j.val, by omega⟩ :=
    fun s => (sum_lane fun j => f ⟨128 * s.val + j.val, by omega⟩).symm
  simp only [e]
  rw [← Fintype.sum_prod_type']
  refine (Fintype.sum_equiv (finProdFinEquiv (m := 16) (n := 128)) _ _ ?_).symm
  rintro ⟨c, j⟩
  refine congrArg f (Fin.ext ?_)
  show 128 * c.val + j.val = j.val + 128 * c.val
  omega

/-- One on the diagonal, zero off it. -/
def eye (k q : Fin 2) : EReal := if k = q then 1 else 0

/-- Of a sum over heads weighted with a diagonal, the head itself remains. -/
theorem sum_eye (q : Fin 2) (n : ℕ) (x w : Fin 2 → Fin n → EReal) :
    ∑ k : Fin 2, ∑ d : Fin n, x k d * (w k d * eye k q) = ∑ d : Fin n, x q d * w q d := by
  rw [Finset.sum_eq_single q]
  · simp only [eye, if_true, mul_one]
  · intro k _ hk
    simp only [eye, if_neg hk, mul_zero, Finset.sum_const_zero]
  · intro h; exact absurd (Finset.mem_univ q) h

/-- A row of 2048 columns times a matrix that is diagonal in the heads is the head's own product. -/
theorem diag_col (q : Fin 2) (x : Fin 2048 → EReal) (B : Fin 2048 → EReal) (w : Fin 16 → Fin 64 → EReal) (hB : ∀ s k d, B (col s k d) = w s d * eye k q) :
    ∑ j, x j * B j = ∑ s : Fin 16, ∑ d : Fin 64, x (col s q d) * w s d := by
  rw [sum_col]
  refine Finset.sum_congr rfl fun s _ => ?_
  simp only [hB]
  exact sum_eye q 64 (fun k d => x (col s k d)) (fun _ d => w s d)

/-- A row of 256 hidden columns times a matrix that is diagonal in the heads is the head's own product. -/
theorem diag_unit (q : Fin 2) (x : Fin 256 → EReal) (B : Fin 256 → EReal) (w : Fin 128 → EReal) (hB : ∀ k h, B (unit k h) = w h * eye k q) :
    ∑ j, x j * B j = ∑ h : Fin 128, x (unit q h) * w h := by
  rw [sum_unit]
  simp only [hB]
  exact sum_eye q 128 (fun k h => x (unit k h)) (fun _ h => w h)

end Cert.CmpSpec

end
-- ==== Proof.CmpP.Block.lean ====
module

public import proofs.«01_k».proof.Proof.Gen.CmpPIdeal.Value
public import Idealize.ShloMosaic.Lib.Tactic
public import Idealize.ShloMosaic.Lib.KernelVsHost
public import proofs.«01_k».proof.Proof.CmpP.Spec
public import proofs.«01_k».proof.Proof.Proj.Spec

@[expose] public section

set_option maxRecDepth 16384

noncomputable section

namespace Cert.CmpP

open Cert.CmpPIdeal Cert.CmpPIdeal.Gen Idealize.ShloMosaic Idealize.ShloMosaic.TcCoe Cert.CmpSpec

/-- Every sixteenth row of a block, from row `s` on. -/
def piece (x : Vec Ideal S4096x128 .f32) (s : ℕ) (inb : ∀ a, S256x128.size a = 0 ∨ (![s, 0] : Fin 2 → Nat) a + (![16, 1] : Fin 2 → Nat) a * (S256x128.size a - 1) < S4096x128.size a) :
    FVec Ideal S256x128 .f32 :=
  shapeCast S256x128 (fun i => x ((⟨![s, 0], S256x128.size, ![16, 1], inb⟩ : LoadRect S4096x128).idx i) : Vec Ideal S256x128 .f32) shapeCasts_S256x128_S256x128

/-- A row of a piece is a row of the block. -/
theorem piece_apply (x : Vec Ideal S4096x128 .f32) (s : Fin 16) (inb : ∀ a, S256x128.size a = 0 ∨ (![s.val, 0] : Fin 2 → Nat) a + (![16, 1] : Fin 2 → Nat) a * (S256x128.size a - 1) < S4096x128.size a)
    (n : Fin 256) (j : Fin 128) : piece x s.val inb (ix2 n j) = x (ix2 ⟨16 * n.val + s.val, by omega⟩ j) := by
  unfold piece
  rw [shapeCast_self]
  refine congrArg x ?_
  funext a
  match a with
  | ⟨0, _⟩ => exact Fin.ext (show s.val + 16 * n.val = 16 * n.val + s.val by omega)
  | ⟨1, _⟩ => exact Fin.ext (show 0 + 1 * j.val = j.val by omega)

/-- The sixteen pieces of a block side by side: one row for each segment of sixteen rows. -/
def cat (x : Vec Ideal S4096x128 .f32) : FVec Ideal S256x2048 .bf16 :=
  truncf .bf16 (concatenate S256x2048 1 [⟨S256x128, piece x 0 inb_S4096x128_S256x128_0_0_s_16_1⟩, ⟨S256x128, piece x 1 inb_S4096x128_S256x128_1_0_s_16_1⟩,
    ⟨S256x128, piece x 2 inb_S4096x128_S256x128_2_0_s_16_1⟩, ⟨S256x128, piece x 3 inb_S4096x128_S256x128_3_0_s_16_1⟩, ⟨S256x128, piece x 4 inb_S4096x128_S256x128_4_0_s_16_1⟩,
    ⟨S256x128, piece x 5 inb_S4096x128_S256x128_5_0_s_16_1⟩, ⟨S256x128, piece x 6 inb_S4096x128_S256x128_6_0_s_16_1⟩, ⟨S256x128, piece x 7 inb_S4096x128_S256x128_7_0_s_16_1⟩,
    ⟨S256x128, piece x 8 inb_S4096x128_S256x128_8_0_s_16_1⟩, ⟨S256x128, piece x 9 inb_S4096x128_S256x128_9_0_s_16_1⟩, ⟨S256x128, piece x 10 inb_S4096x128_S256x128_10_0_s_16_1⟩,
    ⟨S256x128, piece x 11 inb_S4096x128_S256x128_11_0_s_16_1⟩, ⟨S256x128, piece x 12 inb_S4096x128_S256x128_12_0_s_16_1⟩, ⟨S256x128, piece x 13 inb_S4096x128_S256x128_13_0_s_16_1⟩,
    ⟨S256x128, piece x 14 inb_S4096x128_S256x128_14_0_s_16_1⟩, ⟨S256x128, piece x 15 inb_S4096x128_S256x128_15_0_s_16_1⟩]
    concatenates_S256x128_S256x128_S256x128_S256x128_S256x128_S256x128_S256x128_S256x128_S256x128_S256x128_S256x128_S256x128_S256x128_S256x128_S256x128_S256x128_S256x2048_d1) bitsLt_bf16_f32

/-- The strided rows from row `s` on lie in the block. -/
theorem inside (s : Fin 16) : ∀ a, S256x128.size a = 0 ∨ (![s.val, 0] : Fin 2 → Nat) a + (![16, 1] : Fin 2 → Nat) a * (S256x128.size a - 1) < S4096x128.size a := by
  intro a
  right
  match a with
  | ⟨0, _⟩ => show s.val + 16 * (256 - 1) < 4096; omega
  | ⟨1, _⟩ => show 0 + 1 * (128 - 1) < 128; omega

/-- A row of the pieces side by side is sixteen rows of the block. -/
theorem cat_apply (x : Vec Ideal S4096x128 .f32) (n : Fin 256) (j : Fin 2048) :
    cat x (ix2 n j) = x (ix2 ⟨16 * n.val + j.val / 128, by omega⟩ ⟨j.val % 128, by omega⟩) := by
  refine Eq.trans ?_ (piece_apply x ⟨j.val / 128, by omega⟩ (inside _) n ⟨j.val % 128, by omega⟩)
  exact concatenate_ofFn_apply (t := S256x2048) (s₁ := S256x128) 1 (N := 16) (fun s => piece x s.val (inside s))
    concatenates_S256x128_S256x128_S256x128_S256x128_S256x128_S256x128_S256x128_S256x128_S256x128_S256x128_S256x128_S256x128_S256x128_S256x128_S256x128_S256x128_S256x2048_d1
    rfl 128 rfl (ix2 n j) ⟨j.val / 128, by omega⟩ rfl (ix2 n ⟨j.val % 128, by omega⟩) rfl (fun b hb => by
      match b with
      | ⟨0, _⟩ => rfl
      | ⟨1, _⟩ => exact absurd rfl hb)

/-- The hidden features of a block's tokens before the activation: both segments' products and the positions' product. -/
def hidden (X : FVec Ideal S256x2048 .bf16) (wa wb : Vec Ideal S1x1x2048x256 .bf16) (pa pb : Vec Ideal S1x8x2048 .bf16) : FVec Ideal S256x256 .f32 :=
  addf (addf (matmul dot_S256x2048_S2048x256_S256x256_1_0_0_1_n_n none X (shapeCast S2048x256 wa shapeCasts_S1x1x2048x256_S2048x256 : FVec Ideal S2048x256 .bf16) (constant S256x256 .f32 0x00000000#32))
      (dynamicRotate 0 255#32 none (matmul dot_S256x2048_S2048x256_S256x256_1_0_0_1_n_n none X (shapeCast S2048x256 wb shapeCasts_S1x1x2048x256_S2048x256 : FVec Ideal S2048x256 .bf16) (constant S256x256 .f32 0x00000000#32)) rotates_S256x256_d0))
    (broadcastTo S256x256 (extractStridedSlice S1x256 ![0, 0] (addf
      (matmul dot_S8x2048_S2048x256_S8x256_1_0_0_1_n_n none (shapeCast S8x2048 pa shapeCasts_S1x8x2048_S8x2048 : FVec Ideal S8x2048 .bf16) (shapeCast S2048x256 wa shapeCasts_S1x1x2048x256_S2048x256 : FVec Ideal S2048x256 .bf16) (constant S8x256 .f32 0x00000000#32))
      (matmul dot_S8x2048_S2048x256_S8x256_1_0_0_1_n_n none (shapeCast S8x2048 pb shapeCasts_S1x8x2048_S8x2048 : FVec Ideal S8x2048 .bf16) (shapeCast S2048x256 wb shapeCasts_S1x1x2048x256_S2048x256 : FVec Ideal S2048x256 .bf16) (constant S8x256 .f32 0x00000000#32)))
      slices_S8x256_o0_0_S1x256) broadcasts_S1x256_S256x256)

/-- The activation and the second product, as the block stores it. -/
def fin (h : FVec Ideal S256x256 .f32) (w : Vec Ideal S1x256x128 .bf16) : FVec Ideal S1x256x128 .bf16 :=
  k0_pay18 h (mulf (broadcast S256x256 (Scalar.ofBits .f32 0x3F000000#32)) h) (mulf h h) w

/-- What a point leaves in the first result's block. -/
theorem out_5 (c : Dev nD) (i : grid0.Coords) (a1 : Memref sig .tc .vmem S4096x128 .f32) (h1 : a1.IsWhole) (a2 : Memref sig .tc .vmem S4096x128 .f32) (h2 : a2.IsWhole) (a3 : Memref sig .tc .vmem S2x2x2048x256 .bf16) (h3 : a3.IsWhole) (a4 : Memref sig .tc .vmem S2x256x128 .bf16) (h4 : a4.IsWhole) (a5 : Memref sig .tc .vmem S2x8x2048 .bf16) (h5 : a5.IsWhole) (a6 : Memref sig .tc .vmem S1x256x128 .bf16) (h6 : a6.IsWhole) (a7 : Memref sig .tc .vmem S1x256x128 .bf16) (h7 : a7.IsWhole)
    (x0 : Vec Ideal S4096x128 .f32) (x1 : Vec Ideal S4096x128 .f32) (x2 : Vec Ideal S2x2x2048x256 .bf16) (x3 : Vec Ideal S2x256x128 .bf16) (x4 : Vec Ideal S2x8x2048 .bf16) :
    out0_A_5 c i a1 h1 a2 h2 a3 h3 a4 h4 a5 h5 a6 h6 a7 h7 x0 x1 x2 x3 x4
      = fin (hidden (cat x0) (View.ld x2 (Rect.unit (s := S2x2x2048x256) ![0, 0, 0, 0] S1x1x2048x256.size inb_S2x2x2048x256_S1x1x2048x256_0_0_0_0)) (View.ld x2 (Rect.unit (s := S2x2x2048x256) ![0, 1, 0, 0] S1x1x2048x256.size inb_S2x2x2048x256_S1x1x2048x256_0_1_0_0))
          (View.ld x4 (Rect.unit (s := S2x8x2048) ![0, 0, 0] S1x8x2048.size inb_S2x8x2048_S1x8x2048_0_0_0)) (View.ld x4 (Rect.unit (s := S2x8x2048) ![1, 0, 0] S1x8x2048.size inb_S2x8x2048_S1x8x2048_1_0_0)))
        (View.ld x3 (Rect.unit (s := S2x256x128) ![0, 0, 0] S1x256x128.size inb_S2x256x128_S1x256x128_0_0_0)) := by
  have e : ∀ L : LoadRect S4096x128, View.readAt (Elt Ideal) a1.view L (h1.unread x0) = fun j => x0 (L.idx j) := fun L => by
    funext j
    rw [View.readAt_apply, h1.read_unread]
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  sl_unfold_words
  rw [View.canon_unit_zero (S := S1x256x128) (by decide)]
  simp only [View.readAt_eq_ld, h3.read_unread, h4.read_unread, h5.read_unread, e]
  unfold k0_pay17 k0_pay16
  rfl

/-- What a point leaves in the second result's block. -/
theorem out_6 (c : Dev nD) (i : grid0.Coords) (a1 : Memref sig .tc .vmem S4096x128 .f32) (h1 : a1.IsWhole) (a2 : Memref sig .tc .vmem S4096x128 .f32) (h2 : a2.IsWhole) (a3 : Memref sig .tc .vmem S2x2x2048x256 .bf16) (h3 : a3.IsWhole) (a4 : Memref sig .tc .vmem S2x256x128 .bf16) (h4 : a4.IsWhole) (a5 : Memref sig .tc .vmem S2x8x2048 .bf16) (h5 : a5.IsWhole) (a6 : Memref sig .tc .vmem S1x256x128 .bf16) (h6 : a6.IsWhole) (a7 : Memref sig .tc .vmem S1x256x128 .bf16) (h7 : a7.IsWhole)
    (x0 : Vec Ideal S4096x128 .f32) (x1 : Vec Ideal S4096x128 .f32) (x2 : Vec Ideal S2x2x2048x256 .bf16) (x3 : Vec Ideal S2x256x128 .bf16) (x4 : Vec Ideal S2x8x2048 .bf16) :
    out0_A_6 c i a1 h1 a2 h2 a3 h3 a4 h4 a5 h5 a6 h6 a7 h7 x0 x1 x2 x3 x4
      = fin (hidden (cat x1) (View.ld x2 (Rect.unit (s := S2x2x2048x256) ![1, 0, 0, 0] S1x1x2048x256.size inb_S2x2x2048x256_S1x1x2048x256_1_0_0_0)) (View.ld x2 (Rect.unit (s := S2x2x2048x256) ![1, 1, 0, 0] S1x1x2048x256.size inb_S2x2x2048x256_S1x1x2048x256_1_1_0_0))
          (View.ld x4 (Rect.unit (s := S2x8x2048) ![0, 0, 0] S1x8x2048.size inb_S2x8x2048_S1x8x2048_0_0_0)) (View.ld x4 (Rect.unit (s := S2x8x2048) ![1, 0, 0] S1x8x2048.size inb_S2x8x2048_S1x8x2048_1_0_0)))
        (View.ld x3 (Rect.unit (s := S2x256x128) ![1, 0, 0] S1x256x128.size inb_S2x256x128_S1x256x128_1_0_0)) := by
  have e : ∀ L : LoadRect S4096x128, View.readAt (Elt Ideal) a2.view L (h2.unread x1) = fun j => x1 (L.idx j) := fun L => by
    funext j
    rw [View.readAt_apply, h2.read_unread]
  unfold out0_A_6
  rw [View.read_writes_eq_canon _ _ _ (cover0_A_6 c i a1 h1 a2 h2 a3 h3 a4 h4 a5 h5 a6 h6 a7 h7 x0 x1 x2 x3 x4)]
  unfold kernelRun0_A
  dsimp only
  sl_unfold_words
  rw [View.canon_unit_zero (S := S1x256x128) (by decide)]
  simp only [View.readAt_eq_ld, h3.read_unread, h4.read_unread, h5.read_unread, e]
  rfl

/-- Where the rotation takes a row of the second segments' product from. -/
def next (n : Fin 256) : Fin 256 := ⟨(n.val + 1) % 256, by omega⟩

/-- The hidden features, element by element. -/
theorem hidden_apply (X : FVec Ideal S256x2048 .bf16) (wa wb : Vec Ideal S1x1x2048x256 .bf16) (pa pb : Vec Ideal S1x8x2048 .bf16) (n c : Fin 256) :
    hidden X wa wb pa pb (ix2 n c) = (∑ j : Fin 2048, X (ix2 n j) * wa (ix4 0 0 j c)) + (∑ j : Fin 2048, X (ix2 (next n) j) * wb (ix4 0 0 j c))
      + ((∑ j : Fin 2048, pa (ix3 0 0 j) * wa (ix4 0 0 j c)) + ∑ j : Fin 2048, pb (ix3 0 0 j) * wb (ix4 0 0 j c)) := by
  unfold hidden
  have e : ∀ y : FVec Ideal S256x256 .f32, dynamicRotate 0 255#32 none y rotates_S256x256_d0 (ix2 n c) = y (ix2 (next n) c) := fun y => by
    refine dynamicRotate_apply 0 255#32 y rotates_S256x256_d0 (ix2 n c) (ix2 (next n) c) ?_
    intro b
    match b with
    | ⟨0, _⟩ => show (n.val + 1) % 256 = (n.val + 256 - 255 % 256) % 256; omega
    | ⟨1, _⟩ => rfl
  have e2 : ∀ (x z : FVec Ideal S256x256 .f32) (y : FVec Ideal S256x256 .f32), addf (addf x (dynamicRotate 0 255#32 none y rotates_S256x256_d0)) z (ix2 n c)
      = x (ix2 n c) + y (ix2 (next n) c) + z (ix2 n c) := fun x z y => by
    rw [← e y]; rfl
  rw [e2]
  pointwise

/-- The activation and the second product, element by element. -/
theorem fin_apply (h : FVec Ideal S256x256 .f32) (w : Vec Ideal S1x256x128 .bf16) (a : Fin 1) (n : Fin 256) (q : Fin 128) :
    fin h w (ix3 a n q) = ∑ c : Fin 256, gelu (h (ix2 n c)) * w (ix3 0 c q) := by
  unfold fin k0_pay18
  pointwise
  rfl

end Cert.CmpP

end
-- ==== Proof.CmpP.Host.lean ====
module

public import proofs.«01_k».proof.Proof.CmpP.Block
public import Idealize.ShloMosaic.Lib.ValueIdxRank6

@[expose] public section

set_option maxRecDepth 16384

noncomputable section

namespace Cert.CmpP

open Cert.CmpPIdeal Cert.CmpPIdeal.Gen Idealize.ShloMosaic Idealize.ShloMosaic.TcCoe Idealize.ShloMosaic.StableHlo Cert.CmpSpec

/-! ## What the region finds in its arrays -/

/-- Column of head `k`, feature `d` of the key part (`a = 0`) or the value part (`a = 1`) of a token's row. -/
def part (a k : Fin 2) (d : Fin 64) : Fin 256 := ⟨128 * a.val + (lane k d).val, by omega⟩

/-- The rows side by side with zeros, as the projection lays them out. -/
def sides (x : FVec Ideal S32768x256 .f32) : FVec Ideal S32768x5632 .f32 :=
  concatenate S32768x5632 1
    [⟨S32768x4608, broadcastInDim S32768x4608 ![] bcast_S_S32768x4608 (constant S_ .f32 0x00000000#32)⟩, ⟨S32768x256, x⟩,
     ⟨S32768x768, broadcastInDim S32768x768 ![] bcast_S_S32768x768 (constant S_ .f32 0x00000000#32)⟩]
    concatenates_S32768x4608_S32768x256_S32768x768_S32768x5632_d1

/-- The packed array at a column of the rows. -/
theorem sides_apply (x : FVec Ideal S32768x256 .f32) (r : Fin 32768) (q : Fin 256) : sides x (ix2 r ⟨4608 + q.val, by omega⟩) = x (ix2 r q) := by
  unfold sides
  pointwise

/-- Position `s` of sequence `b`, among all rows. -/
def rowOf (b : Fin 8) (s : Fin 4096) : Fin 32768 := ⟨4096 * b.val + s.val, by omega⟩

/-- The tokens' rows, element by element. -/
theorem rows_apply (x : FVec Ideal S8x4096x2x2x64 .f32) (b : Fin 8) (s : Fin 4096) (a k : Fin 2) (d : Fin 64) :
    (shapeCast S32768x256 x shapeCasts_S8x4096x2x2x64_S32768x256 : FVec Ideal S32768x256 .f32) (ix2 (rowOf b s) (part a k d)) = x (ix5 b s a k d) := by
  refine shapeCast_apply _ _ _ _ ?_
  rw [Shape.rowMajor_val_five, Shape.rowMajor_val_two]
  simp [rowOf, part, lane]; omega

/-- The two by two diagonal, as the host makes it. -/
def onehot : FVec Ideal S2x2 .f32 :=
  uitofp (F := Ideal) .f32 (cmpi .eq (addi (iotaInDim S2x2 32 0) (broadcastInDim S2x2 ![] bcast_S_S2x2 (constantI S_ 32 0#32))) (iotaInDim S2x2 32 1))

/-- The diagonal, element by element. -/
theorem onehot_apply (k q : Fin 2) : onehot (ix2 k q) = eye k q := by
  unfold onehot
  pointwise
  fin_cases k <;> fin_cases q <;> simp [eye, iotaInDim] <;> simp [FloatOps.uitofp, IntOp.cmpi, IntOp.addi]

/-- The first matrices laid out diagonal in the heads. -/
def big1 (w : FVec Ideal S1x2x16x64x128 .f32) : FVec Ideal S2x2048x256 .f32 :=
  shapeCast S2x2048x256 (mulf
    (broadcastInDim S2x16x2x64x2x128 ![0, 1, 2, 3, 4, 5] bcast_S2x16x1x64x1x128_S2x16x2x64x2x128_0_1_2_3_4_5
      (broadcastInDim S2x16x1x64x1x128 ![0, 1, 3, 5] bcast_S2x16x64x128_S2x16x1x64x1x128_0_1_3_5 (shapeCast S2x16x64x128 w shapeCasts_S1x2x16x64x128_S2x16x64x128 : FVec Ideal S2x16x64x128 .f32)))
    (broadcastInDim S2x16x2x64x2x128 ![0, 1, 2, 3, 4, 5] bcast_S1x1x2x1x2x1_S2x16x2x64x2x128_0_1_2_3_4_5
      (broadcastInDim S1x1x2x1x2x1 ![2, 4] bcast_S2x2_S1x1x2x1x2x1_2_4 onehot)) : FVec Ideal S2x16x2x64x2x128 .f32) shapeCasts_S2x16x2x64x2x128_S2x2048x256

/-- An entry of the first matrices so laid out. -/
theorem big1_apply (w : FVec Ideal S1x2x16x64x128 .f32) (r : Fin 2) (s : Fin 16) (k : Fin 2) (d : Fin 64) (q : Fin 2) (h : Fin 128) :
    big1 w (ix3 r (col s k d) (unit q h)) = w (ix5 0 r s d h) * eye k q := by
  unfold big1
  rw [shapeCast_apply _ _ (ix3 r (col s k d) (unit q h)) (ix6 r s k d q h) (by
    rw [Shape.rowMajor_val_six, Shape.rowMajor_val_three]
    simp [col, unit, ix6]; omega)]
  show _ * _ = _
  congr 1
  · rw [broadcastInDim_apply _ bcast_S2x16x1x64x1x128_S2x16x2x64x2x128_0_1_2_3_4_5 _ (ix6 r s k d q h) (ix6 r s 0 d 0 h) (fun a => by fin_cases a <;> rfl),
      broadcastInDim_apply _ bcast_S2x16x64x128_S2x16x1x64x1x128_0_1_3_5 _ (ix6 r s 0 d 0 h) (ix4 r s d h) (fun a => by fin_cases a <;> rfl)]
    refine shapeCast_apply _ _ _ _ ?_
    rw [Shape.rowMajor_val_five, Shape.rowMajor_val_four]
    simp
  · rw [← onehot_apply, broadcastInDim_apply _ bcast_S1x1x2x1x2x1_S2x16x2x64x2x128_0_1_2_3_4_5 _ (ix6 r s k d q h) (ix6 0 0 k 0 q 0) (fun a => by fin_cases a <;> rfl),
      broadcastInDim_apply _ bcast_S2x2_S1x1x2x1x2x1_2_4 _ (ix6 0 0 k 0 q 0) (ix2 k q) (fun a => by fin_cases a <;> rfl)]

/-- The keys' and the values' first matrices, as the region finds them. -/
def W1 (a b : FVec Ideal S1x2x16x64x128 .f32) : FVec Ideal S2x2x2048x256 .bf16 :=
  truncf (F := Ideal) .bf16 (concatenate S2x2x2048x256 0 [⟨S1x2x2048x256, broadcastInDim S1x2x2048x256 ![1, 2, 3] bcast_S2x2048x256_S1x2x2048x256_1_2_3 (big1 a)⟩,
    ⟨S1x2x2048x256, broadcastInDim S1x2x2048x256 ![1, 2, 3] bcast_S2x2048x256_S1x2x2048x256_1_2_3 (big1 b)⟩] concatenates_S1x2x2048x256_S1x2x2048x256_S2x2x2048x256_d0) bitsLt_bf16_f32

/-- The keys' first matrices among both. -/
theorem W1_k (a b : FVec Ideal S1x2x16x64x128 .f32) (r : Fin 2) (j : Fin 2048) (c : Fin 256) : W1 a b (ix4 0 r j c) = big1 a (ix3 r j c) := by
  unfold W1
  pointwise

/-- The values' first matrices among both. -/
theorem W1_v (a b : FVec Ideal S1x2x16x64x128 .f32) (r : Fin 2) (j : Fin 2048) (c : Fin 256) : W1 a b (ix4 1 r j c) = big1 b (ix3 r j c) := by
  unfold W1
  pointwise

/-- The second matrix laid out diagonal in the heads. -/
def big2 (w : FVec Ideal S1x128x64 .f32) : FVec Ideal S256x128 .f32 :=
  shapeCast S256x128 (mulf
    (broadcastInDim S2x128x2x64 ![0, 1, 2, 3] bcast_S1x128x1x64_S2x128x2x64_0_1_2_3
      (broadcastInDim S1x128x1x64 ![1, 3] bcast_S128x64_S1x128x1x64_1_3 (shapeCast S128x64 w shapeCasts_S1x128x64_S128x64 : FVec Ideal S128x64 .f32)))
    (broadcastInDim S2x128x2x64 ![0, 1, 2, 3] bcast_S2x1x2x1_S2x128x2x64_0_1_2_3
      (broadcastInDim S2x1x2x1 ![0, 2] bcast_S2x2_S2x1x2x1_0_2 onehot)) : FVec Ideal S2x128x2x64 .f32) shapeCasts_S2x128x2x64_S256x128

/-- An entry of the second matrix so laid out. -/
theorem big2_apply (w : FVec Ideal S1x128x64 .f32) (k : Fin 2) (h : Fin 128) (q : Fin 2) (d : Fin 64) :
    big2 w (ix2 (unit k h) (lane q d)) = w (ix3 0 h d) * eye k q := by
  unfold big2
  rw [shapeCast_apply _ _ (ix2 (unit k h) (lane q d)) (ix4 k h q d) (by
    rw [Shape.rowMajor_val_four, Shape.rowMajor_val_two]
    simp [lane, unit]; omega), ← onehot_apply]
  pointwise

/-- The keys' and the values' second matrix, as the region finds them. -/
def W2 (a b : FVec Ideal S1x128x64 .f32) : FVec Ideal S2x256x128 .bf16 :=
  truncf (F := Ideal) .bf16 (concatenate S2x256x128 0 [⟨S1x256x128, broadcastInDim S1x256x128 ![1, 2] bcast_S256x128_S1x256x128_1_2 (big2 a)⟩,
    ⟨S1x256x128, broadcastInDim S1x256x128 ![1, 2] bcast_S256x128_S1x256x128_1_2 (big2 b)⟩] concatenates_S1x256x128_S1x256x128_S2x256x128_d0) bitsLt_bf16_f32

/-- The keys' second matrix among both. -/
theorem W2_k (a b : FVec Ideal S1x128x64 .f32) (c : Fin 256) (j : Fin 128) : W2 a b (ix3 0 c j) = big2 a (ix2 c j) := by
  unfold W2
  pointwise

/-- The values' second matrix among both. -/
theorem W2_v (a b : FVec Ideal S1x128x64 .f32) (c : Fin 256) (j : Fin 128) : W2 a b (ix3 1 c j) = big2 b (ix2 c j) := by
  unfold W2
  pointwise

/-- The positions, the same for both heads, as one row each. -/
def flatp (p : FVec Ideal S1x2x16x64 .f32) : FVec Ideal S2x1x2048 .f32 :=
  shapeCast S2x1x2048 (broadcastInDim S2x16x2x64 ![0, 1, 2, 3] bcast_S2x16x1x64_S2x16x2x64_0_1_2_3 (broadcastInDim S2x16x1x64 ![0, 1, 3] bcast_S2x16x64_S2x16x1x64_0_1_3
    (shapeCast S2x16x64 p shapeCasts_S1x2x16x64_S2x16x64 : FVec Ideal S2x16x64 .f32)) : FVec Ideal S2x16x2x64 .f32) shapeCasts_S2x16x2x64_S2x1x2048

/-- An entry of those rows. -/
theorem flatp_apply (p : FVec Ideal S1x2x16x64 .f32) (r : Fin 2) (s : Fin 16) (k : Fin 2) (d : Fin 64) :
    flatp p (ix3 r 0 (col s k d)) = p (ix4 0 r s d) := by
  unfold flatp
  rw [shapeCast_apply _ _ (ix3 r 0 (col s k d)) (ix4 r s k d) (by
    rw [Shape.rowMajor_val_four, Shape.rowMajor_val_three]
    simp [col]; omega)]
  pointwise

/-- The positions as the region finds them. -/
def P (p : FVec Ideal S1x2x16x64 .f32) : FVec Ideal S2x8x2048 .bf16 :=
  truncf (F := Ideal) .bf16 (broadcastInDim S2x8x2048 ![0, 1, 2] bcast_S2x1x2048_S2x8x2048_0_1_2 (flatp p)) bitsLt_bf16_f32

/-- An entry of the positions so laid out. -/
theorem P_apply (p : FVec Ideal S1x2x16x64 .f32) (r : Fin 2) (u : Fin 8) (s : Fin 16) (k : Fin 2) (d : Fin 64) :
    P p (ix3 r u (col s k d)) = p (ix4 0 r s d) := by
  unfold P
  rw [← flatp_apply p r s k d]
  generalize flatp p = y
  pointwise

variable (m : (ℓ : Loc nD τ sig) → Buf (Elt Ideal) ℓ)

/-- The region finds the rows packed. -/
theorem V_z (c : Dev nD) : V m c main_v3 = sides (shapeCast S32768x256 (m ((c : Thread nD τ).loc main_arg0)) shapeCasts_S8x4096x2x2x64_S32768x256) := by
  simp only [V, hostOps0, List.flatten_cons, List.flatten_nil, List.append_nil, List.cons_append, List.nil_append]
  after_results
  rfl

/-- The region finds the first matrices laid out. -/
theorem V_w1 (c : Dev nD) : (V m c main_v30 : FVec Ideal S2x2x2048x256 .bf16) = W1 (m ((c : Thread nD τ).loc main_arg1)) (m ((c : Thread nD τ).loc main_arg3)) := by
  simp only [V, hostOps0, List.flatten_cons, List.flatten_nil, List.append_nil, List.cons_append, List.nil_append]
  after_results
  rfl

/-- The region finds the second matrices laid out. -/
theorem V_w2 (c : Dev nD) : (V m c main_v46 : FVec Ideal S2x256x128 .bf16) = W2 (m ((c : Thread nD τ).loc main_arg2)) (m ((c : Thread nD τ).loc main_arg4)) := by
  simp only [V, hostOps0, List.flatten_cons, List.flatten_nil, List.append_nil, List.cons_append, List.nil_append]
  after_results
  rfl

/-- The region finds the positions laid out. -/
theorem V_p (c : Dev nD) : (V m c main_v51 : FVec Ideal S2x8x2048 .bf16) = P (m ((c : Thread nD τ).loc main_arg5)) := by
  simp only [V, hostOps0, List.flatten_cons, List.flatten_nil, List.append_nil, List.cons_append, List.nil_append]
  after_results
  rfl

end Cert.CmpP

end
-- ==== Proof.CmpP.Array.lean ====
module

public import proofs.«01_k».proof.Proof.CmpP.Host

@[expose] public section

set_option maxRecDepth 16384

noncomputable section

namespace Cert.CmpP

open Cert.CmpPIdeal Cert.CmpPIdeal.Gen Idealize.ShloMosaic Idealize.ShloMosaic.TcCoe Idealize.ShloMosaic.StableHlo Cert.CmpSpec

/-! ## One compressed token, from entries of the blocks -/

/-- Row `s` of segment `n` of a sequence. -/
def seg (n : Fin 256) (s : Fin 16) : Fin 4096 := ⟨16 * n.val + s.val, by omega⟩

/-- A row of sixteen rows side by side, at its column. -/
theorem cat_col (x : Vec Ideal S4096x128 .f32) (n : Fin 256) (s : Fin 16) (k : Fin 2) (d : Fin 64) : cat x (ix2 n (col s k d)) = x (ix2 (seg n s) (lane k d)) := by
  rw [cat_apply]
  refine congrArg x ?_
  funext a
  match a with
  | ⟨0, _⟩ => exact Fin.ext (show 16 * n.val + (128 * s.val + (64 * k.val + d.val)) / 128 = 16 * n.val + s.val by omega)
  | ⟨1, _⟩ => exact Fin.ext (show (128 * s.val + (64 * k.val + d.val)) % 128 = 64 * k.val + d.val by omega)

/-- With matrices diagonal in the heads, what a block stores is the token of each head by itself. -/
theorem fin_tok (x0 : Vec Ideal S4096x128 .f32) (wa wb : Vec Ideal S1x1x2048x256 .bf16) (pa pb : Vec Ideal S1x8x2048 .bf16) (w2 : Vec Ideal S1x256x128 .bf16)
    (x : Fin 4096 → Fin 2 → Fin 64 → EReal) (w : Fin 2 → Fin 16 → Fin 64 → Fin 128 → EReal) (p : Fin 2 → Fin 16 → Fin 64 → EReal) (v : Fin 128 → Fin 64 → EReal)
    (hx : ∀ r k d, x0 (ix2 r (lane k d)) = x r k d)
    (hwa : ∀ s k d q h, wa (ix4 0 0 (col s k d) (unit q h)) = w 0 s d h * eye k q) (hwb : ∀ s k d q h, wb (ix4 0 0 (col s k d) (unit q h)) = w 1 s d h * eye k q)
    (hpa : ∀ s k d, pa (ix3 0 0 (col s k d)) = p 0 s d) (hpb : ∀ s k d, pb (ix3 0 0 (col s k d)) = p 1 s d)
    (hv : ∀ k h q d, w2 (ix3 0 (unit k h) (lane q d)) = v h d * eye k q) (n : Fin 256) (q : Fin 2) (d : Fin 64) :
    fin (hidden (cat x0) wa wb pa pb) w2 (ix3 0 n (lane q d)) = tok (fun s d => x (seg n s) q d) (fun s d => x (seg (next n) s) q d) w p v d := by
  rw [fin_apply]
  rw [diag_unit q (fun c => gelu (hidden (cat x0) wa wb pa pb (ix2 n c))) (fun c => w2 (ix3 0 c (lane q d))) (fun h => v h d) (fun k h => hv k h q d)]
  unfold tok
  refine Finset.sum_congr rfl fun h _ => ?_
  have e : hidden (cat x0) wa wb pa pb (ix2 n (unit q h)) = hid (fun s d => x (seg n s) q d) (fun s d => x (seg (next n) s) q d) w p h := by
    rw [hidden_apply]
    rw [diag_col q (fun j => cat x0 (ix2 n j)) (fun j => wa (ix4 0 0 j (unit q h))) (fun s d => w 0 s d h) (fun s k d => hwa s k d q h),
      diag_col q (fun j => cat x0 (ix2 (next n) j)) (fun j => wb (ix4 0 0 j (unit q h))) (fun s d => w 1 s d h) (fun s k d => hwb s k d q h),
      diag_col q (fun j => pa (ix3 0 0 j)) (fun j => wa (ix4 0 0 j (unit q h))) (fun s d => w 0 s d h) (fun s k d => hwa s k d q h),
      diag_col q (fun j => pb (ix3 0 0 j)) (fun j => wb (ix4 0 0 j (unit q h))) (fun s d => w 1 s d h) (fun s k d => hwb s k d q h)]
    simp only [cat_col, hx, hpa, hpb]
    rfl
  rw [e]

/-! ## What a point reads -/

variable (m : (ℓ : Loc nD τ sig) → Buf (Elt Ideal) ℓ)

/-- The sequence a grid point works on. -/
def seq (t : Fin cfg0.N) : Fin 8 := ⟨t.val, by
  have hN : cfg0.N = 8 := by decide +kernel
  have := t.isLt; omega⟩

/-- The block index of window 0 at each grid point. -/
theorem ix_0 : ∀ t : Fin cfg0.N, win0_0.index t = ![t.val, 36] := (by decide +kernel : ∀ t : Fin grid0.N, _)

/-- The keys' rows of a sequence. -/
theorem rd_0 (c : Dev nD) (t : Fin cfg0.N) (r : Fin 4096) (k : Fin 2) (d : Fin 64) :
    (iblk m c 0 t : FVec Ideal S4096x128 .f32) (ix2 r (lane k d)) = (m ((c : Thread nD τ).loc main_arg0) : FVec Ideal S8x4096x2x2x64 .f32) (ix5 (seq t) r 0 k d) := by
  have hz : (V m c main_v3 : FVec Ideal S32768x5632 .f32) (ix2 (rowOf (seq t) r) ⟨4608 + (part 0 k d).val, by omega⟩) = (m ((c : Thread nD τ).loc main_arg0) : FVec Ideal S8x4096x2x2x64 .f32) (ix5 (seq t) r 0 k d) := by
    rw [V_z, sides_apply, rows_apply]
  refine Eq.trans ?_ hz
  refine congrArg (V m c main_v3 : FVec Ideal S32768x5632 .f32) ?_
  funext a
  refine Fin.ext ?_
  show win0_0.index t a * win0_0.size a + 1 * ((ix2 r (lane k d) : S4096x128.Idx) a).val = _
  rw [ix_0 t]
  fin_cases a <;> simp [win0_0, rowOf, seq, part] <;> omega

/-- The block index of window 1 at each grid point. -/
theorem ix_1 : ∀ t : Fin cfg0.N, win0_1.index t = ![t.val, 37] := (by decide +kernel : ∀ t : Fin grid0.N, _)

/-- The values' rows of a sequence. -/
theorem rd_1 (c : Dev nD) (t : Fin cfg0.N) (r : Fin 4096) (k : Fin 2) (d : Fin 64) :
    (iblk m c 1 t : FVec Ideal S4096x128 .f32) (ix2 r (lane k d)) = (m ((c : Thread nD τ).loc main_arg0) : FVec Ideal S8x4096x2x2x64 .f32) (ix5 (seq t) r 1 k d) := by
  have hz : (V m c main_v3 : FVec Ideal S32768x5632 .f32) (ix2 (rowOf (seq t) r) ⟨4608 + (part 1 k d).val, by omega⟩) = (m ((c : Thread nD τ).loc main_arg0) : FVec Ideal S8x4096x2x2x64 .f32) (ix5 (seq t) r 1 k d) := by
    rw [V_z, sides_apply, rows_apply]
  refine Eq.trans ?_ hz
  refine congrArg (V m c main_v3 : FVec Ideal S32768x5632 .f32) ?_
  funext a
  refine Fin.ext ?_
  show win0_1.index t a * win0_1.size a + 1 * ((ix2 r (lane k d) : S4096x128.Idx) a).val = _
  rw [ix_1 t]
  fin_cases a <;> simp [win0_1, rowOf, seq, part] <;> omega

/-- The block index of window 2 at each grid point. -/
theorem ix_2 : ∀ t : Fin cfg0.N, win0_2.index t = ![0, 0, 0, 0] := (by decide +kernel : ∀ t : Fin grid0.N, _)

/-- The first matrices. -/
theorem rd_2 (c : Dev nD) (t : Fin cfg0.N) : (iblk m c 2 t : FVec Ideal S2x2x2048x256 .bf16) = W1 (m ((c : Thread nD τ).loc main_arg1)) (m ((c : Thread nD τ).loc main_arg3)) := by
  rw [← V_w1]
  funext i
  refine congrArg (V m c main_v30 : FVec Ideal S2x2x2048x256 .bf16) ?_
  funext a
  refine Fin.ext ?_
  show win0_2.index t a * win0_2.size a + 1 * (i a).val = (i a).val
  rw [ix_2 t]
  fin_cases a <;> simp [win0_2]

/-- The block index of window 3 at each grid point. -/
theorem ix_3 : ∀ t : Fin cfg0.N, win0_3.index t = ![0, 0, 0] := (by decide +kernel : ∀ t : Fin grid0.N, _)

/-- The second matrices. -/
theorem rd_3 (c : Dev nD) (t : Fin cfg0.N) : (iblk m c 3 t : FVec Ideal S2x256x128 .bf16) = W2 (m ((c : Thread nD τ).loc main_arg2)) (m ((c : Thread nD τ).loc main_arg4)) := by
  rw [← V_w2]
  funext i
  refine congrArg (V m c main_v46 : FVec Ideal S2x256x128 .bf16) ?_
  funext a
  refine Fin.ext ?_
  show win0_3.index t a * win0_3.size a + 1 * (i a).val = (i a).val
  rw [ix_3 t]
  fin_cases a <;> simp [win0_3]

/-- The block index of window 4 at each grid point. -/
theorem ix_4 : ∀ t : Fin cfg0.N, win0_4.index t = ![0, 0, 0] := (by decide +kernel : ∀ t : Fin grid0.N, _)

/-- The positions. -/
theorem rd_4 (c : Dev nD) (t : Fin cfg0.N) : (iblk m c 4 t : FVec Ideal S2x8x2048 .bf16) = P (m ((c : Thread nD τ).loc main_arg5)) := by
  rw [← V_p]
  funext i
  refine congrArg (V m c main_v51 : FVec Ideal S2x8x2048 .bf16) ?_
  funext a
  refine Fin.ext ?_
  show win0_4.index t a * win0_4.size a + 1 * (i a).val = (i a).val
  rw [ix_4 t]
  fin_cases a <;> simp [win0_4]

/-- One matrix out of the four first ones. -/
theorem ld_w1 (x : Vec Ideal S2x2x2048x256 .bf16) (a r : Fin 2) (inb : ∀ b, (![a.val, r.val, 0, 0] : Fin 4 → Nat) b + S1x1x2048x256.size b ≤ S2x2x2048x256.size b)
    (j : Fin 2048) (c : Fin 256) : View.ld x (Rect.unit (s := S2x2x2048x256) ![a.val, r.val, 0, 0] S1x1x2048x256.size inb) (ix4 0 0 j c) = x (ix4 a r j c) := by
  refine congrArg x ?_
  funext b
  match b with
  | ⟨0, _⟩ => exact Fin.ext (show a.val + 1 * 0 = a.val by omega)
  | ⟨1, _⟩ => exact Fin.ext (show r.val + 1 * 0 = r.val by omega)
  | ⟨2, _⟩ => exact Fin.ext (show 0 + 1 * j.val = j.val by omega)
  | ⟨3, _⟩ => exact Fin.ext (show 0 + 1 * c.val = c.val by omega)

/-- One matrix out of the two second ones. -/
theorem ld_w2 (x : Vec Ideal S2x256x128 .bf16) (a : Fin 2) (inb : ∀ b, (![a.val, 0, 0] : Fin 3 → Nat) b + S1x256x128.size b ≤ S2x256x128.size b)
    (j : Fin 256) (c : Fin 128) : View.ld x (Rect.unit (s := S2x256x128) ![a.val, 0, 0] S1x256x128.size inb) (ix3 0 j c) = x (ix3 a j c) := by
  refine congrArg x ?_
  funext b
  match b with
  | ⟨0, _⟩ => exact Fin.ext (show a.val + 1 * 0 = a.val by omega)
  | ⟨1, _⟩ => exact Fin.ext (show 0 + 1 * j.val = j.val by omega)
  | ⟨2, _⟩ => exact Fin.ext (show 0 + 1 * c.val = c.val by omega)

/-- The positions of one of the two segments. -/
theorem ld_p (x : Vec Ideal S2x8x2048 .bf16) (a : Fin 2) (inb : ∀ b, (![a.val, 0, 0] : Fin 3 → Nat) b + S1x8x2048.size b ≤ S2x8x2048.size b)
    (j : Fin 8) (c : Fin 2048) : View.ld x (Rect.unit (s := S2x8x2048) ![a.val, 0, 0] S1x8x2048.size inb) (ix3 0 j c) = x (ix3 a j c) := by
  refine congrArg x ?_
  funext b
  match b with
  | ⟨0, _⟩ => exact Fin.ext (show a.val + 1 * 0 = a.val by omega)
  | ⟨1, _⟩ => exact Fin.ext (show 0 + 1 * j.val = j.val by omega)
  | ⟨2, _⟩ => exact Fin.ext (show 0 + 1 * c.val = c.val by omega)

/-! ## The arrays after the run -/

/-- Each sequence is one grid point's. -/
theorem pt_of (b : Fin 8) : ∃ t : Fin cfg0.N, b = seq t := by
  have hN : cfg0.N = 8 := by decide +kernel
  exact ⟨⟨b.val, by omega⟩, Fin.ext rfl⟩

/-- The block index of window 5 at each grid point. -/
theorem ix_5 : ∀ t : Fin cfg0.N, win0_5.index t = ![t.val, 0, 0] := (by decide +kernel : ∀ t : Fin grid0.N, _)

/-- Where an element of the block of window 5 lies in its array. -/
theorem emb_5 (t : Fin cfg0.N) (n : Fin 256) (j : Fin 128) : (((cfg0.win 5).blk t).view.emb (ix3 0 n j : S1x256x128.Idx) : S8x256x128.Idx) = ix3 (seq t) n j := by
  funext a
  refine Fin.ext ?_
  show win0_5.index t a * win0_5.size a + 1 * ((ix3 0 n j : S1x256x128.Idx) a).val = _
  rw [ix_5 t]
  fin_cases a <;> simp [win0_5, seq]

/-- The compressed keys after the run. -/
theorem arr_5 (c : Dev nD) (b : Fin 8) (n : Fin 256) (q : Fin 2) (d : Fin 64) :
    ((dats m 0 c).arrAt 5 cfg0.N : FVec Ideal S8x256x128 .bf16) (ix3 b n (lane q d))
      = tok (fun s d => (m ((c : Thread nD τ).loc main_arg0) : FVec Ideal S8x4096x2x2x64 .f32) (ix5 b (seg n s) 0 q d)) (fun s d => (m ((c : Thread nD τ).loc main_arg0) : FVec Ideal S8x4096x2x2x64 .f32) (ix5 b (seg (next n) s) 0 q d))
          (fun r s d h => (m ((c : Thread nD τ).loc main_arg1) : FVec Ideal S1x2x16x64x128 .f32) (ix5 0 r s d h)) (fun r s d => (m ((c : Thread nD τ).loc main_arg5) : FVec Ideal S1x2x16x64 .f32) (ix4 0 r s d))
          (fun h d => (m ((c : Thread nD τ).loc main_arg2) : FVec Ideal S1x128x64 .f32) (ix3 0 h d)) d := by
  obtain ⟨t, rfl⟩ := pt_of b
  have e := congrFun (Cert.CmpPIdeal.Value.blocks5 m c t (flush0_5 t)) (ix3 0 n (lane q d) : S1x256x128.Idx)
  rw [Cert.CmpPIdeal.Value.flushed5_A] at e
  have e1 : ((dats m 0 c).arrAt 5 cfg0.N : FVec Ideal S8x256x128 .bf16) (((cfg0.win 5).blk t).view.emb (ix3 0 n (lane q d) : S1x256x128.Idx))
    = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (iblk m c 3 t) (iblk m c 4 t) (ix3 0 n (lane q d)) := e
  rw [emb_5] at e1
  rw [e1, out_5]
  refine fin_tok (iblk m c 0 t) _ _ _ _ _ (fun r k d => (m ((c : Thread nD τ).loc main_arg0) : FVec Ideal S8x4096x2x2x64 .f32) (ix5 (seq t) r 0 k d)) _ _ _ (rd_0 m c t) ?_ ?_ ?_ ?_ ?_ n q d
  · intro s k d q h
    exact (ld_w1 (iblk m c 2 t) 0 0 _ _ _).trans (by rw [rd_2, W1_k, big1_apply])
  · intro s k d q h
    exact (ld_w1 (iblk m c 2 t) 0 1 _ _ _).trans (by rw [rd_2, W1_k, big1_apply])
  · intro s k d
    exact (ld_p (iblk m c 4 t) 0 _ _ _).trans (by rw [rd_4, P_apply])
  · intro s k d
    exact (ld_p (iblk m c 4 t) 1 _ _ _).trans (by rw [rd_4, P_apply])
  · intro k h q d
    exact (ld_w2 (iblk m c 3 t) 0 _ _ _).trans (by rw [rd_3, W2_k, big2_apply])

/-- The block index of window 6 at each grid point. -/
theorem ix_6 : ∀ t : Fin cfg0.N, win0_6.index t = ![t.val, 0, 0] := (by decide +kernel : ∀ t : Fin grid0.N, _)

/-- Where an element of the block of window 6 lies in its array. -/
theorem emb_6 (t : Fin cfg0.N) (n : Fin 256) (j : Fin 128) : (((cfg0.win 6).blk t).view.emb (ix3 0 n j : S1x256x128.Idx) : S8x256x128.Idx) = ix3 (seq t) n j := by
  funext a
  refine Fin.ext ?_
  show win0_6.index t a * win0_6.size a + 1 * ((ix3 0 n j : S1x256x128.Idx) a).val = _
  rw [ix_6 t]
  fin_cases a <;> simp [win0_6, seq]

/-- The compressed values after the run. -/
theorem arr_6 (c : Dev nD) (b : Fin 8) (n : Fin 256) (q : Fin 2) (d : Fin 64) :
    ((dats m 0 c).arrAt 6 cfg0.N : FVec Ideal S8x256x128 .bf16) (ix3 b n (lane q d))
      = tok (fun s d => (m ((c : Thread nD τ).loc main_arg0) : FVec Ideal S8x4096x2x2x64 .f32) (ix5 b (seg n s) 1 q d)) (fun s d => (m ((c : Thread nD τ).loc main_arg0) : FVec Ideal S8x4096x2x2x64 .f32) (ix5 b (seg (next n) s) 1 q d))
          (fun r s d h => (m ((c : Thread nD τ).loc main_arg3) : FVec Ideal S1x2x16x64x128 .f32) (ix5 0 r s d h)) (fun r s d => (m ((c : Thread nD τ).loc main_arg5) : FVec Ideal S1x2x16x64 .f32) (ix4 0 r s d))
          (fun h d => (m ((c : Thread nD τ).loc main_arg4) : FVec Ideal S1x128x64 .f32) (ix3 0 h d)) d := by
  obtain ⟨t, rfl⟩ := pt_of b
  have e := congrFun (Cert.CmpPIdeal.Value.blocks6 m c t (flush0_6 t)) (ix3 0 n (lane q d) : S1x256x128.Idx)
  rw [Cert.CmpPIdeal.Value.flushed6_A] at e
  have e1 : ((dats m 0 c).arrAt 6 cfg0.N : FVec Ideal S8x256x128 .bf16) (((cfg0.win 6).blk t).view.emb (ix3 0 n (lane q d) : S1x256x128.Idx))
    = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
        (iblk m c 0 t) (iblk m c 1 t) (iblk m c 2 t) (iblk m c 3 t) (iblk m c 4 t) (ix3 0 n (lane q d)) := e
  rw [emb_6] at e1
  rw [e1, out_6]
  refine fin_tok (iblk m c 1 t) _ _ _ _ _ (fun r k d => (m ((c : Thread nD τ).loc main_arg0) : FVec Ideal S8x4096x2x2x64 .f32) (ix5 (seq t) r 1 k d)) _ _ _ (rd_1 m c t) ?_ ?_ ?_ ?_ ?_ n q d
  · intro s k d q h
    exact (ld_w1 (iblk m c 2 t) 1 0 _ _ _).trans (by rw [rd_2, W1_v, big1_apply])
  · intro s k d q h
    exact (ld_w1 (iblk m c 2 t) 1 1 _ _ _).trans (by rw [rd_2, W1_v, big1_apply])
  · intro s k d
    exact (ld_p (iblk m c 4 t) 0 _ _ _).trans (by rw [rd_4, P_apply])
  · intro s k d
    exact (ld_p (iblk m c 4 t) 1 _ _ _).trans (by rw [rd_4, P_apply])
  · intro k h q d
    exact (ld_w2 (iblk m c 3 t) 1 _ _ _).trans (by rw [rd_3, W2_v, big2_apply])

end Cert.CmpP

end
-- ==== Proof.CmpP.Ref.lean ====
module

public import proofs.«01_k».proof.Proof.Gen.CmpPRefIdeal.Read
public import Idealize.ShloMosaic.Lib.Pointwise
public import Idealize.ShloMosaic.Lib.TwoAxisContraction
public import proofs.«01_k».proof.Proof.CmpP.Spec

@[expose] public section

set_option maxRecDepth 16384

noncomputable section

namespace Cert.CmpP

open Cert.CmpPRefIdeal Cert.CmpPRefIdeal.Gen Cert.CmpPRefIdeal.Read Idealize.ShloMosaic Idealize.ShloMosaic.TcCoe Cert.CmpSpec

/-! ## The reference's rows -/

/-- The rows with the first sixteen appended, element by element. -/
theorem ext_apply (x : FVec Ideal S8x4096x2x2x64 .f32) (b : Fin 8) (r : Fin 4112) (a k : Fin 2) (d : Fin 64) :
    val_main_v1 (F := Ideal) x (ix5 b r a k d) = x (ix5 b ⟨r.val % 4096, by omega⟩ a k d) := by
  unfold val_main_v1
  by_cases h : r.val < 4096
  · refine concatenate_pair_apply_left (t := S8x4112x2x2x64) (s₁ := S8x4096x2x2x64) (s₂ := S8x16x2x2x64) 1 _ _ _ _ rfl (ix5 b (⟨r.val % 4096, by omega⟩ : Fin 4096) a k d) fun q => ?_
    match q with
    | ⟨0, _⟩ => rfl
    | ⟨1, _⟩ => exact Nat.mod_eq_of_lt h
    | ⟨2, _⟩ => rfl
    | ⟨3, _⟩ => rfl
    | ⟨4, _⟩ => rfl
  · have hr := r.isLt
    refine (concatenate_pair_apply_right (t := S8x4112x2x2x64) (s₁ := S8x4096x2x2x64) (s₂ := S8x16x2x2x64) 1 _ _ _ _ rfl rfl (ix5 b (⟨r.val - 4096, by omega⟩ : Fin 16) a k d) (fun q hq => ?_) ?_).trans ?_
    · match q with
      | ⟨0, _⟩ => rfl
      | ⟨1, _⟩ => exact absurd rfl hq
      | ⟨2, _⟩ => rfl
      | ⟨3, _⟩ => rfl
      | ⟨4, _⟩ => rfl
    · show r.val - 4096 + 4096 = r.val; omega
    · unfold val_main_v0
      refine extractStridedSlice_apply ![0, 0, 0, 0, 0] x _ _ _ fun q => ?_
      match q with
      | ⟨0, _⟩ => show b.val = 0 + b.val; omega
      | ⟨1, _⟩ => show r.val % 4096 = 0 + (r.val - 4096); omega
      | ⟨2, _⟩ => show a.val = 0 + a.val; omega
      | ⟨3, _⟩ => show k.val = 0 + k.val; omega
      | ⟨4, _⟩ => show d.val = 0 + d.val; omega

/-- Segment `n`, row `s` of the keys. -/
theorem seg_k (x : FVec Ideal S8x4096x2x2x64 .f32) (b : Fin 8) (n : Fin 257) (s : Fin 16) (k : Fin 2) (d : Fin 64) :
    val_main_v7 (F := Ideal) x (ix5 b n s k d) = x (ix5 b ⟨(16 * n.val + s.val) % 4096, by omega⟩ 0 k d) := by
  refine Eq.trans ?_ (ext_apply x b ⟨16 * n.val + s.val, by omega⟩ 0 k d)
  unfold val_main_v7
  refine (shapeCast_apply _ _ _ (ix4 b ⟨16 * n.val + s.val, by omega⟩ k d) ?_).trans ?_
  · rw [Shape.rowMajor_val_five, Shape.rowMajor_val_four]
    simp; omega
  · unfold val_main_v3 val_main_v2
    generalize val_main_v1 (F := Ideal) x = y
    pointwise

/-- Segment `n`, row `s` of the values. -/
theorem seg_v (x : FVec Ideal S8x4096x2x2x64 .f32) (b : Fin 8) (n : Fin 257) (s : Fin 16) (k : Fin 2) (d : Fin 64) :
    val_main_v40 (F := Ideal) x (ix5 b n s k d) = x (ix5 b ⟨(16 * n.val + s.val) % 4096, by omega⟩ 1 k d) := by
  refine Eq.trans ?_ (ext_apply x b ⟨16 * n.val + s.val, by omega⟩ 1 k d)
  unfold val_main_v40
  refine (shapeCast_apply _ _ _ (ix4 b ⟨16 * n.val + s.val, by omega⟩ k d) ?_).trans ?_
  · rw [Shape.rowMajor_val_five, Shape.rowMajor_val_four]
    simp; omega
  · unfold val_main_v36 val_main_v35
    generalize val_main_v1 (F := Ideal) x = y
    pointwise

/-! ## The reference's products -/

/-- A segment's product with a matrix: a sum over its rows and features. -/
theorem segdot_apply (z : FVec Ideal S8x257x16x2x64 .f32) (w : FVec Ideal S16x64x128 .f32) (b : Fin 8) (n : Fin 257) (k : Fin 2) (h : Fin 128) :
    Host.dotGeneral dot_S8x257x16x2x64_S16x64x128_S8x257x2x128_42_10_013_2_n_n none z w (ix4 b n k h) = ∑ s : Fin 16, ∑ d : Fin 64, z (ix5 b n s k d) * w (ix3 s d h) := by
  refine (Ideal.dotGeneral_apply _ _ _ _ _ _).trans ?_
  rw [ValueIdx.sum_contr2 dot_S8x257x16x2x64_S16x64x128_S8x257x2x128_42_10_013_2_n_n 64 16 rfl rfl rfl, Finset.sum_comm]
  refine Finset.sum_congr rfl fun s _ => Finset.sum_congr rfl fun d _ => ?_
  have h0 := ValueIdx.contrEquiv2_symm_val0 dot_S8x257x16x2x64_S16x64x128_S8x257x2x128_42_10_013_2_n_n 64 16 rfl rfl rfl (d, s)
  have h1 := ValueIdx.contrEquiv2_symm_val1 dot_S8x257x16x2x64_S16x64x128_S8x257x2x128_42_10_013_2_n_n 64 16 rfl rfl rfl (d, s)
  congr 1
  · refine congrArg z ?_
    funext a; apply Fin.ext
    match a with
    | ⟨0, _⟩ => rfl
    | ⟨1, _⟩ => rfl
    | ⟨2, _⟩ => exact h1
    | ⟨3, _⟩ => rfl
    | ⟨4, _⟩ => exact h0
  · refine congrArg w ?_
    funext a; apply Fin.ext
    match a with
    | ⟨0, _⟩ => exact h1
    | ⟨1, _⟩ => exact h0
    | ⟨2, _⟩ => rfl

/-- The index of a product over segment, row and feature, as its three coordinates. -/
def three : dot_S2x16x64_S2x16x64x128_S128_201_201_n_3_n_n.contr.Idx ≃ Fin 64 × Fin 2 × Fin 16 where
  toFun q := (q (0 : Fin 3), q (1 : Fin 3), q (2 : Fin 3))
  invFun p := fun a => match (a : Fin 3) with
    | ⟨0, _⟩ => p.1
    | ⟨1, _⟩ => p.2.1
    | ⟨2, _⟩ => p.2.2
  left_inv q := by
    funext a
    match (a : Fin 3) with
    | ⟨0, _⟩ => rfl
    | ⟨1, _⟩ => rfl
    | ⟨2, _⟩ => rfl
  right_inv p := rfl

/-- The positions' product with both matrices. -/
theorem posdot_apply (p : FVec Ideal S2x16x64 .f32) (w : FVec Ideal S2x16x64x128 .f32) (h : Fin 128) :
    Host.dotGeneral dot_S2x16x64_S2x16x64x128_S128_201_201_n_3_n_n none p w (ix1 h)
      = (∑ s : Fin 16, ∑ d : Fin 64, p (ix3 0 s d) * w (ix4 0 s d h)) + ∑ s : Fin 16, ∑ d : Fin 64, p (ix3 1 s d) * w (ix4 1 s d h) := by
  refine (Ideal.dotGeneral_apply _ _ _ _ _ _).trans ?_
  rw [← Equiv.sum_comp three.symm, Fintype.sum_prod_type]
  simp only [Fintype.sum_prod_type]
  have e : ∀ (d : Fin 64) (r : Fin 2) (s : Fin 16),
      p (dot_S2x16x64_S2x16x64x128_S128_201_201_n_3_n_n.lhsIdx (ix1 h) (three.symm (d, r, s))) * w (dot_S2x16x64_S2x16x64x128_S128_201_201_n_3_n_n.rhsIdx (ix1 h) (three.symm (d, r, s)))
        = p (ix3 r s d) * w (ix4 r s d h) := fun d r s => by
    congr 1
    · refine congrArg p ?_
      funext a
      match a with
      | ⟨0, _⟩ => rfl
      | ⟨1, _⟩ => rfl
      | ⟨2, _⟩ => rfl
    · refine congrArg w ?_
      funext a
      match a with
      | ⟨0, _⟩ => rfl
      | ⟨1, _⟩ => rfl
      | ⟨2, _⟩ => rfl
      | ⟨3, _⟩ => rfl
  simp only [e]
  rw [Finset.sum_comm, Fin.sum_univ_two]
  congr 1 <;> exact Finset.sum_comm

/-- The hidden features before the activation, of the segments `z`. -/
def rhid (z : FVec Ideal S8x257x16x2x64 .f32) (w : FVec Ideal S1x2x16x64x128 .f32) (p : FVec Ideal S1x2x16x64 .f32) : FVec Ideal S8x256x2x128 .f32 :=
  addf (addf (val_main_v14 (F := Ideal) w p)
      (extractStridedSlice S8x256x2x128 ![0, 0, 0, 0] (Host.dotGeneral (φ₂ := .f32) dot_S8x257x16x2x64_S16x64x128_S8x257x2x128_42_10_013_2_n_n none z (val_main_v10 (F := Ideal) w : FVec Ideal S16x64x128 .f32) : FVec Ideal S8x257x2x128 .f32) slices_S8x257x2x128_S8x256x2x128_0_0_0_0))
    (extractStridedSlice S8x256x2x128 ![0, 1, 0, 0] (Host.dotGeneral (φ₂ := .f32) dot_S8x257x16x2x64_S16x64x128_S8x257x2x128_42_10_013_2_n_n none z (val_main_v17 (F := Ideal) w : FVec Ideal S16x64x128 .f32) : FVec Ideal S8x257x2x128 .f32) slices_S8x257x2x128_S8x256x2x128_0_1_0_0)

/-- The first segments' matrix. -/
theorem w_a (w : FVec Ideal S1x2x16x64x128 .f32) (s : Fin 16) (d : Fin 64) (h : Fin 128) : val_main_v10 (F := Ideal) w (ix3 s d h) = w (ix5 0 0 s d h) := by
  unfold val_main_v10 val_main_v9 val_main_v4
  pointwise

/-- The second segments' matrix. -/
theorem w_b (w : FVec Ideal S1x2x16x64x128 .f32) (s : Fin 16) (d : Fin 64) (h : Fin 128) : val_main_v17 (F := Ideal) w (ix3 s d h) = w (ix5 0 1 s d h) := by
  unfold val_main_v17 val_main_v16 val_main_v4
  pointwise

/-- The positions' part of the hidden features. -/
theorem pos_apply (w : FVec Ideal S1x2x16x64x128 .f32) (p : FVec Ideal S1x2x16x64 .f32) (b : Fin 8) (n : Fin 256) (k : Fin 2) (h : Fin 128) :
    val_main_v14 (F := Ideal) w p (ix4 b n k h)
      = (∑ s : Fin 16, ∑ d : Fin 64, p (ix4 0 0 s d) * w (ix5 0 0 s d h)) + ∑ s : Fin 16, ∑ d : Fin 64, p (ix4 0 1 s d) * w (ix5 0 1 s d h) := by
  have e1 : val_main_v14 (F := Ideal) w p (ix4 b n k h) = val_main_v8 (F := Ideal) w p (ix1 h) := by
    unfold val_main_v14 val_main_v13
    generalize val_main_v8 (F := Ideal) w p = y
    pointwise
  have e2 : ∀ r s d, val_main_v6 (F := Ideal) p (ix3 r s d) = p (ix4 0 r s d) := fun r s d => by unfold val_main_v6; pointwise
  have e3 : ∀ r s d h, val_main_v4 (F := Ideal) w (ix4 r s d h) = w (ix5 0 r s d h) := fun r s d h => by unfold val_main_v4; pointwise
  rw [e1]
  unfold val_main_v8
  rw [posdot_apply]
  simp only [e2, e3]

/-- The hidden features, element by element. -/
theorem rhid_apply (z : FVec Ideal S8x257x16x2x64 .f32) (w : FVec Ideal S1x2x16x64x128 .f32) (p : FVec Ideal S1x2x16x64 .f32) (b : Fin 8) (n : Fin 256) (k : Fin 2) (h : Fin 128) :
    rhid z w p (ix4 b n k h) = hid (fun s d => z (ix5 b ⟨n.val, by omega⟩ s k d)) (fun s d => z (ix5 b ⟨n.val + 1, by omega⟩ s k d)) (fun r s d h => w (ix5 0 r s d h)) (fun r s d => p (ix4 0 r s d)) h := by
  have ea : ∀ y : FVec Ideal S8x257x2x128 .f32, extractStridedSlice S8x256x2x128 ![0, 0, 0, 0] y slices_S8x257x2x128_S8x256x2x128_0_0_0_0 (ix4 b n k h) = y (ix4 b ⟨n.val, by omega⟩ k h) := fun y => by
    refine extractStridedSlice_apply ![0, 0, 0, 0] y _ _ _ fun a => ?_
    fin_cases a <;> simp
  have eb : ∀ y : FVec Ideal S8x257x2x128 .f32, extractStridedSlice S8x256x2x128 ![0, 1, 0, 0] y slices_S8x257x2x128_S8x256x2x128_0_1_0_0 (ix4 b n k h) = y (ix4 b ⟨n.val + 1, by omega⟩ k h) := fun y => by
    refine extractStridedSlice_apply ![0, 1, 0, 0] y _ _ _ fun a => ?_
    fin_cases a <;> simp [Nat.add_comm]
  have e : ∀ x y t : FVec Ideal S8x256x2x128 .f32, addf (addf x y) t (ix4 b n k h) = x (ix4 b n k h) + y (ix4 b n k h) + t (ix4 b n k h) := fun _ _ _ => rfl
  unfold rhid
  rw [e, ea, eb, segdot_apply, segdot_apply, pos_apply]
  simp only [w_a, w_b]
  unfold hid
  rw [add_assoc, add_comm]

/-- The activation, as the reference spells it. -/
def ract (y : FVec Ideal S8x256x2x128 .f32) : FVec Ideal S8x256x2x128 .f32 :=
  mulf y (mulf (val_main_v31 (F := Ideal)) (addf (val_main_v29 (F := Ideal)) (Host.tanh (mulf (val_main_v26 (F := Ideal)) (addf y (mulf (val_main_v23 (F := Ideal)) (mulf (mulf y y) y)))))))

/-- The activation, element by element. -/
theorem ract_apply (y : FVec Ideal S8x256x2x128 .f32) (i : S8x256x2x128.Idx) : ract y i = gelu (y i) := by
  have e : ract y i = y i * (Ideal.ofBits .f32 0x3F000000#32 * (1 + Ideal.tanh (Ideal.ofBits .f32 0x3F4C422A#32 * (y i + Ideal.ofBits .f32 0x3D372713#32 * (y i * y i * y i))))) := by
    unfold ract val_main_v31 val_main_v29 val_main_v26 val_main_v23 val_main_cst val_main_cst_0 val_main_cst_1 val_main_cst_2
    pointwise
  rw [e, mul_assoc (y i) (y i) (y i), ← gelu_eq]

/-- The second product, as the reference stores it. -/
def rtok (y : FVec Ideal S8x256x2x128 .f32) (w : FVec Ideal S1x128x64 .f32) : FVec Ideal S8x256x128 .bf16 :=
  truncf (F := Ideal) .bf16 (shapeCast S8x256x128 (Host.dotGeneral (φ₂ := .f32) dot_S8x256x2x128_S128x64_S8x256x2x64_3_0_012_1_n_n none y (val_main_v5 (F := Ideal) w : FVec Ideal S128x64 .f32) : FVec Ideal S8x256x2x64 .f32) shapeCasts_S8x256x2x64_S8x256x128 : FVec Ideal S8x256x128 .f32) bitsLt_bf16_f32

/-- The second product, element by element. -/
theorem rtok_apply (y : FVec Ideal S8x256x2x128 .f32) (w : FVec Ideal S1x128x64 .f32) (b : Fin 8) (n : Fin 256) (q : Fin 2) (d : Fin 64) :
    rtok y w (ix3 b n (lane q d)) = ∑ h : Fin 128, y (ix4 b n q h) * w (ix3 0 h d) := by
  unfold rtok
  have ew : ∀ h, val_main_v5 (F := Ideal) w (ix2 h d) = w (ix3 0 h d) := fun h => by unfold val_main_v5; pointwise
  have et : ∀ v : FVec Ideal S8x256x128 .f32, truncf (F := Ideal) .bf16 v bitsLt_bf16_f32 (ix3 b n (lane q d)) = v (ix3 b n (lane q d)) := fun v => rfl
  rw [et]
  refine (shapeCast_apply (s := S8x256x2x64) _ _ _ (ix4 b n q d) ?_).trans ?_
  · rw [Shape.rowMajor_val_four, Shape.rowMajor_val_three]
    simp [lane]; omega
  · simp only [← ew]
    generalize val_main_v5 (F := Ideal) w = v
    pointwise

/-! ## The reference's two results -/

/-- Row `s` of the `n`-th segment, cyclically. -/
def wrap (n : ℕ) (s : Fin 16) : Fin 4096 := ⟨(16 * n + s.val) % 4096, by omega⟩

/-- The reference's compressed keys, element by element. -/
theorem ref_k (x : FVec Ideal S8x4096x2x2x64 .f32) (w1 : FVec Ideal S1x2x16x64x128 .f32) (w2 : FVec Ideal S1x128x64 .f32) (p : FVec Ideal S1x2x16x64 .f32) (b : Fin 8) (n : Fin 256) (q : Fin 2) (d : Fin 64) :
    val_main_v69 (F := Ideal) x w1 w2 p (ix3 b n (lane q d))
      = tok (fun s d => x (ix5 b (wrap n.val s) 0 q d)) (fun s d => x (ix5 b (wrap (n.val + 1) s) 0 q d)) (fun r s d h => w1 (ix5 0 r s d h)) (fun r s d => p (ix4 0 r s d)) (fun h d => w2 (ix3 0 h d)) d := by
  have e : val_main_v69 (F := Ideal) x w1 w2 p = rtok (ract (rhid (val_main_v7 (F := Ideal) x) w1 p)) w2 := rfl
  rw [e, rtok_apply]
  unfold tok
  refine Finset.sum_congr rfl fun h _ => ?_
  rw [ract_apply, rhid_apply]
  simp only [seg_k]
  rfl

/-- The reference's compressed values, element by element. -/
theorem ref_v (x : FVec Ideal S8x4096x2x2x64 .f32) (w1 : FVec Ideal S1x2x16x64x128 .f32) (w2 : FVec Ideal S1x128x64 .f32) (p : FVec Ideal S1x2x16x64 .f32) (b : Fin 8) (n : Fin 256) (q : Fin 2) (d : Fin 64) :
    val_main_v71 (F := Ideal) x w1 w2 p (ix3 b n (lane q d))
      = tok (fun s d => x (ix5 b (wrap n.val s) 1 q d)) (fun s d => x (ix5 b (wrap (n.val + 1) s) 1 q d)) (fun r s d h => w1 (ix5 0 r s d h)) (fun r s d => p (ix4 0 r s d)) (fun h d => w2 (ix3 0 h d)) d := by
  have e : val_main_v71 (F := Ideal) x w1 w2 p = rtok (ract (rhid (val_main_v40 (F := Ideal) x) w1 p)) w2 := rfl
  rw [e, rtok_apply]
  unfold tok
  refine Finset.sum_congr rfl fun h _ => ?_
  rw [ract_apply, rhid_apply]
  simp only [seg_v]
  rfl

end Cert.CmpP

end
-- ==== Proof.CmpP.Claims.lean ====
module

public import proofs.«01_k».proof.Defs
public import proofs.«01_k».proof.Proof.CmpP.Array
public import proofs.«01_k».proof.Proof.CmpP.Ref
public import proofs.«01_k».proof.Proof.Gen.CmpP
public import proofs.«01_k».proof.Proof.Gen.CmpP.Frame
public import proofs.«01_k».proof.Proof.Gen.CmpPIdeal.Frame
public import proofs.«01_k».proof.Proof.Gen.CmpPIdeal.Value
public import proofs.«01_k».proof.Proof.Gen.CmpPRefIdeal.Run
public import Idealize.ShloMosaic.Adequacy
public import Idealize.ShloMosaic.Init

@[expose] public section

set_option maxRecDepth 16384

noncomputable section

namespace Cert.CmpP

open Idealize.ShloMosaic Idealize.SL.Sem Cert.CmpSpec

/-- The kernel as printed runs, keeps its arguments and leaves every counter at zero. -/
theorem frame_k : Cert.quiescent_CmpP := fun m ρ _ => Cert.CmpP.Gen.frame m ρ

/-- So does the kernel read over the reals. -/
theorem frame_i : Cert.quiescent_CmpPIdeal := fun m ρ _ => Cert.CmpPIdeal.Gen.frame m ρ

/-- So does the reference, which declares no semaphore. -/
theorem frame_r : Cert.quiescent_CmpPRefIdeal := fun m ρ _ =>
  (θ_run Cert.CmpPRefIdeal.defs _ _).mono (fun r h => ⟨fun c => (h c).2.2, sem_eq_zero_of_no_sems (by decide) r.2⟩)
    (Cert.CmpPRefIdeal.Value.run (F := Ideal) m ρ)

/-- Every one of the 128 columns is a feature of a head. -/
theorem lane_of (j : Fin 128) : ∃ (q : Fin 2) (d : Fin 64), j = lane q d :=
  ⟨⟨j.val / 64, by omega⟩, ⟨j.val % 64, by omega⟩, Fin.ext (by show j.val = 64 * (j.val / 64) + j.val % 64; omega)⟩

/-- A segment's rows lie within the sequence. -/
theorem wrap_seg (n : Fin 256) (s : Fin 16) : wrap n.val s = seg n s :=
  Fin.ext (by show (16 * n.val + s.val) % 4096 = 16 * n.val + s.val; omega)

/-- The following segment's rows, the last segment's follower being the first. -/
theorem wrap_next (n : Fin 256) (s : Fin 16) : wrap (n.val + 1) s = seg (next n) s :=
  Fin.ext (by show (16 * (n.val + 1) + s.val) % 4096 = 16 * ((n.val + 1) % 256) + s.val; omega)

/-- The two first results agree at every index. -/
theorem eq_5 (m : (ℓ : Loc Cert.CmpPIdeal.nD Cert.CmpPIdeal.τ Cert.CmpPIdeal.sig) → Buf (Elt Ideal) ℓ) (c : Dev Cert.CmpPIdeal.nD) :
    Cert.CmpPRefIdeal.Read.val_main_v69 (F := Ideal) (m ((c.tc : Thread Cert.CmpPIdeal.nD Cert.CmpPIdeal.τ).loc Cert.CmpPIdeal.main_arg0)) (m ((c.tc : Thread Cert.CmpPIdeal.nD Cert.CmpPIdeal.τ).loc Cert.CmpPIdeal.main_arg1)) (m ((c.tc : Thread Cert.CmpPIdeal.nD Cert.CmpPIdeal.τ).loc Cert.CmpPIdeal.main_arg2)) (m ((c.tc : Thread Cert.CmpPIdeal.nD Cert.CmpPIdeal.τ).loc Cert.CmpPIdeal.main_arg5))
      = (Cert.CmpPIdeal.Gen.dats m 0 c).arrAt 5 Cert.CmpPIdeal.cfg0.N := by
  funext i
  obtain ⟨b, n, j, rfl⟩ : ∃ (b : Fin 8) (n : Fin 256) (j : Fin 128), i = ix3 b n j :=
    ⟨i 0, i 1, i 2, by funext a; match a with | ⟨0, _⟩ => rfl | ⟨1, _⟩ => rfl | ⟨2, _⟩ => rfl⟩
  obtain ⟨q, d, rfl⟩ := lane_of j
  refine (ref_k _ _ _ _ b n q d).trans (Eq.trans ?_ (arr_5 m c b n q d).symm)
  simp only [wrap_seg, wrap_next]

/-- The two second results agree at every index. -/
theorem eq_6 (m : (ℓ : Loc Cert.CmpPIdeal.nD Cert.CmpPIdeal.τ Cert.CmpPIdeal.sig) → Buf (Elt Ideal) ℓ) (c : Dev Cert.CmpPIdeal.nD) :
    Cert.CmpPRefIdeal.Read.val_main_v71 (F := Ideal) (m ((c.tc : Thread Cert.CmpPIdeal.nD Cert.CmpPIdeal.τ).loc Cert.CmpPIdeal.main_arg0)) (m ((c.tc : Thread Cert.CmpPIdeal.nD Cert.CmpPIdeal.τ).loc Cert.CmpPIdeal.main_arg3)) (m ((c.tc : Thread Cert.CmpPIdeal.nD Cert.CmpPIdeal.τ).loc Cert.CmpPIdeal.main_arg4)) (m ((c.tc : Thread Cert.CmpPIdeal.nD Cert.CmpPIdeal.τ).loc Cert.CmpPIdeal.main_arg5))
      = (Cert.CmpPIdeal.Gen.dats m 0 c).arrAt 6 Cert.CmpPIdeal.cfg0.N := by
  funext i
  obtain ⟨b, n, j, rfl⟩ : ∃ (b : Fin 8) (n : Fin 256) (j : Fin 128), i = ix3 b n j :=
    ⟨i 0, i 1, i 2, by funext a; match a with | ⟨0, _⟩ => rfl | ⟨1, _⟩ => rfl | ⟨2, _⟩ => rfl⟩
  obtain ⟨q, d, rfl⟩ := lane_of j
  refine (ref_v _ _ _ _ b n q d).trans (Eq.trans ?_ (arr_6 m c b n q d).symm)
  simp only [wrap_seg, wrap_next]

/-- Over the reals the kernel and the reference end with equal results. -/
theorem algebraic : Cert.algebraic_CmpPIdeal_CmpPRefIdeal := by
  intro m ρ m' ρ' _ hagree
  refine ⟨fun c => (Cert.CmpPIdeal.Gen.dats m 0 c).arrAt 5 Cert.CmpPIdeal.cfg0.N, fun c => (Cert.CmpPIdeal.Gen.dats m 0 c).arrAt 6 Cert.CmpPIdeal.cfg0.N, ?_, ?_⟩
  · exact Cert.CmpPIdeal.Value.run_blocks m ρ
  · refine (θ_run Cert.CmpPRefIdeal.defs _ _).mono (fun r h c => ⟨(h c).1.trans ?_, (h c).2.1.trans ?_, (h c).2.2⟩)
      (Cert.CmpPRefIdeal.Value.run (F := Ideal) m' ρ')
    · obtain ⟨h0, h1, h2, h3, h4, h5⟩ := hagree c
      refine (Cert.CmpPRefIdeal.Read.val_main_v69_eq _ _).trans ?_
      rw [h0, h1, h2, h5]
      exact eq_5 m c
    · obtain ⟨h0, h1, h2, h3, h4, h5⟩ := hagree c
      refine (Cert.CmpPRefIdeal.Read.val_main_v71_eq _ _).trans ?_
      rw [h0, h3, h4, h5]
      exact eq_6 m c

end Cert.CmpP

end
-- ==== Proof.MergeSample.Block.lean ====
module

public import proofs.«01_k».proof.Proof.Row.Spec
public import proofs.«01_k».proof.Proof.Gen.MergeSampleIdeal.Value
public import Idealize.ShloMosaic.Lib.Tactic

@[expose] public section

set_option maxRecDepth 16384

noncomputable section

namespace Cert.MergeSample

open Cert.MergeSampleIdeal Cert.MergeSampleIdeal.Gen Idealize.ShloMosaic Idealize.ShloMosaic.TcCoe Cert.RowSpec

/-- The gated sum of the two branches, projected, element by element. -/
theorem pay2_apply (ga : Vec Ideal S512x1024 .f32) (on : Vec Ideal S512x512 .bf16) (wn : Vec Ideal S512x1024 .bf16) (gb : Vec Ideal S512x1024 .f32)
    (oh : Vec Ideal S512x512 .bf16) (wh : Vec Ideal S512x1024 .bf16) (wo : Vec Ideal S1024x1024 .bf16) (r : Fin 512) (k : Fin 1024) :
    k0_pay2 ga on wn gb oh wh wo (ix2 r k)
      = rowmul (fun j => sig (ga (ix2 r j)) * rowmul (fun i => on (ix2 r i)) (fun i j => wn (ix2 i j)) j
          + sig (gb (ix2 r j)) * rowmul (fun i => oh (ix2 r i)) (fun i j => wh (ix2 i j)) j) (fun i j => wo (ix2 i j)) k := by
  unfold k0_pay2
  pointwise
  simp only [zero_sub]
  rfl

/-- The norm and the residual, element by element. -/
theorem pay1_apply (y x : FVec Ideal S512x1024 .f32) (g : Vec Ideal S1x1024 .f32) (r : Fin 512) (k : Fin 1024) :
    k0_pay1 y x g (ix2 r k) = x (ix2 r k) + rms (fun j => y (ix2 r j)) (fun j => g (ix2 0 j)) k := by
  unfold k0_pay1
  pointwise
  rfl

/-- What a point leaves in the result's block. -/
theorem out_A (c : Dev nD) (i : grid0.Coords) (a1 : Memref sig .tc .vmem S512x512 .bf16) (h1 : a1.IsWhole) (a2 : Memref sig .tc .vmem S512x512 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S512x1024 .bf16) (h7 : a7.IsWhole) (a8 : Memref sig .tc .vmem S1024x1024 .bf16) (h8 : a8.IsWhole) (a9 : Memref sig .tc .vmem S1x1024 .f32) (h9 : a9.IsWhole) (a10 : Memref sig .tc .vmem S512x1024 .f32) (h10 : a10.IsWhole)
    (x0 : Vec Ideal S512x512 .bf16) (x1 : Vec Ideal S512x512 .bf16) (x2 : Vec Ideal S512x1024 .f32) (x3 : Vec Ideal S512x1024 .f32) (x4 : Vec Ideal S512x1024 .f32) (x5 : Vec Ideal S512x1024 .bf16) (x6 : Vec Ideal S512x1024 .bf16) (x7 : Vec Ideal S1024x1024 .bf16) (x8 : Vec Ideal S1x1024 .f32) :
    out0_A_9 c i a1 h1 a2 h2 a3 h3 a4 h4 a5 h5 a6 h6 a7 h7 a8 h8 a9 h9 a10 h10 x0 x1 x2 x3 x4 x5 x6 x7 x8 = k0_pay1 (k0_pay2 x2 x0 x5 x3 x1 x6 x7) x4 x8 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6 x7 x8)]
  unfold kernelRun0_A
  dsimp only
  sl_unfold_words
  rw [View.canon_unit_zero (S := S512x1024) (by decide)]
  simp only [View.readAt_eq_ld, h1.read_unread, h2.read_unread, h3.read_unread, h4.read_unread, h5.read_unread, h6.read_unread, h7.read_unread, h8.read_unread, h9.read_unread]
  simp only [View.ld_unit_zero (S := S512x1024) (off := ![0, 0]) (by decide), View.ld_unit_zero (S := S512x512) (off := ![0, 0]) (by decide), View.ld_unit_zero (S := S1024x1024) (off := ![0, 0]) (by decide), View.ld_unit_zero (S := S1x1024) (off := ![0, 0]) (by decide)]

/-- What a point leaves in the result's block, element by element. -/
theorem out_apply (c : Dev nD) (i : grid0.Coords) (a1 : Memref sig .tc .vmem S512x512 .bf16) (h1 : a1.IsWhole) (a2 : Memref sig .tc .vmem S512x512 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S512x1024 .bf16) (h7 : a7.IsWhole) (a8 : Memref sig .tc .vmem S1024x1024 .bf16) (h8 : a8.IsWhole) (a9 : Memref sig .tc .vmem S1x1024 .f32) (h9 : a9.IsWhole) (a10 : Memref sig .tc .vmem S512x1024 .f32) (h10 : a10.IsWhole)
    (x0 : Vec Ideal S512x512 .bf16) (x1 : Vec Ideal S512x512 .bf16) (x2 : Vec Ideal S512x1024 .f32) (x3 : Vec Ideal S512x1024 .f32) (x4 : Vec Ideal S512x1024 .f32) (x5 : Vec Ideal S512x1024 .bf16) (x6 : Vec Ideal S512x1024 .bf16) (x7 : Vec Ideal S1024x1024 .bf16) (x8 : Vec Ideal S1x1024 .f32) (r : Fin 512) (k : Fin 1024) :
    out0_A_9 c i a1 h1 a2 h2 a3 h3 a4 h4 a5 h5 a6 h6 a7 h7 a8 h8 a9 h9 a10 h10 x0 x1 x2 x3 x4 x5 x6 x7 x8 (ix2 r k)
      = merged (fun j => x0 (ix2 r j)) (fun j => x1 (ix2 r j)) (fun j => x2 (ix2 r j)) (fun j => x3 (ix2 r j)) (fun j => x4 (ix2 r j))
          (fun i j => x5 (ix2 i j)) (fun i j => x6 (ix2 i j)) (fun i j => x7 (ix2 i j)) (fun j => x8 (ix2 0 j)) k := by
  rw [out_A, pay1_apply]
  simp only [pay2_apply]
  rfl

end Cert.MergeSample

end
-- ==== Proof.MergeSample.Ref.lean ====
module

public import proofs.«01_k».proof.Proof.Row.Spec
public import proofs.«01_k».proof.Proof.Gen.MergeSampleRefIdeal.Read

@[expose] public section

set_option maxRecDepth 16384

noncomputable section

namespace Cert.MergeSample

open Cert.MergeSampleRefIdeal Cert.MergeSampleRefIdeal.Gen Cert.MergeSampleRefIdeal.Read Idealize.ShloMosaic Cert.RowSpec

variable (on oh : FVec Ideal S128x4x512 .f32) (gm : FVec Ideal S128x4x2048 .f32) (x : FVec Ideal S128x4x1024 .f32)
  (wn wh : FVec Ideal S1x512x1024 .f32) (wo : FVec Ideal S1x1024x1024 .f32) (g : FVec Ideal S1x1024 .f32)

/-- Column `j` of the first branch's gates. -/
abbrev gateA (j : Fin 1024) : Fin 2048 := ⟨j.val, by omega⟩
/-- Column `j` of the second branch's gates. -/
abbrev gateB (j : Fin 1024) : Fin 2048 := ⟨1024 + j.val, by omega⟩

/-- The reference's gated sum of the two branches. -/
theorem r20 (b : Fin 128) (s : Fin 4) (k : Fin 1024) :
    val_main_v20 (F := Ideal) on oh gm wn wh (ix3 b s k)
      = sig (gm (ix3 b s (gateA k))) * rowmul (fun i => on (ix3 b s i)) (fun i j => wn (ix3 0 i j)) k
          + sig (gm (ix3 b s (gateB k))) * rowmul (fun i => oh (ix3 b s i)) (fun i j => wh (ix3 0 i j)) k := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl

/-- The reference's result before its last reshape. -/
theorem r37 (b : Fin 128) (s : Fin 4) (k : Fin 1024) :
    val_main_v37 (F := Ideal) on oh gm x wn wh wo g (ix3 b s k)
      = merged (fun j => on (ix3 b s j)) (fun j => oh (ix3 b s j)) (fun j => gm (ix3 b s (gateA j))) (fun j => gm (ix3 b s (gateB j))) (fun j => x (ix3 b s j))
          (fun i j => wn (ix3 0 i j)) (fun i j => wh (ix3 0 i j)) (fun i j => wo (ix3 0 i j)) (fun j => g (ix2 0 j)) k := by
  unfold merged
  simp only [← r20]
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_cst_3 val_main_cst_4 val_main_cst_5
  generalize val_main_v20 (F := Ideal) on oh gm wn wh = y
  pointwise
  rfl

end Cert.MergeSample

end
-- ==== Proof.MergeSample.Array.lean ====
module

public import proofs.«01_k».proof.Proof.MergeSample.Block
public import proofs.«01_k».proof.Proof.MergeSample.Ref

@[expose] public section

set_option maxRecDepth 16384

noncomputable section

namespace Cert.MergeSample

open Cert.MergeSampleIdeal Cert.MergeSampleIdeal.Gen Idealize.ShloMosaic Idealize.ShloMosaic.TcCoe Cert.RowSpec Idealize.ShloMosaic.StableHlo

/-! ## The arrays that the region finds -/

/-- Position `s` of sequence `b`, among all rows. -/
def rowOf (b : Fin 128) (s : Fin 4) : Fin 512 := ⟨4 * b.val + s.val, by omega⟩

variable (m : (ℓ : Loc nD τ sig) → Buf (Elt Ideal) ℓ)

/-- The gates as the leading columns of the packed array, with zeros behind them. -/
def packed (a : FVec Ideal S128x4x2048 .f32) : FVec Ideal S512x5632 .f32 :=
  concatenate S512x5632 1 [⟨S512x2048, shapeCast S512x2048 a shapeCasts_S128x4x2048_S512x2048⟩,
    ⟨S512x3584, broadcastInDim S512x3584 ![] bcast_S_S512x3584 (constant S_ .f32 0x00000000#32)⟩]
    concatenates_S512x2048_S512x3584_S512x5632_d1

/-- The region finds the gates packed. -/
theorem V_z (c : Dev nD) : V m c main_v2 = packed (m ((c : Thread nD τ).loc main_arg2)) := by
  simp only [V, hostOps0, List.flatten_cons, List.flatten_nil, List.append_nil, List.cons_append, List.nil_append]
  after_results
  rfl

/-- The region finds the first branch as rows, cast. -/
theorem V_on (c : Dev nD) : (V m c main_v4 : FVec Ideal S512x512 .bf16) = truncf (F := Ideal) .bf16 (shapeCast S512x512 (m ((c : Thread nD τ).loc main_arg0) : FVec Ideal S128x4x512 .f32) shapeCasts_S128x4x512_S512x512) bitsLt_bf16_f32 := by
  simp only [V, hostOps0, List.flatten_cons, List.flatten_nil, List.append_nil, List.cons_append, List.nil_append]
  after_results
  rfl

/-- The region finds the second branch as rows, cast. -/
theorem V_oh (c : Dev nD) : (V m c main_v6 : FVec Ideal S512x512 .bf16) = truncf (F := Ideal) .bf16 (shapeCast S512x512 (m ((c : Thread nD τ).loc main_arg1) : FVec Ideal S128x4x512 .f32) shapeCasts_S128x4x512_S512x512) bitsLt_bf16_f32 := by
  simp only [V, hostOps0, List.flatten_cons, List.flatten_nil, List.append_nil, List.cons_append, List.nil_append]
  after_results
  rfl

/-- The region finds the residual stream as rows. -/
theorem V_x (c : Dev nD) : V m c main_v7 = shapeCast S512x1024 (m ((c : Thread nD τ).loc main_arg3)) shapeCasts_S128x4x1024_S512x1024 := by
  simp only [V, hostOps0, List.flatten_cons, List.flatten_nil, List.append_nil, List.cons_append, List.nil_append]
  after_results
  rfl

/-- The region finds the first branch's weight matrix, cast. -/
theorem V_wn (c : Dev nD) : (V m c main_v9 : FVec Ideal S512x1024 .bf16) = truncf (F := Ideal) .bf16 (shapeCast S512x1024 (m ((c : Thread nD τ).loc main_arg4) : FVec Ideal S1x512x1024 .f32) shapeCasts_S1x512x1024_S512x1024) bitsLt_bf16_f32 := by
  simp only [V, hostOps0, List.flatten_cons, List.flatten_nil, List.append_nil, List.cons_append, List.nil_append]
  after_results
  rfl

/-- The region finds the second branch's weight matrix, cast. -/
theorem V_wh (c : Dev nD) : (V m c main_v11 : FVec Ideal S512x1024 .bf16) = truncf (F := Ideal) .bf16 (shapeCast S512x1024 (m ((c : Thread nD τ).loc main_arg5) : FVec Ideal S1x512x1024 .f32) shapeCasts_S1x512x1024_S512x1024) bitsLt_bf16_f32 := by
  simp only [V, hostOps0, List.flatten_cons, List.flatten_nil, List.append_nil, List.cons_append, List.nil_append]
  after_results
  rfl

/-- The region finds the output's weight matrix, cast. -/
theorem V_wo (c : Dev nD) : (V m c main_v13 : FVec Ideal S1024x1024 .bf16) = truncf (F := Ideal) .bf16 (shapeCast S1024x1024 (m ((c : Thread nD τ).loc main_arg6) : FVec Ideal S1x1024x1024 .f32) shapeCasts_S1x1024x1024_S1024x1024) bitsLt_bf16_f32 := by
  simp only [V, hostOps0, List.flatten_cons, List.flatten_nil, List.append_nil, List.cons_append, List.nil_append]
  after_results
  rfl

/-- The region finds the norm's gain as one row. -/
theorem V_g (c : Dev nD) : V m c main_v15 = shapeCast S1x1024 (shapeCast S1024 (m ((c : Thread nD τ).loc main_arg7)) shapeCasts_S1x1024_S1024) shapeCasts_S1024_S1x1024 := by
  simp only [V, hostOps0, List.flatten_cons, List.flatten_nil, List.append_nil, List.cons_append, List.nil_append]
  after_results
  rfl

/-- A branch as rows, element by element. -/
theorem rows512 (a : FVec Ideal S128x4x512 .f32) (b : Fin 128) (s : Fin 4) (k : Fin 512) :
    shapeCast S512x512 a shapeCasts_S128x4x512_S512x512 (ix2 (rowOf b s) k) = a (ix3 b s k) := by
  refine shapeCast_apply _ _ _ _ ?_
  rw [Shape.rowMajor_val_three, Shape.rowMajor_val_two]
  simp [rowOf]; omega

/-- The residual stream as rows, element by element. -/
theorem rows1024 (a : FVec Ideal S128x4x1024 .f32) (b : Fin 128) (s : Fin 4) (k : Fin 1024) :
    shapeCast S512x1024 a shapeCasts_S128x4x1024_S512x1024 (ix2 (rowOf b s) k) = a (ix3 b s k) := by
  refine shapeCast_apply _ _ _ _ ?_
  rw [Shape.rowMajor_val_three, Shape.rowMajor_val_two]
  simp [rowOf]; omega

/-- The gates as rows, element by element. -/
theorem rows2048 (a : FVec Ideal S128x4x2048 .f32) (b : Fin 128) (s : Fin 4) (k : Fin 2048) :
    shapeCast S512x2048 a shapeCasts_S128x4x2048_S512x2048 (ix2 (rowOf b s) k) = a (ix3 b s k) := by
  refine shapeCast_apply _ _ _ _ ?_
  rw [Shape.rowMajor_val_three, Shape.rowMajor_val_two]
  simp [rowOf]; omega

/-- A branch's weight matrix, cast, element by element. -/
theorem wb_apply (a : FVec Ideal S1x512x1024 .f32) (r : Fin 512) (k : Fin 1024) :
    truncf (F := Ideal) .bf16 (shapeCast S512x1024 a shapeCasts_S1x512x1024_S512x1024) bitsLt_bf16_f32 (ix2 r k) = a (ix3 0 r k) := by
  show shapeCast S512x1024 a shapeCasts_S1x512x1024_S512x1024 (ix2 r k) = _
  refine shapeCast_apply _ _ _ _ ?_
  rw [Shape.rowMajor_val_three, Shape.rowMajor_val_two]
  simp

/-- The output's weight matrix, cast, element by element. -/
theorem wo_apply (a : FVec Ideal S1x1024x1024 .f32) (r : Fin 1024) (k : Fin 1024) :
    truncf (F := Ideal) .bf16 (shapeCast S1024x1024 a shapeCasts_S1x1024x1024_S1024x1024) bitsLt_bf16_f32 (ix2 r k) = a (ix3 0 r k) := by
  show shapeCast S1024x1024 a shapeCasts_S1x1024x1024_S1024x1024 (ix2 r k) = _
  refine shapeCast_apply _ _ _ _ ?_
  rw [Shape.rowMajor_val_three, Shape.rowMajor_val_two]
  simp

/-- A leading column of the packed array is the gate's. -/
theorem packed_apply (a : FVec Ideal S128x4x2048 .f32) (b : Fin 128) (s : Fin 4) (j : Fin 2048) (C : Fin 5632) (hC : C.val = j.val) :
    packed a (ix2 (rowOf b s) C) = a (ix3 b s j) := by
  unfold packed
  rw [← rows2048 a b s j]
  generalize shapeCast S512x2048 a shapeCasts_S128x4x2048_S512x2048 = v
  have h : C.val < 2048 := by omega
  pointwise
  rw [dif_pos h]
  exact congrArg (fun q => v (ix2 (rowOf b s) q)) (Fin.ext hC)

/-! ## The blocks -/

/-- There is one grid point. -/
theorem lt_pt (t : Fin cfg0.N) : t.val < 1 := lt_of_lt_of_eq t.isLt (by decide +kernel)

/-- Row `r` of point `t`'s block, among all rows. -/
def grow (t : Fin cfg0.N) (r : Fin 512) : Fin 512 := ⟨512 * t.val + r.val, by have := lt_pt t; omega⟩

/-- The block of the first branch at a grid point. -/
theorem ix_0 : ∀ t : Fin cfg0.N, win0_0.index t = ![t.val, 0] := (by decide +kernel : ∀ t : Fin grid0.N, _)
/-- The block of the second branch at a grid point. -/
theorem ix_1 : ∀ t : Fin cfg0.N, win0_1.index t = ![t.val, 0] := (by decide +kernel : ∀ t : Fin grid0.N, _)
/-- The block of the first gates at a grid point. -/
theorem ix_2 : ∀ t : Fin cfg0.N, win0_2.index t = ![t.val, 0] := (by decide +kernel : ∀ t : Fin grid0.N, _)
/-- The block of the second gates at a grid point. -/
theorem ix_3 : ∀ t : Fin cfg0.N, win0_3.index t = ![t.val, 1] := (by decide +kernel : ∀ t : Fin grid0.N, _)
/-- The block of the residual stream at a grid point. -/
theorem ix_4 : ∀ t : Fin cfg0.N, win0_4.index t = ![t.val, 0] := (by decide +kernel : ∀ t : Fin grid0.N, _)
/-- The only block of the first branch's weight matrix. -/
theorem ix_5 : ∀ t : Fin cfg0.N, win0_5.index t = ![0, 0] := (by decide +kernel : ∀ t : Fin grid0.N, _)
/-- The only block of the second branch's weight matrix. -/
theorem ix_6 : ∀ t : Fin cfg0.N, win0_6.index t = ![0, 0] := (by decide +kernel : ∀ t : Fin grid0.N, _)
/-- The only block of the output's weight matrix. -/
theorem ix_7 : ∀ t : Fin cfg0.N, win0_7.index t = ![0, 0] := (by decide +kernel : ∀ t : Fin grid0.N, _)
/-- The only block of the gain. -/
theorem ix_8 : ∀ t : Fin cfg0.N, win0_8.index t = ![0, 0] := (by decide +kernel : ∀ t : Fin grid0.N, _)
/-- The block of the result at a grid point. -/
theorem ix_9 : ∀ t : Fin cfg0.N, win0_9.index t = ![t.val, 0] := (by decide +kernel : ∀ t : Fin grid0.N, _)

/-- The block of the first branch at a grid point holds its rows. -/
theorem rd_0 (c : Dev nD) (t : Fin cfg0.N) (r : Fin 512) (b : Fin 128) (s : Fin 4) (hR : rowOf b s = grow t r) (k : Fin 512) :
    (iblk m c 0 t : FVec Ideal S512x512 .bf16) (ix2 r k) = (m ((c : Thread nD τ).loc main_arg0) : FVec Ideal S128x4x512 .f32) (ix3 b s k) := by
  refine (congrArg (V m c main_v4 : FVec Ideal S512x512 .bf16) (?_ : _ = ix2 (grow t r) k)).trans ?_
  · funext a
    refine Fin.ext ?_
    show win0_0.index t a * win0_0.size a + 1 * ((ix2 r k : S512x512.Idx) a).val = _
    rw [ix_0 t]
    fin_cases a <;> simp [win0_0, grow] <;> omega
  · rw [← hR, V_on]; exact rows512 _ b s k

/-- The block of the second branch at a grid point holds its rows. -/
theorem rd_1 (c : Dev nD) (t : Fin cfg0.N) (r : Fin 512) (b : Fin 128) (s : Fin 4) (hR : rowOf b s = grow t r) (k : Fin 512) :
    (iblk m c 1 t : FVec Ideal S512x512 .bf16) (ix2 r k) = (m ((c : Thread nD τ).loc main_arg1) : FVec Ideal S128x4x512 .f32) (ix3 b s k) := by
  refine (congrArg (V m c main_v6 : FVec Ideal S512x512 .bf16) (?_ : _ = ix2 (grow t r) k)).trans ?_
  · funext a
    refine Fin.ext ?_
    show win0_1.index t a * win0_1.size a + 1 * ((ix2 r k : S512x512.Idx) a).val = _
    rw [ix_1 t]
    fin_cases a <;> simp [win0_1, grow] <;> omega
  · rw [← hR, V_oh]; exact rows512 _ b s k

/-- The block of the residual stream at a grid point holds its rows. -/
theorem rd_4 (c : Dev nD) (t : Fin cfg0.N) (r : Fin 512) (b : Fin 128) (s : Fin 4) (hR : rowOf b s = grow t r) (k : Fin 1024) :
    (iblk m c 4 t : FVec Ideal S512x1024 .f32) (ix2 r k) = (m ((c : Thread nD τ).loc main_arg3) : FVec Ideal S128x4x1024 .f32) (ix3 b s k) := by
  refine (congrArg (V m c main_v7 : FVec Ideal S512x1024 .f32) (?_ : _ = ix2 (grow t r) k)).trans ?_
  · funext a
    refine Fin.ext ?_
    show win0_4.index t a * win0_4.size a + 1 * ((ix2 r k : S512x1024.Idx) a).val = _
    rw [ix_4 t]
    fin_cases a <;> simp [win0_4, grow] <;> omega
  · rw [← hR, V_x]; exact rows1024 _ b s k

/-- The block of the first gates at a grid point holds its rows. -/
theorem rd_2 (c : Dev nD) (t : Fin cfg0.N) (r : Fin 512) (b : Fin 128) (s : Fin 4) (hR : rowOf b s = grow t r) (k : Fin 1024) :
    (X0_2 m c t : FVec Ideal S512x1024 .f32) (ix2 r k) = (m ((c : Thread nD τ).loc main_arg2) : FVec Ideal S128x4x2048 .f32) (ix3 b s (gateA k)) := by
  have e : X0_2 m c t (ix2 r k : S512x1024.Idx) = (V m c main_v2 : FVec Ideal S512x5632 .f32) (ix2 (grow t r) ⟨k.val, by omega⟩) := by
    unfold X0_2 Pipeline.Window.fill
    rw [dif_pos (moved0_2 t _)]
    refine congrArg (V m c main_v2 : FVec Ideal S512x5632 .f32) ?_
    funext a
    refine Fin.ext ?_
    show win0_2.index t a * win0_2.size a + 1 * ((ix2 r k : S512x1024.Idx) a).val = _
    rw [ix_2 t]
    fin_cases a <;> simp [win0_2, grow] <;> omega
  rw [← hR, V_z] at e
  exact e.trans (packed_apply _ b s _ _ rfl)

/-- The block of the second gates at a grid point holds its rows. -/
theorem rd_3 (c : Dev nD) (t : Fin cfg0.N) (r : Fin 512) (b : Fin 128) (s : Fin 4) (hR : rowOf b s = grow t r) (k : Fin 1024) :
    (X0_3 m c t : FVec Ideal S512x1024 .f32) (ix2 r k) = (m ((c : Thread nD τ).loc main_arg2) : FVec Ideal S128x4x2048 .f32) (ix3 b s (gateB k)) := by
  have e : X0_3 m c t (ix2 r k : S512x1024.Idx) = (V m c main_v2 : FVec Ideal S512x5632 .f32) (ix2 (grow t r) ⟨1024 + k.val, by omega⟩) := by
    unfold X0_3 Pipeline.Window.fill
    rw [dif_pos (moved0_3 t _)]
    refine congrArg (V m c main_v2 : FVec Ideal S512x5632 .f32) ?_
    funext a
    refine Fin.ext ?_
    show win0_3.index t a * win0_3.size a + 1 * ((ix2 r k : S512x1024.Idx) a).val = _
    rw [ix_3 t]
    fin_cases a <;> simp [win0_3, grow] <;> omega
  rw [← hR, V_z] at e
  exact e.trans (packed_apply _ b s _ _ rfl)

/-- The only block of the first branch's weight matrix is the matrix. -/
theorem rd_5 (c : Dev nD) (t : Fin cfg0.N) (r : Fin 512) (k : Fin 1024) : (iblk m c 5 t : FVec Ideal S512x1024 .bf16) (ix2 r k) = (m ((c : Thread nD τ).loc main_arg4) : FVec Ideal S1x512x1024 .f32) (ix3 0 r k) := by
  refine (congrArg (V m c main_v9 : FVec Ideal S512x1024 .bf16) (?_ : _ = ix2 r k)).trans ?_
  · funext a
    refine Fin.ext ?_
    show win0_5.index t a * win0_5.size a + 1 * ((ix2 r k : S512x1024.Idx) a).val = _
    rw [ix_5 t]
    fin_cases a <;> simp [win0_5]
  · rw [V_wn]; exact wb_apply _ r k

/-- The only block of the second branch's weight matrix is the matrix. -/
theorem rd_6 (c : Dev nD) (t : Fin cfg0.N) (r : Fin 512) (k : Fin 1024) : (iblk m c 6 t : FVec Ideal S512x1024 .bf16) (ix2 r k) = (m ((c : Thread nD τ).loc main_arg5) : FVec Ideal S1x512x1024 .f32) (ix3 0 r k) := by
  refine (congrArg (V m c main_v11 : FVec Ideal S512x1024 .bf16) (?_ : _ = ix2 r k)).trans ?_
  · funext a
    refine Fin.ext ?_
    show win0_6.index t a * win0_6.size a + 1 * ((ix2 r k : S512x1024.Idx) a).val = _
    rw [ix_6 t]
    fin_cases a <;> simp [win0_6]
  · rw [V_wh]; exact wb_apply _ r k

/-- The only block of the output's weight matrix is the matrix. -/
theorem rd_7 (c : Dev nD) (t : Fin cfg0.N) (r : Fin 1024) (k : Fin 1024) : (iblk m c 7 t : FVec Ideal S1024x1024 .bf16) (ix2 r k) = (m ((c : Thread nD τ).loc main_arg6) : FVec Ideal S1x1024x1024 .f32) (ix3 0 r k) := by
  refine (congrArg (V m c main_v13 : FVec Ideal S1024x1024 .bf16) (?_ : _ = ix2 r k)).trans ?_
  · funext a
    refine Fin.ext ?_
    show win0_7.index t a * win0_7.size a + 1 * ((ix2 r k : S1024x1024.Idx) a).val = _
    rw [ix_7 t]
    fin_cases a <;> simp [win0_7]
  · rw [V_wo]; exact wo_apply _ r k

/-- The block of the gain is the gain. -/
theorem rd_8 (c : Dev nD) (t : Fin cfg0.N) (k : Fin 1024) : (iblk m c 8 t : FVec Ideal S1x1024 .f32) (ix2 0 k) = (m ((c : Thread nD τ).loc main_arg7) : FVec Ideal S1x1024 .f32) (ix2 0 k) := by
  refine (congrArg (V m c main_v15 : FVec Ideal S1x1024 .f32) (?_ : _ = ix2 0 k)).trans ?_
  · funext a
    refine Fin.ext ?_
    show win0_8.index t a * win0_8.size a + 1 * ((ix2 0 k : S1x1024.Idx) a).val = _
    rw [ix_8 t]
    fin_cases a <;> simp [win0_8]
  · rw [V_g]; pointwise

/-- Where an element of the result's block lies in the result. -/
theorem emb_9 (t : Fin cfg0.N) (r : Fin 512) (k : Fin 1024) : (((cfg0.win 9).blk t).view.emb (ix2 r k : S512x1024.Idx) : S512x1024.Idx) = ix2 (grow t r) k := by
  funext a
  refine Fin.ext ?_
  show win0_9.index t a * win0_9.size a + 1 * ((ix2 r k : S512x1024.Idx) a).val = _
  rw [ix_9 t]
  fin_cases a <;> simp [win0_9, grow] <;> omega

/-- Each row lies in the block of one grid point. -/
theorem pt_of (R : Fin 512) : ∃ (t : Fin cfg0.N) (r : Fin 512), R = grow t r := by
  have hN : cfg0.N = 1 := by decide +kernel
  exact ⟨⟨R.val / 512, by omega⟩, ⟨R.val % 512, by omega⟩, Fin.ext (by show R.val = 512 * (R.val / 512) + R.val % 512; omega)⟩

/-- The result array after the run, element by element. -/
theorem y_apply (c : Dev nD) (b : Fin 128) (s : Fin 4) (k : Fin 1024) :
    ((dats m 0 c).arrAt 9 cfg0.N : FVec Ideal S512x1024 .f32) (ix2 (rowOf b s) k)
      = merged (fun j => (m ((c : Thread nD τ).loc main_arg0) : FVec Ideal S128x4x512 .f32) (ix3 b s j)) (fun j => (m ((c : Thread nD τ).loc main_arg1) : FVec Ideal S128x4x512 .f32) (ix3 b s j))
          (fun j => (m ((c : Thread nD τ).loc main_arg2) : FVec Ideal S128x4x2048 .f32) (ix3 b s (gateA j))) (fun j => (m ((c : Thread nD τ).loc main_arg2) : FVec Ideal S128x4x2048 .f32) (ix3 b s (gateB j)))
          (fun j => (m ((c : Thread nD τ).loc main_arg3) : FVec Ideal S128x4x1024 .f32) (ix3 b s j)) (fun i j => (m ((c : Thread nD τ).loc main_arg4) : FVec Ideal S1x512x1024 .f32) (ix3 0 i j)) (fun i j => (m ((c : Thread nD τ).loc main_arg5) : FVec Ideal S1x512x1024 .f32) (ix3 0 i j))
          (fun i j => (m ((c : Thread nD τ).loc main_arg6) : FVec Ideal S1x1024x1024 .f32) (ix3 0 i j)) (fun j => (m ((c : Thread nD τ).loc main_arg7) : FVec Ideal S1x1024 .f32) (ix2 0 j)) k := by
  obtain ⟨t, r, hR⟩ := pt_of (rowOf b s)
  have e := congrFun (Cert.MergeSampleIdeal.Value.blocks9 m c t (flush0_9 t)) (ix2 r k : S512x1024.Idx)
  rw [Cert.MergeSampleIdeal.Value.flushed9_A] at e
  have e1 : ((dats m 0 c).arrAt 9 cfg0.N : FVec Ideal S512x1024 .f32) (((cfg0.win 9).blk t).view.emb (ix2 r k : S512x1024.Idx))
    = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
        (iblk m c 0 t) (iblk m c 1 t) (X0_2 m c t) (X0_3 m c t) (iblk m c 4 t) (iblk m c 5 t) (iblk m c 6 t) (iblk m c 7 t) (iblk m c 8 t) (ix2 r k) := e
  rw [emb_9, ← hR] at e1
  rw [e1, out_apply]
  simp only [rd_0 m c t r b s hR, rd_1 m c t r b s hR, rd_2 m c t r b s hR, rd_3 m c t r b s hR, rd_4 m c t r b s hR, rd_5, rd_6, rd_7, rd_8]

end Cert.MergeSample

end
-- ==== Proof.MergeSample.Claims.lean ====
module

public import proofs.«01_k».proof.Defs
public import proofs.«01_k».proof.Proof.MergeSample.Array
public import proofs.«01_k».proof.Proof.MergeSample.Ref
public import proofs.«01_k».proof.Proof.Gen.MergeSample
public import proofs.«01_k».proof.Proof.Gen.MergeSample.Frame
public import proofs.«01_k».proof.Proof.Gen.MergeSampleRefIdeal.Run
public import Idealize.ShloMosaic.Adequacy
public import Idealize.ShloMosaic.Init

@[expose] public section

set_option maxRecDepth 16384

noncomputable section

namespace Cert.MergeSample

open Idealize.ShloMosaic Idealize.SL.Sem Cert.RowSpec

/-- The kernel as printed runs, keeps its arguments and leaves every counter at zero. -/
theorem frame_k : Cert.quiescent_MergeSample := fun m ρ _ => Cert.MergeSample.Gen.frame m ρ

/-- So does the kernel read over the reals. -/
theorem frame_i : Cert.quiescent_MergeSampleIdeal := fun m ρ _ => Cert.MergeSampleIdeal.Gen.frame m ρ

/-- So does the reference, which declares no semaphore. -/
theorem frame_r : Cert.quiescent_MergeSampleRefIdeal := fun m ρ _ =>
  (θ_run Cert.MergeSampleRefIdeal.defs _ _).mono (fun r h => ⟨fun c => (h c).2, sem_eq_zero_of_no_sems (by decide) r.2⟩)
    (Cert.MergeSampleRefIdeal.Value.run (F := Ideal) m ρ)

/-- Every row is a position of a sequence. -/
theorem row_of (r : Fin 512) : ∃ (b : Fin 128) (s : Fin 4), r = rowOf b s :=
  ⟨⟨r.val / 4, by omega⟩, ⟨r.val % 4, by omega⟩, Fin.ext (by show r.val = 4 * (r.val / 4) + r.val % 4; omega)⟩

/-- The reference's result and the kernel's agree at every index. -/
theorem y_eq (m : (ℓ : Loc Cert.MergeSampleIdeal.nD Cert.MergeSampleIdeal.τ Cert.MergeSampleIdeal.sig) → Buf (Elt Ideal) ℓ) (c : Dev Cert.MergeSampleIdeal.nD) :
    Cert.MergeSampleRefIdeal.Read.val_main_v38 (F := Ideal) (m ((c.tc : Thread Cert.MergeSampleIdeal.nD Cert.MergeSampleIdeal.τ).loc Cert.MergeSampleIdeal.main_arg0))
      (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2))
      (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4))
      (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6))
      (m ((c.tc : Thread Cert.MergeSampleIdeal.nD Cert.MergeSampleIdeal.τ).loc Cert.MergeSampleIdeal.main_arg7))
      = (Cert.MergeSampleIdeal.Gen.dats m 0 c).arrAt 9 Cert.MergeSampleIdeal.cfg0.N := by
  funext i
  obtain ⟨r, k, rfl⟩ : ∃ (r : Fin 512) (k : Fin 1024), i = ix2 r k := ⟨i 0, i 1, by funext a; match a with | ⟨0, _⟩ => rfl | ⟨1, _⟩ => rfl⟩
  obtain ⟨b, s, rfl⟩ := row_of r
  exact ((rows1024 _ b s k).trans (r37 _ _ _ _ _ _ _ _ b s k)).trans (y_apply m c b s k).symm

/-- Over the reals the kernel and the reference end with equal results. -/
theorem algebraic : Cert.algebraic_MergeSampleIdeal_MergeSampleRefIdeal := by
  intro m ρ m' ρ' _ hagree
  refine ⟨fun c => (Cert.MergeSampleIdeal.Gen.dats m 0 c).arrAt 9 Cert.MergeSampleIdeal.cfg0.N, ?_, ?_⟩
  · exact Cert.MergeSampleIdeal.Value.run_blocks m ρ
  · refine (θ_run Cert.MergeSampleRefIdeal.defs _ _).mono (fun r h c => ⟨(h c).1.trans ?_, (h c).2⟩) (Cert.MergeSampleRefIdeal.Value.run (F := Ideal) m' ρ')
    obtain ⟨h0, h1, h2, h3, h4, h5, h6, h7⟩ := hagree c
    refine (Cert.MergeSampleRefIdeal.Read.val_main_v38_eq m' c).trans ?_
    rw [h0, h1, h2, h3, h4, h5, h6, h7]
    exact y_eq m c

end Cert.MergeSample

end
-- ==== Proof.lean ====
module

public import proofs.«01_k».proof.Defs
public import proofs.«01_k».proof.Proof.Gen.HgSample
public import proofs.«01_k».proof.Proof.Gen.HgSample.Frame
public import proofs.«01_k».proof.Proof.Gen.HgSampleIdeal.Value
public import proofs.«01_k».proof.Proof.Gen.HgSampleRefIdeal.Run
public import proofs.«01_k».proof.Proof.Gen.HgSampleRefIdeal.Read
public import proofs.«01_k».proof.Proof.Gen.Mlp
public import proofs.«01_k».proof.Proof.Gen.Mlp.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.MlpSample
public import proofs.«01_k».proof.Proof.Gen.MlpSample.Frame
public import proofs.«01_k».proof.Proof.Gen.MlpSampleIdeal.Value
public import proofs.«01_k».proof.Proof.Gen.MlpSampleRefIdeal.Run
public import proofs.«01_k».proof.Proof.Gen.MlpSampleRefIdeal.Read
public import proofs.«01_k».proof.Proof.Gen.Merge
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.KvRows
public import proofs.«01_k».proof.Proof.Gen.KvRows.Frame
public import proofs.«01_k».proof.Proof.Gen.KvRowsIdeal.Value
public import proofs.«01_k».proof.Proof.Gen.KvRowsRefIdeal.Run
public import proofs.«01_k».proof.Proof.Gen.KvRowsRefIdeal.Read
public import proofs.«01_k».proof.Proof.Gen.InProj
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.InSample
public import proofs.«01_k».proof.Proof.Gen.InSample.Frame
public import proofs.«01_k».proof.Proof.Gen.InSampleIdeal.Frame
public import proofs.«01_k».proof.Proof.Gen.InSampleRefIdeal.Run
public import proofs.«01_k».proof.Proof.Gen.InSampleRefIdeal.Read
public import proofs.«01_k».proof.Proof.Gen.CmpP
public import proofs.«01_k».proof.Proof.Gen.CmpP.Frame
public import proofs.«01_k».proof.Proof.Gen.CmpPIdeal.Value
public import proofs.«01_k».proof.Proof.Gen.CmpPRefIdeal.Run
public import proofs.«01_k».proof.Proof.Gen.CmpPRefIdeal.Read
public import proofs.«01_k».proof.Proof.Gen.MergeSample
public import proofs.«01_k».proof.Proof.Gen.MergeSample.Frame
public import proofs.«01_k».proof.Proof.Gen.MergeSampleIdeal.Value
public import proofs.«01_k».proof.Proof.Gen.MergeSampleRefIdeal.Run
public import proofs.«01_k».proof.Proof.Gen.MergeSampleRefIdeal.Read
public import proofs.«01_k».proof.Proof.HgS.Claims
public import proofs.«01_k».proof.Proof.Mlp.Claims
public import proofs.«01_k».proof.Proof.MlpSample.Claims
public import proofs.«01_k».proof.Proof.Merge.Claims
public import proofs.«01_k».proof.Proof.KvRows.Claims
public import proofs.«01_k».proof.Proof.InProj.Claims
public import proofs.«01_k».proof.Proof.InSample.Claims
public import proofs.«01_k».proof.Proof.CmpP.Claims
public import proofs.«01_k».proof.Proof.MergeSample.Claims

@[expose] public section

noncomputable section

namespace Cert.Proof

/-- All claims, from the claims of the single programs. -/
theorem claim : Cert.Claim :=
  ⟨Cert.HgSample.Gen.facts, Cert.HgSampleIdeal.Gen.facts, Cert.HgSampleRefIdeal.Gen.facts, Cert.Mlp.Gen.facts, Cert.MlpIdeal.Gen.facts, Cert.MlpRefIdeal.Gen.facts, Cert.MlpSample.Gen.facts, Cert.MlpSampleIdeal.Gen.facts, Cert.MlpSampleRefIdeal.Gen.facts, Cert.Merge.Gen.facts, Cert.MergeIdeal.Gen.facts, Cert.MergeRefIdeal.Gen.facts, Cert.KvRows.Gen.facts, Cert.KvRowsIdeal.Gen.facts, Cert.KvRowsRefIdeal.Gen.facts, Cert.InProj.Gen.facts, Cert.InProjIdeal.Gen.facts, Cert.InProjRefIdeal.Gen.facts, Cert.InSample.Gen.facts, Cert.InSampleIdeal.Gen.facts, Cert.InSampleRefIdeal.Gen.facts, Cert.CmpP.Gen.facts, Cert.CmpPIdeal.Gen.facts, Cert.CmpPRefIdeal.Gen.facts, Cert.MergeSample.Gen.facts, Cert.MergeSampleIdeal.Gen.facts, Cert.MergeSampleRefIdeal.Gen.facts,
    Cert.HgS.frame_k, Cert.HgS.frame_i, Cert.HgS.frame_r, Cert.Mlp.frame_k, Cert.Mlp.frame_i, Cert.Mlp.frame_r, Cert.MlpSample.frame_k, Cert.MlpSample.frame_i, Cert.MlpSample.frame_r, Cert.Merge.frame_k, Cert.Merge.frame_i, Cert.Merge.frame_r, Cert.KvRows.frame_k, Cert.KvRows.frame_i, Cert.KvRows.frame_r, Cert.InProj.frame_k, Cert.InProj.frame_i, Cert.InProj.frame_r, Cert.InSample.frame_k, Cert.InSample.frame_i, Cert.InSample.frame_r, Cert.CmpP.frame_k, Cert.CmpP.frame_i, Cert.CmpP.frame_r, Cert.MergeSample.frame_k, Cert.MergeSample.frame_i, Cert.MergeSample.frame_r, trivial, Cert.HgS.algebraic, trivial, Cert.Mlp.algebraic, trivial, Cert.MlpSample.algebraic, trivial, Cert.Merge.algebraic, trivial, Cert.KvRows.algebraic, trivial, Cert.InProj.algebraic, trivial, Cert.InSample.algebraic, trivial, Cert.CmpP.algebraic, trivial, Cert.MergeSample.algebraic⟩

end Cert.Proof

end
